-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Zg (m : (ℓ : Loc Cert.Zg.nD Cert.Zg.τ Cert.Zg.sig) → Buf (Elt Bits) ℓ) : Prop :=
  True

def Pre_ZgIdeal (m : (ℓ : Loc Cert.ZgIdeal.nD Cert.ZgIdeal.τ Cert.ZgIdeal.sig) → Buf (Elt Ideal) ℓ) : Prop :=
  True

def Pre_ZgRefIdeal (m : (ℓ : Loc Cert.ZgRefIdeal.nD Cert.ZgRefIdeal.τ Cert.ZgRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutAct (m : (ℓ : Loc Cert.OutAct.nD Cert.OutAct.τ Cert.OutAct.sig) → Buf (Elt Bits) ℓ) : Prop :=
  True

def Pre_OutActIdeal (m : (ℓ : Loc Cert.OutActIdeal.nD Cert.OutActIdeal.τ Cert.OutActIdeal.sig) → Buf (Elt Ideal) ℓ) : Prop :=
  True

def Pre_OutActRefIdeal (m : (ℓ : Loc Cert.OutActRefIdeal.nD Cert.OutActRefIdeal.τ Cert.OutActRefIdeal.sig) → Buf (Elt Ideal) ℓ) : Prop :=
  True

def Pre_ZgAct (m : (ℓ : Loc Cert.ZgAct.nD Cert.ZgAct.τ Cert.ZgAct.sig) → Buf (Elt Bits) ℓ) : Prop :=
  True

def Pre_ZgActIdeal (m : (ℓ : Loc Cert.ZgActIdeal.nD Cert.ZgActIdeal.τ Cert.ZgActIdeal.sig) → Buf (Elt Ideal) ℓ) : Prop :=
  True

def Pre_ZgActRefIdeal (m : (ℓ : Loc Cert.ZgActRefIdeal.nD Cert.ZgActRefIdeal.τ Cert.ZgActRefIdeal.sig) → Buf (Elt Ideal) ℓ) : Prop :=
  True

def Pre_QkvAct (m : (ℓ : Loc Cert.QkvAct.nD Cert.QkvAct.τ Cert.QkvAct.sig) → Buf (Elt Bits) ℓ) : Prop :=
  True

def Pre_QkvActIdeal (m : (ℓ : Loc Cert.QkvActIdeal.nD Cert.QkvActIdeal.τ Cert.QkvActIdeal.sig) → Buf (Elt Ideal) ℓ) : Prop :=
  True

def Pre_QkvActRefIdeal (m : (ℓ : Loc Cert.QkvActRefIdeal.nD Cert.QkvActRefIdeal.τ Cert.QkvActRefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_BranchC (m : (ℓ : Loc Cert.BranchC.nD Cert.BranchC.τ Cert.BranchC.sig) → Buf (Elt Bits) ℓ) : Prop :=
  True

def Pre_BranchCIdeal (m : (ℓ : Loc Cert.BranchCIdeal.nD Cert.BranchCIdeal.τ Cert.BranchCIdeal.sig) → Buf (Elt Ideal) ℓ) : Prop :=
  True

def Pre_BranchCRefIdeal (m : (ℓ : Loc Cert.BranchCRefIdeal.nD Cert.BranchCRefIdeal.τ Cert.BranchCRefIdeal.sig) → Buf (Elt Ideal) ℓ) : Prop :=
  True

def Pre_BranchBAct (m : (ℓ : Loc Cert.BranchBAct.nD Cert.BranchBAct.τ Cert.BranchBAct.sig) → Buf (Elt Bits) ℓ) : Prop :=
  True

def Pre_BranchBActIdeal (m : (ℓ : Loc Cert.BranchBActIdeal.nD Cert.BranchBActIdeal.τ Cert.BranchBActIdeal.sig) → Buf (Elt Ideal) ℓ) : Prop :=
  True

def Pre_BranchBActRefIdeal (m : (ℓ : Loc Cert.BranchBActRefIdeal.nD Cert.BranchBActRefIdeal.τ Cert.BranchBActRefIdeal.sig) → Buf (Elt Ideal) ℓ) : Prop :=
  True

def Pre_BranchCAct (m : (ℓ : Loc Cert.BranchCAct.nD Cert.BranchCAct.τ Cert.BranchCAct.sig) → Buf (Elt Bits) ℓ) : Prop :=
  True

def Pre_BranchCActIdeal (m : (ℓ : Loc Cert.BranchCActIdeal.nD Cert.BranchCActIdeal.τ Cert.BranchCActIdeal.sig) → Buf (Elt Ideal) ℓ) : Prop :=
  True

def Pre_BranchCActRefIdeal (m : (ℓ : Loc Cert.BranchCActRefIdeal.nD Cert.BranchCActRefIdeal.τ Cert.BranchCActRefIdeal.sig) → Buf (Elt Ideal) ℓ) : Prop :=
  True

def Pre_BranchBW (m : (ℓ : Loc Cert.BranchBW.nD Cert.BranchBW.τ Cert.BranchBW.sig) → Buf (Elt Bits) ℓ) : Prop :=
  True

def Pre_BranchBWIdeal (m : (ℓ : Loc Cert.BranchBWIdeal.nD Cert.BranchBWIdeal.τ Cert.BranchBWIdeal.sig) → Buf (Elt Ideal) ℓ) : Prop :=
  True

def Pre_BranchBWRefIdeal (m : (ℓ : Loc Cert.BranchBWRefIdeal.nD Cert.BranchBWRefIdeal.τ Cert.BranchBWRefIdeal.sig) → Buf (Elt Ideal) ℓ) : Prop :=
  True

def Pre_BranchCW (m : (ℓ : Loc Cert.BranchCW.nD Cert.BranchCW.τ Cert.BranchCW.sig) → Buf (Elt Bits) ℓ) : Prop :=
  True

def Pre_BranchCWIdeal (m : (ℓ : Loc Cert.BranchCWIdeal.nD Cert.BranchCWIdeal.τ Cert.BranchCWIdeal.sig) → Buf (Elt Ideal) ℓ) : Prop :=
  True

def Pre_BranchCWRefIdeal (m : (ℓ : Loc Cert.BranchCWRefIdeal.nD Cert.BranchCWRefIdeal.τ Cert.BranchCWRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Zg [hZg : Cert.Zg.Facts] : Prop :=
  ∀ (m : (ℓ : Loc Cert.Zg.nD Cert.Zg.τ Cert.Zg.sig) → Buf (Elt Bits) ℓ) (g : Dev Cert.Zg.nD → PrngReg), Pre_Zg m →
    θ_run (Cert.Zg.defs (F := Bits)) (onTc (τ := Cert.Zg.τ) (Cert.Zg.main (F := Bits))) ⟨m, fun _ => 0, g⟩ (fun r => (∀ c : Dev Cert.Zg.nD,
      r.2.mem ((c.tc : Thread Cert.Zg.nD Cert.Zg.τ).loc Cert.Zg.main_arg0) = m ((c.tc : Thread Cert.Zg.nD Cert.Zg.τ).loc Cert.Zg.main_arg0)
      ∧ r.2.mem ((c.tc : Thread Cert.Zg.nD Cert.Zg.τ).loc Cert.Zg.main_arg1) = m ((c.tc : Thread Cert.Zg.nD Cert.Zg.τ).loc Cert.Zg.main_arg1))
      ∧ r.2.sem = fun _ => 0)

def quiescent_ZgIdeal [hZgIdeal : Cert.ZgIdeal.Facts] : Prop :=
  ∀ (m : (ℓ : Loc Cert.ZgIdeal.nD Cert.ZgIdeal.τ Cert.ZgIdeal.sig) → Buf (Elt Ideal) ℓ) (g : Dev Cert.ZgIdeal.nD → PrngReg), Pre_ZgIdeal m →
    θ_run (Cert.ZgIdeal.defs (F := Ideal)) (onTc (τ := Cert.ZgIdeal.τ) (Cert.ZgIdeal.main (F := Ideal))) ⟨m, fun _ => 0, g⟩ (fun r => (∀ c : Dev Cert.ZgIdeal.nD,
      r.2.mem ((c.tc : Thread Cert.ZgIdeal.nD Cert.ZgIdeal.τ).loc Cert.ZgIdeal.main_arg0) = m ((c.tc : Thread Cert.ZgIdeal.nD Cert.ZgIdeal.τ).loc Cert.ZgIdeal.main_arg0)
      ∧ r.2.mem ((c.tc : Thread Cert.ZgIdeal.nD Cert.ZgIdeal.τ).loc Cert.ZgIdeal.main_arg1) = m ((c.tc : Thread Cert.ZgIdeal.nD Cert.ZgIdeal.τ).loc Cert.ZgIdeal.main_arg1))
      ∧ r.2.sem = fun _ => 0)

def quiescent_ZgRefIdeal [hZgRefIdeal : Cert.ZgRefIdeal.Facts] : Prop :=
  ∀ (m : (ℓ : Loc Cert.ZgRefIdeal.nD Cert.ZgRefIdeal.τ Cert.ZgRefIdeal.sig) → Buf (Elt Ideal) ℓ) (g : Dev Cert.ZgRefIdeal.nD → PrngReg), Pre_ZgRefIdeal m →
    θ_run (Cert.ZgRefIdeal.defs (F := Ideal)) (onTc (τ := Cert.ZgRefIdeal.τ) (Cert.ZgRefIdeal.main (F := Ideal))) ⟨m, fun _ => 0, g⟩ (fun r => (∀ c : Dev Cert.ZgRefIdeal.nD,
      r.2.mem ((c.tc : Thread Cert.ZgRefIdeal.nD Cert.ZgRefIdeal.τ).loc Cert.ZgRefIdeal.main_arg0) = m ((c.tc : Thread Cert.ZgRefIdeal.nD Cert.ZgRefIdeal.τ).loc Cert.ZgRefIdeal.main_arg0)
      ∧ r.2.mem ((c.tc : Thread Cert.ZgRefIdeal.nD Cert.ZgRefIdeal.τ).loc Cert.ZgRefIdeal.main_arg1) = m ((c.tc : Thread Cert.ZgRefIdeal.nD Cert.ZgRefIdeal.τ).loc Cert.ZgRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OutAct [hOutAct : Cert.OutAct.Facts] : Prop :=
  ∀ (m : (ℓ : Loc Cert.OutAct.nD Cert.OutAct.τ Cert.OutAct.sig) → Buf (Elt Bits) ℓ) (g : Dev Cert.OutAct.nD → PrngReg), Pre_OutAct m →
    θ_run (Cert.OutAct.defs (F := Bits)) (onTc (τ := Cert.OutAct.τ) (Cert.OutAct.main (F := Bits))) ⟨m, fun _ => 0, g⟩ (fun r => (∀ c : Dev Cert.OutAct.nD,
      r.2.mem ((c.tc : Thread Cert.OutAct.nD Cert.OutAct.τ).loc Cert.OutAct.main_arg0) = m ((c.tc : Thread Cert.OutAct.nD Cert.OutAct.τ).loc Cert.OutAct.main_arg0)
      ∧ r.2.mem ((c.tc : Thread Cert.OutAct.nD Cert.OutAct.τ).loc Cert.OutAct.main_arg1) = m ((c.tc : Thread Cert.OutAct.nD Cert.OutAct.τ).loc Cert.OutAct.main_arg1))
      ∧ r.2.sem = fun _ => 0)

def quiescent_OutActIdeal [hOutActIdeal : Cert.OutActIdeal.Facts] : Prop :=
  ∀ (m : (ℓ : Loc Cert.OutActIdeal.nD Cert.OutActIdeal.τ Cert.OutActIdeal.sig) → Buf (Elt Ideal) ℓ) (g : Dev Cert.OutActIdeal.nD → PrngReg), Pre_OutActIdeal m →
    θ_run (Cert.OutActIdeal.defs (F := Ideal)) (onTc (τ := Cert.OutActIdeal.τ) (Cert.OutActIdeal.main (F := Ideal))) ⟨m, fun _ => 0, g⟩ (fun r => (∀ c : Dev Cert.OutActIdeal.nD,
      r.2.mem ((c.tc : Thread Cert.OutActIdeal.nD Cert.OutActIdeal.τ).loc Cert.OutActIdeal.main_arg0) = m ((c.tc : Thread Cert.OutActIdeal.nD Cert.OutActIdeal.τ).loc Cert.OutActIdeal.main_arg0)
      ∧ r.2.mem ((c.tc : Thread Cert.OutActIdeal.nD Cert.OutActIdeal.τ).loc Cert.OutActIdeal.main_arg1) = m ((c.tc : Thread Cert.OutActIdeal.nD Cert.OutActIdeal.τ).loc Cert.OutActIdeal.main_arg1))
      ∧ r.2.sem = fun _ => 0)

def quiescent_OutActRefIdeal [hOutActRefIdeal : Cert.OutActRefIdeal.Facts] : Prop :=
  ∀ (m : (ℓ : Loc Cert.OutActRefIdeal.nD Cert.OutActRefIdeal.τ Cert.OutActRefIdeal.sig) → Buf (Elt Ideal) ℓ) (g : Dev Cert.OutActRefIdeal.nD → PrngReg), Pre_OutActRefIdeal m →
    θ_run (Cert.OutActRefIdeal.defs (F := Ideal)) (onTc (τ := Cert.OutActRefIdeal.τ) (Cert.OutActRefIdeal.main (F := Ideal))) ⟨m, fun _ => 0, g⟩ (fun r => (∀ c : Dev Cert.OutActRefIdeal.nD,
      r.2.mem ((c.tc : Thread Cert.OutActRefIdeal.nD Cert.OutActRefIdeal.τ).loc Cert.OutActRefIdeal.main_arg0) = m ((c.tc : Thread Cert.OutActRefIdeal.nD Cert.OutActRefIdeal.τ).loc Cert.OutActRefIdeal.main_arg0)
      ∧ r.2.mem ((c.tc : Thread Cert.OutActRefIdeal.nD Cert.OutActRefIdeal.τ).loc Cert.OutActRefIdeal.main_arg1) = m ((c.tc : Thread Cert.OutActRefIdeal.nD Cert.OutActRefIdeal.τ).loc Cert.OutActRefIdeal.main_arg1))
      ∧ r.2.sem = fun _ => 0)

def quiescent_ZgAct [hZgAct : Cert.ZgAct.Facts] : Prop :=
  ∀ (m : (ℓ : Loc Cert.ZgAct.nD Cert.ZgAct.τ Cert.ZgAct.sig) → Buf (Elt Bits) ℓ) (g : Dev Cert.ZgAct.nD → PrngReg), Pre_ZgAct m →
    θ_run (Cert.ZgAct.defs (F := Bits)) (onTc (τ := Cert.ZgAct.τ) (Cert.ZgAct.main (F := Bits))) ⟨m, fun _ => 0, g⟩ (fun r => (∀ c : Dev Cert.ZgAct.nD,
      r.2.mem ((c.tc : Thread Cert.ZgAct.nD Cert.ZgAct.τ).loc Cert.ZgAct.main_arg0) = m ((c.tc : Thread Cert.ZgAct.nD Cert.ZgAct.τ).loc Cert.ZgAct.main_arg0)
      ∧ r.2.mem ((c.tc : Thread Cert.ZgAct.nD Cert.ZgAct.τ).loc Cert.ZgAct.main_arg1) = m ((c.tc : Thread Cert.ZgAct.nD Cert.ZgAct.τ).loc Cert.ZgAct.main_arg1)
      ∧ r.2.mem ((c.tc : Thread Cert.ZgAct.nD Cert.ZgAct.τ).loc Cert.ZgAct.main_arg2) = m ((c.tc : Thread Cert.ZgAct.nD Cert.ZgAct.τ).loc Cert.ZgAct.main_arg2)
      ∧ r.2.mem ((c.tc : Thread Cert.ZgAct.nD Cert.ZgAct.τ).loc Cert.ZgAct.main_arg3) = m ((c.tc : Thread Cert.ZgAct.nD Cert.ZgAct.τ).loc Cert.ZgAct.main_arg3))
      ∧ r.2.sem = fun _ => 0)

def quiescent_ZgActIdeal [hZgActIdeal : Cert.ZgActIdeal.Facts] : Prop :=
  ∀ (m : (ℓ : Loc Cert.ZgActIdeal.nD Cert.ZgActIdeal.τ Cert.ZgActIdeal.sig) → Buf (Elt Ideal) ℓ) (g : Dev Cert.ZgActIdeal.nD → PrngReg), Pre_ZgActIdeal m →
    θ_run (Cert.ZgActIdeal.defs (F := Ideal)) (onTc (τ := Cert.ZgActIdeal.τ) (Cert.ZgActIdeal.main (F := Ideal))) ⟨m, fun _ => 0, g⟩ (fun r => (∀ c : Dev Cert.ZgActIdeal.nD,
      r.2.mem ((c.tc : Thread Cert.ZgActIdeal.nD Cert.ZgActIdeal.τ).loc Cert.ZgActIdeal.main_arg0) = m ((c.tc : Thread Cert.ZgActIdeal.nD Cert.ZgActIdeal.τ).loc Cert.ZgActIdeal.main_arg0)
      ∧ r.2.mem ((c.tc : Thread Cert.ZgActIdeal.nD Cert.ZgActIdeal.τ).loc Cert.ZgActIdeal.main_arg1) = m ((c.tc : Thread Cert.ZgActIdeal.nD Cert.ZgActIdeal.τ).loc Cert.ZgActIdeal.main_arg1)
      ∧ r.2.mem ((c.tc : Thread Cert.ZgActIdeal.nD Cert.ZgActIdeal.τ).loc Cert.ZgActIdeal.main_arg2) = m ((c.tc : Thread Cert.ZgActIdeal.nD Cert.ZgActIdeal.τ).loc Cert.ZgActIdeal.main_arg2)
      ∧ r.2.mem ((c.tc : Thread Cert.ZgActIdeal.nD Cert.ZgActIdeal.τ).loc Cert.ZgActIdeal.main_arg3) = m ((c.tc : Thread Cert.ZgActIdeal.nD Cert.ZgActIdeal.τ).loc Cert.ZgActIdeal.main_arg3))
      ∧ r.2.sem = fun _ => 0)

def quiescent_ZgActRefIdeal [hZgActRefIdeal : Cert.ZgActRefIdeal.Facts] : Prop :=
  ∀ (m : (ℓ : Loc Cert.ZgActRefIdeal.nD Cert.ZgActRefIdeal.τ Cert.ZgActRefIdeal.sig) → Buf (Elt Ideal) ℓ) (g : Dev Cert.ZgActRefIdeal.nD → PrngReg), Pre_ZgActRefIdeal m →
    θ_run (Cert.ZgActRefIdeal.defs (F := Ideal)) (onTc (τ := Cert.ZgActRefIdeal.τ) (Cert.ZgActRefIdeal.main (F := Ideal))) ⟨m, fun _ => 0, g⟩ (fun r => (∀ c : Dev Cert.ZgActRefIdeal.nD,
      r.2.mem ((c.tc : Thread Cert.ZgActRefIdeal.nD Cert.ZgActRefIdeal.τ).loc Cert.ZgActRefIdeal.main_arg0) = m ((c.tc : Thread Cert.ZgActRefIdeal.nD Cert.ZgActRefIdeal.τ).loc Cert.ZgActRefIdeal.main_arg0)
      ∧ r.2.mem ((c.tc : Thread Cert.ZgActRefIdeal.nD Cert.ZgActRefIdeal.τ).loc Cert.ZgActRefIdeal.main_arg1) = m ((c.tc : Thread Cert.ZgActRefIdeal.nD Cert.ZgActRefIdeal.τ).loc Cert.ZgActRefIdeal.main_arg1)
      ∧ r.2.mem ((c.tc : Thread Cert.ZgActRefIdeal.nD Cert.ZgActRefIdeal.τ).loc Cert.ZgActRefIdeal.main_arg2) = m ((c.tc : Thread Cert.ZgActRefIdeal.nD Cert.ZgActRefIdeal.τ).loc Cert.ZgActRefIdeal.main_arg2)
      ∧ r.2.mem ((c.tc : Thread Cert.ZgActRefIdeal.nD Cert.ZgActRefIdeal.τ).loc Cert.ZgActRefIdeal.main_arg3) = m ((c.tc : Thread Cert.ZgActRefIdeal.nD Cert.ZgActRefIdeal.τ).loc Cert.ZgActRefIdeal.main_arg3))
      ∧ r.2.sem = fun _ => 0)

def quiescent_QkvAct [hQkvAct : Cert.QkvAct.Facts] : Prop :=
  ∀ (m : (ℓ : Loc Cert.QkvAct.nD Cert.QkvAct.τ Cert.QkvAct.sig) → Buf (Elt Bits) ℓ) (g : Dev Cert.QkvAct.nD → PrngReg), Pre_QkvAct m →
    θ_run (Cert.QkvAct.defs (F := Bits)) (onTc (τ := Cert.QkvAct.τ) (Cert.QkvAct.main (F := Bits))) ⟨m, fun _ => 0, g⟩ (fun r => (∀ c : Dev Cert.QkvAct.nD,
      r.2.mem ((c.tc : Thread Cert.QkvAct.nD Cert.QkvAct.τ).loc Cert.QkvAct.main_arg0) = m ((c.tc : Thread Cert.QkvAct.nD Cert.QkvAct.τ).loc Cert.QkvAct.main_arg0)
      ∧ r.2.mem ((c.tc : Thread Cert.QkvAct.nD Cert.QkvAct.τ).loc Cert.QkvAct.main_arg1) = m ((c.tc : Thread Cert.QkvAct.nD Cert.QkvAct.τ).loc Cert.QkvAct.main_arg1)
      ∧ r.2.mem ((c.tc : Thread Cert.QkvAct.nD Cert.QkvAct.τ).loc Cert.QkvAct.main_arg2) = m ((c.tc : Thread Cert.QkvAct.nD Cert.QkvAct.τ).loc Cert.QkvAct.main_arg2)
      ∧ r.2.mem ((c.tc : Thread Cert.QkvAct.nD Cert.QkvAct.τ).loc Cert.QkvAct.main_arg3) = m ((c.tc : Thread Cert.QkvAct.nD Cert.QkvAct.τ).loc Cert.QkvAct.main_arg3))
      ∧ r.2.sem = fun _ => 0)

def quiescent_QkvActIdeal [hQkvActIdeal : Cert.QkvActIdeal.Facts] : Prop :=
  ∀ (m : (ℓ : Loc Cert.QkvActIdeal.nD Cert.QkvActIdeal.τ Cert.QkvActIdeal.sig) → Buf (Elt Ideal) ℓ) (g : Dev Cert.QkvActIdeal.nD → PrngReg), Pre_QkvActIdeal m →
    θ_run (Cert.QkvActIdeal.defs (F := Ideal)) (onTc (τ := Cert.QkvActIdeal.τ) (Cert.QkvActIdeal.main (F := Ideal))) ⟨m, fun _ => 0, g⟩ (fun r => (∀ c : Dev Cert.QkvActIdeal.nD,
      r.2.mem ((c.tc : Thread Cert.QkvActIdeal.nD Cert.QkvActIdeal.τ).loc Cert.QkvActIdeal.main_arg0) = m ((c.tc : Thread Cert.QkvActIdeal.nD Cert.QkvActIdeal.τ).loc Cert.QkvActIdeal.main_arg0)
      ∧ r.2.mem ((c.tc : Thread Cert.QkvActIdeal.nD Cert.QkvActIdeal.τ).loc Cert.QkvActIdeal.main_arg1) = m ((c.tc : Thread Cert.QkvActIdeal.nD Cert.QkvActIdeal.τ).loc Cert.QkvActIdeal.main_arg1)
      ∧ r.2.mem ((c.tc : Thread Cert.QkvActIdeal.nD Cert.QkvActIdeal.τ).loc Cert.QkvActIdeal.main_arg2) = m ((c.tc : Thread Cert.QkvActIdeal.nD Cert.QkvActIdeal.τ).loc Cert.QkvActIdeal.main_arg2)
      ∧ r.2.mem ((c.tc : Thread Cert.QkvActIdeal.nD Cert.QkvActIdeal.τ).loc Cert.QkvActIdeal.main_arg3) = m ((c.tc : Thread Cert.QkvActIdeal.nD Cert.QkvActIdeal.τ).loc Cert.QkvActIdeal.main_arg3))
      ∧ r.2.sem = fun _ => 0)

def quiescent_QkvActRefIdeal [hQkvActRefIdeal : Cert.QkvActRefIdeal.Facts] : Prop :=
  ∀ (m : (ℓ : Loc Cert.QkvActRefIdeal.nD Cert.QkvActRefIdeal.τ Cert.QkvActRefIdeal.sig) → Buf (Elt Ideal) ℓ) (g : Dev Cert.QkvActRefIdeal.nD → PrngReg), Pre_QkvActRefIdeal m →
    θ_run (Cert.QkvActRefIdeal.defs (F := Ideal)) (onTc (τ := Cert.QkvActRefIdeal.τ) (Cert.QkvActRefIdeal.main (F := Ideal))) ⟨m, fun _ => 0, g⟩ (fun r => (∀ c : Dev Cert.QkvActRefIdeal.nD,
      r.2.mem ((c.tc : Thread Cert.QkvActRefIdeal.nD Cert.QkvActRefIdeal.τ).loc Cert.QkvActRefIdeal.main_arg0) = m ((c.tc : Thread Cert.QkvActRefIdeal.nD Cert.QkvActRefIdeal.τ).loc Cert.QkvActRefIdeal.main_arg0)
      ∧ r.2.mem ((c.tc : Thread Cert.QkvActRefIdeal.nD Cert.QkvActRefIdeal.τ).loc Cert.QkvActRefIdeal.main_arg1) = m ((c.tc : Thread Cert.QkvActRefIdeal.nD Cert.QkvActRefIdeal.τ).loc Cert.QkvActRefIdeal.main_arg1)
      ∧ r.2.mem ((c.tc : Thread Cert.QkvActRefIdeal.nD Cert.QkvActRefIdeal.τ).loc Cert.QkvActRefIdeal.main_arg2) = m ((c.tc : Thread Cert.QkvActRefIdeal.nD Cert.QkvActRefIdeal.τ).loc Cert.QkvActRefIdeal.main_arg2)
      ∧ r.2.mem ((c.tc : Thread Cert.QkvActRefIdeal.nD Cert.QkvActRefIdeal.τ).loc Cert.QkvActRefIdeal.main_arg3) = m ((c.tc : Thread Cert.QkvActRefIdeal.nD Cert.QkvActRefIdeal.τ).loc Cert.QkvActRefIdeal.main_arg3))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_BranchC [hBranchC : Cert.BranchC.Facts] : Prop :=
  ∀ (m : (ℓ : Loc Cert.BranchC.nD Cert.BranchC.τ Cert.BranchC.sig) → Buf (Elt Bits) ℓ) (g : Dev Cert.BranchC.nD → PrngReg), Pre_BranchC m →
    θ_run (Cert.BranchC.defs (F := Bits)) (onTc (τ := Cert.BranchC.τ) (Cert.BranchC.main (F := Bits))) ⟨m, fun _ => 0, g⟩ (fun r => (∀ c : Dev Cert.BranchC.nD,
      r.2.mem ((c.tc : Thread Cert.BranchC.nD Cert.BranchC.τ).loc Cert.BranchC.main_arg0) = m ((c.tc : Thread Cert.BranchC.nD Cert.BranchC.τ).loc Cert.BranchC.main_arg0)
      ∧ r.2.mem ((c.tc : Thread Cert.BranchC.nD Cert.BranchC.τ).loc Cert.BranchC.main_arg1) = m ((c.tc : Thread Cert.BranchC.nD Cert.BranchC.τ).loc Cert.BranchC.main_arg1))
      ∧ r.2.sem = fun _ => 0)

def quiescent_BranchCIdeal [hBranchCIdeal : Cert.BranchCIdeal.Facts] : Prop :=
  ∀ (m : (ℓ : Loc Cert.BranchCIdeal.nD Cert.BranchCIdeal.τ Cert.BranchCIdeal.sig) → Buf (Elt Ideal) ℓ) (g : Dev Cert.BranchCIdeal.nD → PrngReg), Pre_BranchCIdeal m →
    θ_run (Cert.BranchCIdeal.defs (F := Ideal)) (onTc (τ := Cert.BranchCIdeal.τ) (Cert.BranchCIdeal.main (F := Ideal))) ⟨m, fun _ => 0, g⟩ (fun r => (∀ c : Dev Cert.BranchCIdeal.nD,
      r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
      ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1))
      ∧ r.2.sem = fun _ => 0)

def quiescent_BranchCRefIdeal [hBranchCRefIdeal : Cert.BranchCRefIdeal.Facts] : Prop :=
  ∀ (m : (ℓ : Loc Cert.BranchCRefIdeal.nD Cert.BranchCRefIdeal.τ Cert.BranchCRefIdeal.sig) → Buf (Elt Ideal) ℓ) (g : Dev Cert.BranchCRefIdeal.nD → PrngReg), Pre_BranchCRefIdeal m →
    θ_run (Cert.BranchCRefIdeal.defs (F := Ideal)) (onTc (τ := Cert.BranchCRefIdeal.τ) (Cert.BranchCRefIdeal.main (F := Ideal))) ⟨m, fun _ => 0, g⟩ (fun r => (∀ c : Dev Cert.BranchCRefIdeal.nD,
      r.2.mem ((c.tc : Thread Cert.BranchCRefIdeal.nD Cert.BranchCRefIdeal.τ).loc Cert.BranchCRefIdeal.main_arg0) = m ((c.tc : Thread Cert.BranchCRefIdeal.nD Cert.BranchCRefIdeal.τ).loc Cert.BranchCRefIdeal.main_arg0)
      ∧ r.2.mem ((c.tc : Thread Cert.BranchCRefIdeal.nD Cert.BranchCRefIdeal.τ).loc Cert.BranchCRefIdeal.main_arg1) = m ((c.tc : Thread Cert.BranchCRefIdeal.nD Cert.BranchCRefIdeal.τ).loc Cert.BranchCRefIdeal.main_arg1))
      ∧ r.2.sem = fun _ => 0)

def quiescent_BranchBAct [hBranchBAct : Cert.BranchBAct.Facts] : Prop :=
  ∀ (m : (ℓ : Loc Cert.BranchBAct.nD Cert.BranchBAct.τ Cert.BranchBAct.sig) → Buf (Elt Bits) ℓ) (g : Dev Cert.BranchBAct.nD → PrngReg), Pre_BranchBAct m →
    θ_run (Cert.BranchBAct.defs (F := Bits)) (onTc (τ := Cert.BranchBAct.τ) (Cert.BranchBAct.main (F := Bits))) ⟨m, fun _ => 0, g⟩ (fun r => (∀ c : Dev Cert.BranchBAct.nD,
      r.2.mem ((c.tc : Thread Cert.BranchBAct.nD Cert.BranchBAct.τ).loc Cert.BranchBAct.main_arg0) = m ((c.tc : Thread Cert.BranchBAct.nD Cert.BranchBAct.τ).loc Cert.BranchBAct.main_arg0)
      ∧ r.2.mem ((c.tc : Thread Cert.BranchBAct.nD Cert.BranchBAct.τ).loc Cert.BranchBAct.main_arg1) = m ((c.tc : Thread Cert.BranchBAct.nD Cert.BranchBAct.τ).loc Cert.BranchBAct.main_arg1))
      ∧ r.2.sem = fun _ => 0)

def quiescent_BranchBActIdeal [hBranchBActIdeal : Cert.BranchBActIdeal.Facts] : Prop :=
  ∀ (m : (ℓ : Loc Cert.BranchBActIdeal.nD Cert.BranchBActIdeal.τ Cert.BranchBActIdeal.sig) → Buf (Elt Ideal) ℓ) (g : Dev Cert.BranchBActIdeal.nD → PrngReg), Pre_BranchBActIdeal m →
    θ_run (Cert.BranchBActIdeal.defs (F := Ideal)) (onTc (τ := Cert.BranchBActIdeal.τ) (Cert.BranchBActIdeal.main (F := Ideal))) ⟨m, fun _ => 0, g⟩ (fun r => (∀ c : Dev Cert.BranchBActIdeal.nD,
      r.2.mem ((c.tc : Thread Cert.BranchBActIdeal.nD Cert.BranchBActIdeal.τ).loc Cert.BranchBActIdeal.main_arg0) = m ((c.tc : Thread Cert.BranchBActIdeal.nD Cert.BranchBActIdeal.τ).loc Cert.BranchBActIdeal.main_arg0)
      ∧ r.2.mem ((c.tc : Thread Cert.BranchBActIdeal.nD Cert.BranchBActIdeal.τ).loc Cert.BranchBActIdeal.main_arg1) = m ((c.tc : Thread Cert.BranchBActIdeal.nD Cert.BranchBActIdeal.τ).loc Cert.BranchBActIdeal.main_arg1))
      ∧ r.2.sem = fun _ => 0)

def quiescent_BranchBActRefIdeal [hBranchBActRefIdeal : Cert.BranchBActRefIdeal.Facts] : Prop :=
  ∀ (m : (ℓ : Loc Cert.BranchBActRefIdeal.nD Cert.BranchBActRefIdeal.τ Cert.BranchBActRefIdeal.sig) → Buf (Elt Ideal) ℓ) (g : Dev Cert.BranchBActRefIdeal.nD → PrngReg), Pre_BranchBActRefIdeal m →
    θ_run (Cert.BranchBActRefIdeal.defs (F := Ideal)) (onTc (τ := Cert.BranchBActRefIdeal.τ) (Cert.BranchBActRefIdeal.main (F := Ideal))) ⟨m, fun _ => 0, g⟩ (fun r => (∀ c : Dev Cert.BranchBActRefIdeal.nD,
      r.2.mem ((c.tc : Thread Cert.BranchBActRefIdeal.nD Cert.BranchBActRefIdeal.τ).loc Cert.BranchBActRefIdeal.main_arg0) = m ((c.tc : Thread Cert.BranchBActRefIdeal.nD Cert.BranchBActRefIdeal.τ).loc Cert.BranchBActRefIdeal.main_arg0)
      ∧ r.2.mem ((c.tc : Thread Cert.BranchBActRefIdeal.nD Cert.BranchBActRefIdeal.τ).loc Cert.BranchBActRefIdeal.main_arg1) = m ((c.tc : Thread Cert.BranchBActRefIdeal.nD Cert.BranchBActRefIdeal.τ).loc Cert.BranchBActRefIdeal.main_arg1))
      ∧ r.2.sem = fun _ => 0)

def quiescent_BranchCAct [hBranchCAct : Cert.BranchCAct.Facts] : Prop :=
  ∀ (m : (ℓ : Loc Cert.BranchCAct.nD Cert.BranchCAct.τ Cert.BranchCAct.sig) → Buf (Elt Bits) ℓ) (g : Dev Cert.BranchCAct.nD → PrngReg), Pre_BranchCAct m →
    θ_run (Cert.BranchCAct.defs (F := Bits)) (onTc (τ := Cert.BranchCAct.τ) (Cert.BranchCAct.main (F := Bits))) ⟨m, fun _ => 0, g⟩ (fun r => (∀ c : Dev Cert.BranchCAct.nD,
      r.2.mem ((c.tc : Thread Cert.BranchCAct.nD Cert.BranchCAct.τ).loc Cert.BranchCAct.main_arg0) = m ((c.tc : Thread Cert.BranchCAct.nD Cert.BranchCAct.τ).loc Cert.BranchCAct.main_arg0)
      ∧ r.2.mem ((c.tc : Thread Cert.BranchCAct.nD Cert.BranchCAct.τ).loc Cert.BranchCAct.main_arg1) = m ((c.tc : Thread Cert.BranchCAct.nD Cert.BranchCAct.τ).loc Cert.BranchCAct.main_arg1))
      ∧ r.2.sem = fun _ => 0)

def quiescent_BranchCActIdeal [hBranchCActIdeal : Cert.BranchCActIdeal.Facts] : Prop :=
  ∀ (m : (ℓ : Loc Cert.BranchCActIdeal.nD Cert.BranchCActIdeal.τ Cert.BranchCActIdeal.sig) → Buf (Elt Ideal) ℓ) (g : Dev Cert.BranchCActIdeal.nD → PrngReg), Pre_BranchCActIdeal m →
    θ_run (Cert.BranchCActIdeal.defs (F := Ideal)) (onTc (τ := Cert.BranchCActIdeal.τ) (Cert.BranchCActIdeal.main (F := Ideal))) ⟨m, fun _ => 0, g⟩ (fun r => (∀ c : Dev Cert.BranchCActIdeal.nD,
      r.2.mem ((c.tc : Thread Cert.BranchCActIdeal.nD Cert.BranchCActIdeal.τ).loc Cert.BranchCActIdeal.main_arg0) = m ((c.tc : Thread Cert.BranchCActIdeal.nD Cert.BranchCActIdeal.τ).loc Cert.BranchCActIdeal.main_arg0)
      ∧ r.2.mem ((c.tc : Thread Cert.BranchCActIdeal.nD Cert.BranchCActIdeal.τ).loc Cert.BranchCActIdeal.main_arg1) = m ((c.tc : Thread Cert.BranchCActIdeal.nD Cert.BranchCActIdeal.τ).loc Cert.BranchCActIdeal.main_arg1))
      ∧ r.2.sem = fun _ => 0)

def quiescent_BranchCActRefIdeal [hBranchCActRefIdeal : Cert.BranchCActRefIdeal.Facts] : Prop :=
  ∀ (m : (ℓ : Loc Cert.BranchCActRefIdeal.nD Cert.BranchCActRefIdeal.τ Cert.BranchCActRefIdeal.sig) → Buf (Elt Ideal) ℓ) (g : Dev Cert.BranchCActRefIdeal.nD → PrngReg), Pre_BranchCActRefIdeal m →
    θ_run (Cert.BranchCActRefIdeal.defs (F := Ideal)) (onTc (τ := Cert.BranchCActRefIdeal.τ) (Cert.BranchCActRefIdeal.main (F := Ideal))) ⟨m, fun _ => 0, g⟩ (fun r => (∀ c : Dev Cert.BranchCActRefIdeal.nD,
      r.2.mem ((c.tc : Thread Cert.BranchCActRefIdeal.nD Cert.BranchCActRefIdeal.τ).loc Cert.BranchCActRefIdeal.main_arg0) = m ((c.tc : Thread Cert.BranchCActRefIdeal.nD Cert.BranchCActRefIdeal.τ).loc Cert.BranchCActRefIdeal.main_arg0)
      ∧ r.2.mem ((c.tc : Thread Cert.BranchCActRefIdeal.nD Cert.BranchCActRefIdeal.τ).loc Cert.BranchCActRefIdeal.main_arg1) = m ((c.tc : Thread Cert.BranchCActRefIdeal.nD Cert.BranchCActRefIdeal.τ).loc Cert.BranchCActRefIdeal.main_arg1))
      ∧ r.2.sem = fun _ => 0)

def quiescent_BranchBW [hBranchBW : Cert.BranchBW.Facts] : Prop :=
  ∀ (m : (ℓ : Loc Cert.BranchBW.nD Cert.BranchBW.τ Cert.BranchBW.sig) → Buf (Elt Bits) ℓ) (g : Dev Cert.BranchBW.nD → PrngReg), Pre_BranchBW m →
    θ_run (Cert.BranchBW.defs (F := Bits)) (onTc (τ := Cert.BranchBW.τ) (Cert.BranchBW.main (F := Bits))) ⟨m, fun _ => 0, g⟩ (fun r => (∀ c : Dev Cert.BranchBW.nD,
      r.2.mem ((c.tc : Thread Cert.BranchBW.nD Cert.BranchBW.τ).loc Cert.BranchBW.main_arg0) = m ((c.tc : Thread Cert.BranchBW.nD Cert.BranchBW.τ).loc Cert.BranchBW.main_arg0)
      ∧ r.2.mem ((c.tc : Thread Cert.BranchBW.nD Cert.BranchBW.τ).loc Cert.BranchBW.main_arg1) = m ((c.tc : Thread Cert.BranchBW.nD Cert.BranchBW.τ).loc Cert.BranchBW.main_arg1))
      ∧ r.2.sem = fun _ => 0)

def quiescent_BranchBWIdeal [hBranchBWIdeal : Cert.BranchBWIdeal.Facts] : Prop :=
  ∀ (m : (ℓ : Loc Cert.BranchBWIdeal.nD Cert.BranchBWIdeal.τ Cert.BranchBWIdeal.sig) → Buf (Elt Ideal) ℓ) (g : Dev Cert.BranchBWIdeal.nD → PrngReg), Pre_BranchBWIdeal m →
    θ_run (Cert.BranchBWIdeal.defs (F := Ideal)) (onTc (τ := Cert.BranchBWIdeal.τ) (Cert.BranchBWIdeal.main (F := Ideal))) ⟨m, fun _ => 0, g⟩ (fun r => (∀ c : Dev Cert.BranchBWIdeal.nD,
      r.2.mem ((c.tc : Thread Cert.BranchBWIdeal.nD Cert.BranchBWIdeal.τ).loc Cert.BranchBWIdeal.main_arg0) = m ((c.tc : Thread Cert.BranchBWIdeal.nD Cert.BranchBWIdeal.τ).loc Cert.BranchBWIdeal.main_arg0)
      ∧ r.2.mem ((c.tc : Thread Cert.BranchBWIdeal.nD Cert.BranchBWIdeal.τ).loc Cert.BranchBWIdeal.main_arg1) = m ((c.tc : Thread Cert.BranchBWIdeal.nD Cert.BranchBWIdeal.τ).loc Cert.BranchBWIdeal.main_arg1))
      ∧ r.2.sem = fun _ => 0)

def quiescent_BranchBWRefIdeal [hBranchBWRefIdeal : Cert.BranchBWRefIdeal.Facts] : Prop :=
  ∀ (m : (ℓ : Loc Cert.BranchBWRefIdeal.nD Cert.BranchBWRefIdeal.τ Cert.BranchBWRefIdeal.sig) → Buf (Elt Ideal) ℓ) (g : Dev Cert.BranchBWRefIdeal.nD → PrngReg), Pre_BranchBWRefIdeal m →
    θ_run (Cert.BranchBWRefIdeal.defs (F := Ideal)) (onTc (τ := Cert.BranchBWRefIdeal.τ) (Cert.BranchBWRefIdeal.main (F := Ideal))) ⟨m, fun _ => 0, g⟩ (fun r => (∀ c : Dev Cert.BranchBWRefIdeal.nD,
      r.2.mem ((c.tc : Thread Cert.BranchBWRefIdeal.nD Cert.BranchBWRefIdeal.τ).loc Cert.BranchBWRefIdeal.main_arg0) = m ((c.tc : Thread Cert.BranchBWRefIdeal.nD Cert.BranchBWRefIdeal.τ).loc Cert.BranchBWRefIdeal.main_arg0)
      ∧ r.2.mem ((c.tc : Thread Cert.BranchBWRefIdeal.nD Cert.BranchBWRefIdeal.τ).loc Cert.BranchBWRefIdeal.main_arg1) = m ((c.tc : Thread Cert.BranchBWRefIdeal.nD Cert.BranchBWRefIdeal.τ).loc Cert.BranchBWRefIdeal.main_arg1))
      ∧ r.2.sem = fun _ => 0)

def quiescent_BranchCW [hBranchCW : Cert.BranchCW.Facts] : Prop :=
  ∀ (m : (ℓ : Loc Cert.BranchCW.nD Cert.BranchCW.τ Cert.BranchCW.sig) → Buf (Elt Bits) ℓ) (g : Dev Cert.BranchCW.nD → PrngReg), Pre_BranchCW m →
    θ_run (Cert.BranchCW.defs (F := Bits)) (onTc (τ := Cert.BranchCW.τ) (Cert.BranchCW.main (F := Bits))) ⟨m, fun _ => 0, g⟩ (fun r => (∀ c : Dev Cert.BranchCW.nD,
      r.2.mem ((c.tc : Thread Cert.BranchCW.nD Cert.BranchCW.τ).loc Cert.BranchCW.main_arg0) = m ((c.tc : Thread Cert.BranchCW.nD Cert.BranchCW.τ).loc Cert.BranchCW.main_arg0)
      ∧ r.2.mem ((c.tc : Thread Cert.BranchCW.nD Cert.BranchCW.τ).loc Cert.BranchCW.main_arg1) = m ((c.tc : Thread Cert.BranchCW.nD Cert.BranchCW.τ).loc Cert.BranchCW.main_arg1))
      ∧ r.2.sem = fun _ => 0)

def quiescent_BranchCWIdeal [hBranchCWIdeal : Cert.BranchCWIdeal.Facts] : Prop :=
  ∀ (m : (ℓ : Loc Cert.BranchCWIdeal.nD Cert.BranchCWIdeal.τ Cert.BranchCWIdeal.sig) → Buf (Elt Ideal) ℓ) (g : Dev Cert.BranchCWIdeal.nD → PrngReg), Pre_BranchCWIdeal m →
    θ_run (Cert.BranchCWIdeal.defs (F := Ideal)) (onTc (τ := Cert.BranchCWIdeal.τ) (Cert.BranchCWIdeal.main (F := Ideal))) ⟨m, fun _ => 0, g⟩ (fun r => (∀ c : Dev Cert.BranchCWIdeal.nD,
      r.2.mem ((c.tc : Thread Cert.BranchCWIdeal.nD Cert.BranchCWIdeal.τ).loc Cert.BranchCWIdeal.main_arg0) = m ((c.tc : Thread Cert.BranchCWIdeal.nD Cert.BranchCWIdeal.τ).loc Cert.BranchCWIdeal.main_arg0)
      ∧ r.2.mem ((c.tc : Thread Cert.BranchCWIdeal.nD Cert.BranchCWIdeal.τ).loc Cert.BranchCWIdeal.main_arg1) = m ((c.tc : Thread Cert.BranchCWIdeal.nD Cert.BranchCWIdeal.τ).loc Cert.BranchCWIdeal.main_arg1))
      ∧ r.2.sem = fun _ => 0)

def quiescent_BranchCWRefIdeal [hBranchCWRefIdeal : Cert.BranchCWRefIdeal.Facts] : Prop :=
  ∀ (m : (ℓ : Loc Cert.BranchCWRefIdeal.nD Cert.BranchCWRefIdeal.τ Cert.BranchCWRefIdeal.sig) → Buf (Elt Ideal) ℓ) (g : Dev Cert.BranchCWRefIdeal.nD → PrngReg), Pre_BranchCWRefIdeal m →
    θ_run (Cert.BranchCWRefIdeal.defs (F := Ideal)) (onTc (τ := Cert.BranchCWRefIdeal.τ) (Cert.BranchCWRefIdeal.main (F := Ideal))) ⟨m, fun _ => 0, g⟩ (fun r => (∀ c : Dev Cert.BranchCWRefIdeal.nD,
      r.2.mem ((c.tc : Thread Cert.BranchCWRefIdeal.nD Cert.BranchCWRefIdeal.τ).loc Cert.BranchCWRefIdeal.main_arg0) = m ((c.tc : Thread Cert.BranchCWRefIdeal.nD Cert.BranchCWRefIdeal.τ).loc Cert.BranchCWRefIdeal.main_arg0)
      ∧ r.2.mem ((c.tc : Thread Cert.BranchCWRefIdeal.nD Cert.BranchCWRefIdeal.τ).loc Cert.BranchCWRefIdeal.main_arg1) = m ((c.tc : Thread Cert.BranchCWRefIdeal.nD Cert.BranchCWRefIdeal.τ).loc Cert.BranchCWRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)) (v2 : (c : Dev Cert.MergeIdeal.nD) → Buf (Elt Ideal) ((c.tc : Thread Cert.MergeIdeal.nD Cert.MergeIdeal.τ).loc Cert.MergeIdeal.main_v13_2)) (v3 : (c : Dev Cert.MergeIdeal.nD) → Buf (Elt Ideal) ((c.tc : Thread Cert.MergeIdeal.nD Cert.MergeIdeal.τ).loc Cert.MergeIdeal.main_v13_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_v13_2) = v2 c
          ∧ r.2.mem ((c.tc : Thread Cert.MergeIdeal.nD Cert.MergeIdeal.τ).loc Cert.MergeIdeal.main_v13_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_v40) = v1 c
          ∧ r.2.mem ((c.tc : Thread Cert.MergeRefIdeal.nD Cert.MergeRefIdeal.τ).loc Cert.MergeRefIdeal.main_v41) = v2 c
          ∧ r.2.mem ((c.tc : Thread Cert.MergeRefIdeal.nD Cert.MergeRefIdeal.τ).loc Cert.MergeRefIdeal.main_v42) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v74_0)) (v1 : (c : Dev Cert.FoxIdeal.nD) → Buf (Elt Ideal) ((c.tc : Thread Cert.FoxIdeal.nD Cert.FoxIdeal.τ).loc Cert.FoxIdeal.main_v74_1)) (v2 : (c : Dev Cert.FoxIdeal.nD) → Buf (Elt Ideal) ((c.tc : Thread Cert.FoxIdeal.nD Cert.FoxIdeal.τ).loc Cert.FoxIdeal.main_v74_2)) (v3 : (c : Dev Cert.FoxIdeal.nD) → Buf (Elt Ideal) ((c.tc : Thread Cert.FoxIdeal.nD Cert.FoxIdeal.τ).loc Cert.FoxIdeal.main_v74_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v74_0) = v0 c
          ∧ r.2.mem ((c.tc : Thread Cert.FoxIdeal.nD Cert.FoxIdeal.τ).loc Cert.FoxIdeal.main_v74_1) = v1 c
          ∧ r.2.mem ((c.tc : Thread Cert.FoxIdeal.nD Cert.FoxIdeal.τ).loc Cert.FoxIdeal.main_v74_2) = v2 c
          ∧ r.2.mem ((c.tc : Thread Cert.FoxIdeal.nD Cert.FoxIdeal.τ).loc Cert.FoxIdeal.main_v74_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v75) = v0 c
          ∧ r.2.mem ((c.tc : Thread Cert.FoxRefIdeal.nD Cert.FoxRefIdeal.τ).loc Cert.FoxRefIdeal.main_v76) = v1 c
          ∧ r.2.mem ((c.tc : Thread Cert.FoxRefIdeal.nD Cert.FoxRefIdeal.τ).loc Cert.FoxRefIdeal.main_v77) = v2 c
          ∧ r.2.mem ((c.tc : Thread Cert.FoxRefIdeal.nD Cert.FoxRefIdeal.τ).loc Cert.FoxRefIdeal.main_v78) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Zg_ZgIdeal : Prop :=
  True

def algebraic_ZgIdeal_ZgRefIdeal [hZgIdeal : Cert.ZgIdeal.Facts] [hZgRefIdeal : Cert.ZgRefIdeal.Facts] : Prop :=
  ∀ (m : (ℓ : Loc Cert.ZgIdeal.nD Cert.ZgIdeal.τ Cert.ZgIdeal.sig) → Buf (Elt Ideal) ℓ) (g : Dev Cert.ZgIdeal.nD → PrngReg)
    (m' : (ℓ : Loc Cert.ZgRefIdeal.nD Cert.ZgRefIdeal.τ Cert.ZgRefIdeal.sig) → Buf (Elt Ideal) ℓ) (g' : Dev Cert.ZgRefIdeal.nD → PrngReg), Pre_ZgIdeal m →
    (∀ c : Dev Cert.ZgIdeal.nD,
      m' ((c.tc : Thread Cert.ZgRefIdeal.nD Cert.ZgRefIdeal.τ).loc Cert.ZgRefIdeal.main_arg0) = m ((c.tc : Thread Cert.ZgIdeal.nD Cert.ZgIdeal.τ).loc Cert.ZgIdeal.main_arg0)
      ∧ m' ((c.tc : Thread Cert.ZgRefIdeal.nD Cert.ZgRefIdeal.τ).loc Cert.ZgRefIdeal.main_arg1) = m ((c.tc : Thread Cert.ZgIdeal.nD Cert.ZgIdeal.τ).loc Cert.ZgIdeal.main_arg1)) →
    ∃ (v0 : (c : Dev Cert.ZgIdeal.nD) → Buf (Elt Ideal) ((c.tc : Thread Cert.ZgIdeal.nD Cert.ZgIdeal.τ).loc Cert.ZgIdeal.main_v2)),
      θ_run (Cert.ZgIdeal.defs (F := Ideal)) (onTc (τ := Cert.ZgIdeal.τ) (Cert.ZgIdeal.main (F := Ideal))) ⟨m, fun _ => 0, g⟩ (fun r => ∀ c : Dev Cert.ZgIdeal.nD,
          r.2.mem ((c.tc : Thread Cert.ZgIdeal.nD Cert.ZgIdeal.τ).loc Cert.ZgIdeal.main_v2) = v0 c
          ∧ r.2.mem ((c.tc : Thread Cert.ZgIdeal.nD Cert.ZgIdeal.τ).loc Cert.ZgIdeal.main_arg0) = m ((c.tc : Thread Cert.ZgIdeal.nD Cert.ZgIdeal.τ).loc Cert.ZgIdeal.main_arg0)
          ∧ r.2.mem ((c.tc : Thread Cert.ZgIdeal.nD Cert.ZgIdeal.τ).loc Cert.ZgIdeal.main_arg1) = m ((c.tc : Thread Cert.ZgIdeal.nD Cert.ZgIdeal.τ).loc Cert.ZgIdeal.main_arg1))
      ∧ θ_run (Cert.ZgRefIdeal.defs (F := Ideal)) (onTc (τ := Cert.ZgRefIdeal.τ) (Cert.ZgRefIdeal.main (F := Ideal))) ⟨m', fun _ => 0, g'⟩ (fun r => ∀ c : Dev Cert.ZgRefIdeal.nD,
          r.2.mem ((c.tc : Thread Cert.ZgRefIdeal.nD Cert.ZgRefIdeal.τ).loc Cert.ZgRefIdeal.main_v1) = v0 c
          ∧ r.2.mem ((c.tc : Thread Cert.ZgRefIdeal.nD Cert.ZgRefIdeal.τ).loc Cert.ZgRefIdeal.main_arg0) = m' ((c.tc : Thread Cert.ZgRefIdeal.nD Cert.ZgRefIdeal.τ).loc Cert.ZgRefIdeal.main_arg0)
          ∧ r.2.mem ((c.tc : Thread Cert.ZgRefIdeal.nD Cert.ZgRefIdeal.τ).loc Cert.ZgRefIdeal.main_arg1) = m' ((c.tc : Thread Cert.ZgRefIdeal.nD Cert.ZgRefIdeal.τ).loc Cert.ZgRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v1) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v2)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v2) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v4) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)) →
    ∃ (v0 : (c : Dev Cert.QkvWIdeal.nD) → Buf (Elt Ideal) ((c.tc : Thread Cert.QkvWIdeal.nD Cert.QkvWIdeal.τ).loc Cert.QkvWIdeal.main_v2)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v2) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v4) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OutAct_OutActIdeal : Prop :=
  True

def algebraic_OutActIdeal_OutActRefIdeal [hOutActIdeal : Cert.OutActIdeal.Facts] [hOutActRefIdeal : Cert.OutActRefIdeal.Facts] : Prop :=
  ∀ (m : (ℓ : Loc Cert.OutActIdeal.nD Cert.OutActIdeal.τ Cert.OutActIdeal.sig) → Buf (Elt Ideal) ℓ) (g : Dev Cert.OutActIdeal.nD → PrngReg)
    (m' : (ℓ : Loc Cert.OutActRefIdeal.nD Cert.OutActRefIdeal.τ Cert.OutActRefIdeal.sig) → Buf (Elt Ideal) ℓ) (g' : Dev Cert.OutActRefIdeal.nD → PrngReg), Pre_OutActIdeal m →
    (∀ c : Dev Cert.OutActIdeal.nD,
      m' ((c.tc : Thread Cert.OutActRefIdeal.nD Cert.OutActRefIdeal.τ).loc Cert.OutActRefIdeal.main_arg0) = m ((c.tc : Thread Cert.OutActIdeal.nD Cert.OutActIdeal.τ).loc Cert.OutActIdeal.main_arg0)
      ∧ m' ((c.tc : Thread Cert.OutActRefIdeal.nD Cert.OutActRefIdeal.τ).loc Cert.OutActRefIdeal.main_arg1) = m ((c.tc : Thread Cert.OutActIdeal.nD Cert.OutActIdeal.τ).loc Cert.OutActIdeal.main_arg1)) →
    ∃ (v0 : (c : Dev Cert.OutActIdeal.nD) → Buf (Elt Ideal) ((c.tc : Thread Cert.OutActIdeal.nD Cert.OutActIdeal.τ).loc Cert.OutActIdeal.main_v2)),
      θ_run (Cert.OutActIdeal.defs (F := Ideal)) (onTc (τ := Cert.OutActIdeal.τ) (Cert.OutActIdeal.main (F := Ideal))) ⟨m, fun _ => 0, g⟩ (fun r => ∀ c : Dev Cert.OutActIdeal.nD,
          r.2.mem ((c.tc : Thread Cert.OutActIdeal.nD Cert.OutActIdeal.τ).loc Cert.OutActIdeal.main_v2) = v0 c
          ∧ r.2.mem ((c.tc : Thread Cert.OutActIdeal.nD Cert.OutActIdeal.τ).loc Cert.OutActIdeal.main_arg0) = m ((c.tc : Thread Cert.OutActIdeal.nD Cert.OutActIdeal.τ).loc Cert.OutActIdeal.main_arg0)
          ∧ r.2.mem ((c.tc : Thread Cert.OutActIdeal.nD Cert.OutActIdeal.τ).loc Cert.OutActIdeal.main_arg1) = m ((c.tc : Thread Cert.OutActIdeal.nD Cert.OutActIdeal.τ).loc Cert.OutActIdeal.main_arg1))
      ∧ θ_run (Cert.OutActRefIdeal.defs (F := Ideal)) (onTc (τ := Cert.OutActRefIdeal.τ) (Cert.OutActRefIdeal.main (F := Ideal))) ⟨m', fun _ => 0, g'⟩ (fun r => ∀ c : Dev Cert.OutActRefIdeal.nD,
          r.2.mem ((c.tc : Thread Cert.OutActRefIdeal.nD Cert.OutActRefIdeal.τ).loc Cert.OutActRefIdeal.main_v2) = v0 c
          ∧ r.2.mem ((c.tc : Thread Cert.OutActRefIdeal.nD Cert.OutActRefIdeal.τ).loc Cert.OutActRefIdeal.main_arg0) = m' ((c.tc : Thread Cert.OutActRefIdeal.nD Cert.OutActRefIdeal.τ).loc Cert.OutActRefIdeal.main_arg0)
          ∧ r.2.mem ((c.tc : Thread Cert.OutActRefIdeal.nD Cert.OutActRefIdeal.τ).loc Cert.OutActRefIdeal.main_arg1) = m' ((c.tc : Thread Cert.OutActRefIdeal.nD Cert.OutActRefIdeal.τ).loc Cert.OutActRefIdeal.main_arg1))

def preserves_ZgAct_ZgActIdeal : Prop :=
  True

def algebraic_ZgActIdeal_ZgActRefIdeal [hZgActIdeal : Cert.ZgActIdeal.Facts] [hZgActRefIdeal : Cert.ZgActRefIdeal.Facts] : Prop :=
  ∀ (m : (ℓ : Loc Cert.ZgActIdeal.nD Cert.ZgActIdeal.τ Cert.ZgActIdeal.sig) → Buf (Elt Ideal) ℓ) (g : Dev Cert.ZgActIdeal.nD → PrngReg)
    (m' : (ℓ : Loc Cert.ZgActRefIdeal.nD Cert.ZgActRefIdeal.τ Cert.ZgActRefIdeal.sig) → Buf (Elt Ideal) ℓ) (g' : Dev Cert.ZgActRefIdeal.nD → PrngReg), Pre_ZgActIdeal m →
    (∀ c : Dev Cert.ZgActIdeal.nD,
      m' ((c.tc : Thread Cert.ZgActRefIdeal.nD Cert.ZgActRefIdeal.τ).loc Cert.ZgActRefIdeal.main_arg0) = m ((c.tc : Thread Cert.ZgActIdeal.nD Cert.ZgActIdeal.τ).loc Cert.ZgActIdeal.main_arg0)
      ∧ m' ((c.tc : Thread Cert.ZgActRefIdeal.nD Cert.ZgActRefIdeal.τ).loc Cert.ZgActRefIdeal.main_arg1) = m ((c.tc : Thread Cert.ZgActIdeal.nD Cert.ZgActIdeal.τ).loc Cert.ZgActIdeal.main_arg1)
      ∧ m' ((c.tc : Thread Cert.ZgActRefIdeal.nD Cert.ZgActRefIdeal.τ).loc Cert.ZgActRefIdeal.main_arg2) = m ((c.tc : Thread Cert.ZgActIdeal.nD Cert.ZgActIdeal.τ).loc Cert.ZgActIdeal.main_arg2)
      ∧ m' ((c.tc : Thread Cert.ZgActRefIdeal.nD Cert.ZgActRefIdeal.τ).loc Cert.ZgActRefIdeal.main_arg3) = m ((c.tc : Thread Cert.ZgActIdeal.nD Cert.ZgActIdeal.τ).loc Cert.ZgActIdeal.main_arg3)) →
    ∃ (v0 : (c : Dev Cert.ZgActIdeal.nD) → Buf (Elt Ideal) ((c.tc : Thread Cert.ZgActIdeal.nD Cert.ZgActIdeal.τ).loc Cert.ZgActIdeal.main_v3)),
      θ_run (Cert.ZgActIdeal.defs (F := Ideal)) (onTc (τ := Cert.ZgActIdeal.τ) (Cert.ZgActIdeal.main (F := Ideal))) ⟨m, fun _ => 0, g⟩ (fun r => ∀ c : Dev Cert.ZgActIdeal.nD,
          r.2.mem ((c.tc : Thread Cert.ZgActIdeal.nD Cert.ZgActIdeal.τ).loc Cert.ZgActIdeal.main_v3) = v0 c
          ∧ r.2.mem ((c.tc : Thread Cert.ZgActIdeal.nD Cert.ZgActIdeal.τ).loc Cert.ZgActIdeal.main_arg0) = m ((c.tc : Thread Cert.ZgActIdeal.nD Cert.ZgActIdeal.τ).loc Cert.ZgActIdeal.main_arg0)
          ∧ r.2.mem ((c.tc : Thread Cert.ZgActIdeal.nD Cert.ZgActIdeal.τ).loc Cert.ZgActIdeal.main_arg1) = m ((c.tc : Thread Cert.ZgActIdeal.nD Cert.ZgActIdeal.τ).loc Cert.ZgActIdeal.main_arg1)
          ∧ r.2.mem ((c.tc : Thread Cert.ZgActIdeal.nD Cert.ZgActIdeal.τ).loc Cert.ZgActIdeal.main_arg2) = m ((c.tc : Thread Cert.ZgActIdeal.nD Cert.ZgActIdeal.τ).loc Cert.ZgActIdeal.main_arg2)
          ∧ r.2.mem ((c.tc : Thread Cert.ZgActIdeal.nD Cert.ZgActIdeal.τ).loc Cert.ZgActIdeal.main_arg3) = m ((c.tc : Thread Cert.ZgActIdeal.nD Cert.ZgActIdeal.τ).loc Cert.ZgActIdeal.main_arg3))
      ∧ θ_run (Cert.ZgActRefIdeal.defs (F := Ideal)) (onTc (τ := Cert.ZgActRefIdeal.τ) (Cert.ZgActRefIdeal.main (F := Ideal))) ⟨m', fun _ => 0, g'⟩ (fun r => ∀ c : Dev Cert.ZgActRefIdeal.nD,
          r.2.mem ((c.tc : Thread Cert.ZgActRefIdeal.nD Cert.ZgActRefIdeal.τ).loc Cert.ZgActRefIdeal.main_v9) = v0 c
          ∧ r.2.mem ((c.tc : Thread Cert.ZgActRefIdeal.nD Cert.ZgActRefIdeal.τ).loc Cert.ZgActRefIdeal.main_arg0) = m' ((c.tc : Thread Cert.ZgActRefIdeal.nD Cert.ZgActRefIdeal.τ).loc Cert.ZgActRefIdeal.main_arg0)
          ∧ r.2.mem ((c.tc : Thread Cert.ZgActRefIdeal.nD Cert.ZgActRefIdeal.τ).loc Cert.ZgActRefIdeal.main_arg1) = m' ((c.tc : Thread Cert.ZgActRefIdeal.nD Cert.ZgActRefIdeal.τ).loc Cert.ZgActRefIdeal.main_arg1)
          ∧ r.2.mem ((c.tc : Thread Cert.ZgActRefIdeal.nD Cert.ZgActRefIdeal.τ).loc Cert.ZgActRefIdeal.main_arg2) = m' ((c.tc : Thread Cert.ZgActRefIdeal.nD Cert.ZgActRefIdeal.τ).loc Cert.ZgActRefIdeal.main_arg2)
          ∧ r.2.mem ((c.tc : Thread Cert.ZgActRefIdeal.nD Cert.ZgActRefIdeal.τ).loc Cert.ZgActRefIdeal.main_arg3) = m' ((c.tc : Thread Cert.ZgActRefIdeal.nD Cert.ZgActRefIdeal.τ).loc Cert.ZgActRefIdeal.main_arg3))

def preserves_QkvAct_QkvActIdeal : Prop :=
  True

def algebraic_QkvActIdeal_QkvActRefIdeal [hQkvActIdeal : Cert.QkvActIdeal.Facts] [hQkvActRefIdeal : Cert.QkvActRefIdeal.Facts] : Prop :=
  ∀ (m : (ℓ : Loc Cert.QkvActIdeal.nD Cert.QkvActIdeal.τ Cert.QkvActIdeal.sig) → Buf (Elt Ideal) ℓ) (g : Dev Cert.QkvActIdeal.nD → PrngReg)
    (m' : (ℓ : Loc Cert.QkvActRefIdeal.nD Cert.QkvActRefIdeal.τ Cert.QkvActRefIdeal.sig) → Buf (Elt Ideal) ℓ) (g' : Dev Cert.QkvActRefIdeal.nD → PrngReg), Pre_QkvActIdeal m →
    (∀ c : Dev Cert.QkvActIdeal.nD,
      m' ((c.tc : Thread Cert.QkvActRefIdeal.nD Cert.QkvActRefIdeal.τ).loc Cert.QkvActRefIdeal.main_arg0) = m ((c.tc : Thread Cert.QkvActIdeal.nD Cert.QkvActIdeal.τ).loc Cert.QkvActIdeal.main_arg0)
      ∧ m' ((c.tc : Thread Cert.QkvActRefIdeal.nD Cert.QkvActRefIdeal.τ).loc Cert.QkvActRefIdeal.main_arg1) = m ((c.tc : Thread Cert.QkvActIdeal.nD Cert.QkvActIdeal.τ).loc Cert.QkvActIdeal.main_arg1)
      ∧ m' ((c.tc : Thread Cert.QkvActRefIdeal.nD Cert.QkvActRefIdeal.τ).loc Cert.QkvActRefIdeal.main_arg2) = m ((c.tc : Thread Cert.QkvActIdeal.nD Cert.QkvActIdeal.τ).loc Cert.QkvActIdeal.main_arg2)
      ∧ m' ((c.tc : Thread Cert.QkvActRefIdeal.nD Cert.QkvActRefIdeal.τ).loc Cert.QkvActRefIdeal.main_arg3) = m ((c.tc : Thread Cert.QkvActIdeal.nD Cert.QkvActIdeal.τ).loc Cert.QkvActIdeal.main_arg3)) →
    ∃ (v0 : (c : Dev Cert.QkvActIdeal.nD) → Buf (Elt Ideal) ((c.tc : Thread Cert.QkvActIdeal.nD Cert.QkvActIdeal.τ).loc Cert.QkvActIdeal.main_v4)),
      θ_run (Cert.QkvActIdeal.defs (F := Ideal)) (onTc (τ := Cert.QkvActIdeal.τ) (Cert.QkvActIdeal.main (F := Ideal))) ⟨m, fun _ => 0, g⟩ (fun r => ∀ c : Dev Cert.QkvActIdeal.nD,
          r.2.mem ((c.tc : Thread Cert.QkvActIdeal.nD Cert.QkvActIdeal.τ).loc Cert.QkvActIdeal.main_v4) = v0 c
          ∧ r.2.mem ((c.tc : Thread Cert.QkvActIdeal.nD Cert.QkvActIdeal.τ).loc Cert.QkvActIdeal.main_arg0) = m ((c.tc : Thread Cert.QkvActIdeal.nD Cert.QkvActIdeal.τ).loc Cert.QkvActIdeal.main_arg0)
          ∧ r.2.mem ((c.tc : Thread Cert.QkvActIdeal.nD Cert.QkvActIdeal.τ).loc Cert.QkvActIdeal.main_arg1) = m ((c.tc : Thread Cert.QkvActIdeal.nD Cert.QkvActIdeal.τ).loc Cert.QkvActIdeal.main_arg1)
          ∧ r.2.mem ((c.tc : Thread Cert.QkvActIdeal.nD Cert.QkvActIdeal.τ).loc Cert.QkvActIdeal.main_arg2) = m ((c.tc : Thread Cert.QkvActIdeal.nD Cert.QkvActIdeal.τ).loc Cert.QkvActIdeal.main_arg2)
          ∧ r.2.mem ((c.tc : Thread Cert.QkvActIdeal.nD Cert.QkvActIdeal.τ).loc Cert.QkvActIdeal.main_arg3) = m ((c.tc : Thread Cert.QkvActIdeal.nD Cert.QkvActIdeal.τ).loc Cert.QkvActIdeal.main_arg3))
      ∧ θ_run (Cert.QkvActRefIdeal.defs (F := Ideal)) (onTc (τ := Cert.QkvActRefIdeal.τ) (Cert.QkvActRefIdeal.main (F := Ideal))) ⟨m', fun _ => 0, g'⟩ (fun r => ∀ c : Dev Cert.QkvActRefIdeal.nD,
          r.2.mem ((c.tc : Thread Cert.QkvActRefIdeal.nD Cert.QkvActRefIdeal.τ).loc Cert.QkvActRefIdeal.main_v6) = v0 c
          ∧ r.2.mem ((c.tc : Thread Cert.QkvActRefIdeal.nD Cert.QkvActRefIdeal.τ).loc Cert.QkvActRefIdeal.main_arg0) = m' ((c.tc : Thread Cert.QkvActRefIdeal.nD Cert.QkvActRefIdeal.τ).loc Cert.QkvActRefIdeal.main_arg0)
          ∧ r.2.mem ((c.tc : Thread Cert.QkvActRefIdeal.nD Cert.QkvActRefIdeal.τ).loc Cert.QkvActRefIdeal.main_arg1) = m' ((c.tc : Thread Cert.QkvActRefIdeal.nD Cert.QkvActRefIdeal.τ).loc Cert.QkvActRefIdeal.main_arg1)
          ∧ r.2.mem ((c.tc : Thread Cert.QkvActRefIdeal.nD Cert.QkvActRefIdeal.τ).loc Cert.QkvActRefIdeal.main_arg2) = m' ((c.tc : Thread Cert.QkvActRefIdeal.nD Cert.QkvActRefIdeal.τ).loc Cert.QkvActRefIdeal.main_arg2)
          ∧ r.2.mem ((c.tc : Thread Cert.QkvActRefIdeal.nD Cert.QkvActRefIdeal.τ).loc Cert.QkvActRefIdeal.main_arg3) = m' ((c.tc : Thread Cert.QkvActRefIdeal.nD Cert.QkvActRefIdeal.τ).loc Cert.QkvActRefIdeal.main_arg3))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v2)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v2) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v1) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_BranchC_BranchCIdeal : Prop :=
  True

def algebraic_BranchCIdeal_BranchCRefIdeal [hBranchCIdeal : Cert.BranchCIdeal.Facts] [hBranchCRefIdeal : Cert.BranchCRefIdeal.Facts] : Prop :=
  ∀ (m : (ℓ : Loc Cert.BranchCIdeal.nD Cert.BranchCIdeal.τ Cert.BranchCIdeal.sig) → Buf (Elt Ideal) ℓ) (g : Dev Cert.BranchCIdeal.nD → PrngReg)
    (m' : (ℓ : Loc Cert.BranchCRefIdeal.nD Cert.BranchCRefIdeal.τ Cert.BranchCRefIdeal.sig) → Buf (Elt Ideal) ℓ) (g' : Dev Cert.BranchCRefIdeal.nD → PrngReg), Pre_BranchCIdeal m →
    (∀ c : Dev Cert.BranchCIdeal.nD,
      m' ((c.tc : Thread Cert.BranchCRefIdeal.nD Cert.BranchCRefIdeal.τ).loc Cert.BranchCRefIdeal.main_arg0) = m ((c.tc : Thread Cert.BranchCIdeal.nD Cert.BranchCIdeal.τ).loc Cert.BranchCIdeal.main_arg0)
      ∧ m' ((c.tc : Thread Cert.BranchCRefIdeal.nD Cert.BranchCRefIdeal.τ).loc Cert.BranchCRefIdeal.main_arg1) = m ((c.tc : Thread Cert.BranchCIdeal.nD Cert.BranchCIdeal.τ).loc Cert.BranchCIdeal.main_arg1)) →
    ∃ (v0 : (c : Dev Cert.BranchCIdeal.nD) → Buf (Elt Ideal) ((c.tc : Thread Cert.BranchCIdeal.nD Cert.BranchCIdeal.τ).loc Cert.BranchCIdeal.main_v2)),
      θ_run (Cert.BranchCIdeal.defs (F := Ideal)) (onTc (τ := Cert.BranchCIdeal.τ) (Cert.BranchCIdeal.main (F := Ideal))) ⟨m, fun _ => 0, g⟩ (fun r => ∀ c : Dev Cert.BranchCIdeal.nD,
          r.2.mem ((c.tc : Thread Cert.BranchCIdeal.nD Cert.BranchCIdeal.τ).loc Cert.BranchCIdeal.main_v2) = v0 c
          ∧ r.2.mem ((c.tc : Thread Cert.BranchCIdeal.nD Cert.BranchCIdeal.τ).loc Cert.BranchCIdeal.main_arg0) = m ((c.tc : Thread Cert.BranchCIdeal.nD Cert.BranchCIdeal.τ).loc Cert.BranchCIdeal.main_arg0)
          ∧ r.2.mem ((c.tc : Thread Cert.BranchCIdeal.nD Cert.BranchCIdeal.τ).loc Cert.BranchCIdeal.main_arg1) = m ((c.tc : Thread Cert.BranchCIdeal.nD Cert.BranchCIdeal.τ).loc Cert.BranchCIdeal.main_arg1))
      ∧ θ_run (Cert.BranchCRefIdeal.defs (F := Ideal)) (onTc (τ := Cert.BranchCRefIdeal.τ) (Cert.BranchCRefIdeal.main (F := Ideal))) ⟨m', fun _ => 0, g'⟩ (fun r => ∀ c : Dev Cert.BranchCRefIdeal.nD,
          r.2.mem ((c.tc : Thread Cert.BranchCRefIdeal.nD Cert.BranchCRefIdeal.τ).loc Cert.BranchCRefIdeal.main_v1) = v0 c
          ∧ r.2.mem ((c.tc : Thread Cert.BranchCRefIdeal.nD Cert.BranchCRefIdeal.τ).loc Cert.BranchCRefIdeal.main_arg0) = m' ((c.tc : Thread Cert.BranchCRefIdeal.nD Cert.BranchCRefIdeal.τ).loc Cert.BranchCRefIdeal.main_arg0)
          ∧ r.2.mem ((c.tc : Thread Cert.BranchCRefIdeal.nD Cert.BranchCRefIdeal.τ).loc Cert.BranchCRefIdeal.main_arg1) = m' ((c.tc : Thread Cert.BranchCRefIdeal.nD Cert.BranchCRefIdeal.τ).loc Cert.BranchCRefIdeal.main_arg1))

def preserves_BranchBAct_BranchBActIdeal : Prop :=
  True

def algebraic_BranchBActIdeal_BranchBActRefIdeal [hBranchBActIdeal : Cert.BranchBActIdeal.Facts] [hBranchBActRefIdeal : Cert.BranchBActRefIdeal.Facts] : Prop :=
  ∀ (m : (ℓ : Loc Cert.BranchBActIdeal.nD Cert.BranchBActIdeal.τ Cert.BranchBActIdeal.sig) → Buf (Elt Ideal) ℓ) (g : Dev Cert.BranchBActIdeal.nD → PrngReg)
    (m' : (ℓ : Loc Cert.BranchBActRefIdeal.nD Cert.BranchBActRefIdeal.τ Cert.BranchBActRefIdeal.sig) → Buf (Elt Ideal) ℓ) (g' : Dev Cert.BranchBActRefIdeal.nD → PrngReg), Pre_BranchBActIdeal m →
    (∀ c : Dev Cert.BranchBActIdeal.nD,
      m' ((c.tc : Thread Cert.BranchBActRefIdeal.nD Cert.BranchBActRefIdeal.τ).loc Cert.BranchBActRefIdeal.main_arg0) = m ((c.tc : Thread Cert.BranchBActIdeal.nD Cert.BranchBActIdeal.τ).loc Cert.BranchBActIdeal.main_arg0)
      ∧ m' ((c.tc : Thread Cert.BranchBActRefIdeal.nD Cert.BranchBActRefIdeal.τ).loc Cert.BranchBActRefIdeal.main_arg1) = m ((c.tc : Thread Cert.BranchBActIdeal.nD Cert.BranchBActIdeal.τ).loc Cert.BranchBActIdeal.main_arg1)) →
    ∃ (v0 : (c : Dev Cert.BranchBActIdeal.nD) → Buf (Elt Ideal) ((c.tc : Thread Cert.BranchBActIdeal.nD Cert.BranchBActIdeal.τ).loc Cert.BranchBActIdeal.main_v2)),
      θ_run (Cert.BranchBActIdeal.defs (F := Ideal)) (onTc (τ := Cert.BranchBActIdeal.τ) (Cert.BranchBActIdeal.main (F := Ideal))) ⟨m, fun _ => 0, g⟩ (fun r => ∀ c : Dev Cert.BranchBActIdeal.nD,
          r.2.mem ((c.tc : Thread Cert.BranchBActIdeal.nD Cert.BranchBActIdeal.τ).loc Cert.BranchBActIdeal.main_v2) = v0 c
          ∧ r.2.mem ((c.tc : Thread Cert.BranchBActIdeal.nD Cert.BranchBActIdeal.τ).loc Cert.BranchBActIdeal.main_arg0) = m ((c.tc : Thread Cert.BranchBActIdeal.nD Cert.BranchBActIdeal.τ).loc Cert.BranchBActIdeal.main_arg0)
          ∧ r.2.mem ((c.tc : Thread Cert.BranchBActIdeal.nD Cert.BranchBActIdeal.τ).loc Cert.BranchBActIdeal.main_arg1) = m ((c.tc : Thread Cert.BranchBActIdeal.nD Cert.BranchBActIdeal.τ).loc Cert.BranchBActIdeal.main_arg1))
      ∧ θ_run (Cert.BranchBActRefIdeal.defs (F := Ideal)) (onTc (τ := Cert.BranchBActRefIdeal.τ) (Cert.BranchBActRefIdeal.main (F := Ideal))) ⟨m', fun _ => 0, g'⟩ (fun r => ∀ c : Dev Cert.BranchBActRefIdeal.nD,
          r.2.mem ((c.tc : Thread Cert.BranchBActRefIdeal.nD Cert.BranchBActRefIdeal.τ).loc Cert.BranchBActRefIdeal.main_v2) = v0 c
          ∧ r.2.mem ((c.tc : Thread Cert.BranchBActRefIdeal.nD Cert.BranchBActRefIdeal.τ).loc Cert.BranchBActRefIdeal.main_arg0) = m' ((c.tc : Thread Cert.BranchBActRefIdeal.nD Cert.BranchBActRefIdeal.τ).loc Cert.BranchBActRefIdeal.main_arg0)
          ∧ r.2.mem ((c.tc : Thread Cert.BranchBActRefIdeal.nD Cert.BranchBActRefIdeal.τ).loc Cert.BranchBActRefIdeal.main_arg1) = m' ((c.tc : Thread Cert.BranchBActRefIdeal.nD Cert.BranchBActRefIdeal.τ).loc Cert.BranchBActRefIdeal.main_arg1))

def preserves_BranchCAct_BranchCActIdeal : Prop :=
  True

def algebraic_BranchCActIdeal_BranchCActRefIdeal [hBranchCActIdeal : Cert.BranchCActIdeal.Facts] [hBranchCActRefIdeal : Cert.BranchCActRefIdeal.Facts] : Prop :=
  ∀ (m : (ℓ : Loc Cert.BranchCActIdeal.nD Cert.BranchCActIdeal.τ Cert.BranchCActIdeal.sig) → Buf (Elt Ideal) ℓ) (g : Dev Cert.BranchCActIdeal.nD → PrngReg)
    (m' : (ℓ : Loc Cert.BranchCActRefIdeal.nD Cert.BranchCActRefIdeal.τ Cert.BranchCActRefIdeal.sig) → Buf (Elt Ideal) ℓ) (g' : Dev Cert.BranchCActRefIdeal.nD → PrngReg), Pre_BranchCActIdeal m →
    (∀ c : Dev Cert.BranchCActIdeal.nD,
      m' ((c.tc : Thread Cert.BranchCActRefIdeal.nD Cert.BranchCActRefIdeal.τ).loc Cert.BranchCActRefIdeal.main_arg0) = m ((c.tc : Thread Cert.BranchCActIdeal.nD Cert.BranchCActIdeal.τ).loc Cert.BranchCActIdeal.main_arg0)
      ∧ m' ((c.tc : Thread Cert.BranchCActRefIdeal.nD Cert.BranchCActRefIdeal.τ).loc Cert.BranchCActRefIdeal.main_arg1) = m ((c.tc : Thread Cert.BranchCActIdeal.nD Cert.BranchCActIdeal.τ).loc Cert.BranchCActIdeal.main_arg1)) →
    ∃ (v0 : (c : Dev Cert.BranchCActIdeal.nD) → Buf (Elt Ideal) ((c.tc : Thread Cert.BranchCActIdeal.nD Cert.BranchCActIdeal.τ).loc Cert.BranchCActIdeal.main_v2)),
      θ_run (Cert.BranchCActIdeal.defs (F := Ideal)) (onTc (τ := Cert.BranchCActIdeal.τ) (Cert.BranchCActIdeal.main (F := Ideal))) ⟨m, fun _ => 0, g⟩ (fun r => ∀ c : Dev Cert.BranchCActIdeal.nD,
          r.2.mem ((c.tc : Thread Cert.BranchCActIdeal.nD Cert.BranchCActIdeal.τ).loc Cert.BranchCActIdeal.main_v2) = v0 c
          ∧ r.2.mem ((c.tc : Thread Cert.BranchCActIdeal.nD Cert.BranchCActIdeal.τ).loc Cert.BranchCActIdeal.main_arg0) = m ((c.tc : Thread Cert.BranchCActIdeal.nD Cert.BranchCActIdeal.τ).loc Cert.BranchCActIdeal.main_arg0)
          ∧ r.2.mem ((c.tc : Thread Cert.BranchCActIdeal.nD Cert.BranchCActIdeal.τ).loc Cert.BranchCActIdeal.main_arg1) = m ((c.tc : Thread Cert.BranchCActIdeal.nD Cert.BranchCActIdeal.τ).loc Cert.BranchCActIdeal.main_arg1))
      ∧ θ_run (Cert.BranchCActRefIdeal.defs (F := Ideal)) (onTc (τ := Cert.BranchCActRefIdeal.τ) (Cert.BranchCActRefIdeal.main (F := Ideal))) ⟨m', fun _ => 0, g'⟩ (fun r => ∀ c : Dev Cert.BranchCActRefIdeal.nD,
          r.2.mem ((c.tc : Thread Cert.BranchCActRefIdeal.nD Cert.BranchCActRefIdeal.τ).loc Cert.BranchCActRefIdeal.main_v2) = v0 c
          ∧ r.2.mem ((c.tc : Thread Cert.BranchCActRefIdeal.nD Cert.BranchCActRefIdeal.τ).loc Cert.BranchCActRefIdeal.main_arg0) = m' ((c.tc : Thread Cert.BranchCActRefIdeal.nD Cert.BranchCActRefIdeal.τ).loc Cert.BranchCActRefIdeal.main_arg0)
          ∧ r.2.mem ((c.tc : Thread Cert.BranchCActRefIdeal.nD Cert.BranchCActRefIdeal.τ).loc Cert.BranchCActRefIdeal.main_arg1) = m' ((c.tc : Thread Cert.BranchCActRefIdeal.nD Cert.BranchCActRefIdeal.τ).loc Cert.BranchCActRefIdeal.main_arg1))

def preserves_BranchBW_BranchBWIdeal : Prop :=
  True

def algebraic_BranchBWIdeal_BranchBWRefIdeal [hBranchBWIdeal : Cert.BranchBWIdeal.Facts] [hBranchBWRefIdeal : Cert.BranchBWRefIdeal.Facts] : Prop :=
  ∀ (m : (ℓ : Loc Cert.BranchBWIdeal.nD Cert.BranchBWIdeal.τ Cert.BranchBWIdeal.sig) → Buf (Elt Ideal) ℓ) (g : Dev Cert.BranchBWIdeal.nD → PrngReg)
    (m' : (ℓ : Loc Cert.BranchBWRefIdeal.nD Cert.BranchBWRefIdeal.τ Cert.BranchBWRefIdeal.sig) → Buf (Elt Ideal) ℓ) (g' : Dev Cert.BranchBWRefIdeal.nD → PrngReg), Pre_BranchBWIdeal m →
    (∀ c : Dev Cert.BranchBWIdeal.nD,
      m' ((c.tc : Thread Cert.BranchBWRefIdeal.nD Cert.BranchBWRefIdeal.τ).loc Cert.BranchBWRefIdeal.main_arg0) = m ((c.tc : Thread Cert.BranchBWIdeal.nD Cert.BranchBWIdeal.τ).loc Cert.BranchBWIdeal.main_arg0)
      ∧ m' ((c.tc : Thread Cert.BranchBWRefIdeal.nD Cert.BranchBWRefIdeal.τ).loc Cert.BranchBWRefIdeal.main_arg1) = m ((c.tc : Thread Cert.BranchBWIdeal.nD Cert.BranchBWIdeal.τ).loc Cert.BranchBWIdeal.main_arg1)) →
    ∃ (v0 : (c : Dev Cert.BranchBWIdeal.nD) → Buf (Elt Ideal) ((c.tc : Thread Cert.BranchBWIdeal.nD Cert.BranchBWIdeal.τ).loc Cert.BranchBWIdeal.main_v2)),
      θ_run (Cert.BranchBWIdeal.defs (F := Ideal)) (onTc (τ := Cert.BranchBWIdeal.τ) (Cert.BranchBWIdeal.main (F := Ideal))) ⟨m, fun _ => 0, g⟩ (fun r => ∀ c : Dev Cert.BranchBWIdeal.nD,
          r.2.mem ((c.tc : Thread Cert.BranchBWIdeal.nD Cert.BranchBWIdeal.τ).loc Cert.BranchBWIdeal.main_v2) = v0 c
          ∧ r.2.mem ((c.tc : Thread Cert.BranchBWIdeal.nD Cert.BranchBWIdeal.τ).loc Cert.BranchBWIdeal.main_arg0) = m ((c.tc : Thread Cert.BranchBWIdeal.nD Cert.BranchBWIdeal.τ).loc Cert.BranchBWIdeal.main_arg0)
          ∧ r.2.mem ((c.tc : Thread Cert.BranchBWIdeal.nD Cert.BranchBWIdeal.τ).loc Cert.BranchBWIdeal.main_arg1) = m ((c.tc : Thread Cert.BranchBWIdeal.nD Cert.BranchBWIdeal.τ).loc Cert.BranchBWIdeal.main_arg1))
      ∧ θ_run (Cert.BranchBWRefIdeal.defs (F := Ideal)) (onTc (τ := Cert.BranchBWRefIdeal.τ) (Cert.BranchBWRefIdeal.main (F := Ideal))) ⟨m', fun _ => 0, g'⟩ (fun r => ∀ c : Dev Cert.BranchBWRefIdeal.nD,
          r.2.mem ((c.tc : Thread Cert.BranchBWRefIdeal.nD Cert.BranchBWRefIdeal.τ).loc Cert.BranchBWRefIdeal.main_v7) = v0 c
          ∧ r.2.mem ((c.tc : Thread Cert.BranchBWRefIdeal.nD Cert.BranchBWRefIdeal.τ).loc Cert.BranchBWRefIdeal.main_arg0) = m' ((c.tc : Thread Cert.BranchBWRefIdeal.nD Cert.BranchBWRefIdeal.τ).loc Cert.BranchBWRefIdeal.main_arg0)
          ∧ r.2.mem ((c.tc : Thread Cert.BranchBWRefIdeal.nD Cert.BranchBWRefIdeal.τ).loc Cert.BranchBWRefIdeal.main_arg1) = m' ((c.tc : Thread Cert.BranchBWRefIdeal.nD Cert.BranchBWRefIdeal.τ).loc Cert.BranchBWRefIdeal.main_arg1))

def preserves_BranchCW_BranchCWIdeal : Prop :=
  True

def algebraic_BranchCWIdeal_BranchCWRefIdeal [hBranchCWIdeal : Cert.BranchCWIdeal.Facts] [hBranchCWRefIdeal : Cert.BranchCWRefIdeal.Facts] : Prop :=
  ∀ (m : (ℓ : Loc Cert.BranchCWIdeal.nD Cert.BranchCWIdeal.τ Cert.BranchCWIdeal.sig) → Buf (Elt Ideal) ℓ) (g : Dev Cert.BranchCWIdeal.nD → PrngReg)
    (m' : (ℓ : Loc Cert.BranchCWRefIdeal.nD Cert.BranchCWRefIdeal.τ Cert.BranchCWRefIdeal.sig) → Buf (Elt Ideal) ℓ) (g' : Dev Cert.BranchCWRefIdeal.nD → PrngReg), Pre_BranchCWIdeal m →
    (∀ c : Dev Cert.BranchCWIdeal.nD,
      m' ((c.tc : Thread Cert.BranchCWRefIdeal.nD Cert.BranchCWRefIdeal.τ).loc Cert.BranchCWRefIdeal.main_arg0) = m ((c.tc : Thread Cert.BranchCWIdeal.nD Cert.BranchCWIdeal.τ).loc Cert.BranchCWIdeal.main_arg0)
      ∧ m' ((c.tc : Thread Cert.BranchCWRefIdeal.nD Cert.BranchCWRefIdeal.τ).loc Cert.BranchCWRefIdeal.main_arg1) = m ((c.tc : Thread Cert.BranchCWIdeal.nD Cert.BranchCWIdeal.τ).loc Cert.BranchCWIdeal.main_arg1)) →
    ∃ (v0 : (c : Dev Cert.BranchCWIdeal.nD) → Buf (Elt Ideal) ((c.tc : Thread Cert.BranchCWIdeal.nD Cert.BranchCWIdeal.τ).loc Cert.BranchCWIdeal.main_v2)),
      θ_run (Cert.BranchCWIdeal.defs (F := Ideal)) (onTc (τ := Cert.BranchCWIdeal.τ) (Cert.BranchCWIdeal.main (F := Ideal))) ⟨m, fun _ => 0, g⟩ (fun r => ∀ c : Dev Cert.BranchCWIdeal.nD,
          r.2.mem ((c.tc : Thread Cert.BranchCWIdeal.nD Cert.BranchCWIdeal.τ).loc Cert.BranchCWIdeal.main_v2) = v0 c
          ∧ r.2.mem ((c.tc : Thread Cert.BranchCWIdeal.nD Cert.BranchCWIdeal.τ).loc Cert.BranchCWIdeal.main_arg0) = m ((c.tc : Thread Cert.BranchCWIdeal.nD Cert.BranchCWIdeal.τ).loc Cert.BranchCWIdeal.main_arg0)
          ∧ r.2.mem ((c.tc : Thread Cert.BranchCWIdeal.nD Cert.BranchCWIdeal.τ).loc Cert.BranchCWIdeal.main_arg1) = m ((c.tc : Thread Cert.BranchCWIdeal.nD Cert.BranchCWIdeal.τ).loc Cert.BranchCWIdeal.main_arg1))
      ∧ θ_run (Cert.BranchCWRefIdeal.defs (F := Ideal)) (onTc (τ := Cert.BranchCWRefIdeal.τ) (Cert.BranchCWRefIdeal.main (F := Ideal))) ⟨m', fun _ => 0, g'⟩ (fun r => ∀ c : Dev Cert.BranchCWRefIdeal.nD,
          r.2.mem ((c.tc : Thread Cert.BranchCWRefIdeal.nD Cert.BranchCWRefIdeal.τ).loc Cert.BranchCWRefIdeal.main_v7) = v0 c
          ∧ r.2.mem ((c.tc : Thread Cert.BranchCWRefIdeal.nD Cert.BranchCWRefIdeal.τ).loc Cert.BranchCWRefIdeal.main_arg0) = m' ((c.tc : Thread Cert.BranchCWRefIdeal.nD Cert.BranchCWRefIdeal.τ).loc Cert.BranchCWRefIdeal.main_arg0)
          ∧ r.2.mem ((c.tc : Thread Cert.BranchCWRefIdeal.nD Cert.BranchCWRefIdeal.τ).loc Cert.BranchCWRefIdeal.main_arg1) = m' ((c.tc : Thread Cert.BranchCWRefIdeal.nD Cert.BranchCWRefIdeal.τ).loc Cert.BranchCWRefIdeal.main_arg1))

def Claim : Prop :=
  ∃ (hMerge : Cert.Merge.Facts) (hMergeIdeal : Cert.MergeIdeal.Facts) (hMergeRefIdeal : Cert.MergeRefIdeal.Facts) (hFox : Cert.Fox.Facts) (hFoxIdeal : Cert.FoxIdeal.Facts) (hFoxRefIdeal : Cert.FoxRefIdeal.Facts) (hZg : Cert.Zg.Facts) (hZgIdeal : Cert.ZgIdeal.Facts) (hZgRefIdeal : Cert.ZgRefIdeal.Facts) (hQkv : Cert.Qkv.Facts) (hQkvIdeal : Cert.QkvIdeal.Facts) (hQkvRefIdeal : Cert.QkvRefIdeal.Facts) (hGateW : Cert.GateW.Facts) (hGateWIdeal : Cert.GateWIdeal.Facts) (hGateWRefIdeal : Cert.GateWRefIdeal.Facts) (hQkvW : Cert.QkvW.Facts) (hQkvWIdeal : Cert.QkvWIdeal.Facts) (hQkvWRefIdeal : Cert.QkvWRefIdeal.Facts) (hOutW : Cert.OutW.Facts) (hOutWIdeal : Cert.OutWIdeal.Facts) (hOutWRefIdeal : Cert.OutWRefIdeal.Facts) (hOutAct : Cert.OutAct.Facts) (hOutActIdeal : Cert.OutActIdeal.Facts) (hOutActRefIdeal : Cert.OutActRefIdeal.Facts) (hZgAct : Cert.ZgAct.Facts) (hZgActIdeal : Cert.ZgActIdeal.Facts) (hZgActRefIdeal : Cert.ZgActRefIdeal.Facts) (hQkvAct : Cert.QkvAct.Facts) (hQkvActIdeal : Cert.QkvActIdeal.Facts) (hQkvActRefIdeal : Cert.QkvActRefIdeal.Facts) (hBranchB : Cert.BranchB.Facts) (hBranchBIdeal : Cert.BranchBIdeal.Facts) (hBranchBRefIdeal : Cert.BranchBRefIdeal.Facts) (hBranchC : Cert.BranchC.Facts) (hBranchCIdeal : Cert.BranchCIdeal.Facts) (hBranchCRefIdeal : Cert.BranchCRefIdeal.Facts) (hBranchBAct : Cert.BranchBAct.Facts) (hBranchBActIdeal : Cert.BranchBActIdeal.Facts) (hBranchBActRefIdeal : Cert.BranchBActRefIdeal.Facts) (hBranchCAct : Cert.BranchCAct.Facts) (hBranchCActIdeal : Cert.BranchCActIdeal.Facts) (hBranchCActRefIdeal : Cert.BranchCActRefIdeal.Facts) (hBranchBW : Cert.BranchBW.Facts) (hBranchBWIdeal : Cert.BranchBWIdeal.Facts) (hBranchBWRefIdeal : Cert.BranchBWRefIdeal.Facts) (hBranchCW : Cert.BranchCW.Facts) (hBranchCWIdeal : Cert.BranchCWIdeal.Facts) (hBranchCWRefIdeal : Cert.BranchCWRefIdeal.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Zg (hZg := hZg)
    ∧ quiescent_ZgIdeal (hZgIdeal := hZgIdeal)
    ∧ quiescent_ZgRefIdeal (hZgRefIdeal := hZgRefIdeal)
    ∧ quiescent_Qkv (hQkv := hQkv)
    ∧ quiescent_QkvIdeal (hQkvIdeal := hQkvIdeal)
    ∧ quiescent_QkvRefIdeal (hQkvRefIdeal := hQkvRefIdeal)
    ∧ quiescent_GateW (hGateW := hGateW)
    ∧ quiescent_GateWIdeal (hGateWIdeal := hGateWIdeal)
    ∧ quiescent_GateWRefIdeal (hGateWRefIdeal := hGateWRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutAct (hOutAct := hOutAct)
    ∧ quiescent_OutActIdeal (hOutActIdeal := hOutActIdeal)
    ∧ quiescent_OutActRefIdeal (hOutActRefIdeal := hOutActRefIdeal)
    ∧ quiescent_ZgAct (hZgAct := hZgAct)
    ∧ quiescent_ZgActIdeal (hZgActIdeal := hZgActIdeal)
    ∧ quiescent_ZgActRefIdeal (hZgActRefIdeal := hZgActRefIdeal)
    ∧ quiescent_QkvAct (hQkvAct := hQkvAct)
    ∧ quiescent_QkvActIdeal (hQkvActIdeal := hQkvActIdeal)
    ∧ quiescent_QkvActRefIdeal (hQkvActRefIdeal := hQkvActRefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_BranchC (hBranchC := hBranchC)
    ∧ quiescent_BranchCIdeal (hBranchCIdeal := hBranchCIdeal)
    ∧ quiescent_BranchCRefIdeal (hBranchCRefIdeal := hBranchCRefIdeal)
    ∧ quiescent_BranchBAct (hBranchBAct := hBranchBAct)
    ∧ quiescent_BranchBActIdeal (hBranchBActIdeal := hBranchBActIdeal)
    ∧ quiescent_BranchBActRefIdeal (hBranchBActRefIdeal := hBranchBActRefIdeal)
    ∧ quiescent_BranchCAct (hBranchCAct := hBranchCAct)
    ∧ quiescent_BranchCActIdeal (hBranchCActIdeal := hBranchCActIdeal)
    ∧ quiescent_BranchCActRefIdeal (hBranchCActRefIdeal := hBranchCActRefIdeal)
    ∧ quiescent_BranchBW (hBranchBW := hBranchBW)
    ∧ quiescent_BranchBWIdeal (hBranchBWIdeal := hBranchBWIdeal)
    ∧ quiescent_BranchBWRefIdeal (hBranchBWRefIdeal := hBranchBWRefIdeal)
    ∧ quiescent_BranchCW (hBranchCW := hBranchCW)
    ∧ quiescent_BranchCWIdeal (hBranchCWIdeal := hBranchCWIdeal)
    ∧ quiescent_BranchCWRefIdeal (hBranchCWRefIdeal := hBranchCWRefIdeal)
    ∧ preserves_Merge_MergeIdeal
    ∧ algebraic_MergeIdeal_MergeRefIdeal (hMergeIdeal := hMergeIdeal) (hMergeRefIdeal := hMergeRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Zg_ZgIdeal
    ∧ algebraic_ZgIdeal_ZgRefIdeal (hZgIdeal := hZgIdeal) (hZgRefIdeal := hZgRefIdeal)
    ∧ preserves_Qkv_QkvIdeal
    ∧ algebraic_QkvIdeal_QkvRefIdeal (hQkvIdeal := hQkvIdeal) (hQkvRefIdeal := hQkvRefIdeal)
    ∧ preserves_GateW_GateWIdeal
    ∧ algebraic_GateWIdeal_GateWRefIdeal (hGateWIdeal := hGateWIdeal) (hGateWRefIdeal := hGateWRefIdeal)
    ∧ preserves_QkvW_QkvWIdeal
    ∧ algebraic_QkvWIdeal_QkvWRefIdeal (hQkvWIdeal := hQkvWIdeal) (hQkvWRefIdeal := hQkvWRefIdeal)
    ∧ preserves_OutW_OutWIdeal
    ∧ algebraic_OutWIdeal_OutWRefIdeal (hOutWIdeal := hOutWIdeal) (hOutWRefIdeal := hOutWRefIdeal)
    ∧ preserves_OutAct_OutActIdeal
    ∧ algebraic_OutActIdeal_OutActRefIdeal (hOutActIdeal := hOutActIdeal) (hOutActRefIdeal := hOutActRefIdeal)
    ∧ preserves_ZgAct_ZgActIdeal
    ∧ algebraic_ZgActIdeal_ZgActRefIdeal (hZgActIdeal := hZgActIdeal) (hZgActRefIdeal := hZgActRefIdeal)
    ∧ preserves_QkvAct_QkvActIdeal
    ∧ algebraic_QkvActIdeal_QkvActRefIdeal (hQkvActIdeal := hQkvActIdeal) (hQkvActRefIdeal := hQkvActRefIdeal)
    ∧ preserves_BranchB_BranchBIdeal
    ∧ algebraic_BranchBIdeal_BranchBRefIdeal (hBranchBIdeal := hBranchBIdeal) (hBranchBRefIdeal := hBranchBRefIdeal)
    ∧ preserves_BranchC_BranchCIdeal
    ∧ algebraic_BranchCIdeal_BranchCRefIdeal (hBranchCIdeal := hBranchCIdeal) (hBranchCRefIdeal := hBranchCRefIdeal)
    ∧ preserves_BranchBAct_BranchBActIdeal
    ∧ algebraic_BranchBActIdeal_BranchBActRefIdeal (hBranchBActIdeal := hBranchBActIdeal) (hBranchBActRefIdeal := hBranchBActRefIdeal)
    ∧ preserves_BranchCAct_BranchCActIdeal
    ∧ algebraic_BranchCActIdeal_BranchCActRefIdeal (hBranchCActIdeal := hBranchCActIdeal) (hBranchCActRefIdeal := hBranchCActRefIdeal)
    ∧ preserves_BranchBW_BranchBWIdeal
    ∧ algebraic_BranchBWIdeal_BranchBWRefIdeal (hBranchBWIdeal := hBranchBWIdeal) (hBranchBWRefIdeal := hBranchBWRefIdeal)
    ∧ preserves_BranchCW_BranchCWIdeal
    ∧ algebraic_BranchCWIdeal_BranchCWRefIdeal (hBranchCWIdeal := hBranchCWIdeal) (hBranchCWRefIdeal := hBranchCWRefIdeal)
-- ==== Pre_finite.lean ====
abbrev S4096x12x64 : Shape := ⟨3, ![4096, 12, 64]⟩
abbrev S12x4096 : Shape := ⟨2, ![12, 4096]⟩
abbrev S_ : Shape := ⟨0, ![]⟩

class Facts : Prop where
  bcast_S_S4096x12x64 : S_.BroadcastsInDim S4096x12x64 (![] : Fin 0 → Fin S4096x12x64.rank)
  reducesTo_S4096x12x64_S_d0_1_2 : S4096x12x64.ReducesTo [0, 1, 2] S_
  h_S_ : 0 < S_.numel
  bcast_S_S12x4096 : S_.BroadcastsInDim S12x4096 (![] : Fin 0 → Fin S12x4096.rank)
  reducesTo_S12x4096_S_d0_1 : S12x4096.ReducesTo [0, 1] S_

variable [Facts]

def fn_part1 {F : FTy → Type} [FloatOps F] (main_arg4 : FVec F S4096x12x64 .f32) (main_v13 : IVec S_ 1) (main_v16 : IVec S12x4096 1) : IVec S_ 1 :=
  let main_c_5 : IVec S_ 1 := constantI S_ 1 1#1
  let main_v17 : IVec S_ 1 := (fun x v => Host.reduce IntOp.andi x v reducesTo_S12x4096_S_d0_1 h_S_) main_v16 main_c_5
  let main_v18 : IVec S_ 1 := andi main_v13 main_v17
  let main_v19 : FVec F S4096x12x64 .f32 := Host.absf main_arg4
  let main_cst_6 : FVec F S_ .f32 := constant S_ .f32 0x7F800000#32
  let main_v20 : FVec F S4096x12x64 .f32 := broadcastInDim S4096x12x64 ![] bcast_S_S4096x12x64 main_cst_6
  let main_v21 : IVec S4096x12x64 1 := cmpf .olt main_v19 main_v20
  let main_c_7 : IVec S_ 1 := constantI S_ 1 1#1
  let main_v22 : IVec S_ 1 := (fun x v => Host.reduce IntOp.andi x v reducesTo_S4096x12x64_S_d0_1_2 h_S_) main_v21 main_c_7
  let main_v23 : IVec S_ 1 := andi main_v18 main_v22
  main_v23

def fn {F : FTy → Type} [FloatOps F] (main_arg0 : FVec F S4096x12x64 .f32) (main_arg1 : FVec F S4096x12x64 .f32) (main_arg2 : FVec F S4096x12x64 .f32) (main_arg3 : FVec F S12x4096 .f32) (main_arg4 : FVec F S4096x12x64 .f32) : IVec S_ 1 :=
  let main_v0 : FVec F S4096x12x64 .f32 := Host.absf main_arg0
  let main_cst : FVec F S_ .f32 := constant S_ .f32 0x7F800000#32
  let main_v1 : FVec F S4096x12x64 .f32 := broadcastInDim S4096x12x64 ![] bcast_S_S4096x12x64 main_cst
  let main_v2 : IVec S4096x12x64 1 := cmpf .olt main_v0 main_v1
  let main_c : IVec S_ 1 := constantI S_ 1 1#1
  let main_v3 : IVec S_ 1 := (fun x v => Host.reduce IntOp.andi x v reducesTo_S4096x12x64_S_d0_1_2 h_S_) main_v2 main_c
  let main_v4 : FVec F S4096x12x64 .f32 := Host.absf main_arg1
  let main_cst_0 : FVec F S_ .f32 := constant S_ .f32 0x7F800000#32
  let main_v5 : FVec F S4096x12x64 .f32 := broadcastInDim S4096x12x64 ![] bcast_S_S4096x12x64 main_cst_0
  let main_v6 : IVec S4096x12x64 1 := cmpf .olt main_v4 main_v5
  let main_c_1 : IVec S_ 1 := constantI S_ 1 1#1
  let main_v7 : IVec S_ 1 := (fun x v => Host.reduce IntOp.andi x v reducesTo_S4096x12x64_S_d0_1_2 h_S_) main_v6 main_c_1
  let main_v8 : IVec S_ 1 := andi main_v3 main_v7
  let main_v9 : FVec F S4096x12x64 .f32 := Host.absf main_arg2
  let main_cst_2 : FVec F S_ .f32 := constant S_ .f32 0x7F800000#32
  let main_v10 : FVec F S4096x12x64 .f32 := broadcastInDim S4096x12x64 ![] bcast_S_S4096x12x64 main_cst_2
  let main_v11 : IVec S4096x12x64 1 := cmpf .olt main_v9 main_v10
  let main_c_3 : IVec S_ 1 := constantI S_ 1 1#1
  let main_v12 : IVec S_ 1 := (fun x v => Host.reduce IntOp.andi x v reducesTo_S4096x12x64_S_d0_1_2 h_S_) main_v11 main_c_3
  let main_v13 : IVec S_ 1 := andi main_v8 main_v12
  let main_v14 : FVec F S12x4096 .f32 := Host.absf main_arg3
  let main_cst_4 : FVec F S_ .f32 := constant S_ .f32 0x7F800000#32
  let main_v15 : FVec F S12x4096 .f32 := broadcastInDim S12x4096 ![] bcast_S_S12x4096 main_cst_4
  let main_v16 : IVec S12x4096 1 := cmpf .olt main_v14 main_v15
  fn_part1 (F := F) main_arg4 main_v13 main_v16
-- ==== Merge.lean ====
abbrev S4096x6144 : Shape := ⟨2, ![4096, 6144]⟩
abbrev S4096x2048 : Shape := ⟨2, ![4096, 2048]⟩
abbrev S_ : Shape := ⟨0, ![]⟩
abbrev S256x2048 : Shape := ⟨2, ![256, 2048]⟩
abbrev S256x6144 : Shape := ⟨2, ![256, 6144]⟩

abbrev nBuf : Space → Nat
  | .hbm => 24
  | .vmem => 22
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S_, .f32⟩
  | .hbm, ⟨8, _⟩ => ⟨S4096x6144, .f32⟩
  | .hbm, ⟨9, _⟩ => ⟨S4096x6144, .f32⟩
  | .hbm, ⟨10, _⟩ => ⟨S_, .f32⟩
  | .hbm, ⟨11, _⟩ => ⟨S4096x6144, .f32⟩
  | .hbm, ⟨12, _⟩ => ⟨S4096x6144, .f32⟩
  | .hbm, ⟨13, _⟩ => ⟨S4096x6144, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S4096x2048, .bf16⟩
  | .hbm, ⟨19, _⟩ => ⟨S4096x2048, .bf16⟩
  | .hbm, ⟨20, _⟩ => ⟨S4096x6144, .bf16⟩
  | .hbm, ⟨21, _⟩ => ⟨S4096x2048, .bf16⟩
  | .hbm, ⟨22, _⟩ => ⟨S4096x2048, .bf16⟩
  | .hbm, ⟨23, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x6144, .bf16⟩
  | .local _ .vmem, ⟨15, _⟩ => ⟨S256x6144, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4096x6144 : Shape := ⟨2, ![4096, 6144]⟩
abbrev S4096x2048 : Shape := ⟨2, ![4096, 2048]⟩
abbrev S4096x3x2048 : Shape := ⟨3, ![4096, 3, 2048]⟩
abbrev S_ : Shape := ⟨0, ![]⟩
abbrev S4096x1x2048 : Shape := ⟨3, ![4096, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x3x2048, .f32⟩
  | .hbm, ⟨6, _⟩ => ⟨S4096x3x2048, .f32⟩
  | .hbm, ⟨7, _⟩ => ⟨S4096x3x2048, .f32⟩
  | .hbm, ⟨8, _⟩ => ⟨S_, .f32⟩
  | .hbm, ⟨9, _⟩ => ⟨S4096x3x2048, .f32⟩
  | .hbm, ⟨10, _⟩ => ⟨S4096x3x2048, .f32⟩
  | .hbm, ⟨11, _⟩ => ⟨S_, .f32⟩
  | .hbm, ⟨12, _⟩ => ⟨S4096x3x2048, .f32⟩
  | .hbm, ⟨13, _⟩ => ⟨S4096x3x2048, .f32⟩
  | .hbm, ⟨14, _⟩ => ⟨S_, .f32⟩
  | .hbm, ⟨15, _⟩ => ⟨S4096x3x2048, .f32⟩
  | .hbm, ⟨16, _⟩ => ⟨S4096x3x2048, .f32⟩
  | .hbm, ⟨17, _⟩ => ⟨S4096x3x2048, .f32⟩
  | .hbm, ⟨18, _⟩ => ⟨S4096x1x2048, .f32⟩
  | .hbm, ⟨19, _⟩ => ⟨S4096x2048, .f32⟩
  | .hbm, ⟨20, _⟩ => ⟨S4096x2048, .f32⟩
  | .hbm, ⟨21, _⟩ => ⟨S4096x1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x1x2048, .f32⟩
  | .hbm, ⟨34, _⟩ => ⟨S_, .f32⟩
  | .hbm, ⟨35, _⟩ => ⟨S4096x3x2048, .f32⟩
  | .hbm, ⟨36, _⟩ => ⟨S4096x2048, .f32⟩
  | .hbm, ⟨37, _⟩ => ⟨S4096x2048, .f32⟩
  | .hbm, ⟨38, _⟩ => ⟨S4096x1x2048, .f32⟩
  | .hbm, ⟨39, _⟩ => ⟨S_, .f32⟩
  | .hbm, ⟨40, _⟩ => ⟨S4096x3x2048, .f32⟩
  | .hbm, ⟨41, _⟩ => ⟨S4096x3x2048, .f32⟩
  | .hbm, ⟨42, _⟩ => ⟨S4096x2048, .f32⟩
  | .hbm, ⟨43, _⟩ => ⟨S4096x2048, .f32⟩
  | .hbm, ⟨44, _⟩ => ⟨S4096x1x2048, .f32⟩
  | .hbm, ⟨45, _⟩ => ⟨S_, .f32⟩
  | .hbm, ⟨46, _⟩ => ⟨S4096x3x2048, .f32⟩
  | .hbm, ⟨47, _⟩ => ⟨S4096x3x2048, .f32⟩
  | .hbm, ⟨48, _⟩ => ⟨S4096x3x2048, .f32⟩
  | .hbm, ⟨49, _⟩ => ⟨S4096x6144, .f32⟩
  | .hbm, ⟨50, _⟩ => ⟨S4096x6144, .bf16⟩
  | .hbm, ⟨51, _⟩ => ⟨S4096x2048, .bf16⟩
  | .hbm, ⟨52, _⟩ => ⟨S4096x2048, .bf16⟩
  | .hbm, ⟨53, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Fox.lean ====
abbrev S4096x12x64 : Shape := ⟨3, ![4096, 12, 64]⟩
abbrev S12x4096 : Shape := ⟨2, ![12, 4096]⟩
abbrev S12x4096x64 : Shape := ⟨3, ![12, 4096, 64]⟩
abbrev S36x4096x64 : Shape := ⟨3, ![36, 4096, 64]⟩
abbrev S12x4096x4096 : Shape := ⟨3, ![12, 4096, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S12x64x4096 : Shape := ⟨3, ![12, 64, 4096]⟩
abbrev S4096x12 : Shape := ⟨2, ![4096, 12]⟩
abbrev S12x8x512 : Shape := ⟨3, ![12, 8, 512]⟩
abbrev S12x8x1 : Shape := ⟨3, ![12, 8, 1]⟩
abbrev S4096x768 : Shape := ⟨2, ![4096, 768]⟩
abbrev S2x4096x64 : Shape := ⟨3, ![2, 4096, 64]⟩
abbrev S2x512x64 : Shape := ⟨3, ![2, 512, 64]⟩
abbrev S2x1x4096 : Shape := ⟨3, ![2, 1, 4096]⟩
abbrev S4096x128 : Shape := ⟨2, ![4096, 128]⟩
abbrev S512x128 : Shape := ⟨2, ![512, 128]⟩
abbrev S2x1x512 : Shape := ⟨3, ![2, 1, 512]⟩
abbrev S2x64x4096 : Shape := ⟨3, ![2, 64, 4096]⟩
abbrev S2x64x512 : Shape := ⟨3, ![2, 64, 512]⟩
abbrev S512x512 : Shape := ⟨2, ![512, 512]⟩
abbrev S1x512x64 : Shape := ⟨3, ![1, 512, 64]⟩
abbrev S512x64 : Shape := ⟨2, ![512, 64]⟩
abbrev S64x512 : Shape := ⟨2, ![64, 512]⟩
abbrev S512x1 : Shape := ⟨2, ![512, 1]⟩
abbrev S1x1x128 : Shape := ⟨3, ![1, 1, 128]⟩
abbrev S1x128 : Shape := ⟨2, ![1, 128]⟩
abbrev S1x1 : Shape := ⟨2, ![1, 1]⟩
abbrev S1x1x512 : Shape := ⟨3, ![1, 1, 512]⟩
abbrev S1x512 : Shape := ⟨2, ![1, 512]⟩
abbrev S1x64x512 : Shape := ⟨3, ![1, 64, 512]⟩
abbrev S512 : Shape := ⟨1, ![512]⟩
abbrev S1x64x4096 : Shape := ⟨3, ![1, 64, 4096]⟩
abbrev S64x4096 : Shape := ⟨2, ![64, 4096]⟩
abbrev S4096x64 : Shape := ⟨2, ![4096, 64]⟩

abbrev nBuf : Space → Nat
  | .hbm => 97
  | .vmem => 26
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S12x4096, .f32⟩
  | .hbm, ⟨4, _⟩ => ⟨S4096x12x64, .f32⟩
  | .hbm, ⟨5, _⟩ => ⟨S12x4096x64, .f32⟩
  | .hbm, ⟨6, _⟩ => ⟨S12x4096x64, .f32⟩
  | .hbm, ⟨7, _⟩ => ⟨S12x4096x64, .f32⟩
  | .hbm, ⟨8, _⟩ => ⟨S36x4096x64, .f32⟩
  | .hbm, ⟨9, _⟩ => ⟨S36x4096x64, .bf16⟩
  | .hbm, ⟨10, _⟩ => ⟨S12x4096x4096, .f32⟩
  | .hbm, ⟨11, _⟩ => ⟨S12x4096x1, .f32⟩
  | .hbm, ⟨12, _⟩ => ⟨S12x4096x4096, .f32⟩
  | .hbm, ⟨13, _⟩ => ⟨S12x4096x4096, .f32⟩
  | .hbm, ⟨14, _⟩ => ⟨S12x1x4096, .f32⟩
  | .hbm, ⟨15, _⟩ => ⟨S12x4096x4096, .f32⟩
  | .hbm, ⟨16, _⟩ => ⟨S12x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x4096x4096, .i1⟩
  | .hbm, ⟨25, _⟩ => ⟨S_, .f32⟩
  | .hbm, ⟨26, _⟩ => ⟨S_, .f32⟩
  | .hbm, ⟨27, _⟩ => ⟨S12x4096x4096, .i1⟩
  | .hbm, ⟨28, _⟩ => ⟨S12x4096x4096, .f32⟩
  | .hbm, ⟨29, _⟩ => ⟨S12x4096x4096, .f32⟩
  | .hbm, ⟨30, _⟩ => ⟨S_, .f32⟩
  | .hbm, ⟨31, _⟩ => ⟨S12x4096, .f32⟩
  | .hbm, ⟨32, _⟩ => ⟨S_, .f32⟩
  | .hbm, ⟨33, _⟩ => ⟨S12x4096, .f32⟩
  | .hbm, ⟨34, _⟩ => ⟨S12x4096, .f32⟩
  | .hbm, ⟨35, _⟩ => ⟨S12x4096x1, .f32⟩
  | .hbm, ⟨36, _⟩ => ⟨S12x4096x4096, .f32⟩
  | .hbm, ⟨37, _⟩ => ⟨S12x4096x4096, .f32⟩
  | .hbm, ⟨38, _⟩ => ⟨S12x4096x4096, .f32⟩
  | .hbm, ⟨39, _⟩ => ⟨S_, .f32⟩
  | .hbm, ⟨40, _⟩ => ⟨S12x4096, .f32⟩
  | .hbm, ⟨41, _⟩ => ⟨S12x4096x1, .f32⟩
  | .hbm, ⟨42, _⟩ => ⟨S12x4096x4096, .f32⟩
  | .hbm, ⟨43, _⟩ => ⟨S12x4096x4096, .f32⟩
  | .hbm, ⟨44, _⟩ => ⟨S12x64x4096, .f32⟩
  | .hbm, ⟨45, _⟩ => ⟨S4096x12x64, .f32⟩
  | .hbm, ⟨46, _⟩ => ⟨S4096x12x64, .f32⟩
  | .hbm, ⟨47, _⟩ => ⟨S_, .f32⟩
  | .hbm, ⟨48, _⟩ => ⟨S4096x12, .f32⟩
  | .hbm, ⟨49, _⟩ => ⟨S12x4096, .f32⟩
  | .hbm, ⟨50, _⟩ => ⟨S12x4096x64, .f32⟩
  | .hbm, ⟨51, _⟩ => ⟨S12x4096x64, .bf16⟩
  | .hbm, ⟨52, _⟩ => ⟨S12x8x512, .f32⟩
  | .hbm, ⟨53, _⟩ => ⟨S12x8x1, .f32⟩
  | .hbm, ⟨54, _⟩ => ⟨S12x8x512, .f32⟩
  | .hbm, ⟨55, _⟩ => ⟨S12x4096, .f32⟩
  | .hbm, ⟨56, _⟩ => ⟨S12x4096x4096, .f32⟩
  | .hbm, ⟨57, _⟩ => ⟨S12x4096x1, .f32⟩
  | .hbm, ⟨58, _⟩ => ⟨S12x4096x4096, .f32⟩
  | .hbm, ⟨59, _⟩ => ⟨S12x4096x4096, .f32⟩
  | .hbm, ⟨60, _⟩ => ⟨S12x1x4096, .f32⟩
  | .hbm, ⟨61, _⟩ => ⟨S12x4096x4096, .f32⟩
  | .hbm, ⟨62, _⟩ => ⟨S12x4096x4096, .f32⟩
  | .hbm, ⟨63, _⟩ => ⟨S4096, .i32⟩
  | .hbm, ⟨64, _⟩ => ⟨S1x4096, .i32⟩
  | .hbm, ⟨65, _⟩ => ⟨S4096, .i32⟩
  | .hbm, ⟨66, _⟩ => ⟨S4096x1, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S1x4096x4096, .i1⟩
  | .hbm, ⟨71, _⟩ => ⟨S_, .f32⟩
  | .hbm, ⟨72, _⟩ => ⟨S_, .f32⟩
  | .hbm, ⟨73, _⟩ => ⟨S12x4096x4096, .i1⟩
  | .hbm, ⟨74, _⟩ => ⟨S12x4096x4096, .f32⟩
  | .hbm, ⟨75, _⟩ => ⟨S12x4096x4096, .f32⟩
  | .hbm, ⟨76, _⟩ => ⟨S_, .f32⟩
  | .hbm, ⟨77, _⟩ => ⟨S12x4096, .f32⟩
  | .hbm, ⟨78, _⟩ => ⟨S12x4096x1, .f32⟩
  | .hbm, ⟨79, _⟩ => ⟨S12x4096x4096, .f32⟩
  | .hbm, ⟨80, _⟩ => ⟨S12x4096x4096, .f32⟩
  | .hbm, ⟨81, _⟩ => ⟨S12x4096x4096, .f32⟩
  | .hbm, ⟨82, _⟩ => ⟨S_, .f32⟩
  | .hbm, ⟨83, _⟩ => ⟨S12x4096, .f32⟩
  | .hbm, ⟨84, _⟩ => ⟨S12x4096x1, .f32⟩
  | .hbm, ⟨85, _⟩ => ⟨S12x4096x1, .f32⟩
  | .hbm, ⟨86, _⟩ => ⟨S12x4096x1, .f32⟩
  | .hbm, ⟨87, _⟩ => ⟨S12x4096, .f32⟩
  | .hbm, ⟨88, _⟩ => ⟨S12x4096x1, .f32⟩
  | .hbm, ⟨89, _⟩ => ⟨S12x4096x64, .f32⟩
  | .hbm, ⟨90, _⟩ => ⟨S12x4096x1, .f32⟩
  | .hbm, ⟨91, _⟩ => ⟨S12x4096x64, .f32⟩
  | .hbm, ⟨92, _⟩ => ⟨S12x1x4096, .f32⟩
  | .hbm, ⟨93, _⟩ => ⟨S4096x768, .f32⟩
  | .hbm, ⟨94, _⟩ => ⟨S4096x768, .f32⟩
  | .hbm, ⟨95, _⟩ => ⟨S4096x768, .f32⟩
  | .hbm, ⟨96, _⟩ => ⟨S12x1x4096, .f32⟩
  | .local _ .vmem, ⟨0, _⟩ => ⟨S2x4096x64, .bf16⟩
  | .local _ .vmem, ⟨1, _⟩ => ⟨S2x4096x64, .bf16⟩
  | .local _ .vmem, ⟨2, _⟩ => ⟨S2x512x64, .bf16⟩
  | .local _ .vmem, ⟨3, _⟩ => ⟨S2x512x64, .bf16⟩
  | .local _ .vmem, ⟨4, _⟩ => ⟨S2x512x64, .bf16⟩
  | .local _ .vmem, ⟨5, _⟩ => ⟨S2x512x64, .bf16⟩
  | .local _ .vmem, ⟨6, _⟩ => ⟨S2x4096x64, .bf16⟩
  | .local _ .vmem, ⟨7, _⟩ => ⟨S2x4096x64, .bf16⟩
  | .local _ .vmem, ⟨8, _⟩ => ⟨S2x4096x64, .f32⟩
  | .local _ .vmem, ⟨9, _⟩ => ⟨S2x4096x64, .f32⟩
  | .local _ .vmem, ⟨10, _⟩ => ⟨S2x4096x64, .f32⟩
  | .local _ .vmem, ⟨11, _⟩ => ⟨S2x4096x64, .f32⟩
  | .local _ .vmem, ⟨12, _⟩ => ⟨S2x1x4096, .f32⟩
  | .local _ .vmem, ⟨13, _⟩ => ⟨S2x1x4096, .f32⟩
  | .local _ .vmem, ⟨14, _⟩ => ⟨S4096x128, .f32⟩
  | .local _ .vmem, ⟨15, _⟩ => ⟨S4096x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S2x1x512, .f32⟩
  | .local _ .vmem, ⟨21, _⟩ => ⟨S2x1x512, .f32⟩
  | .local _ .vmem, ⟨22, _⟩ => ⟨S2x64x4096, .f32⟩
  | .local _ .vmem, ⟨23, _⟩ => ⟨S2x64x512, .f32⟩
  | .local _ .vmem, ⟨24, _⟩ => ⟨S2x64x512, .f32⟩
  | .local _ .vmem, ⟨25, _⟩ => ⟨S2x1x512, .f32⟩
  | _, _ => ⟨S4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74_0 : Ref sig .tc := ⟨.hbm, 93, rfl⟩
abbrev main_v74_1 : Ref sig .tc := ⟨.hbm, 94, rfl⟩
abbrev main_v74_2 : Ref sig .tc := ⟨.hbm, 95, rfl⟩
abbrev main_v74_3 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_mult2 (i : grid0.Coords) : BitVec 32 :=
  let arg1 : BitVec 32 := BitVec.ofNat 32 (i 1).val
  let c512_i32_16 : BitVec 32 := 512#32
  let v25 : BitVec 32 := Scalar.muli arg1 c512_i32_16
  v25
def k0_off1 (i : grid0.Coords) : Fin 3 → Nat :=
  let c0_23 : Index := 0#32
  let arg1 : BitVec 32 := BitVec.ofNat 32 (i 1).val
  let c512_i32_16 : BitVec 32 := 512#32
  let v25 : BitVec 32 := Scalar.muli arg1 c512_i32_16
  let v26 : BitVec 32 := v25
  let v31 : Index := Scalar.indexCast v26
  let c0_24 : Index := 0#32
  ![0, v31.toNat, 0]
def k0_off2 (i : grid0.Coords) : Fin 3 → Nat :=
  let c0_31 : Index := 0#32
  let c0_32 : Index := 0#32
  let arg1 : BitVec 32 := BitVec.ofNat 32 (i 1).val
  let c512_i32_16 : BitVec 32 := 512#32
  let v25 : BitVec 32 := Scalar.muli arg1 c512_i32_16
  let v26 : BitVec 32 := v25
  let v45 : Index := Scalar.indexCast v26
  ![0, 0, v45.toNat]
def k0_off3 (i : grid0.Coords) : Fin 3 → Nat :=
  let c0_34 : Index := 0#32
  let c0_35 : Index := 0#32
  let arg1 : BitVec 32 := BitVec.ofNat 32 (i 1).val
  let c512_i32 : BitVec 32 := 512#32
  let v0 : BitVec 32 := Scalar.muli arg1 c512_i32
  let v1 : BitVec 32 := v0
  let v50 : Index := Scalar.indexCast v1
  ![0, 0, v50.toNat]
def k0_off4 (i : grid0.Coords) : Fin 3 → Nat :=
  let c0_52 : Index := 0#32
  let c0_53 : Index := 0#32
  let arg1 : BitVec 32 := BitVec.ofNat 32 (i 1).val
  let c512_i32_16 : BitVec 32 := 512#32
  let v25 : BitVec 32 := Scalar.muli arg1 c512_i32_16
  let v26 : BitVec 32 := v25
  let v85 : Index := Scalar.indexCast v26
  ![0, 0, v85.toNat]
def k0_off5 (i : grid0.Coords) : Fin 3 → Nat :=
  let c1_70 : Index := 1#32
  let arg1 : BitVec 32 := BitVec.ofNat 32 (i 1).val
  let c512_i32_16 : BitVec 32 := 512#32
  let v25 : BitVec 32 := Scalar.muli arg1 c512_i32_16
  let v26 : BitVec 32 := v25
  let v107 : Index := Scalar.indexCast v26
  let c0_71 : Index := 0#32
  ![1, v107.toNat, 0]
def k0_off6 (i : grid0.Coords) : Fin 3 → Nat :=
  let c1_78 : Index := 1#32
  let c0_79 : Index := 0#32
  let arg1 : BitVec 32 := BitVec.ofNat 32 (i 1).val
  let c512_i32_16 : BitVec 32 := 512#32
  let v25 : BitVec 32 := Scalar.muli arg1 c512_i32_16
  let v26 : BitVec 32 := v25
  let v121 : Index := Scalar.indexCast v26
  ![1, 0, v121.toNat]
def k0_off7 (i : grid0.Coords) : Fin 3 → Nat :=
  let c1_81 : Index := 1#32
  let c0_82 : Index := 0#32
  let arg1 : BitVec 32 := BitVec.ofNat 32 (i 1).val
  let c512_i32 : BitVec 32 := 512#32
  let v0 : BitVec 32 := Scalar.muli arg1 c512_i32
  let v1 : BitVec 32 := v0
  let v126 : Index := Scalar.indexCast v1
  ![1, 0, v126.toNat]
def k0_off8 (i : grid0.Coords) : Fin 3 → Nat :=
  let c1_99 : Index := 1#32
  let c0_100 : Index := 0#32
  let arg1 : BitVec 32 := BitVec.ofNat 32 (i 1).val
  let c512_i32_16 : BitVec 32 := 512#32
  let v25 : BitVec 32 := Scalar.muli arg1 c512_i32_16
  let v26 : BitVec 32 := v25
  let v161 : Index := Scalar.indexCast v26
  ![1, 0, v161.toNat]
@[reducible] def k0_t1_loop (i : grid0.Coords) : Scf.Loop 32 :=
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_113 : BitVec 32 := 1#32
  ⟨v179, v184, c1_i32_113⟩
def k0_mult3 (i : grid0.Coords) (k0_t1 : Fin (k0_t1_loop i).trips) : BitVec 32 :=
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  v206
def k0_off9 (i : grid0.Coords) (k0_t1 : Fin (k0_t1_loop i).trips) : Fin 3 → Nat :=
  let c0_145 : Index := 0#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v212 : Index := Scalar.indexCast v207
  let c0_146 : Index := 0#32
  ![0, v212.toNat, 0]
def k0_off10 (i : grid0.Coords) (k0_t1 : Fin (k0_t1_loop i).trips) : Fin 3 → Nat :=
  let c0_153 : Index := 0#32
  let c0_154 : Index := 0#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v226 : Index := Scalar.indexCast v207
  ![0, 0, v226.toNat]
def k0_off11 (i : grid0.Coords) : Fin 3 → Nat :=
  let c0_156 : Index := 0#32
  let c0_157 : Index := 0#32
  let arg1 : BitVec 32 := BitVec.ofNat 32 (i 1).val
  let c512_i32 : BitVec 32 := 512#32
  let v0 : BitVec 32 := Scalar.muli arg1 c512_i32
  let v1 : BitVec 32 := v0
  let v231 : Index := Scalar.indexCast v1
  ![0, 0, v231.toNat]
def k0_off12 (i : grid0.Coords) (k0_t1 : Fin (k0_t1_loop i).trips) : Fin 3 → Nat :=
  let c0_173 : Index := 0#32
  let c0_174 : Index := 0#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v263 : Index := Scalar.indexCast v207
  ![0, 0, v263.toNat]
def k0_off13 (i : grid0.Coords) (k0_t1 : Fin (k0_t1_loop i).trips) : Fin 3 → Nat :=
  let c1_191 : Index := 1#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v285 : Index := Scalar.indexCast v207
  let c0_192 : Index := 0#32
  ![1, v285.toNat, 0]
def k0_off14 (i : grid0.Coords) (k0_t1 : Fin (k0_t1_loop i).trips) : Fin 3 → Nat :=
  let c1_199 : Index := 1#32
  let c0_200 : Index := 0#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v299 : Index := Scalar.indexCast v207
  ![1, 0, v299.toNat]
def k0_off15 (i : grid0.Coords) : Fin 3 → Nat :=
  let c1_202 : Index := 1#32
  let c0_203 : Index := 0#32
  let arg1 : BitVec 32 := BitVec.ofNat 32 (i 1).val
  let c512_i32 : BitVec 32 := 512#32
  let v0 : BitVec 32 := Scalar.muli arg1 c512_i32
  let v1 : BitVec 32 := v0
  let v304 : Index := Scalar.indexCast v1
  ![1, 0, v304.toNat]
def k0_off16 (i : grid0.Coords) (k0_t1 : Fin (k0_t1_loop i).trips) : Fin 3 → Nat :=
  let c1_219 : Index := 1#32
  let c0_220 : Index := 0#32
  let arg1 : BitVec 32 := BitVec.ofNat 32 (i 1).val
  let c1_i32 : BitVec 32 := 1#32
  let v179 : BitVec 32 := Scalar.addi arg1 c1_i32
  let c1_i32_113 : BitVec 32 := 1#32
  let arg17 : BitVec 32 := Scf.iv v179 c1_i32_113 k0_t1
  let c512_i32_138 : BitVec 32 := 512#32
  let v206 : BitVec 32 := Scalar.muli arg17 c512_i32_138
  let v207 : BitVec 32 := v206
  let v336 : Index := Scalar.indexCast v207
  ![1, 0, v336.toNat]
@[reducible] def k0_t2_loop (i : grid0.Coords) : Scf.Loop 32 :=
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let v181 : BitVec 32 := Scalar.addi v179 v180
  let c1_i32_114 : BitVec 32 := 1#32
  ⟨v184, v181, c1_i32_114⟩
def k0_mult4 (i : grid0.Coords) (k0_t2 : Fin (k0_t2_loop i).trips) : BitVec 32 :=
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  v206
def k0_off17 (i : grid0.Coords) (k0_t2 : Fin (k0_t2_loop i).trips) : Fin 3 → Nat :=
  let c0_145 : Index := 0#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v212 : Index := Scalar.indexCast v207
  let c0_146 : Index := 0#32
  ![0, v212.toNat, 0]
def k0_off18 (i : grid0.Coords) (k0_t2 : Fin (k0_t2_loop i).trips) : Fin 3 → Nat :=
  let c0_153 : Index := 0#32
  let c0_154 : Index := 0#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v226 : Index := Scalar.indexCast v207
  ![0, 0, v226.toNat]
def k0_off19 (i : grid0.Coords) : Fin 3 → Nat :=
  let c0_156 : Index := 0#32
  let c0_157 : Index := 0#32
  let arg1 : BitVec 32 := BitVec.ofNat 32 (i 1).val
  let c512_i32 : BitVec 32 := 512#32
  let v0 : BitVec 32 := Scalar.muli arg1 c512_i32
  let v1 : BitVec 32 := v0
  let v231 : Index := Scalar.indexCast v1
  ![0, 0, v231.toNat]
def k0_off20 (i : grid0.Coords) (k0_t2 : Fin (k0_t2_loop i).trips) : Fin 3 → Nat :=
  let c0_173 : Index := 0#32
  let c0_174 : Index := 0#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v263 : Index := Scalar.indexCast v207
  ![0, 0, v263.toNat]
def k0_off21 (i : grid0.Coords) (k0_t2 : Fin (k0_t2_loop i).trips) : Fin 3 → Nat :=
  let c1_191 : Index := 1#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v285 : Index := Scalar.indexCast v207
  let c0_192 : Index := 0#32
  ![1, v285.toNat, 0]
def k0_off22 (i : grid0.Coords) (k0_t2 : Fin (k0_t2_loop i).trips) : Fin 3 → Nat :=
  let c1_199 : Index := 1#32
  let c0_200 : Index := 0#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v299 : Index := Scalar.indexCast v207
  ![1, 0, v299.toNat]
def k0_off23 (i : grid0.Coords) : Fin 3 → Nat :=
  let c1_202 : Index := 1#32
  let c0_203 : Index := 0#32
  let arg1 : BitVec 32 := BitVec.ofNat 32 (i 1).val
  let c512_i32 : BitVec 32 := 512#32
  let v0 : BitVec 32 := Scalar.muli arg1 c512_i32
  let v1 : BitVec 32 := v0
  let v304 : Index := Scalar.indexCast v1
  ![1, 0, v304.toNat]
def k0_off24 (i : grid0.Coords) (k0_t2 : Fin (k0_t2_loop i).trips) : Fin 3 → Nat :=
  let c1_219 : Index := 1#32
  let c0_220 : Index := 0#32
  let arg1 : BitVec 32 := BitVec.ofNat 32 (i 1).val
  let c1_i32 : BitVec 32 := 1#32
  let v179 : BitVec 32 := Scalar.addi arg1 c1_i32
  let c8_i32 : BitVec 32 := 8#32
  let v180 : BitVec 32 := Scalar.subi c8_i32 v179
  let c1_i32_112 : BitVec 32 := 1#32
  let v182 : BitVec 32 := Scalar.divsi v180 c1_i32_112
  let v183 : BitVec 32 := Scalar.muli v182 c1_i32_112
  let v184 : BitVec 32 := Scalar.addi v179 v183
  let c1_i32_114 : BitVec 32 := 1#32
  let arg17 : BitVec 32 := Scf.iv v184 c1_i32_114 k0_t2
  let c512_i32_138 : BitVec 32 := 512#32
  let v206 : BitVec 32 := Scalar.muli arg17 c512_i32_138
  let v207 : BitVec 32 := v206
  let v336 : Index := Scalar.indexCast v207
  ![1, 0, v336.toNat]
def k0_cond2 (i : grid0.Coords) : BitVec 1 :=
  let arg1 : BitVec 32 := BitVec.ofNat 32 (i 1).val
  let c7_i32 : BitVec 32 := 7#32
  let v203 : BitVec 1 := Scalar.cmpi .eq arg1 c7_i32
  let v204 : BitVec 32 := Scalar.extui v203
  let c0_i32_137 : BitVec 32 := 0#32
  let v205 : BitVec 1 := Scalar.cmpi .ne v204 c0_i32_137
  v205

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S4096x12x64 : Shape := ⟨3, ![4096, 12, 64]⟩
abbrev S12x4096 : Shape := ⟨2, ![12, 4096]⟩
abbrev S12x4096x4096 : Shape := ⟨3, ![12, 4096, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S12x64x4096 : Shape := ⟨3, ![12, 64, 4096]⟩
abbrev S12x4096x64 : Shape := ⟨3, ![12, 4096, 64]⟩
abbrev S4096x768 : Shape := ⟨2, ![4096, 768]⟩

abbrev nBuf : Space → Nat
  | .hbm => 108
  | .vmem => 0
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S12x4096, .f32⟩
  | .hbm, ⟨4, _⟩ => ⟨S4096x12x64, .f32⟩
  | .hbm, ⟨5, _⟩ => ⟨S12x4096x4096, .f32⟩
  | .hbm, ⟨6, _⟩ => ⟨S12x4096x1, .f32⟩
  | .hbm, ⟨7, _⟩ => ⟨S12x4096x4096, .f32⟩
  | .hbm, ⟨8, _⟩ => ⟨S12x4096x4096, .f32⟩
  | .hbm, ⟨9, _⟩ => ⟨S12x1x4096, .f32⟩
  | .hbm, ⟨10, _⟩ => ⟨S12x4096x4096, .f32⟩
  | .hbm, ⟨11, _⟩ => ⟨S12x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S_, .f32⟩
  | .hbm, ⟨21, _⟩ => ⟨S_, .f32⟩
  | .hbm, ⟨22, _⟩ => ⟨S12x4096x4096, .i1⟩
  | .hbm, ⟨23, _⟩ => ⟨S12x4096x4096, .f32⟩
  | .hbm, ⟨24, _⟩ => ⟨S12x4096x4096, .f32⟩
  | .hbm, ⟨25, _⟩ => ⟨S_, .f32⟩
  | .hbm, ⟨26, _⟩ => ⟨S12x4096x4096, .f32⟩
  | .hbm, ⟨27, _⟩ => ⟨S_, .f32⟩
  | .hbm, ⟨28, _⟩ => ⟨S12x4096, .f32⟩
  | .hbm, ⟨29, _⟩ => ⟨S12x4096x1, .f32⟩
  | .hbm, ⟨30, _⟩ => ⟨S12x4096x4096, .f32⟩
  | .hbm, ⟨31, _⟩ => ⟨S12x4096x4096, .i1⟩
  | .hbm, ⟨32, _⟩ => ⟨S12x4096x4096, .f32⟩
  | .hbm, ⟨33, _⟩ => ⟨S_, .f32⟩
  | .hbm, ⟨34, _⟩ => ⟨S12x4096, .f32⟩
  | .hbm, ⟨35, _⟩ => ⟨S_, .f32⟩
  | .hbm, ⟨36, _⟩ => ⟨S12x4096, .f32⟩
  | .hbm, ⟨37, _⟩ => ⟨S12x4096, .f32⟩
  | .hbm, ⟨38, _⟩ => ⟨S_, .f32⟩
  | .hbm, ⟨39, _⟩ => ⟨S12x4096, .f32⟩
  | .hbm, ⟨40, _⟩ => ⟨S12x4096, .i1⟩
  | .hbm, ⟨41, _⟩ => ⟨S_, .f32⟩
  | .hbm, ⟨42, _⟩ => ⟨S12x4096, .f32⟩
  | .hbm, ⟨43, _⟩ => ⟨S12x4096, .i1⟩
  | .hbm, ⟨44, _⟩ => ⟨S_, .f32⟩
  | .hbm, ⟨45, _⟩ => ⟨S12x4096, .f32⟩
  | .hbm, ⟨46, _⟩ => ⟨S_, .f32⟩
  | .hbm, ⟨47, _⟩ => ⟨S12x4096, .f32⟩
  | .hbm, ⟨48, _⟩ => ⟨S_, .f32⟩
  | .hbm, ⟨49, _⟩ => ⟨S12x4096, .f32⟩
  | .hbm, ⟨50, _⟩ => ⟨S12x4096, .f32⟩
  | .hbm, ⟨51, _⟩ => ⟨S12x4096, .f32⟩
  | .hbm, ⟨52, _⟩ => ⟨S12x4096x1, .f32⟩
  | .hbm, ⟨53, _⟩ => ⟨S12x4096x4096, .f32⟩
  | .hbm, ⟨54, _⟩ => ⟨S12x4096x4096, .f32⟩
  | .hbm, ⟨55, _⟩ => ⟨S12x4096x4096, .f32⟩
  | .hbm, ⟨56, _⟩ => ⟨S_, .f32⟩
  | .hbm, ⟨57, _⟩ => ⟨S12x4096, .f32⟩
  | .hbm, ⟨58, _⟩ => ⟨S12x4096x1, .f32⟩
  | .hbm, ⟨59, _⟩ => ⟨S12x4096x4096, .f32⟩
  | .hbm, ⟨60, _⟩ => ⟨S12x4096x4096, .f32⟩
  | .hbm, ⟨61, _⟩ => ⟨S12x4096x1, .f32⟩
  | .hbm, ⟨62, _⟩ => ⟨S_, .f32⟩
  | .hbm, ⟨63, _⟩ => ⟨S12x4096x1, .f32⟩
  | .hbm, ⟨64, _⟩ => ⟨S12x4096x1, .f32⟩
  | .hbm, ⟨65, _⟩ => ⟨S12x64x4096, .f32⟩
  | .hbm, ⟨66, _⟩ => ⟨S4096x12x64, .f32⟩
  | .hbm, ⟨67, _⟩ => ⟨S12x64x4096, .f32⟩
  | .hbm, ⟨68, _⟩ => ⟨S12x4096x4096, .f32⟩
  | .hbm, ⟨69, _⟩ => ⟨S12x64x4096, .f32⟩
  | .hbm, ⟨70, _⟩ => ⟨S4096x12x64, .f32⟩
  | .hbm, ⟨71, _⟩ => ⟨S12x4096x4096, .f32⟩
  | .hbm, ⟨72, _⟩ => ⟨S12x4096x4096, .f32⟩
  | .hbm, ⟨73, _⟩ => ⟨S12x4096x4096, .f32⟩
  | .hbm, ⟨74, _⟩ => ⟨S_, .f32⟩
  | .hbm, ⟨75, _⟩ => ⟨S12x4096, .f32⟩
  | .hbm, ⟨76, _⟩ => ⟨S12x4096x1, .f32⟩
  | .hbm, ⟨77, _⟩ => ⟨S12x4096x1, .f32⟩
  | .hbm, ⟨78, _⟩ => ⟨S12x4096x4096, .f32⟩
  | .hbm, ⟨79, _⟩ => ⟨S12x4096x4096, .f32⟩
  | .hbm, ⟨80, _⟩ => ⟨S_, .f32⟩
  | .hbm, ⟨81, _⟩ => ⟨S12x4096, .f32⟩
  | .hbm, ⟨82, _⟩ => ⟨S12x4096x4096, .f32⟩
  | .hbm, ⟨83, _⟩ => ⟨S12x4096x4096, .f32⟩
  | .hbm, ⟨84, _⟩ => ⟨S12x4096x4096, .f32⟩
  | .hbm, ⟨85, _⟩ => ⟨S_, .f32⟩
  | .hbm, ⟨86, _⟩ => ⟨S12x4096x4096, .f32⟩
  | .hbm, ⟨87, _⟩ => ⟨S12x4096x4096, .f32⟩
  | .hbm, ⟨88, _⟩ => ⟨S12x4096x4096, .f32⟩
  | .hbm, ⟨89, _⟩ => ⟨S_, .f32⟩
  | .hbm, ⟨90, _⟩ => ⟨S12x4096, .f32⟩
  | .hbm, ⟨91, _⟩ => ⟨S12x1x4096, .f32⟩
  | .hbm, ⟨92, _⟩ => ⟨S_, .f32⟩
  | .hbm, ⟨93, _⟩ => ⟨S12x4096, .f32⟩
  | .hbm, ⟨94, _⟩ => ⟨S_, .f32⟩
  | .hbm, ⟨95, _⟩ => ⟨S12x4096, .f32⟩
  | .hbm, ⟨96, _⟩ => ⟨S12x4096x1, .f32⟩
  | .hbm, ⟨97, _⟩ => ⟨S_, .f32⟩
  | .hbm, ⟨98, _⟩ => ⟨S12x4096, .f32⟩
  | .hbm, ⟨99, _⟩ => ⟨S12x4096, .f32⟩
  | .hbm, ⟨100, _⟩ => ⟨S12x4096x64, .f32⟩
  | .hbm, ⟨101, _⟩ => ⟨S4096x12x64, .f32⟩
  | .hbm, ⟨102, _⟩ => ⟨S12x4096x64, .f32⟩
  | .hbm, ⟨103, _⟩ => ⟨S4096x12x64, .f32⟩
  | .hbm, ⟨104, _⟩ => ⟨S4096x768, .f32⟩
  | .hbm, ⟨105, _⟩ => ⟨S4096x768, .f32⟩
  | .hbm, ⟨106, _⟩ => ⟨S4096x768, .f32⟩
  | .hbm, ⟨107, _⟩ => ⟨S12x1x4096, .f32⟩
  | _, _ => ⟨S4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

def κ : String → Option EReal := fun
  | "mask" => some ⊥
  | _ => none
-- ==== Zg.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8192, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZgRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Qkv.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateW.lean ====
abbrev S4096x2048 : Shape := ⟨2, ![4096, 2048]⟩
abbrev S4096x6144 : Shape := ⟨2, ![4096, 6144]⟩
abbrev S2048x6144 : Shape := ⟨2, ![2048, 6144]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x2048, .bf16⟩
  | .hbm, ⟨3, _⟩ => ⟨S4096x6144, .bf16⟩
  | .hbm, ⟨4, _⟩ => ⟨S2048x6144, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S_, .f32⟩
  | .hbm, ⟨3, _⟩ => ⟨S2048x6144, .f32⟩
  | .hbm, ⟨4, _⟩ => ⟨S4096x6144, .f32⟩
  | .hbm, ⟨5, _⟩ => ⟨S6144x2048, .f32⟩
  | .hbm, ⟨6, _⟩ => ⟨S2048x6144, .f32⟩
  | .hbm, ⟨7, _⟩ => ⟨S2048x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvW.lean ====
abbrev S4096x2048 : Shape := ⟨2, ![4096, 2048]⟩
abbrev S4096x4096 : Shape := ⟨2, ![4096, 4096]⟩
abbrev S2048x4096 : Shape := ⟨2, ![2048, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S2048x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutAct.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutActRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ZgAct.lean ====
abbrev S2048x8192 : Shape := ⟨2, ![2048, 8192]⟩
abbrev S4096x2048 : Shape := ⟨2, ![4096, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x8192, .f32⟩
  | .hbm, ⟨1, _⟩ => ⟨S4096x2048, .f32⟩
  | .hbm, ⟨2, _⟩ => ⟨S4096x6144, .f32⟩
  | .hbm, ⟨3, _⟩ => ⟨S4096x2048, .f32⟩
  | .hbm, ⟨4, _⟩ => ⟨S2048x8192, .bf16⟩
  | .hbm, ⟨5, _⟩ => ⟨S4096x2048, .bf16⟩
  | .hbm, ⟨6, _⟩ => ⟨S4096x6144, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond7 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  ![arg1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ZgActRefIdeal.lean ====
abbrev S2048x8192 : Shape := ⟨2, ![2048, 8192]⟩
abbrev S4096x2048 : Shape := ⟨2, ![4096, 2048]⟩
abbrev S4096x6144 : Shape := ⟨2, ![4096, 6144]⟩
abbrev S2048x2048 : Shape := ⟨2, ![2048, 2048]⟩
abbrev S_ : Shape := ⟨0, ![]⟩
abbrev S2048x6144 : Shape := ⟨2, ![2048, 6144]⟩

abbrev nBuf : Space → Nat
  | .hbm => 16
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4096x2048, .f32⟩
  | .hbm, ⟨2, _⟩ => ⟨S4096x6144, .f32⟩
  | .hbm, ⟨3, _⟩ => ⟨S4096x2048, .f32⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x6144, .f32⟩
  | .hbm, ⟨11, _⟩ => ⟨S_, .f32⟩
  | .hbm, ⟨12, _⟩ => ⟨S4096x2048, .f32⟩
  | .hbm, ⟨13, _⟩ => ⟨S4096x6144, .f32⟩
  | .hbm, ⟨14, _⟩ => ⟨S4096x2048, .f32⟩
  | .hbm, ⟨15, _⟩ => ⟨S4096x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== QkvAct.lean ====
abbrev S2048x4096 : Shape := ⟨2, ![2048, 4096]⟩
abbrev S2048x128 : Shape := ⟨2, ![2048, 128]⟩
abbrev S4096x4096 : Shape := ⟨2, ![4096, 4096]⟩
abbrev S4096x128 : Shape := ⟨2, ![4096, 128]⟩
abbrev S4096x2048 : Shape := ⟨2, ![4096, 2048]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x128, .f32⟩
  | .hbm, ⟨2, _⟩ => ⟨S4096x4096, .f32⟩
  | .hbm, ⟨3, _⟩ => ⟨S4096x128, .f32⟩
  | .hbm, ⟨4, _⟩ => ⟨S4096x4096, .bf16⟩
  | .hbm, ⟨5, _⟩ => ⟨S2048x4096, .bf16⟩
  | .hbm, ⟨6, _⟩ => ⟨S4096x128, .bf16⟩
  | .hbm, ⟨7, _⟩ => ⟨S2048x128, .bf16⟩
  | .hbm, ⟨8, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x128, .bf16⟩
  | .local _ .vmem, ⟨3, _⟩ => ⟨S1024x128, .bf16⟩
  | .local _ .vmem, ⟨4, _⟩ => ⟨S1024x2048, .bf16⟩
  | .local _ .vmem, ⟨5, _⟩ => ⟨S1024x2048, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond5 (i : grid0.Coords) : BitVec 1 :=
  let arg2 : BitVec 32 := BitVec.ofNat 32 (i 2).val
  let c1_i32_3 : BitVec 32 := 1#32
  let v10 : BitVec 1 := Scalar.cmpi .eq arg2 c1_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 v2
  let c0_i32_2 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== QkvActRefIdeal.lean ====
abbrev S2048x4096 : Shape := ⟨2, ![2048, 4096]⟩
abbrev S2048x128 : Shape := ⟨2, ![2048, 128]⟩
abbrev S4096x4096 : Shape := ⟨2, ![4096, 4096]⟩
abbrev S4096x128 : Shape := ⟨2, ![4096, 128]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x128, .f32⟩
  | .hbm, ⟨2, _⟩ => ⟨S4096x4096, .f32⟩
  | .hbm, ⟨3, _⟩ => ⟨S4096x128, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x128, .f32⟩
  | .hbm, ⟨11, _⟩ => ⟨S4096x2048, .f32⟩
  | .hbm, ⟨12, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== BranchB.lean ====
abbrev S4096x768 : Shape := ⟨2, ![4096, 768]⟩
abbrev S768x2048 : Shape := ⟨2, ![768, 2048]⟩
abbrev S4096x2048 : Shape := ⟨2, ![4096, 2048]⟩
abbrev S1024x768 : Shape := ⟨2, ![1024, 768]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S768x2048, .f32⟩
  | .hbm, ⟨2, _⟩ => ⟨S4096x768, .bf16⟩
  | .hbm, ⟨3, _⟩ => ⟨S768x2048, .bf16⟩
  | .hbm, ⟨4, _⟩ => ⟨S4096x2048, .bf16⟩
  | .local _ .vmem, ⟨0, _⟩ => ⟨S1024x768, .bf16⟩
  | .local _ .vmem, ⟨1, _⟩ => ⟨S1024x768, .bf16⟩
  | .local _ .vmem, ⟨2, _⟩ => ⟨S768x2048, .bf16⟩
  | .local _ .vmem, ⟨3, _⟩ => ⟨S1024x2048, .bf16⟩
  | .local _ .vmem, ⟨4, _⟩ => ⟨S1024x2048, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBIdeal.lean ====
abbrev S4096x768 : Shape := ⟨2, ![4096, 768]⟩
abbrev S768x2048 : Shape := ⟨2, ![768, 2048]⟩
abbrev S4096x2048 : Shape := ⟨2, ![4096, 2048]⟩
abbrev S1024x768 : Shape := ⟨2, ![1024, 768]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S768x2048, .f32⟩
  | .hbm, ⟨2, _⟩ => ⟨S4096x768, .bf16⟩
  | .hbm, ⟨3, _⟩ => ⟨S768x2048, .bf16⟩
  | .hbm, ⟨4, _⟩ => ⟨S4096x2048, .bf16⟩
  | .local _ .vmem, ⟨0, _⟩ => ⟨S1024x768, .bf16⟩
  | .local _ .vmem, ⟨1, _⟩ => ⟨S1024x768, .bf16⟩
  | .local _ .vmem, ⟨2, _⟩ => ⟨S768x2048, .bf16⟩
  | .local _ .vmem, ⟨3, _⟩ => ⟨S1024x2048, .bf16⟩
  | .local _ .vmem, ⟨4, _⟩ => ⟨S1024x2048, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBRefIdeal.lean ====
abbrev S4096x768 : Shape := ⟨2, ![4096, 768]⟩
abbrev S768x2048 : Shape := ⟨2, ![768, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x2048, .f32⟩
  | .hbm, ⟨2, _⟩ => ⟨S4096x2048, .f32⟩
  | .hbm, ⟨3, _⟩ => ⟨S4096x2048, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchC.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x2048, .bf16⟩
  | .hbm, ⟨4, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .bf16⟩
  | .local _ .vmem, ⟨4, _⟩ => ⟨S1024x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchCRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchBAct.lean ====
abbrev S768x2048 : Shape := ⟨2, ![768, 2048]⟩
abbrev S4096x2048 : Shape := ⟨2, ![4096, 2048]⟩
abbrev S4096x768 : Shape := ⟨2, ![4096, 768]⟩
abbrev S1024x2048 : Shape := ⟨2, ![1024, 2048]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S768x2048, .f32⟩
  | .hbm, ⟨1, _⟩ => ⟨S4096x2048, .f32⟩
  | .hbm, ⟨2, _⟩ => ⟨S4096x2048, .bf16⟩
  | .hbm, ⟨3, _⟩ => ⟨S768x2048, .bf16⟩
  | .hbm, ⟨4, _⟩ => ⟨S4096x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBActIdeal.lean ====
abbrev S768x2048 : Shape := ⟨2, ![768, 2048]⟩
abbrev S4096x2048 : Shape := ⟨2, ![4096, 2048]⟩
abbrev S4096x768 : Shape := ⟨2, ![4096, 768]⟩
abbrev S1024x2048 : Shape := ⟨2, ![1024, 2048]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S768x2048, .f32⟩
  | .hbm, ⟨1, _⟩ => ⟨S4096x2048, .f32⟩
  | .hbm, ⟨2, _⟩ => ⟨S4096x2048, .bf16⟩
  | .hbm, ⟨3, _⟩ => ⟨S768x2048, .bf16⟩
  | .hbm, ⟨4, _⟩ => ⟨S4096x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBActRefIdeal.lean ====
abbrev S768x2048 : Shape := ⟨2, ![768, 2048]⟩
abbrev S4096x2048 : Shape := ⟨2, ![4096, 2048]⟩
abbrev S_ : Shape := ⟨0, ![]⟩
abbrev S4096x768 : Shape := ⟨2, ![4096, 768]⟩

abbrev nBuf : Space → Nat
  | .hbm => 6
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S4096x2048, .f32⟩
  | .hbm, ⟨2, _⟩ => ⟨S_, .f32⟩
  | .hbm, ⟨3, _⟩ => ⟨S4096x768, .f32⟩
  | .hbm, ⟨4, _⟩ => ⟨S4096x2048, .f32⟩
  | .hbm, ⟨5, _⟩ => ⟨S4096x768, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchCAct.lean ====
abbrev S512x2048 : Shape := ⟨2, ![512, 2048]⟩
abbrev S4096x2048 : Shape := ⟨2, ![4096, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S4096x2048, .bf16⟩
  | .hbm, ⟨3, _⟩ => ⟨S512x2048, .bf16⟩
  | .hbm, ⟨4, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchCActRefIdeal.lean ====
abbrev S512x2048 : Shape := ⟨2, ![512, 2048]⟩
abbrev S4096x2048 : Shape := ⟨2, ![4096, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchBW.lean ====
abbrev S4096x768 : Shape := ⟨2, ![4096, 768]⟩
abbrev S4096x2048 : Shape := ⟨2, ![4096, 2048]⟩
abbrev S6144x256 : Shape := ⟨2, ![6144, 256]⟩
abbrev S4096x256 : Shape := ⟨2, ![4096, 256]⟩
abbrev S768x256 : Shape := ⟨2, ![768, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S4096x2048, .f32⟩
  | .hbm, ⟨2, _⟩ => ⟨S4096x768, .bf16⟩
  | .hbm, ⟨3, _⟩ => ⟨S4096x2048, .bf16⟩
  | .hbm, ⟨4, _⟩ => ⟨S6144x256, .bf16⟩
  | .local _ .vmem, ⟨0, _⟩ => ⟨S4096x768, .bf16⟩
  | .local _ .vmem, ⟨1, _⟩ => ⟨S4096x256, .bf16⟩
  | .local _ .vmem, ⟨2, _⟩ => ⟨S4096x256, .bf16⟩
  | .local _ .vmem, ⟨3, _⟩ => ⟨S768x256, .bf16⟩
  | .local _ .vmem, ⟨4, _⟩ => ⟨S768x256, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== BranchBWIdeal.lean ====
abbrev S4096x768 : Shape := ⟨2, ![4096, 768]⟩
abbrev S4096x2048 : Shape := ⟨2, ![4096, 2048]⟩
abbrev S6144x256 : Shape := ⟨2, ![6144, 256]⟩
abbrev S4096x256 : Shape := ⟨2, ![4096, 256]⟩
abbrev S768x256 : Shape := ⟨2, ![768, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S4096x2048, .f32⟩
  | .hbm, ⟨2, _⟩ => ⟨S4096x768, .bf16⟩
  | .hbm, ⟨3, _⟩ => ⟨S4096x2048, .bf16⟩
  | .hbm, ⟨4, _⟩ => ⟨S6144x256, .bf16⟩
  | .local _ .vmem, ⟨0, _⟩ => ⟨S4096x768, .bf16⟩
  | .local _ .vmem, ⟨1, _⟩ => ⟨S4096x256, .bf16⟩
  | .local _ .vmem, ⟨2, _⟩ => ⟨S4096x256, .bf16⟩
  | .local _ .vmem, ⟨3, _⟩ => ⟨S768x256, .bf16⟩
  | .local _ .vmem, ⟨4, _⟩ => ⟨S768x256, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== BranchBWRefIdeal.lean ====
abbrev S4096x768 : Shape := ⟨2, ![4096, 768]⟩
abbrev S4096x2048 : Shape := ⟨2, ![4096, 2048]⟩
abbrev S_ : Shape := ⟨0, ![]⟩
abbrev S768x2048 : Shape := ⟨2, ![768, 2048]⟩
abbrev S2048x768 : Shape := ⟨2, ![2048, 768]⟩
abbrev S768x8x256 : Shape := ⟨3, ![768, 8, 256]⟩
abbrev S8x768x256 : Shape := ⟨3, ![8, 768, 256]⟩
abbrev S6144x256 : Shape := ⟨2, ![6144, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x2048, .f32⟩
  | .hbm, ⟨2, _⟩ => ⟨S_, .f32⟩
  | .hbm, ⟨3, _⟩ => ⟨S768x2048, .f32⟩
  | .hbm, ⟨4, _⟩ => ⟨S4096x2048, .f32⟩
  | .hbm, ⟨5, _⟩ => ⟨S2048x768, .f32⟩
  | .hbm, ⟨6, _⟩ => ⟨S768x2048, .f32⟩
  | .hbm, ⟨7, _⟩ => ⟨S768x2048, .bf16⟩
  | .hbm, ⟨8, _⟩ => ⟨S768x8x256, .bf16⟩
  | .hbm, ⟨9, _⟩ => ⟨S8x768x256, .bf16⟩
  | .hbm, ⟨10, _⟩ => ⟨S6144x256, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BranchCW.lean ====
abbrev S4096x512 : Shape := ⟨2, ![4096, 512]⟩
abbrev S4096x2048 : Shape := ⟨2, ![4096, 2048]⟩
abbrev S4096x256 : Shape := ⟨2, ![4096, 256]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S4096x2048, .bf16⟩
  | .hbm, ⟨4, _⟩ => ⟨S4096x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== BranchCWRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S512x8x256 : Shape := ⟨3, ![512, 8, 256]⟩
abbrev S8x512x256 : Shape := ⟨3, ![8, 512, 256]⟩
abbrev S4096x256 : Shape := ⟨2, ![4096, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S512x2048, .bf16⟩
  | .hbm, ⟨8, _⟩ => ⟨S512x8x256, .bf16⟩
  | .hbm, ⟨9, _⟩ => ⟨S8x512x256, .bf16⟩
  | .hbm, ⟨10, _⟩ => ⟨S4096x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.FoxIdeal.Split.lean ====
/-
  The backward pass of the forgetting attention: the body of one grid point as three parts.
-/
module

public import proofs.«01_k».proof.Proof.Gen.FoxIdeal.Frame
public import proofs.«01_k».proof.Proof.Gen.FoxIdeal.Loops
public import Idealize.ShloMosaic.Lib.Pipeline.FrameBody

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

/-- The condition of the branch that clears the accumulator of the query gradient, as the kernel computes it. -/
abbrev firstCond (i : grid0.Coords) : BitVec 1 :=
  Scalar.cmpi .ne (Scalar.extui (Scalar.cmpi .eq (BitVec.ofNat 32 (i 1).val) 0#32)) 0#32

/-- The first part of the body: the branch that clears, and the step on the diagonal block up to its last store. -/
noncomputable def headProg (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) : Prog (TpuEff nD τ sig (Elt F) Λ₀ .tc) (BitVec 32 × BitVec 32 × FVec F S64x512 .bf16 × FVec F S64x512 .bf16 × FVec F S1x512 .f32 × FVec F S512 .f32) := do
  let ⟨a1, v1, v2, v3, v21, v24, v26, v28⟩ : Σ' (a1 : BitVec 32) (v1 : BitVec 32) (v2 : IVec S512x512 32) (v3 : IVec S512x512 32) (v21 : FVec F S64x512 .bf16) (v24 : FVec F S64x512 .bf16) (v26 : BitVec 32), FVec F S512x64 .bf16 ← k0_part9 i a2 q2 a3 q3 a4 q4 a5 q5 a6 q6 a7 q7 a8 q8 a9 q9 a10 q10 a11 q11 a12 q12 a13 q13 a14 q14 a15 q15 a16 q16
  let ⟨v33, v36, v62, v66, v67⟩ : Σ' (v33 : FVec F S512x64 .bf16) (v36 : FVec F S512x64 .bf16) (v62 : FVec F S512x512 .f32) (v66 : FVec F S512x512 .f32), FVec F S512x512 .bf16 ← k0_part10 i a2 q2 a3 q3 a4 q4 a5 q5 a6 q6 a7 q7 a8 q8 a9 q9 a10 q10 a11 q11 a12 q12 a13 q13 a14 q14 a15 q15 a16 q16 v1 v2 v3 v26 v28
  let v99 : FVec F S1x512 .f32 ← k0_part11 i a2 q2 a3 q3 a4 q4 a5 q5 a6 q6 a7 q7 a8 q8 a9 q9 a10 q10 a11 q11 a12 q12 a13 q13 a14 q14 a15 q15 a16 q16 v21 v26 v33 v36 v62 v66 v67
  let ⟨v109, v112, v120, v138, v139⟩ : Σ' (v109 : FVec F S512x64 .bf16) (v112 : FVec F S512x64 .bf16) (v120 : FVec F S512x1 .f32) (v138 : FVec F S512x512 .f32), FVec F S512x512 .f32 ← k0_part12 i a2 q2 a3 q3 a4 q4 a5 q5 a6 q6 a7 q7 a8 q8 a9 q9 a10 q10 a11 q11 a12 q12 a13 q13 a14 q14 a15 q15 a16 q16 v1 v2 v3 v26 v99
  let ⟨v172, v173⟩ : Σ' (v172 : FVec F S1x512 .f32), FVec F S512 .f32 ← k0_part13 i a2 q2 a3 q3 a4 q4 a5 q5 a6 q6 a7 q7 a8 q8 a9 q9 a10 q10 a11 q11 a12 q12 a13 q13 a14 q14 a15 q15 a16 q16 v24 v26 v109 v112 v120 v138 v139
  pure (a1, v1, v21, v24, v172, v173)

/-- The second part of the body: the last store of the diagonal step and the loop over the row blocks below it. -/
noncomputable def midProg (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 : BitVec 32) (v1 : BitVec 32) (v21 : FVec F S64x512 .bf16) (v24 : FVec F S64x512 .bf16) (v172 : FVec F S1x512 .f32) (v173 : FVec F S512 .f32) : Prog (TpuEff nD τ sig (Elt F) Λ₀ .tc) PUnit := do
  let v176 : Vec F S1x1x512 .f32 ← Prog.lift (.load a16 (Rect.unit (s := S2x1x512) ![1, 0, 0] S1x1x512.size inb_S2x1x512_S1x1x512_1_0_0).toLoadRect (View.loadsAt_vmem h_S1x1x512))
  Prog.lift (.store a16 (Rect.unit (s := S2x1x512) ![1, 0, 0] S1x1x512.size inb_S2x1x512_S1x1x512_1_0_0) (k0_pay76 v172 v173) Finset.univ (View.stores_vmem_bits_univ h_S1x1x512 rfl) (.inl rfl))
  let v179 : BitVec 32 := Scalar.addi a1 1#32
  let v180 : BitVec 32 := Scalar.subi 8#32 v179
  let v182 : BitVec 32 := Scalar.divsi v180 1#32
  let v183 : BitVec 32 := Scalar.muli v182 1#32
  let v184 : BitVec 32 := Scalar.addi v179 v183
  Scf.Loop.for (k0_t1_loop i) (k0_t1_ok i) ⟨⟩ (k0_t1_body i a2 q2 a3 q3 a4 q4 a5 q5 a6 q6 a7 q7 a8 q8 a9 q9 a10 q10 a11 q11 a12 q12 a13 q13 a14 q14 a15 q15 a16 q16 a1 v1 v21 v24 v172 v173 v179)
  Scf.Loop.for (k0_t2_loop i) (k0_t2_ok i) ⟨⟩ (k0_t2_body i a2 q2 a3 q3 a4 q4 a5 q5 a6 q6 a7 q7 a8 q8 a9 q9 a10 q10 a11 q11 a12 q12 a13 q13 a14 q14 a15 q15 a16 q16 a1 v1 v21 v24 v172 v173 v184)

/-- The third part of the body: the results are written from the accumulators. -/
noncomputable def outProg (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) : Prog (TpuEff nD τ sig (Elt F) Λ₀ .tc) PUnit := do
  let v185 : Vec F S2x1x512 .f32 ← Prog.lift (.load a16 (Rect.unit (s := S2x1x512) ![0, 0, 0] S2x1x512.size inb_S2x1x512_S2x1x512_0_0_0).toLoadRect (View.loadsAt_vmem h_S2x1x512))
  let v186 : Vec F S2x1x512 .f32 ← Prog.lift (.load a12 (Rect.unit (s := S2x1x512) ![0, 0, 0] S2x1x512.size inb_S2x1x512_S2x1x512_0_0_0).toLoadRect (View.loadsAt_vmem h_S2x1x512))
  Prog.lift (.store a12 (Rect.unit (s := S2x1x512) ![0, 0, 0] S2x1x512.size inb_S2x1x512_S2x1x512_0_0_0) v185 Finset.univ (View.stores_vmem_bits_univ h_S2x1x512 rfl) (.inl rfl))
  let v187 : Vec F S1x64x512 .f32 ← Prog.lift (.load a14 (Rect.unit (s := S2x64x512) ![0, 0, 0] S1x64x512.size inb_S2x64x512_S1x64x512_0_0_0).toLoadRect (View.loadsAt_vmem h_S1x64x512))
  let v190 : Vec F S1x64x512 .f32 ← Prog.lift (.load a14 (Rect.unit (s := S2x64x512) ![1, 0, 0] S1x64x512.size inb_S2x64x512_S1x64x512_1_0_0).toLoadRect (View.loadsAt_vmem h_S1x64x512))
  let v194 : Vec F S512x128 .f32 ← Prog.lift (.load a10 (Rect.unit (s := S512x128) ![0, 0] S512x128.size inb_S512x128_S512x128_0_0).toLoadRect (View.loadsAt_vmem h_S512x128))
  Prog.lift (.store a10 (Rect.unit (s := S512x128) ![0, 0] S512x128.size inb_S512x128_S512x128_0_0) (k0_pay79 v187 v190) Finset.univ (View.stores_vmem_bits_univ h_S512x128 rfl) (.inl rfl))
  let v195 : Vec F S1x64x512 .f32 ← Prog.lift (.load a15 (Rect.unit (s := S2x64x512) ![0, 0, 0] S1x64x512.size inb_S2x64x512_S1x64x512_0_0_0).toLoadRect (View.loadsAt_vmem h_S1x64x512))
  let v198 : Vec F S1x64x512 .f32 ← Prog.lift (.load a15 (Rect.unit (s := S2x64x512) ![1, 0, 0] S1x64x512.size inb_S2x64x512_S1x64x512_1_0_0).toLoadRect (View.loadsAt_vmem h_S1x64x512))
  let v202 : Vec F S512x128 .f32 ← Prog.lift (.load a11 (Rect.unit (s := S512x128) ![0, 0] S512x128.size inb_S512x128_S512x128_0_0).toLoadRect (View.loadsAt_vmem h_S512x128))
  Prog.lift (.store a11 (Rect.unit (s := S512x128) ![0, 0] S512x128.size inb_S512x128_S512x128_0_0) (k0_pay1 (k0_pay80 v195) (k0_pay81 v198)) Finset.univ (View.stores_vmem_bits_univ h_S512x128 rfl) (.inl rfl))
  if k0_h2 : k0_cond2 i = 1#1 then do
    let v206 : Vec F S1x64x4096 .f32 ← Prog.lift (.load a13 (Rect.unit (s := S2x64x4096) ![0, 0, 0] S1x64x4096.size inb_S2x64x4096_S1x64x4096_0_0_0).toLoadRect (View.loadsAt_vmem h_S1x64x4096))
    let v209 : Vec F S1x64x4096 .f32 ← Prog.lift (.load a13 (Rect.unit (s := S2x64x4096) ![1, 0, 0] S1x64x4096.size inb_S2x64x4096_S1x64x4096_1_0_0).toLoadRect (View.loadsAt_vmem h_S1x64x4096))
    let v213 : Vec F S4096x128 .f32 ← Prog.lift (.load a9 (Rect.unit (s := S4096x128) ![0, 0] S4096x128.size inb_S4096x128_S4096x128_0_0).toLoadRect (View.loadsAt_vmem h_S4096x128))
    Prog.lift (.store a9 (Rect.unit (s := S4096x128) ![0, 0] S4096x128.size inb_S4096x128_S4096x128_0_0) (k0_pay2 v206 v209) Finset.univ (View.stores_vmem_bits_univ h_S4096x128 rfl) (.inl rfl))
    pure ⟨⟩
  else do
    pure ⟨⟩
  pure ⟨⟩

/-- The body is its three parts one after the other. -/
theorem body_split (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) :
    cc0_attn_b_bwd (F := F) i a2 q2 a3 q3 a4 q4 a5 q5 a6 q6 a7 q7 a8 q8 a9 q9 a10 q10 a11 q11 a12 q12 a13 q13 a14 q14 a15 q15 a16 q16 = (headProg i a2 q2 a3 q3 a4 q4 a5 q5 a6 q6 a7 q7 a8 q8 a9 q9 a10 q10 a11 q11 a12 q12 a13 q13 a14 q14 a15 q15 a16 q16 >>= fun r => midProg i a2 q2 a3 q3 a4 q4 a5 q5 a6 q6 a7 q7 a8 q8 a9 q9 a10 q10 a11 q11 a12 q12 a13 q13 a14 q14 a15 q15 a16 q16 r.1 r.2.1 r.2.2.1 r.2.2.2.1 r.2.2.2.2.1 r.2.2.2.2.2 >>= fun _ => outProg i a2 q2 a3 q3 a4 q4 a5 q5 a6 q6 a7 q7 a8 q8 a9 q9 a10 q10 a11 q11 a12 q12 a13 q13 a14 q14 a15 q15 a16 q16) := by
  rw [cc0_attn_b_bwd_eq_skeleton]
  unfold cc0_attn_b_bwd_skel headProg midProg outProg
  simp only [k0_part14_eq_skeleton]
  unfold k0_part14_skel
  simp only [bind_assoc, pure_bind]

end Cert.FoxIdeal.Body

end
-- ==== Proof.FoxIdeal.HeadA.lean ====
/-
  The backward pass of the forgetting attention: the body of one grid point; a run of its first part.
-/
module

public import proofs.«01_k».proof.Proof.FoxIdeal.Split

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

set_option maxHeartbeats 1000000 in
/-- The first part of the body, where the accumulator of the query gradient is cleared first: what it
    leaves in the four accumulators and the values it hands on are the ones the run finds. -/
noncomputable def headA (c : Dev nD) (i : grid0.Coords) (h1 : firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec F S2x4096x64 .bf16) (x3 : Vec F S2x512x64 .bf16) (x4 : Vec F S2x512x64 .bf16) (x5 : Vec F S2x4096x64 .bf16) (x6 : Vec F S2x4096x64 .f32) (x7 : Vec F S2x4096x64 .f32) (x8 : Vec F S2x1x4096 .f32) (x13 : Vec F S2x64x4096 .f32) :
    Σ' (r : BitVec 32 × BitVec 32 × FVec F S64x512 .bf16 × FVec F S64x512 .bf16 × FVec F S1x512 .f32 × FVec F S512 .f32) (L13 : List (View.Piece (Elt F) S2x64x4096 .f32)) (L14 : List (View.Piece (Elt F) S2x64x512 .f32)) (L15 : List (View.Piece (Elt F) S2x64x512 .f32)), { L16 : List (View.Piece (Elt F) S2x1x512 .f32) //
      ∀ (E : Set ℕ) (K : BitVec 32 × BitVec 32 × FVec F S64x512 .bf16 × FVec F S64x512 .bf16 × FVec F S1x512 .f32 × FVec F S512 .f32 → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a13 fullShare x13 ∗ (∃ d, owns (c : Thread nD τ) a14 fullShare d) ∗ (∃ d, owns (c : Thread nD τ) a15 fullShare d) ∗ (∃ d, owns (c : Thread nD τ) a16 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, (a13.view.loc (c : Thread nD τ) ↦[a13.view.set]{fullShare} a13.view.writes (Elt F) f L13)) ∗ (∃ f, (a14.view.loc (c : Thread nD τ) ↦[a14.view.set]{fullShare} a14.view.writes (Elt F) f L14)) ∗ (∃ f, (a15.view.loc (c : Thread nD τ) ↦[a15.view.set]{fullShare} a15.view.writes (Elt F) f L15)) ∗ (∃ f, (a16.view.loc (c : Thread nD τ) ↦[a16.view.set]{fullShare} a16.view.writes (Elt F) f L16))) -∗ K r))
          ⊢ wp frame (wpE (defs₀ (F := F)) Variants.none c none) E (headProg i a2 q2 a3 q3 a4 q4 a5 q5 a6 q6 a7 q7 a8 q8 a9 q9 a10 q10 a11 q11 a12 q12 a13 q13 a14 q14 a15 q15 a16 q16) K } := by
  refine ⟨?_, ?_, ?_, ?_, ?_, fun E K => ?run⟩
  case run =>
    unfold headProg
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%d14, %f14, -, H14⟩, ⟨%d15, %f15, -, H15⟩, ⟨%d16, %f16, -, H16⟩, Hk⟩
    obtain rfl := q2.eq_unread hf2; obtain rfl := q3.eq_unread hf3; obtain rfl := q4.eq_unread hf4; obtain rfl := q5.eq_unread hf5; obtain rfl := q6.eq_unread hf6; obtain rfl := q7.eq_unread hf7; obtain rfl := q8.eq_unread hf8; obtain rfl := q13.eq_unread hf13
    sl_exec
    sl_step
    iapply Hk
    isplitl [H2]
    · iexists _; isplitr; · ipureintro; exact q2.read_unread _
      iexact H2
    isplitl [H3]
    · iexists _; isplitr; · ipureintro; exact q3.read_unread _
      iexact H3
    isplitl [H4]
    · iexists _; isplitr; · ipureintro; exact q4.read_unread _
      iexact H4
    isplitl [H5]
    · iexists _; isplitr; · ipureintro; exact q5.read_unread _
      iexact H5
    isplitl [H6]
    · iexists _; isplitr; · ipureintro; exact q6.read_unread _
      iexact H6
    isplitl [H7]
    · iexists _; isplitr; · ipureintro; exact q7.read_unread _
      iexact H7
    isplitl [H8]
    · iexists _; isplitr; · ipureintro; exact q8.read_unread _
      iexact H8
    isplitl [H13]; · iexists _; iexact H13
    isplitl [H14]; · iexists _; iexact H14
    isplitl [H15]; · iexists _; iexact H15
    iexists _; iexact H16

end Cert.FoxIdeal.Body

end
-- ==== Proof.FoxIdeal.HeadB.lean ====
/-
  The backward pass of the forgetting attention: the body of one grid point; a run of its first part.
-/
module

public import proofs.«01_k».proof.Proof.FoxIdeal.Split

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

set_option maxHeartbeats 1000000 in
/-- The first part of the body, where the accumulator of the query gradient is kept: what it
    leaves in the four accumulators and the values it hands on are the ones the run finds. -/
noncomputable def headB (c : Dev nD) (i : grid0.Coords) (h1 : ¬firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec F S2x4096x64 .bf16) (x3 : Vec F S2x512x64 .bf16) (x4 : Vec F S2x512x64 .bf16) (x5 : Vec F S2x4096x64 .bf16) (x6 : Vec F S2x4096x64 .f32) (x7 : Vec F S2x4096x64 .f32) (x8 : Vec F S2x1x4096 .f32) (x13 : Vec F S2x64x4096 .f32) :
    Σ' (r : BitVec 32 × BitVec 32 × FVec F S64x512 .bf16 × FVec F S64x512 .bf16 × FVec F S1x512 .f32 × FVec F S512 .f32) (L13 : List (View.Piece (Elt F) S2x64x4096 .f32)) (L14 : List (View.Piece (Elt F) S2x64x512 .f32)) (L15 : List (View.Piece (Elt F) S2x64x512 .f32)), { L16 : List (View.Piece (Elt F) S2x1x512 .f32) //
      ∀ (E : Set ℕ) (K : BitVec 32 × BitVec 32 × FVec F S64x512 .bf16 × FVec F S64x512 .bf16 × FVec F S1x512 .f32 × FVec F S512 .f32 → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a13 fullShare x13 ∗ (∃ d, owns (c : Thread nD τ) a14 fullShare d) ∗ (∃ d, owns (c : Thread nD τ) a15 fullShare d) ∗ (∃ d, owns (c : Thread nD τ) a16 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (a13.view.loc (c : Thread nD τ) ↦[a13.view.set]{fullShare} a13.view.writes (Elt F) (q13.unread x13) L13) ∗ (∃ f, (a14.view.loc (c : Thread nD τ) ↦[a14.view.set]{fullShare} a14.view.writes (Elt F) f L14)) ∗ (∃ f, (a15.view.loc (c : Thread nD τ) ↦[a15.view.set]{fullShare} a15.view.writes (Elt F) f L15)) ∗ (∃ f, (a16.view.loc (c : Thread nD τ) ↦[a16.view.set]{fullShare} a16.view.writes (Elt F) f L16))) -∗ K r))
          ⊢ wp frame (wpE (defs₀ (F := F)) Variants.none c none) E (headProg i a2 q2 a3 q3 a4 q4 a5 q5 a6 q6 a7 q7 a8 q8 a9 q9 a10 q10 a11 q11 a12 q12 a13 q13 a14 q14 a15 q15 a16 q16) K } := by
  refine ⟨?_, ?_, ?_, ?_, ?_, fun E K => ?run⟩
  case run =>
    unfold headProg
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%d14, %f14, -, H14⟩, ⟨%d15, %f15, -, H15⟩, ⟨%d16, %f16, -, H16⟩, Hk⟩
    obtain rfl := q2.eq_unread hf2; obtain rfl := q3.eq_unread hf3; obtain rfl := q4.eq_unread hf4; obtain rfl := q5.eq_unread hf5; obtain rfl := q6.eq_unread hf6; obtain rfl := q7.eq_unread hf7; obtain rfl := q8.eq_unread hf8; obtain rfl := q13.eq_unread hf13
    sl_exec
    sl_step
    iapply Hk
    isplitl [H2]
    · iexists _; isplitr; · ipureintro; exact q2.read_unread _
      iexact H2
    isplitl [H3]
    · iexists _; isplitr; · ipureintro; exact q3.read_unread _
      iexact H3
    isplitl [H4]
    · iexists _; isplitr; · ipureintro; exact q4.read_unread _
      iexact H4
    isplitl [H5]
    · iexists _; isplitr; · ipureintro; exact q5.read_unread _
      iexact H5
    isplitl [H6]
    · iexists _; isplitr; · ipureintro; exact q6.read_unread _
      iexact H6
    isplitl [H7]
    · iexists _; isplitr; · ipureintro; exact q7.read_unread _
      iexact H7
    isplitl [H8]
    · iexists _; isplitr; · ipureintro; exact q8.read_unread _
      iexact H8
    isplitl [H13]; · iexact H13
    isplitl [H14]; · iexists _; iexact H14
    isplitl [H15]; · iexists _; iexact H15
    iexists _; iexact H16

end Cert.FoxIdeal.Body

end
-- ==== Proof.FoxIdeal.Mid.lean ====
/-
  The backward pass of the forgetting attention: the body of one grid point; a run of its second part.
-/
module

public import proofs.«01_k».proof.Proof.FoxIdeal.Split

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

set_option maxHeartbeats 2000000 in
/-- The second part of the body: what it leaves in the four accumulators is what the run finds. -/
noncomputable def midRun (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty)
    (a1 : BitVec 32) (v1 : BitVec 32) (v21 : FVec F S64x512 .bf16) (v24 : FVec F S64x512 .bf16) (v172 : FVec F S1x512 .f32) (v173 : FVec F S512 .f32) (f13 : BufTy.Contents (Elt F) a13.view.ty) (f14 : BufTy.Contents (Elt F) a14.view.ty) (f15 : BufTy.Contents (Elt F) a15.view.ty) (f16 : BufTy.Contents (Elt F) a16.view.ty) :
    Σ' (G13 : BufTy.Contents (Elt F) a13.view.ty) (G14 : BufTy.Contents (Elt F) a14.view.ty) (G15 : BufTy.Contents (Elt F) a15.view.ty), { G16 : BufTy.Contents (Elt F) a16.view.ty //
      ∀ (E : Set ℕ) (K : PUnit → sProp 𝕄),
        iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)
            ∗ (iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (a13.view.loc (c : Thread nD τ) ↦[a13.view.set]{fullShare} G13) ∗ (a14.view.loc (c : Thread nD τ) ↦[a14.view.set]{fullShare} G14) ∗ (a15.view.loc (c : Thread nD τ) ↦[a15.view.set]{fullShare} G15) ∗ (a16.view.loc (c : Thread nD τ) ↦[a16.view.set]{fullShare} G16)) -∗ K ⟨⟩))
          ⊢ wp frame (wpE (defs₀ (F := F)) Variants.none c none) E (midProg i a2 q2 a3 q3 a4 q4 a5 q5 a6 q6 a7 q7 a8 q8 a9 q9 a10 q10 a11 q11 a12 q12 a13 q13 a14 q14 a15 q15 a16 q16 a1 v1 v21 v24 v172 v173) K } := by
  refine ⟨?_, ?_, ?_, ?_, fun E K => ?run⟩
  case run =>
    unfold midProg
    iintro ⟨H2, H3, H4, H5, H6, H7, H8, H13, H14, H15, H16, Hk⟩
    sl_exec
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    iexact H16

end Cert.FoxIdeal.Body

end
-- ==== Proof.FoxIdeal.OutB.lean ====
/-
  The backward pass of the forgetting attention: the body of one grid point; a run of its third part.
-/
module

public import proofs.«01_k».proof.Proof.FoxIdeal.Split

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

set_option maxHeartbeats 1000000 in
/-- The third part of the body, where the query gradient is not written out: what it leaves in the results is what the run finds. -/
noncomputable def outB (c : Dev nD) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (f13 : BufTy.Contents (Elt F) a13.view.ty) (f14 : BufTy.Contents (Elt F) a14.view.ty) (f15 : BufTy.Contents (Elt F) a15.view.ty) (f16 : BufTy.Contents (Elt F) a16.view.ty) :
    Σ' (L10 : List (View.Piece (Elt F) S512x128 .f32)) (L11 : List (View.Piece (Elt F) S512x128 .f32)), { L12 : List (View.Piece (Elt F) S2x1x512 .f32) //
      ∀ (E : Set ℕ) (K : PUnit → sProp 𝕄),
        iprop((∃ d, owns (c : Thread nD τ) a10 fullShare d) ∗ (∃ d, owns (c : Thread nD τ) a11 fullShare d) ∗ (∃ d, owns (c : Thread nD τ) a12 fullShare d) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)
            ∗ (iprop((∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)) -∗ K ⟨⟩))
          ⊢ wp frame (wpE (defs₀ (F := F)) Variants.none c none) E (outProg i a2 q2 a3 q3 a4 q4 a5 q5 a6 q6 a7 q7 a8 q8 a9 q9 a10 q10 a11 q11 a12 q12 a13 q13 a14 q14 a15 q15 a16 q16) K } := by
  refine ⟨?_, ?_, ?_, fun E K => ?run⟩
  case run =>
    unfold outProg
    unfold owns
    iintro ⟨⟨%d10, %f10, -, H10⟩, ⟨%d11, %f11, -, H11⟩, ⟨%d12, %f12, -, H12⟩, H13, H14, H15, H16, Hk⟩
    sl_exec
    sl_step
    iapply Hk
    isplitl [H10]; · iexists _; iexact H10
    isplitl [H11]; · iexists _; iexact H11
    isplitl [H12]; · iexists _; iexact H12
    isplitl [H13]; · iexact H13
    isplitl [H14]; · iexact H14
    isplitl [H15]; · iexact H15
    iexact H16

end Cert.FoxIdeal.Body

end
-- ==== Proof.FoxIdeal.OutC.lean ====
/-
  The backward pass of the forgetting attention: the body of one grid point; a run of its third part.
-/
module

public import proofs.«01_k».proof.Proof.FoxIdeal.Split

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

set_option maxHeartbeats 1000000 in
/-- The third part of the body, where the query gradient is written out: what it leaves in the results is what the run finds. -/
noncomputable def outC (c : Dev nD) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (f13 : BufTy.Contents (Elt F) a13.view.ty) (f14 : BufTy.Contents (Elt F) a14.view.ty) (f15 : BufTy.Contents (Elt F) a15.view.ty) (f16 : BufTy.Contents (Elt F) a16.view.ty) :
    Σ' (L9 : List (View.Piece (Elt F) S4096x128 .f32)) (L10 : List (View.Piece (Elt F) S512x128 .f32)) (L11 : List (View.Piece (Elt F) S512x128 .f32)), { L12 : List (View.Piece (Elt F) S2x1x512 .f32) //
      ∀ (E : Set ℕ) (K : PUnit → sProp 𝕄),
        iprop((∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)
            ∗ (iprop((∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)) -∗ K ⟨⟩))
          ⊢ wp frame (wpE (defs₀ (F := F)) Variants.none c none) E (outProg i a2 q2 a3 q3 a4 q4 a5 q5 a6 q6 a7 q7 a8 q8 a9 q9 a10 q10 a11 q11 a12 q12 a13 q13 a14 q14 a15 q15 a16 q16) K } := by
  refine ⟨?_, ?_, ?_, ?_, fun E K => ?run⟩
  case run =>
    unfold outProg
    unfold owns
    iintro ⟨⟨%d9, %f9, -, H9⟩, ⟨%d10, %f10, -, H10⟩, ⟨%d11, %f11, -, H11⟩, ⟨%d12, %f12, -, H12⟩, H13, H14, H15, H16, Hk⟩
    sl_exec
    sl_step
    iapply Hk
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    iexact H16

end Cert.FoxIdeal.Body

end
-- ==== Proof.FoxIdeal.Loose.lean ====
/-
  The backward pass of the forgetting attention: the whole body of one grid point, its results at some contents.
-/
module

public import proofs.«01_k».proof.Proof.FoxIdeal.HeadA
public import proofs.«01_k».proof.Proof.FoxIdeal.HeadB
public import proofs.«01_k».proof.Proof.FoxIdeal.Mid
public import proofs.«01_k».proof.Proof.FoxIdeal.OutB
public import proofs.«01_k».proof.Proof.FoxIdeal.OutC

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

/-- The third part of the body leaves the accumulators and the results at some contents. -/
theorem out_loose (c : Dev nD) (E : Set ℕ) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) :
    (iprop((∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) : sProp 𝕄) ⊢ wp frame (wpE (defs₀ (F := F)) Variants.none c none) E (outProg i a2 q2 a3 q3 a4 q4 a5 q5 a6 q6 a7 q7 a8 q8 a9 q9 a10 q10 a11 q11 a12 q12 a13 q13 a14 q14 a15 q15 a16 q16) (fun _ => iprop((∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d))) := by
  by_cases h2 : k0_cond2 i = 1#1
  · iintro ⟨H9, H10, H11, H12, ⟨%d13, H13⟩, ⟨%d14, H14⟩, ⟨%d15, H15⟩, ⟨%d16, H16⟩⟩
    unfold owns
    icases H13 with ⟨%f13, %hf13, H13⟩
    icases H14 with ⟨%f14, %hf14, H14⟩
    icases H15 with ⟨%f15, %hf15, H15⟩
    icases H16 with ⟨%f16, %hf16, H16⟩
    iapply ((outC (F := F) c i h2 a2 q2 a3 q3 a4 q4 a5 q5 a6 q6 a7 q7 a8 q8 a9 q9 a10 q10 a11 q11 a12 q12 a13 q13 a14 q14 a15 q15 a16 q16 f13 f14 f15 f16).2.2.2.2 E _)
    isplitl [H9]; · unfold owns; iexact H9
    isplitl [H10]; · unfold owns; iexact H10
    isplitl [H11]; · unfold owns; iexact H11
    isplitl [H12]; · unfold owns; iexact H12
    isplitl [H13]; · iexact H13
    isplitl [H14]; · iexact H14
    isplitl [H15]; · iexact H15
    isplitl [H16]; · iexact H16
    iintro ⟨⟨%g9, H9⟩, ⟨%g10, H10⟩, ⟨%g11, H11⟩, ⟨%g12, H12⟩, H13, H14, H15, H16⟩
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl
  · iintro ⟨H9, H10, H11, H12, ⟨%d13, H13⟩, ⟨%d14, H14⟩, ⟨%d15, H15⟩, ⟨%d16, H16⟩⟩
    unfold owns
    icases H13 with ⟨%f13, %hf13, H13⟩
    icases H14 with ⟨%f14, %hf14, H14⟩
    icases H15 with ⟨%f15, %hf15, H15⟩
    icases H16 with ⟨%f16, %hf16, H16⟩
    iapply ((outB (F := F) c i h2 a2 q2 a3 q3 a4 q4 a5 q5 a6 q6 a7 q7 a8 q8 a9 q9 a10 q10 a11 q11 a12 q12 a13 q13 a14 q14 a15 q15 a16 q16 f13 f14 f15 f16).2.2.2 E _)
    isplitl [H10]; · unfold owns; iexact H10
    isplitl [H11]; · unfold owns; iexact H11
    isplitl [H12]; · unfold owns; iexact H12
    isplitl [H13]; · iexact H13
    isplitl [H14]; · iexact H14
    isplitl [H15]; · iexact H15
    isplitl [H16]; · iexact H16
    iintro ⟨⟨%g10, H10⟩, ⟨%g11, H11⟩, ⟨%g12, H12⟩, H13, H14, H15, H16⟩
    isplitl [H9]
    · iexact H9
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl

/-- The second and the third part of the body leave the accumulators and the results at some contents. -/
theorem rest_loose (c : Dev nD) (E : Set ℕ) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec F S2x4096x64 .bf16) (x3 : Vec F S2x512x64 .bf16) (x4 : Vec F S2x512x64 .bf16) (x5 : Vec F S2x4096x64 .bf16) (x6 : Vec F S2x4096x64 .f32) (x7 : Vec F S2x4096x64 .f32) (x8 : Vec F S2x1x4096 .f32) (a1 : BitVec 32) (v1 : BitVec 32) (v21 : FVec F S64x512 .bf16) (v24 : FVec F S64x512 .bf16) (v172 : FVec F S1x512 .f32) (v173 : FVec F S512 .f32) :
    (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) : sProp 𝕄) ⊢ wp frame (wpE (defs₀ (F := F)) Variants.none c none) E (midProg i a2 q2 a3 q3 a4 q4 a5 q5 a6 q6 a7 q7 a8 q8 a9 q9 a10 q10 a11 q11 a12 q12 a13 q13 a14 q14 a15 q15 a16 q16 a1 v1 v21 v24 v172 v173 >>= fun _ => outProg i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) : sProp 𝕄)) := by
  rw [wp_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, H12, ⟨%d13, %f13, -, H13⟩, ⟨%d14, %f14, -, H14⟩, ⟨%d15, %f15, -, H15⟩, ⟨%d16, %f16, -, H16⟩⟩
  iapply ((midRun (F := F) c i a2 q2 a3 q3 a4 q4 a5 q5 a6 q6 a7 q7 a8 q8 a9 q9 a10 q10 a11 q11 a12 q12 a13 q13 a14 q14 a15 q15 a16 q16 f2 f3 f4 f5 f6 f7 f8 a1 v1 v21 v24 v172 v173 f13 f14 f15 f16).2.2.2.2 E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  iintro ⟨H2, H3, H4, H5, H6, H7, H8, H13, H14, H15, H16⟩
  iapply (wp_wand_r Idealize.ShloMosaic.frame (wpE (defs₀ (F := F)) Variants.none c none) E)
  isplitl [H9 H10 H11 H12 H13 H14 H15 H16]
  · iapply (out_loose c E i a2 q2 a3 q3 a4 q4 a5 q5 a6 q6 a7 q7 a8 q8 a9 q9 a10 q10 a11 q11 a12 q12 a13 q13 a14 q14 a15 q15 a16 q16)
    unfold owns
    isplitl [H9]; · iexact H9
    isplitl [H10]; · iexact H10
    isplitl [H11]; · iexact H11
    isplitl [H12]; · iexact H12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl
  · iintro %_ ⟨H9, H10, H11, H12, H13, H14, H15, H16⟩
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _; isplitr
      swap; · iexact H7
      ipureintro; exact hf7
    isplitl [H8]
    · iexists _; isplitr
      swap; · iexact H8
      ipureintro; exact hf8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body leaves what it reads as it was, and the accumulators and the results at some contents. -/
theorem body_loose (c : Dev nD) (E : Set ℕ) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec F S2x4096x64 .bf16) (x3 : Vec F S2x512x64 .bf16) (x4 : Vec F S2x512x64 .bf16) (x5 : Vec F S2x4096x64 .bf16) (x6 : Vec F S2x4096x64 .f32) (x7 : Vec F S2x4096x64 .f32) (x8 : Vec F S2x1x4096 .f32) :
    (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) : sProp 𝕄) ⊢ wp frame (wpE (defs₀ (F := F)) Variants.none c none) E (cc0_attn_b_bwd (F := F) i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)) : sProp 𝕄)) := by
  rw [body_split, wp_bind]
  by_cases h1 : firstCond i = 1#1
  · iintro ⟨H2, H3, H4, H5, H6, H7, H8, H9, H10, H11, H12, ⟨%d13, H13⟩, H14, H15, H16⟩
    iapply ((headA (F := F) c i h1 a2 q2 a3 q3 a4 q4 a5 q5 a6 q6 a7 q7 a8 q8 a9 q9 a10 q10 a11 q11 a12 q12 a13 q13 a14 q14 a15 q15 a16 q16 x2 x3 x4 x5 x6 x7 x8 d13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    iintro ⟨H2, H3, H4, H5, H6, H7, H8, ⟨%f13, H13⟩, ⟨%f14, H14⟩, ⟨%f15, H15⟩, ⟨%f16, H16⟩⟩
    iapply (rest_loose c E i a2 q2 a3 q3 a4 q4 a5 q5 a6 q6 a7 q7 a8 q8 a9 q9 a10 q10 a11 q11 a12 q12 a13 q13 a14 q14 a15 q15 a16 q16 x2 x3 x4 x5 x6 x7 x8)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; unfold owns; iexists _; isplitr
      swap; · iexact H13
      ipureintro; rfl
    isplitl [H14]
    · iexists _; unfold owns; iexists _; isplitr
      swap; · iexact H14
      ipureintro; rfl
    isplitl [H15]
    · iexists _; unfold owns; iexists _; isplitr
      swap; · iexact H15
      ipureintro; rfl
    iexists _; unfold owns; iexists _; isplitr
    swap; · iexact H16
    ipureintro; rfl
  · iintro ⟨H2, H3, H4, H5, H6, H7, H8, H9, H10, H11, H12, ⟨%d13, H13⟩, H14, H15, H16⟩
    iapply ((headB (F := F) c i h1 a2 q2 a3 q3 a4 q4 a5 q5 a6 q6 a7 q7 a8 q8 a9 q9 a10 q10 a11 q11 a12 q12 a13 q13 a14 q14 a15 q15 a16 q16 x2 x3 x4 x5 x6 x7 x8 d13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    iintro ⟨H2, H3, H4, H5, H6, H7, H8, H13, ⟨%f14, H14⟩, ⟨%f15, H15⟩, ⟨%f16, H16⟩⟩
    iapply (rest_loose c E i a2 q2 a3 q3 a4 q4 a5 q5 a6 q6 a7 q7 a8 q8 a9 q9 a10 q10 a11 q11 a12 q12 a13 q13 a14 q14 a15 q15 a16 q16 x2 x3 x4 x5 x6 x7 x8)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; unfold owns; iexists _; isplitr
      swap; · iexact H13
      ipureintro; rfl
    isplitl [H14]
    · iexists _; unfold owns; iexists _; isplitr
      swap; · iexact H14
      ipureintro; rfl
    isplitl [H15]
    · iexists _; unfold owns; iexists _; isplitr
      swap; · iexact H15
      ipureintro; rfl
    iexists _; unfold owns; iexists _; isplitr
    swap; · iexact H16
    ipureintro; rfl

end Cert.FoxIdeal.Body

end
-- ==== Proof.FoxIdeal.Frame.lean ====
/-
  The backward pass of the forgetting attention: every run of the program ends and leaves its arguments as they were.
-/
module

public import proofs.«01_k».proof.Proof.FoxIdeal.Loose
public import Idealize.ShloMosaic.Lib.Claim

@[expose] public section

set_option maxRecDepth 16384

noncomputable section

namespace Cert.FoxIdeal.Loose

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The accumulators, as whole buffers. -/
abbrev sc0 := Memref.whole cc0_scratch0
abbrev sc1 := Memref.whole cc0_scratch1
abbrev sc2 := Memref.whole cc0_scratch2
abbrev sc3 := Memref.whole cc0_scratch3

/-- What lies between two grid points: the accumulators at some contents, and the generator. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The results' windows: what the body leaves there is not named. -/
def forgets (w : Fin cfg0.W) : Bool := decide (7 ≤ w.val)

/-- The proof data: the inputs' blocks stay as they are, the results are not named, and between two grid points
    the accumulators hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
    | ⟨8, _⟩ => Dat.unnamed 8 t
    | ⟨9, _⟩ => Dat.unnamed 9 t
    | ⟨10, _⟩ => Dat.unnamed 10 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a grid point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨HSS, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  icases HSS with ⟨HS0, HS1, HS2, HS3⟩
  iapply (wp_wand_r Idealize.ShloMosaic.frame (wpE (defs₀ (F := F)) Variants.none c none) Set.univ)
  isplitl [H0 H1 H2 H3 H4 H5 H6 H7 H8 H9 H10 HS0 HS1 HS2 HS3]
  · iapply (Body.body_loose (F := F) c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iexact HS3
  · iintro %_ ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => (Pipeline.RDat.FramePost cfg0 (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- Every run ends, with the argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩) (run_main_quiescent m ρ)

end Cert.FoxIdeal.Loose

end
-- ==== Proof.FoxIdeal.Math.lean ====
/-
The numbers the gradient works with: reads of a buffer at natural-number coordinates, the masked score of a
query row against a key, its weight, and what one block of 512 query rows adds to each gradient.
-/
module

public import Idealize.ShloMosaic.Lib.Pointwise
public import Idealize.ShloMosaic.Lib.VecWindow
public import proofs.«01_k».proof.Proof.FoxIdeal.Mid

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

/-- The entry of a rank-3 array at natural-number coordinates (taken modulo the sizes). -/
def rd {a b d : ℕ} [NeZero a] [NeZero b] [NeZero d] (x : (⟨3, ![a, b, d]⟩ : Shape).Idx → EReal) (p q r : ℕ) : EReal :=
  x (ix3 (Fin.ofNat a p) (Fin.ofNat b q) (Fin.ofNat d r))

theorem rd_eq {a b d : ℕ} [NeZero a] [NeZero b] [NeZero d] (x : (⟨3, ![a, b, d]⟩ : Shape).Idx → EReal) (p q r : ℕ)
    (y : (⟨3, ![a, b, d]⟩ : Shape).Idx) (h0 : (y 0).val = p) (h1 : (y 1).val = q) (h2 : (y 2).val = r) :
    x y = rd x p q r := by
  subst h0; subst h1; subst h2
  refine congrArg x ?_
  rw [eq_ix3 y]
  refine congr (congr (congrArg _ ?_) ?_) ?_ <;> refine Fin.ext ?_
  · exact (Nat.mod_eq_of_lt (y 0).isLt).symm
  · exact (Nat.mod_eq_of_lt (y 1).isLt).symm
  · exact (Nat.mod_eq_of_lt (y 2).isLt).symm

theorem rd_ix3 {a b d : ℕ} [NeZero a] [NeZero b] [NeZero d] (x : (⟨3, ![a, b, d]⟩ : Shape).Idx → EReal)
    (p : Fin a) (q : Fin b) (r : Fin d) : rd x p q r = x (ix3 p q r) := (rd_eq x _ _ _ (ix3 p q r) rfl rfl rfl).symm

/-- A load of part of a buffer of `f32` values, at natural-number coordinates. -/
theorem readAt_f32 {κ : Kind} {sp : Space} {a b d : ℕ} [NeZero a] [NeZero b] [NeZero d]
    (v : View sig κ sp ⟨3, ![a, b, d]⟩ .f32) (f : v.ty.Contents (Elt Ideal)) {off off' size : Fin 3 → ℕ}
    (inb : ∀ k, off k + size k ≤ (⟨3, ![a, b, d]⟩ : Shape).size k) (heq : off = off')
    (x : (Rect.unit (s := ⟨3, ![a, b, d]⟩) off size inb).shape.Idx) :
    View.readAt (Elt Ideal) v (Rect.unit (s := ⟨3, ![a, b, d]⟩) off size inb).toLoadRect f x
      = rd (View.read (Elt Ideal) v f) (off' 0 + (x 0).val) (off' 1 + (x 1).val) (off' 2 + (x 2).val) := by
  subst heq
  refine rd_eq (View.read (Elt Ideal) v f) _ _ _ ((Rect.unit (s := ⟨3, ![a, b, d]⟩) off size inb).emb x) ?_ ?_ ?_
  · show off 0 + 1 * (x 0).val = _; omega
  · show off 1 + 1 * (x 1).val = _; omega
  · show off 2 + 1 * (x 2).val = _; omega

/-- A load of part of a buffer of `bf16` values, at natural-number coordinates. -/
theorem readAt_bf16 {κ : Kind} {sp : Space} {a b d : ℕ} [NeZero a] [NeZero b] [NeZero d]
    (v : View sig κ sp ⟨3, ![a, b, d]⟩ .bf16) (f : v.ty.Contents (Elt Ideal)) {off off' size : Fin 3 → ℕ}
    (inb : ∀ k, off k + size k ≤ (⟨3, ![a, b, d]⟩ : Shape).size k) (heq : off = off')
    (x : (Rect.unit (s := ⟨3, ![a, b, d]⟩) off size inb).shape.Idx) :
    View.readAt (Elt Ideal) v (Rect.unit (s := ⟨3, ![a, b, d]⟩) off size inb).toLoadRect f x
      = rd (View.read (Elt Ideal) v f) (off' 0 + (x 0).val) (off' 1 + (x 1).val) (off' 2 + (x 2).val) := by
  subst heq
  refine rd_eq (View.read (Elt Ideal) v f) _ _ _ ((Rect.unit (s := ⟨3, ![a, b, d]⟩) off size inb).emb x) ?_ ?_ ?_
  · show off 0 + 1 * (x 0).val = _; omega
  · show off 1 + 1 * (x 1).val = _; omega
  · show off 2 + 1 * (x 2).val = _; omega

theorem readAt_f32' {κ : Kind} {sp : Space} {a b d : ℕ} [NeZero a] [NeZero b] [NeZero d]
    (v : View sig κ sp ⟨3, ![a, b, d]⟩ .f32) (f : v.ty.Contents (Elt Ideal)) {off size : Fin 3 → ℕ}
    (inb : ∀ k, off k + size k ≤ (⟨3, ![a, b, d]⟩ : Shape).size k)
    (x : (Rect.unit (s := ⟨3, ![a, b, d]⟩) off size inb).shape.Idx) :
    View.readAt (Elt Ideal) v (Rect.unit (s := ⟨3, ![a, b, d]⟩) off size inb).toLoadRect f x
      = rd (View.read (Elt Ideal) v f) (off 0 + (x 0).val) (off 1 + (x 1).val) (off 2 + (x 2).val) :=
  readAt_f32 v f inb rfl x

theorem readAt_bf16' {κ : Kind} {sp : Space} {a b d : ℕ} [NeZero a] [NeZero b] [NeZero d]
    (v : View sig κ sp ⟨3, ![a, b, d]⟩ .bf16) (f : v.ty.Contents (Elt Ideal)) {off size : Fin 3 → ℕ}
    (inb : ∀ k, off k + size k ≤ (⟨3, ![a, b, d]⟩ : Shape).size k)
    (x : (Rect.unit (s := ⟨3, ![a, b, d]⟩) off size inb).shape.Idx) :
    View.readAt (Elt Ideal) v (Rect.unit (s := ⟨3, ![a, b, d]⟩) off size inb).toLoadRect f x
      = rd (View.read (Elt Ideal) v f) (off 0 + (x 0).val) (off 1 + (x 1).val) (off 2 + (x 2).val) :=
  readAt_bf16 v f inb rfl x

/-- What one point of the grid reads: the queries, its block of keys and of values, the cotangents, the log-sums, the
row sums, and the accumulated log-gates; all for two heads. -/
structure In where
  q : S2x4096x64.Idx → EReal
  k : S2x512x64.Idx → EReal
  v : S2x512x64.Idx → EReal
  o : S2x4096x64.Idx → EReal
  l : S2x4096x64.Idx → EReal
  D : S2x4096x64.Idx → EReal
  g : S2x1x4096.Idx → EReal

namespace In
variable (S : In) (h J B : ℕ)

/-- The score of row `B + r` against key `J + c`: masked above the diagonal. -/
def sc (r c : ℕ) : EReal :=
  if J + c ≤ B + r then (∑ d : Fin 64, rd S.q h (B + r) d * rd S.k h c d) + (rd S.g h 0 B - rd S.g h 0 (J + c)) else ⊥
/-- Its weight. -/
def p (r c : ℕ) : EReal := Ideal.exp (S.sc h J B r c - rd S.l h (B + r) 0)
/-- The gradient of the score. -/
def ds (r c : ℕ) : EReal := S.p h J B r c * ((∑ d : Fin 64, rd S.o h (B + r) d * rd S.v h c d) - rd S.D h (B + r) 0)
/-- What the block of rows adds to the gradient of the values. -/
def bv (d c : ℕ) : EReal := ∑ r : Fin 512, rd S.o h (B + r) d * S.p h J B r c
/-- What the block of rows adds to the gradient of the keys. -/
def bk (d c : ℕ) : EReal := ∑ r : Fin 512, rd S.q h (B + r) d * S.ds h J B r c
/-- What the block of rows takes from the gradient of the accumulated log-gates. -/
def bc (c : ℕ) : EReal := ∑ r : Fin 512, S.ds h J B r c
/-- What the block of keys adds to the gradient of the queries. -/
def bq (d r : ℕ) : EReal := ∑ c : Fin 512, rd S.k h c d * S.ds h J B r c
end In

/-- The arrays one point reads, from the contents of the buffers. -/
def inOf {a2 : Memref sig .tc .vmem S2x4096x64 .bf16} {a3 : Memref sig .tc .vmem S2x512x64 .bf16} {a4 : Memref sig .tc .vmem S2x512x64 .bf16} {a5 : Memref sig .tc .vmem S2x4096x64 .bf16} {a6 : Memref sig .tc .vmem S2x4096x64 .f32} {a7 : Memref sig .tc .vmem S2x4096x64 .f32} {a8 : Memref sig .tc .vmem S2x1x4096 .f32}
    (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) : In :=
  ⟨a2.view.read (Elt Ideal) X2, a3.view.read (Elt Ideal) X3, a4.view.read (Elt Ideal) X4, a5.view.read (Elt Ideal) X5, a6.view.read (Elt Ideal) X6, a7.view.read (Elt Ideal) X7, a8.view.read (Elt Ideal) X8⟩

end Cert.FoxIdeal.Math
end
-- ==== Proof.FoxIdeal.HeadSum.lean ====
/-
What the first part of the body (the diagonal block of rows) leaves in the four running sums.
-/
module

public import proofs.«01_k».proof.Proof.FoxIdeal.Math
public import proofs.«01_k».proof.Proof.FoxIdeal.HeadA
public import proofs.«01_k».proof.Proof.FoxIdeal.HeadB
public import Idealize.ShloMosaic.Lib.WritesUnit

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

/-- The diagonal mask: the comparison of the two iotas is the comparison of the coordinates. -/
theorem mask_sel (c r : ℕ) (hc : c < 512) (hr : r < 512) (a b : EReal) :
    Scalar.select (IntOp.cmpi .sle (BitVec.ofNat 32 c) (BitVec.ofNat 32 r)) a b = if c ≤ r then a else b := by
  have e1 : (BitVec.ofNat 32 c).toInt = (c : Int) := by
    have hn : (BitVec.ofNat 32 c).toNat = c := by rw [BitVec.toNat_ofNat]; omega
    rw [BitVec.toInt_eq_toNat_of_lt (by omega), hn]
  have e2 : (BitVec.ofNat 32 r).toInt = (r : Int) := by
    have hn : (BitVec.ofNat 32 r).toNat = r := by rw [BitVec.toNat_ofNat]; omega
    rw [BitVec.toInt_eq_toNat_of_lt (by omega), hn]
  by_cases h : c ≤ r
  · simp [Scalar.select, IntOp.cmpi, BitVec.sle, e1, e2, h]
  · simp [Scalar.select, IntOp.cmpi, BitVec.sle, e1, e2, h]

/-- The mask's constant is minus infinity. -/
theorem named_mask (b : BitVec FTy.f32.bits) : Named.named (F := Ideal) (φ := .f32) κ "mask" b = (⊥ : EReal) := by
  rfl

/-- Clearing a whole buffer and reading it back gives zero. -/
theorem rd_cleared {κ : Kind} {sp : Space} {a b d : ℕ} [NeZero a] [NeZero b] [NeZero d] (v : View sig κ sp ⟨3, ![a, b, d]⟩ .f32)
    (f : v.ty.Contents (Elt Ideal)) {off : Fin 3 → ℕ} (inb : ∀ k, off k + (⟨3, ![a, b, d]⟩ : Shape).size k ≤ (⟨3, ![a, b, d]⟩ : Shape).size k)
    (w : (Rect.unit (s := ⟨3, ![a, b, d]⟩) off (⟨3, ![a, b, d]⟩ : Shape).size inb).shape.Idx → Elt Ideal .f32) (h0 : off = ![0, 0, 0]) (hw : ∀ y, w y = (0 : EReal)) (p q r : ℕ) :
    rd (View.read (Elt Ideal) v (v.writes (Elt Ideal) f [⟨Rect.unit (s := ⟨3, ![a, b, d]⟩) off (⟨3, ![a, b, d]⟩ : Shape).size inb, w⟩])) p q r = 0 := by
  refine (View.read_writes_cons_unit_of_mem v f inb w [] (ix3 (Fin.ofNat a p) (Fin.ofNat b q) (Fin.ofNat d r))
    (ix3 (Fin.ofNat a p) (Fin.ofNat b q) (Fin.ofNat d r)) h0 (by intro k; fin_cases k <;> simp)).trans (hw _)

/-- What was written for head 0 is not read for head 1. -/
theorem rd_other {κ : Kind} {sp : Space} {b d : ℕ} [NeZero b] [NeZero d] (v : View sig κ sp ⟨3, ![2, b, d]⟩ .f32)
    (f : v.ty.Contents (Elt Ideal)) {off size : Fin 3 → ℕ} (inb : ∀ k, off k + size k ≤ (⟨3, ![2, b, d]⟩ : Shape).size k)
    (w : (Rect.unit (s := ⟨3, ![2, b, d]⟩) off size inb).shape.Idx → Elt Ideal .f32) (L : List (View.Piece (Elt Ideal) ⟨3, ![2, b, d]⟩ .f32))
    (h0 : off 0 + size 0 ≤ 1) (p q r : ℕ) (hp : p = 1) :
    rd (View.read (Elt Ideal) v (v.writes (Elt Ideal) f (⟨Rect.unit (s := ⟨3, ![2, b, d]⟩) off size inb, w⟩ :: L))) p q r
      = rd (View.read (Elt Ideal) v (v.writes (Elt Ideal) f L)) 1 q r := by
  subst hp
  exact View.read_writes_cons_unit_of_not_mem v f inb w L _ rfl (0 : Fin 3) (Or.inr (by simpa using h0))

theorem headA13_1 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a13.view.ty.Contents (Elt Ideal)) (y : S2x64x4096.Idx) (h0 : (y 0).val = 1) (r : ℕ) (hr : r < 512) (h2 : (y 2).val = 512 * (i 1).val + r) :
    (a13.view.read (Elt Ideal) (a13.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = (In.mk x2 x3 x4 x5 x6 x7 x8).bq 1 (512 * (i 1).val) (512 * (i 1).val) (y 1).val r := by
  unfold Body.headA
  dsimp only
  sl_unfold_run_names
  have hy1 := (y 1).isLt; change _ < 64 at hy1
  refine (View.read_writes_cons_unit_of_mem _ _ _ _ _ y (ix3 0 ⟨(y 1).val, hy1⟩ ⟨r, hr⟩) (k0_off8_eq i)
    (by intro a; fin_cases a <;> simp [h0, h2])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_other _ _ _ _ _ (by simp [k0_off4_eq i]) _ _ _ (by simp)).trans (rd_cleared _ _ _ _ rfl (fun _ => rfl) _ _ _))).trans ?_
  simp [mask_sel, named_mask, hr]

theorem headA13_0 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a13.view.ty.Contents (Elt Ideal)) (y : S2x64x4096.Idx) (h0 : (y 0).val = 0) (r : ℕ) (hr : r < 512) (h2 : (y 2).val = 512 * (i 1).val + r) :
    (a13.view.read (Elt Ideal) (a13.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = (In.mk x2 x3 x4 x5 x6 x7 x8).bq 0 (512 * (i 1).val) (512 * (i 1).val) (y 1).val r := by
  unfold Body.headA
  dsimp only
  sl_unfold_run_names
  have hy1 := (y 1).isLt; change _ < 64 at hy1
  refine (View.read_writes_cons_unit_of_not_mem _ _ _ _ _ y (k0_off8_eq i) 0 (Or.inl (by simp [h0]))).trans ?_
  refine (View.read_writes_cons_unit_of_mem _ _ _ _ _ y (ix3 0 ⟨(y 1).val, hy1⟩ ⟨r, hr⟩) (k0_off4_eq i)
    (by intro a; fin_cases a <;> simp [h0, h2])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_cleared _ _ _ _ rfl (fun _ => rfl) _ _ _))).trans ?_
  simp [mask_sel, named_mask, hr]

theorem headA14_1 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) (h0 : (y 0).val = 1) :
    (a14.view.read (Elt Ideal) (a14.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal) = (In.mk x2 x3 x4 x5 x6 x7 x8).bk 1 (512 * (i 1).val) (512 * (i 1).val) (y 1).val (y 2).val := by
  unfold Body.headA
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_other _ _ _ _ _ (by simp) _ _ _ (by simp)).trans (rd_cleared _ _ _ _ rfl (fun _ => rfl) _ _ _))).trans ?_
  simp [mask_sel, named_mask, hy2]

theorem headA14_0 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) (h0 : (y 0).val = 0) :
    (a14.view.read (Elt Ideal) (a14.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal) = (In.mk x2 x3 x4 x5 x6 x7 x8).bk 0 (512 * (i 1).val) (512 * (i 1).val) (y 1).val (y 2).val := by
  unfold Body.headA
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_cleared _ _ _ _ rfl (fun _ => rfl) _ _ _))).trans ?_
  simp [mask_sel, named_mask, hy2]

theorem headA15_1 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) (h0 : (y 0).val = 1) :
    (a15.view.read (Elt Ideal) (a15.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal) = (In.mk x2 x3 x4 x5 x6 x7 x8).bv 1 (512 * (i 1).val) (512 * (i 1).val) (y 1).val (y 2).val := by
  unfold Body.headA
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_other _ _ _ _ _ (by simp) _ _ _ (by simp)).trans (rd_cleared _ _ _ _ rfl (fun _ => rfl) _ _ _))).trans ?_
  simp [mask_sel, named_mask, hy2]

theorem headA15_0 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) (h0 : (y 0).val = 0) :
    (a15.view.read (Elt Ideal) (a15.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal) = (In.mk x2 x3 x4 x5 x6 x7 x8).bv 0 (512 * (i 1).val) (512 * (i 1).val) (y 1).val (y 2).val := by
  unfold Body.headA
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_cleared _ _ _ _ rfl (fun _ => rfl) _ _ _))).trans ?_
  simp [mask_sel, named_mask, hy2]

theorem headA16_0 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a16.view.ty.Contents (Elt Ideal)) (y : S2x1x512.Idx) (h0 : (y 0).val = 0) :
    (a16.view.read (Elt Ideal) (a16.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.1)) y : EReal) = -(In.mk x2 x3 x4 x5 x6 x7 x8).bc 0 (512 * (i 1).val) (512 * (i 1).val) (y 2).val := by
  unfold Body.headA
  dsimp only
  sl_unfold_run_names
  have hy1 := (y 1).isLt; change _ < 1 at hy1
  have hy2 := (y 2).isLt; change _ < 512 at hy2
  have hz : (y 1).val = 0 := by omega
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· - _) ((rd_cleared _ _ _ _ rfl (fun _ => rfl) _ _ _))).trans ?_
  simp [mask_sel, named_mask, hy2]

theorem headB13_1 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (y : S2x64x4096.Idx) (h0 : (y 0).val = 1) (r : ℕ) (hr : r < 512) (h2 : (y 2).val = 512 * (i 1).val + r) :
    (a13.view.read (Elt Ideal) (a13.view.writes (Elt Ideal) (q13.unread x13) ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = x13 y + (In.mk x2 x3 x4 x5 x6 x7 x8).bq 1 (512 * (i 1).val) (512 * (i 1).val) (y 1).val r := by
  unfold Body.headB
  dsimp only
  sl_unfold_run_names
  have hy1 := (y 1).isLt; change _ < 64 at hy1
  refine (View.read_writes_cons_unit_of_mem _ _ _ _ _ y (ix3 0 ⟨(y 1).val, hy1⟩ ⟨r, hr⟩) (k0_off8_eq i)
    (by intro a; fin_cases a <;> simp [h0, h2])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  rw [rd_eq x13 1 _ _ y h0 rfl h2]
  simp [mask_sel, named_mask, hr]

theorem headB13_0 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (y : S2x64x4096.Idx) (h0 : (y 0).val = 0) (r : ℕ) (hr : r < 512) (h2 : (y 2).val = 512 * (i 1).val + r) :
    (a13.view.read (Elt Ideal) (a13.view.writes (Elt Ideal) (q13.unread x13) ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = x13 y + (In.mk x2 x3 x4 x5 x6 x7 x8).bq 0 (512 * (i 1).val) (512 * (i 1).val) (y 1).val r := by
  unfold Body.headB
  dsimp only
  sl_unfold_run_names
  have hy1 := (y 1).isLt; change _ < 64 at hy1
  refine (View.read_writes_cons_unit_of_not_mem _ _ _ _ _ y (k0_off8_eq i) 0 (Or.inl (by simp [h0]))).trans ?_
  refine (View.read_writes_cons_unit_of_mem _ _ _ _ _ y (ix3 0 ⟨(y 1).val, hy1⟩ ⟨r, hr⟩) (k0_off4_eq i)
    (by intro a; fin_cases a <;> simp [h0, h2])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  rw [rd_eq x13 0 _ _ y h0 rfl h2]
  simp [mask_sel, named_mask, hr]

theorem headB14_1 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) (h0 : (y 0).val = 1) :
    (a14.view.read (Elt Ideal) (a14.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal) = (In.mk x2 x3 x4 x5 x6 x7 x8).bk 1 (512 * (i 1).val) (512 * (i 1).val) (y 1).val (y 2).val := by
  unfold Body.headB
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_other _ _ _ _ _ (by simp) _ _ _ (by simp)).trans (rd_cleared _ _ _ _ rfl (fun _ => rfl) _ _ _))).trans ?_
  simp [mask_sel, named_mask, hy2]

theorem headB14_0 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) (h0 : (y 0).val = 0) :
    (a14.view.read (Elt Ideal) (a14.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal) = (In.mk x2 x3 x4 x5 x6 x7 x8).bk 0 (512 * (i 1).val) (512 * (i 1).val) (y 1).val (y 2).val := by
  unfold Body.headB
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_cleared _ _ _ _ rfl (fun _ => rfl) _ _ _))).trans ?_
  simp [mask_sel, named_mask, hy2]

theorem headB15_1 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) (h0 : (y 0).val = 1) :
    (a15.view.read (Elt Ideal) (a15.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal) = (In.mk x2 x3 x4 x5 x6 x7 x8).bv 1 (512 * (i 1).val) (512 * (i 1).val) (y 1).val (y 2).val := by
  unfold Body.headB
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_other _ _ _ _ _ (by simp) _ _ _ (by simp)).trans (rd_cleared _ _ _ _ rfl (fun _ => rfl) _ _ _))).trans ?_
  simp [mask_sel, named_mask, hy2]

theorem headB15_0 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) (h0 : (y 0).val = 0) :
    (a15.view.read (Elt Ideal) (a15.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal) = (In.mk x2 x3 x4 x5 x6 x7 x8).bv 0 (512 * (i 1).val) (512 * (i 1).val) (y 1).val (y 2).val := by
  unfold Body.headB
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· + _) ((rd_cleared _ _ _ _ rfl (fun _ => rfl) _ _ _))).trans ?_
  simp [mask_sel, named_mask, hy2]

theorem headB16_0 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a16.view.ty.Contents (Elt Ideal)) (y : S2x1x512.Idx) (h0 : (y 0).val = 0) :
    (a16.view.read (Elt Ideal) (a16.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.1)) y : EReal) = -(In.mk x2 x3 x4 x5 x6 x7 x8).bc 0 (512 * (i 1).val) (512 * (i 1).val) (y 2).val := by
  unfold Body.headB
  dsimp only
  sl_unfold_run_names
  have hy1 := (y 1).isLt; change _ < 1 at hy1
  have hy2 := (y 2).isLt; change _ < 512 at hy2
  have hz : (y 1).val = 0 := by omega
  refine (View.read_writes_cons_unit_of_mem _ _ _ _ _ y (ix3 0 ⟨(y 1).val, hy1⟩ ⟨(y 2).val, hy2⟩) rfl
    (by intro a; fin_cases a <;> simp [h0])).trans ?_
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]

  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  refine (congrArg (· - _) ((rd_cleared _ _ _ _ rfl (fun _ => rfl) _ _ _))).trans ?_
  simp [mask_sel, named_mask, hy2]

end Cert.FoxIdeal.Math
end
-- ==== Proof.FoxIdeal.HeadVal.lean ====
/-
The values that the first part of the body hands on.
-/
module

public import proofs.«01_k».proof.Proof.FoxIdeal.HeadSum

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

theorem headA_v21 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (d : Fin 64) (e : Fin 512) :
    ((((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.1 (ix2 d e) : EReal)) = rd x3 0 e.val d.val := by
  unfold Body.headA
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32', readAt_bf16', Memref.IsWhole.read_unread]
  simp

theorem headA_v24 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (d : Fin 64) (e : Fin 512) :
    ((((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.1 (ix2 d e) : EReal)) = rd x3 1 e.val d.val := by
  unfold Body.headA
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32', readAt_bf16', Memref.IsWhole.read_unread]
  simp

theorem headA_v172 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (e : Fin 512) :
    ((((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.2.1 (ix2 0 e) : EReal)) = 0 := by
  unfold Body.headA
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32']
  exact (rd_other _ _ _ _ _ (by simp) _ _ _ (by simp)).trans (rd_cleared _ _ _ _ rfl (fun _ => rfl) _ _ _)

theorem headA_v173 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (e : Fin 512) :
    ((((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.2.2 (ix1 e) : EReal)) = (In.mk x2 x3 x4 x5 x6 x7 x8).bc 1 (512 * (i 1).val) (512 * (i 1).val) e.val := by
  unfold Body.headA
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  simp [mask_sel, named_mask]

theorem headB_v21 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (d : Fin 64) (e : Fin 512) :
    ((((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.1 (ix2 d e) : EReal)) = rd x3 0 e.val d.val := by
  unfold Body.headB
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32', readAt_bf16', Memref.IsWhole.read_unread]
  simp

theorem headB_v24 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (d : Fin 64) (e : Fin 512) :
    ((((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.1 (ix2 d e) : EReal)) = rd x3 1 e.val d.val := by
  unfold Body.headB
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32', readAt_bf16', Memref.IsWhole.read_unread]
  simp

theorem headB_v172 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (e : Fin 512) :
    ((((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.2.1 (ix2 0 e) : EReal)) = 0 := by
  unfold Body.headB
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32']
  exact (rd_other _ _ _ _ _ (by simp) _ _ _ (by simp)).trans (rd_cleared _ _ _ _ rfl (fun _ => rfl) _ _ _)

theorem headB_v173 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (e : Fin 512) :
    ((((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).1).2.2.2.2.2 (ix1 e) : EReal)) = (In.mk x2 x3 x4 x5 x6 x7 x8).bc 1 (512 * (i 1).val) (512 * (i 1).val) e.val := by
  unfold Body.headB
  dsimp only
  sl_unfold_run_names
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  try simp only [View.readCov]
  simp only [readAt_f32 _ _ _ (k0_off1_eq i), readAt_bf16 _ _ _ (k0_off1_eq i), readAt_f32 _ _ _ (k0_off2_eq i), readAt_f32 _ _ _ (k0_off3_eq i), readAt_f32 _ _ _ (k0_off4_eq i), readAt_f32 _ _ _ (k0_off5_eq i), readAt_bf16 _ _ _ (k0_off5_eq i), readAt_f32 _ _ _ (k0_off6_eq i), readAt_f32 _ _ _ (k0_off7_eq i), readAt_f32 _ _ _ (k0_off8_eq i)]
  simp only [readAt_f32', readAt_bf16', Memref.IsWhole.read_unread]
  simp only [In.bv, In.bk, In.bc, In.bq, In.p, In.ds, In.sc, Nat.add_le_add_iff_left]
  simp [mask_sel, named_mask]

theorem headA13_o (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a13.view.ty.Contents (Elt Ideal)) (y : S2x64x4096.Idx) (h : (y 2).val / 512 ≠ (i 1).val) :
    (a13.view.read (Elt Ideal) (a13.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = 0 := by
  unfold Body.headA
  dsimp only
  sl_unfold_run_names
  have h' : (y 2).val < 512 * (i 1).val ∨ 512 * (i 1).val + 512 ≤ (y 2).val := by omega
  refine (View.read_writes_cons_unit_of_not_mem _ _ _ _ _ y (k0_off8_eq i) 2 (by simpa using h')).trans ?_
  refine (View.read_writes_cons_unit_of_not_mem _ _ _ _ _ y (k0_off4_eq i) 2 (by simpa using h')).trans ?_
  refine (View.read_writes_cons_unit_of_mem _ _ _ _ _ y y rfl (by intro a; fin_cases a <;> simp)).trans ?_
  pointwise [k0_pay47]

theorem headA13 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a13.view.ty.Contents (Elt Ideal)) (y : S2x64x4096.Idx) :
    (a13.view.read (Elt Ideal) (a13.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal)
      = 0 + if (y 2).val / 512 = (i 1).val then (In.mk x2 x3 x4 x5 x6 x7 x8).bq (y 0).val (512 * (i 1).val) (512 * (i 1).val) (y 1).val ((y 2).val % 512) else 0 := by
  by_cases h : (y 2).val / 512 = (i 1).val
  · rw [if_pos h]
    have hr : (y 2).val % 512 < 512 := Nat.mod_lt _ (by omega)
    have h2 : (y 2).val = 512 * (i 1).val + (y 2).val % 512 := by omega
    have hy0 := (y 0).isLt; change _ < 2 at hy0
    obtain h0 | h0 : (y 0).val = 0 ∨ (y 0).val = 1 := by omega
    · rw [h0]; exact (headA13_0 c i h1 a2 q2 a3 q3 a4 q4 a5 q5 a6 q6 a7 q7 a8 q8 a9 q9 a10 q10 a11 q11 a12 q12 a13 q13 a14 q14 a15 q15 a16 q16 x2 x3 x4 x5 x6 x7 x8 x13 g y h0 _ hr h2).trans (zero_add _).symm
    · rw [h0]; exact (headA13_1 c i h1 a2 q2 a3 q3 a4 q4 a5 q5 a6 q6 a7 q7 a8 q8 a9 q9 a10 q10 a11 q11 a12 q12 a13 q13 a14 q14 a15 q15 a16 q16 x2 x3 x4 x5 x6 x7 x8 x13 g y h0 _ hr h2).trans (zero_add _).symm
  · rw [if_neg h, add_zero]; exact headA13_o c i h1 a2 q2 a3 q3 a4 q4 a5 q5 a6 q6 a7 q7 a8 q8 a9 q9 a10 q10 a11 q11 a12 q12 a13 q13 a14 q14 a15 q15 a16 q16 x2 x3 x4 x5 x6 x7 x8 x13 g y h

theorem headA14 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) :
    (a14.view.read (Elt Ideal) (a14.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal)
      = (In.mk x2 x3 x4 x5 x6 x7 x8).bk (y 0).val (512 * (i 1).val) (512 * (i 1).val) (y 1).val (y 2).val := by
  have hy0 := (y 0).isLt; change _ < 2 at hy0
  obtain h0 | h0 : (y 0).val = 0 ∨ (y 0).val = 1 := by omega
  · rw [h0]; exact headA14_0 c i h1 a2 q2 a3 q3 a4 q4 a5 q5 a6 q6 a7 q7 a8 q8 a9 q9 a10 q10 a11 q11 a12 q12 a13 q13 a14 q14 a15 q15 a16 q16 x2 x3 x4 x5 x6 x7 x8 x13 g y h0
  · rw [h0]; exact headA14_1 c i h1 a2 q2 a3 q3 a4 q4 a5 q5 a6 q6 a7 q7 a8 q8 a9 q9 a10 q10 a11 q11 a12 q12 a13 q13 a14 q14 a15 q15 a16 q16 x2 x3 x4 x5 x6 x7 x8 x13 g y h0

theorem headA15 (c : Dev nD) (i : grid0.Coords) (h1 : Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) :
    (a15.view.read (Elt Ideal) (a15.view.writes (Elt Ideal) g ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal)
      = (In.mk x2 x3 x4 x5 x6 x7 x8).bv (y 0).val (512 * (i 1).val) (512 * (i 1).val) (y 1).val (y 2).val := by
  have hy0 := (y 0).isLt; change _ < 2 at hy0
  obtain h0 | h0 : (y 0).val = 0 ∨ (y 0).val = 1 := by omega
  · rw [h0]; exact headA15_0 c i h1 a2 q2 a3 q3 a4 q4 a5 q5 a6 q6 a7 q7 a8 q8 a9 q9 a10 q10 a11 q11 a12 q12 a13 q13 a14 q14 a15 q15 a16 q16 x2 x3 x4 x5 x6 x7 x8 x13 g y h0
  · rw [h0]; exact headA15_1 c i h1 a2 q2 a3 q3 a4 q4 a5 q5 a6 q6 a7 q7 a8 q8 a9 q9 a10 q10 a11 q11 a12 q12 a13 q13 a14 q14 a15 q15 a16 q16 x2 x3 x4 x5 x6 x7 x8 x13 g y h0

theorem headB13_o (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (y : S2x64x4096.Idx) (h : (y 2).val / 512 ≠ (i 1).val) :
    (a13.view.read (Elt Ideal) (a13.view.writes (Elt Ideal) (q13.unread x13) ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal) = x13 y := by
  unfold Body.headB
  dsimp only
  sl_unfold_run_names
  have h' : (y 2).val < 512 * (i 1).val ∨ 512 * (i 1).val + 512 ≤ (y 2).val := by omega
  refine (View.read_writes_cons_unit_of_not_mem _ _ _ _ _ y (k0_off8_eq i) 2 (by simpa using h')).trans ?_
  refine (View.read_writes_cons_unit_of_not_mem _ _ _ _ _ y (k0_off4_eq i) 2 (by simpa using h')).trans ?_
  exact congrFun (Memref.IsWhole.read_unread _ _) y

theorem headB13 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (y : S2x64x4096.Idx) :
    (a13.view.read (Elt Ideal) (a13.view.writes (Elt Ideal) (q13.unread x13) ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.1)) y : EReal)
      = x13 y + if (y 2).val / 512 = (i 1).val then (In.mk x2 x3 x4 x5 x6 x7 x8).bq (y 0).val (512 * (i 1).val) (512 * (i 1).val) (y 1).val ((y 2).val % 512) else 0 := by
  by_cases h : (y 2).val / 512 = (i 1).val
  · rw [if_pos h]
    have hr : (y 2).val % 512 < 512 := Nat.mod_lt _ (by omega)
    have h2 : (y 2).val = 512 * (i 1).val + (y 2).val % 512 := by omega
    have hy0 := (y 0).isLt; change _ < 2 at hy0
    obtain h0 | h0 : (y 0).val = 0 ∨ (y 0).val = 1 := by omega
    · rw [h0]; exact (headB13_0 c i h1 a2 q2 a3 q3 a4 q4 a5 q5 a6 q6 a7 q7 a8 q8 a9 q9 a10 q10 a11 q11 a12 q12 a13 q13 a14 q14 a15 q15 a16 q16 x2 x3 x4 x5 x6 x7 x8 x13 y h0 _ hr h2)
    · rw [h0]; exact (headB13_1 c i h1 a2 q2 a3 q3 a4 q4 a5 q5 a6 q6 a7 q7 a8 q8 a9 q9 a10 q10 a11 q11 a12 q12 a13 q13 a14 q14 a15 q15 a16 q16 x2 x3 x4 x5 x6 x7 x8 x13 y h0 _ hr h2)
  · rw [if_neg h, add_zero]; exact headB13_o c i h1 a2 q2 a3 q3 a4 q4 a5 q5 a6 q6 a7 q7 a8 q8 a9 q9 a10 q10 a11 q11 a12 q12 a13 q13 a14 q14 a15 q15 a16 q16 x2 x3 x4 x5 x6 x7 x8 x13 y h

theorem headB14 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a14.view.ty.Contents (Elt Ideal)) (y : S2x64x512.Idx) :
    (a14.view.read (Elt Ideal) (a14.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.1)) y : EReal)
      = (In.mk x2 x3 x4 x5 x6 x7 x8).bk (y 0).val (512 * (i 1).val) (512 * (i 1).val) (y 1).val (y 2).val := by
  have hy0 := (y 0).isLt; change _ < 2 at hy0
  obtain h0 | h0 : (y 0).val = 0 ∨ (y 0).val = 1 := by omega
  · rw [h0]; exact headB14_0 c i h1 a2 q2 a3 q3 a4 q4 a5 q5 a6 q6 a7 q7 a8 q8 a9 q9 a10 q10 a11 q11 a12 q12 a13 q13 a14 q14 a15 q15 a16 q16 x2 x3 x4 x5 x6 x7 x8 x13 g y h0
  · rw [h0]; exact headB14_1 c i h1 a2 q2 a3 q3 a4 q4 a5 q5 a6 q6 a7 q7 a8 q8 a9 q9 a10 q10 a11 q11 a12 q12 a13 q13 a14 q14 a15 q15 a16 q16 x2 x3 x4 x5 x6 x7 x8 x13 g y h0

theorem headB15 (c : Dev nD) (i : grid0.Coords) (h1 : ¬Body.firstCond i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) (g : a15.view.ty.Contents (Elt Ideal)) (y : S2x64x512.Idx) :
    (a15.view.read (Elt Ideal) (a15.view.writes (Elt Ideal) g ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.1)) y : EReal)
      = (In.mk x2 x3 x4 x5 x6 x7 x8).bv (y 0).val (512 * (i 1).val) (512 * (i 1).val) (y 1).val (y 2).val := by
  have hy0 := (y 0).isLt; change _ < 2 at hy0
  obtain h0 | h0 : (y 0).val = 0 ∨ (y 0).val = 1 := by omega
  · rw [h0]; exact headB15_0 c i h1 a2 q2 a3 q3 a4 q4 a5 q5 a6 q6 a7 q7 a8 q8 a9 q9 a10 q10 a11 q11 a12 q12 a13 q13 a14 q14 a15 q15 a16 q16 x2 x3 x4 x5 x6 x7 x8 x13 g y h0
  · rw [h0]; exact headB15_1 c i h1 a2 q2 a3 q3 a4 q4 a5 q5 a6 q6 a7 q7 a8 q8 a9 q9 a10 q10 a11 q11 a12 q12 a13 q13 a14 q14 a15 q15 a16 q16 x2 x3 x4 x5 x6 x7 x8 x13 g y h0

end Cert.FoxIdeal.Math
end
-- ==== Proof.FoxIdeal.Trip.lean ====
/-
What one trip of the loop over the later blocks of rows leaves in the four running sums.
-/
module

public import proofs.«01_k».proof.Proof.FoxIdeal.Math
public import Idealize.ShloMosaic.Lib.WritesUnit

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

theorem trip13_1 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x4096.Idx) (h0 : (y 0).val = 1) (r : ℕ) (hr : r < 512) (h2 : (y 2).val = 512 * (i 1).val + 512 * k.val + 512 + r) :
    a13.view.read (Elt Ideal) (a13.view.writes (Elt Ideal) f13 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).1 f13 f14 f15 f16)) y
      = (a13.view.read (Elt Ideal) f13 y : EReal) + (inOf X2 X3 X4 X5 X6 X7 X8).bq 1 (512 * (i 1).val) (512 * (i 1).val + 512 * k.val + 512) (y 1).val r := by
  unfold trip_k0_t1
  dsimp only
  sl_unfold_run_names
  have hy1 := (y 1).isLt; change _ < 64 at hy1
  refine (View.read_writes_cons_unit_of_mem _ _ _ _ _ y (ix3 0 ⟨(y 1).val, hy1⟩ ⟨r, hr⟩) (k0_off16_eq i k)
    (by intro a; fin_cases a <;> simp [h0, h2])).trans ?_
  pointwise [h21, h24, k0_pay77, k0_pay78]
  have hif : ∀ x : Fin 512, (512 * (i 1).val + x.val ≤ 512 * (i 1).val + 512 * k.val + 512 + r) = True := by
    intro x; simp only [eq_iff_iff, iff_true]; have := x.isLt; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a13.view.read (Elt Ideal) f13) 1 _ _ y h0 rfl h2]
  simp only [In.bv, In.bk, In.bc, In.bq, In.p, In.ds, In.sc, inOf, hif, if_true]
  simp

theorem trip13_0 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x4096.Idx) (h0 : (y 0).val = 0) (r : ℕ) (hr : r < 512) (h2 : (y 2).val = 512 * (i 1).val + 512 * k.val + 512 + r) :
    a13.view.read (Elt Ideal) (a13.view.writes (Elt Ideal) f13 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).1 f13 f14 f15 f16)) y
      = (a13.view.read (Elt Ideal) f13 y : EReal) + (inOf X2 X3 X4 X5 X6 X7 X8).bq 0 (512 * (i 1).val) (512 * (i 1).val + 512 * k.val + 512) (y 1).val r := by
  unfold trip_k0_t1
  dsimp only
  sl_unfold_run_names
  have hy1 := (y 1).isLt; change _ < 64 at hy1
  refine (View.read_writes_cons_unit_of_not_mem _ _ _ _ _ y (k0_off16_eq i k) 0 (Or.inl (by simp [h0]))).trans ?_
  refine (View.read_writes_cons_unit_of_mem _ _ _ _ _ y (ix3 0 ⟨(y 1).val, hy1⟩ ⟨r, hr⟩) (k0_off12_eq i k)
    (by intro a; fin_cases a <;> simp [h0, h2])).trans ?_
  pointwise [h21, h24, k0_pay77, k0_pay78]
  have hif : ∀ x : Fin 512, (512 * (i 1).val + x.val ≤ 512 * (i 1).val + 512 * k.val + 512 + r) = True := by
    intro x; simp only [eq_iff_iff, iff_true]; have := x.isLt; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a13.view.read (Elt Ideal) f13) 0 _ _ y h0 rfl h2]
  simp only [In.bv, In.bk, In.bc, In.bq, In.p, In.ds, In.sc, inOf, hif, if_true]
  simp

theorem trip14_1 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) (h0 : (y 0).val = 1) :
    a14.view.read (Elt Ideal) (a14.view.writes (Elt Ideal) f14 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.1 f13 f14 f15 f16)) y
      = (a14.view.read (Elt Ideal) f14 y : EReal) + (inOf X2 X3 X4 X5 X6 X7 X8).bk 1 (512 * (i 1).val) (512 * (i 1).val + 512 * k.val + 512) (y 1).val (y 2).val := by
  unfold trip_k0_t1
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a14.view.read (Elt Ideal) f14) 1 _ _ y h0 rfl rfl]
  simp only [In.bv, In.bk, In.bc, In.bq, In.p, In.ds, In.sc, inOf, hif, if_true]
  simp

theorem trip14_0 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) (h0 : (y 0).val = 0) :
    a14.view.read (Elt Ideal) (a14.view.writes (Elt Ideal) f14 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.1 f13 f14 f15 f16)) y
      = (a14.view.read (Elt Ideal) f14 y : EReal) + (inOf X2 X3 X4 X5 X6 X7 X8).bk 0 (512 * (i 1).val) (512 * (i 1).val + 512 * k.val + 512) (y 1).val (y 2).val := by
  unfold trip_k0_t1
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a14.view.read (Elt Ideal) f14) 0 _ _ y h0 rfl rfl]
  simp only [In.bv, In.bk, In.bc, In.bq, In.p, In.ds, In.sc, inOf, hif, if_true]
  simp

theorem trip15_1 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) (h0 : (y 0).val = 1) :
    a15.view.read (Elt Ideal) (a15.view.writes (Elt Ideal) f15 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.1 f13 f14 f15 f16)) y
      = (a15.view.read (Elt Ideal) f15 y : EReal) + (inOf X2 X3 X4 X5 X6 X7 X8).bv 1 (512 * (i 1).val) (512 * (i 1).val + 512 * k.val + 512) (y 1).val (y 2).val := by
  unfold trip_k0_t1
  dsimp only
  sl_unfold_run_names
  have hy1 := (y 1).isLt; change _ < 64 at hy1
  have hy2 := (y 2).isLt; change _ < 512 at hy2
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a15.view.read (Elt Ideal) f15) 1 _ _ y h0 rfl rfl]
  simp only [In.bv, In.bk, In.bc, In.bq, In.p, In.ds, In.sc, inOf, hif, if_true]
  simp

theorem trip15_0 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) (h0 : (y 0).val = 0) :
    a15.view.read (Elt Ideal) (a15.view.writes (Elt Ideal) f15 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.1 f13 f14 f15 f16)) y
      = (a15.view.read (Elt Ideal) f15 y : EReal) + (inOf X2 X3 X4 X5 X6 X7 X8).bv 0 (512 * (i 1).val) (512 * (i 1).val + 512 * k.val + 512) (y 1).val (y 2).val := by
  unfold trip_k0_t1
  dsimp only
  sl_unfold_run_names
  have hy1 := (y 1).isLt; change _ < 64 at hy1
  have hy2 := (y 2).isLt; change _ < 512 at hy2
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a15.view.read (Elt Ideal) f15) 0 _ _ y h0 rfl rfl]
  simp only [In.bv, In.bk, In.bc, In.bq, In.p, In.ds, In.sc, inOf, hif, if_true]
  simp

theorem trip16_1 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x1x512.Idx) (h0 : (y 0).val = 1) :
    a16.view.read (Elt Ideal) (a16.view.writes (Elt Ideal) f16 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.2.1 f13 f14 f15 f16)) y
      = (a16.view.read (Elt Ideal) f16 y : EReal) - (inOf X2 X3 X4 X5 X6 X7 X8).bc 1 (512 * (i 1).val) (512 * (i 1).val + 512 * k.val + 512) (y 2).val := by
  unfold trip_k0_t1
  dsimp only
  sl_unfold_run_names
  have hy1 := (y 1).isLt; change _ < 1 at hy1
  have hy2 := (y 2).isLt; change _ < 512 at hy2
  have hz : (y 1).val = 0 := by omega
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a16.view.read (Elt Ideal) f16) 1 0 _ y h0 hz rfl]
  simp only [In.bv, In.bk, In.bc, In.bq, In.p, In.ds, In.sc, inOf, hif, if_true]
  simp

theorem trip16_0 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x1x512.Idx) (h0 : (y 0).val = 0) :
    a16.view.read (Elt Ideal) (a16.view.writes (Elt Ideal) f16 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.2.1 f13 f14 f15 f16)) y
      = (a16.view.read (Elt Ideal) f16 y : EReal) - (inOf X2 X3 X4 X5 X6 X7 X8).bc 0 (512 * (i 1).val) (512 * (i 1).val + 512 * k.val + 512) (y 2).val := by
  unfold trip_k0_t1
  dsimp only
  sl_unfold_run_names
  have hy1 := (y 1).isLt; change _ < 1 at hy1
  have hy2 := (y 2).isLt; change _ < 512 at hy2
  have hz : (y 1).val = 0 := by omega
  refine (View.read_writes_cons_unit_of_not_mem _ _ _ _ _ y rfl 0 (Or.inl (by simp [h0]))).trans ?_
  refine (View.read_writes_cons_unit_of_mem _ _ _ _ _ y (ix3 0 ⟨(y 1).val, hy1⟩ ⟨(y 2).val, hy2⟩) rfl
    (by intro a; fin_cases a <;> simp [h0])).trans ?_
  pointwise [h21, h24, k0_pay77, k0_pay78]
  have hif : ∀ x : Fin 512, (512 * (i 1).val + (y 2).val ≤ 512 * (i 1).val + 512 * k.val + 512 + x.val) = True := by
    intro x; simp only [eq_iff_iff, iff_true]; omega
  simp only [
    readAt_f32 _ _ _ (k0_off9_eq i k), readAt_bf16 _ _ _ (k0_off9_eq i k), readAt_f32 _ _ _ (k0_off10_eq i k), readAt_f32 _ _ _ (k0_off11_eq i),
    readAt_f32 _ _ _ (k0_off12_eq i k), readAt_f32 _ _ _ (k0_off13_eq i k), readAt_bf16 _ _ _ (k0_off13_eq i k),
    readAt_f32 _ _ _ (k0_off14_eq i k), readAt_f32 _ _ _ (k0_off15_eq i), readAt_f32 _ _ _ (k0_off16_eq i k)]
  simp only [readAt_f32', readAt_bf16']
  rw [rd_eq (a16.view.read (Elt Ideal) f16) 0 0 _ y h0 hz rfl]
  simp only [In.bv, In.bk, In.bc, In.bq, In.p, In.ds, In.sc, inOf, hif, if_true]
  simp

theorem trip13_out (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x4096.Idx)
    (hout : (y 2).val < 512 * (i 1).val + 512 * k.val + 512 ∨ 512 * (i 1).val + 512 * k.val + 512 + 512 ≤ (y 2).val) :
    a13.view.read (Elt Ideal) (a13.view.writes (Elt Ideal) f13 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).1 f13 f14 f15 f16)) y
      = a13.view.read (Elt Ideal) f13 y := by
  unfold trip_k0_t1
  dsimp only
  sl_unfold_run_names
  refine (View.read_writes_cons_unit_of_not_mem _ _ _ _ _ y (k0_off16_eq i k) 2 (by exact hout)).trans ?_
  exact View.read_writes_cons_unit_of_not_mem _ _ _ _ _ y (k0_off12_eq i k) 2 (by exact hout)

end Cert.FoxIdeal.Math
end
-- ==== Proof.FoxIdeal.LoopSum.lean ====
/-
What the loop over the later blocks of rows leaves in the four running sums.
-/
module

public import proofs.«01_k».proof.Proof.FoxIdeal.Trip

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

theorem trip14 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) :
    a14.view.read (Elt Ideal) (a14.view.writes (Elt Ideal) f14 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.1 f13 f14 f15 f16)) y
      = (a14.view.read (Elt Ideal) f14 y : EReal) + (inOf X2 X3 X4 X5 X6 X7 X8).bk (y 0).val (512 * (i 1).val) (512 * (i 1).val + 512 * k.val + 512) (y 1).val (y 2).val := by
  have hy := (y 0).isLt; change _ < 2 at hy
  rcases (by omega : (y 0).val = 0 ∨ (y 0).val = 1) with h0 | h0
  · exact (trip14_0 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])
  · exact (trip14_1 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])

theorem trip15 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x512.Idx) :
    a15.view.read (Elt Ideal) (a15.view.writes (Elt Ideal) f15 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.1 f13 f14 f15 f16)) y
      = (a15.view.read (Elt Ideal) f15 y : EReal) + (inOf X2 X3 X4 X5 X6 X7 X8).bv (y 0).val (512 * (i 1).val) (512 * (i 1).val + 512 * k.val + 512) (y 1).val (y 2).val := by
  have hy := (y 0).isLt; change _ < 2 at hy
  rcases (by omega : (y 0).val = 0 ∨ (y 0).val = 1) with h0 | h0
  · exact (trip15_0 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])
  · exact (trip15_1 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])

theorem trip16 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x1x512.Idx) :
    a16.view.read (Elt Ideal) (a16.view.writes (Elt Ideal) f16 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).2.2.2.1 f13 f14 f15 f16)) y
      = (a16.view.read (Elt Ideal) f16 y : EReal) - (inOf X2 X3 X4 X5 X6 X7 X8).bc (y 0).val (512 * (i 1).val) (512 * (i 1).val + 512 * k.val + 512) (y 2).val := by
  have hy := (y 0).isLt; change _ < 2 at hy
  rcases (by omega : (y 0).val = 0 ∨ (y 0).val = 1) with h0 | h0
  · exact (trip16_0 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])
  · exact (trip16_1 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0).trans (by rw [h0])

theorem trip13 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (k : Fin (k0_t1_loop i).trips) (f13 : a13.view.ty.Contents (Elt Ideal)) (f14 : a14.view.ty.Contents (Elt Ideal)) (f15 : a15.view.ty.Contents (Elt Ideal)) (f16 : a16.view.ty.Contents (Elt Ideal)) (y : S2x64x4096.Idx) :
    a13.view.read (Elt Ideal) (a13.view.writes (Elt Ideal) f13 ((trip_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 k).1 f13 f14 f15 f16)) y
      = (a13.view.read (Elt Ideal) f13 y : EReal)
        + if (y 2).val / 512 = (i 1).val + 1 + k.val then (inOf X2 X3 X4 X5 X6 X7 X8).bq (y 0).val (512 * (i 1).val) (512 * ((y 2).val / 512)) (y 1).val ((y 2).val % 512) else 0 := by
  have hy := (y 0).isLt; change _ < 2 at hy
  by_cases hc : (y 2).val / 512 = (i 1).val + 1 + k.val
  · have hr : (y 2).val % 512 < 512 := Nat.mod_lt _ (by omega)
    have h2 : (y 2).val = (512 * (i 1).val + 512 * k.val + 512) + (y 2).val % 512 := by omega
    have hB : (512 * (i 1).val + 512 * k.val + 512) = 512 * ((y 2).val / 512) := by omega
    rw [if_pos hc]
    rcases (by omega : (y 0).val = 0 ∨ (y 0).val = 1) with h0 | h0
    · exact (trip13_0 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0 _ hr h2).trans (by rw [h0, hB])
    · exact (trip13_1 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y h0 _ hr h2).trans (by rw [h0, hB])
  · rw [if_neg hc, add_zero]
    exact trip13_out 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 k f13 f14 f15 f16 y (by omega)

theorem loop14 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (n : ℕ) (hn : n ≤ (k0_t1_loop i).trips) (y : S2x64x512.Idx) :
    a14.view.read (Elt Ideal) (a14.view.writes (Elt Ideal) f14 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.1) y
      = (a14.view.read (Elt Ideal) f14 y : EReal) + ∑ t ∈ Finset.range n, (inOf X2 X3 X4 X5 X6 X7 X8).bk (y 0).val (512 * (i 1).val) (512 * (i 1).val + 512 * t + 512) (y 1).val (y 2).val := by
  induction n with
  | zero =>
    rw [pb_k0_t1.eq_1]
    rw [Finset.sum_range_zero, add_zero]
    rfl
  | succ n ih =>
    have hn : n < (k0_t1_loop i).trips := hn
    have e := pb_k0_t1_succ (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 ⟨n, hn⟩
    change (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 (n + 1)) = _ at e
    rw [e, View.writes_append]
    refine (trip14 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 ⟨n, hn⟩ (a13.view.writes (Elt Ideal) f13 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).1) (a14.view.writes (Elt Ideal) f14 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.1) (a15.view.writes (Elt Ideal) f15 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.1) (a16.view.writes (Elt Ideal) f16 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.2) y).trans ?_
    rw [ih (le_of_lt hn)]
    rw [Finset.sum_range_succ, add_assoc]

theorem loop15 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (n : ℕ) (hn : n ≤ (k0_t1_loop i).trips) (y : S2x64x512.Idx) :
    a15.view.read (Elt Ideal) (a15.view.writes (Elt Ideal) f15 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.1) y
      = (a15.view.read (Elt Ideal) f15 y : EReal) + ∑ t ∈ Finset.range n, (inOf X2 X3 X4 X5 X6 X7 X8).bv (y 0).val (512 * (i 1).val) (512 * (i 1).val + 512 * t + 512) (y 1).val (y 2).val := by
  induction n with
  | zero =>
    rw [pb_k0_t1.eq_1]
    rw [Finset.sum_range_zero, add_zero]
    rfl
  | succ n ih =>
    have hn : n < (k0_t1_loop i).trips := hn
    have e := pb_k0_t1_succ (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 ⟨n, hn⟩
    change (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 (n + 1)) = _ at e
    rw [e, View.writes_append]
    refine (trip15 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 ⟨n, hn⟩ (a13.view.writes (Elt Ideal) f13 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).1) (a14.view.writes (Elt Ideal) f14 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.1) (a15.view.writes (Elt Ideal) f15 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.1) (a16.view.writes (Elt Ideal) f16 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.2) y).trans ?_
    rw [ih (le_of_lt hn)]
    rw [Finset.sum_range_succ, add_assoc]

theorem loop16 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (n : ℕ) (hn : n ≤ (k0_t1_loop i).trips) (y : S2x1x512.Idx) :
    a16.view.read (Elt Ideal) (a16.view.writes (Elt Ideal) f16 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.2) y
      = (a16.view.read (Elt Ideal) f16 y : EReal) + ∑ t ∈ Finset.range n, -(inOf X2 X3 X4 X5 X6 X7 X8).bc (y 0).val (512 * (i 1).val) (512 * (i 1).val + 512 * t + 512) (y 2).val := by
  induction n with
  | zero =>
    rw [pb_k0_t1.eq_1]
    rw [Finset.sum_range_zero, add_zero]
    rfl
  | succ n ih =>
    have hn : n < (k0_t1_loop i).trips := hn
    have e := pb_k0_t1_succ (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 ⟨n, hn⟩
    change (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 (n + 1)) = _ at e
    rw [e, View.writes_append]
    refine (trip16 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 ⟨n, hn⟩ (a13.view.writes (Elt Ideal) f13 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).1) (a14.view.writes (Elt Ideal) f14 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.1) (a15.view.writes (Elt Ideal) f15 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.1) (a16.view.writes (Elt Ideal) f16 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.2) y).trans ?_
    rw [ih (le_of_lt hn)]
    rw [Finset.sum_range_succ, sub_eq_add_neg, add_assoc]

theorem loop13 (𝒱 : Variants) (c : Dev nD) (bd : Option 𝒱.V) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (a1 v1 : BitVec 32) (v21 v24 : FVec Ideal S64x512 .bf16) (v172 : FVec Ideal S1x512 .f32) (v173 : FVec Ideal S512 .f32) (v179 : BitVec 32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal))
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (n : ℕ) (hn : n ≤ (k0_t1_loop i).trips) (y : S2x64x4096.Idx) :
    a13.view.read (Elt Ideal) (a13.view.writes (Elt Ideal) f13 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).1) y
      = (a13.view.read (Elt Ideal) f13 y : EReal) + if (i 1).val + 1 ≤ (y 2).val / 512 ∧ (y 2).val / 512 < (i 1).val + 1 + n then (inOf X2 X3 X4 X5 X6 X7 X8).bq (y 0).val (512 * (i 1).val) (512 * ((y 2).val / 512)) (y 1).val ((y 2).val % 512) else 0 := by
  induction n with
  | zero =>
    rw [pb_k0_t1.eq_1]
    rw [if_neg (by omega), add_zero]
    rfl
  | succ n ih =>
    have hn : n < (k0_t1_loop i).trips := hn
    have e := pb_k0_t1_succ (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 ⟨n, hn⟩
    change (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 (n + 1)) = _ at e
    rw [e, View.writes_append]
    refine (trip13 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 h21 h24 ⟨n, hn⟩ (a13.view.writes (Elt Ideal) f13 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).1) (a14.view.writes (Elt Ideal) f14 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.1) (a15.view.writes (Elt Ideal) f15 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.1) (a16.view.writes (Elt Ideal) f16 (pb_k0_t1 (F := Ideal) 𝒱 c bd i a2 q2 a3 q3 a4 q4 a5 q5 a6 q6 a7 q7 a8 q8 a9 q9 a10 q10 a11 q11 a12 q12 a13 q13 a14 q14 a15 q15 a16 q16 a1 v1 v21 v24 v172 v173 v179 X2 X3 X4 X5 X6 X7 X8 f13 f14 f15 f16 n).2.2.2) y).trans ?_
    rw [ih (le_of_lt hn)]
    dsimp only
    by_cases hc : (y 2).val / 512 = (i 1).val + 1 + n
    · rw [if_neg (by omega), if_pos hc, if_pos (by omega), add_zero]
    · rw [if_neg hc, add_zero]
      refine congrArg _ (if_congr (by omega) rfl rfl)

end Cert.FoxIdeal.Math
end
-- ==== Proof.FoxIdeal.MidSum.lean ====
/-
What the middle part of the body (the second head's diagonal log-gate sum and the loop) leaves in the four running sums.
-/
module

public import proofs.«01_k».proof.Proof.FoxIdeal.LoopSum

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

theorem trips_main (i : grid0.Coords) : (Scf.trips (Scalar.addi (BitVec.ofNat 32 (i 1).val) 1#32) (Scalar.addi (Scalar.addi (BitVec.ofNat 32 (i 1).val) 1#32) (Scalar.muli (Scalar.divsi (Scalar.subi (8#32) (Scalar.addi (BitVec.ofNat 32 (i 1).val) 1#32)) 1#32) 1#32)) 1#32) = 7 - (i 1).val := by
  have h : ∀ j : Fin 8, (Scf.trips (Scalar.addi (BitVec.ofNat 32 j.val) 1#32) (Scalar.addi (Scalar.addi (BitVec.ofNat 32 j.val) 1#32) (Scalar.muli (Scalar.divsi (Scalar.subi (8#32) (Scalar.addi (BitVec.ofNat 32 j.val) 1#32)) 1#32) 1#32)) 1#32) = 7 - j.val := by decide +kernel
  exact h (i 1)

theorem trips_rest (i : grid0.Coords) : (Scf.trips (Scalar.addi (Scalar.addi (BitVec.ofNat 32 (i 1).val) 1#32) (Scalar.muli (Scalar.divsi (Scalar.subi (8#32) (Scalar.addi (BitVec.ofNat 32 (i 1).val) 1#32)) 1#32) 1#32)) (Scalar.addi (Scalar.addi (BitVec.ofNat 32 (i 1).val) 1#32) (Scalar.subi (8#32) (Scalar.addi (BitVec.ofNat 32 (i 1).val) 1#32))) 1#32) = 0 := by
  have h : ∀ j : Fin 8, (Scf.trips (Scalar.addi (Scalar.addi (BitVec.ofNat 32 j.val) 1#32) (Scalar.muli (Scalar.divsi (Scalar.subi (8#32) (Scalar.addi (BitVec.ofNat 32 j.val) 1#32)) 1#32) 1#32)) (Scalar.addi (Scalar.addi (BitVec.ofNat 32 j.val) 1#32) (Scalar.subi (8#32) (Scalar.addi (BitVec.ofNat 32 j.val) 1#32))) 1#32) = 0 := by decide +kernel
  exact h (i 1)

theorem mid13 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (a1 v1 : BitVec 32) (v21 v24 : FVec Ideal S64x512 .bf16) (v172 : FVec Ideal S1x512 .f32) (v173 : FVec Ideal S512 .f32)
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (y : S2x64x4096.Idx) :
    (a13.view.read (Elt Ideal) ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1) y : EReal) = a13.view.read (Elt Ideal) f13 y + if (i 1).val + 1 ≤ (y 2).val / 512 ∧ (y 2).val / 512 < (i 1).val + 1 + (7 - (i 1).val) then (inOf X2 X3 X4 X5 X6 X7 X8).bq (y 0).val (512 * (i 1).val) (512 * ((y 2).val / 512)) (y 1).val ((y 2).val % 512) else 0 := by
  unfold Body.midRun
  dsimp only
  sl_unfold_run_names
  simp only [trips_main, trips_rest, pb_k0_t2, List.nil_append]
  exact loop13 Variants.none c none i a2 q2 a3 q3 a4 q4 a5 q5 a6 q6 a7 q7 a8 q8 a9 q9 a10 q10 a11 q11 a12 q12 a13 q13 a14 q14 a15 q15 a16 q16 a1 v1 v21 v24 v172 v173 (Scalar.addi a1 1#32) X2 X3 X4 X5 X6 X7 X8 h21 h24 f13 f14 f15 (a16.view.writes (Elt Ideal) f16 [⟨Rect.unit ![1, 0, 0] ![1, 1, 512] inb_S2x1x512_S1x1x512_1_0_0, k0_pay76 v172 v173⟩]) (7 - (i 1).val) (le_of_eq (trips_main i).symm) y

theorem mid14 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (a1 v1 : BitVec 32) (v21 v24 : FVec Ideal S64x512 .bf16) (v172 : FVec Ideal S1x512 .f32) (v173 : FVec Ideal S512 .f32)
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (y : S2x64x512.Idx) :
    (a14.view.read (Elt Ideal) ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1) y : EReal) = a14.view.read (Elt Ideal) f14 y + ∑ t ∈ Finset.range (7 - (i 1).val), (inOf X2 X3 X4 X5 X6 X7 X8).bk (y 0).val (512 * (i 1).val) (512 * (i 1).val + 512 * t + 512) (y 1).val (y 2).val := by
  unfold Body.midRun
  dsimp only
  sl_unfold_run_names
  simp only [trips_main, trips_rest, pb_k0_t2, List.nil_append]
  exact loop14 Variants.none c none i a2 q2 a3 q3 a4 q4 a5 q5 a6 q6 a7 q7 a8 q8 a9 q9 a10 q10 a11 q11 a12 q12 a13 q13 a14 q14 a15 q15 a16 q16 a1 v1 v21 v24 v172 v173 (Scalar.addi a1 1#32) X2 X3 X4 X5 X6 X7 X8 h21 h24 f13 f14 f15 (a16.view.writes (Elt Ideal) f16 [⟨Rect.unit ![1, 0, 0] ![1, 1, 512] inb_S2x1x512_S1x1x512_1_0_0, k0_pay76 v172 v173⟩]) (7 - (i 1).val) (le_of_eq (trips_main i).symm) y

theorem mid15 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (a1 v1 : BitVec 32) (v21 v24 : FVec Ideal S64x512 .bf16) (v172 : FVec Ideal S1x512 .f32) (v173 : FVec Ideal S512 .f32)
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (y : S2x64x512.Idx) :
    (a15.view.read (Elt Ideal) ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1) y : EReal) = a15.view.read (Elt Ideal) f15 y + ∑ t ∈ Finset.range (7 - (i 1).val), (inOf X2 X3 X4 X5 X6 X7 X8).bv (y 0).val (512 * (i 1).val) (512 * (i 1).val + 512 * t + 512) (y 1).val (y 2).val := by
  unfold Body.midRun
  dsimp only
  sl_unfold_run_names
  simp only [trips_main, trips_rest, pb_k0_t2, List.nil_append]
  exact loop15 Variants.none c none i a2 q2 a3 q3 a4 q4 a5 q5 a6 q6 a7 q7 a8 q8 a9 q9 a10 q10 a11 q11 a12 q12 a13 q13 a14 q14 a15 q15 a16 q16 a1 v1 v21 v24 v172 v173 (Scalar.addi a1 1#32) X2 X3 X4 X5 X6 X7 X8 h21 h24 f13 f14 f15 (a16.view.writes (Elt Ideal) f16 [⟨Rect.unit ![1, 0, 0] ![1, 1, 512] inb_S2x1x512_S1x1x512_1_0_0, k0_pay76 v172 v173⟩]) (7 - (i 1).val) (le_of_eq (trips_main i).symm) y

theorem mid16 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (a1 v1 : BitVec 32) (v21 v24 : FVec Ideal S64x512 .bf16) (v172 : FVec Ideal S1x512 .f32) (v173 : FVec Ideal S512 .f32)
    (h21 : ∀ (d : Fin 64) (c : Fin 512), v21 (ix2 d c) = rd (a3.view.read (Elt Ideal) X3) 0 c.val d.val) (h24 : ∀ (d : Fin 64) (c : Fin 512), v24 (ix2 d c) = rd (a3.view.read (Elt Ideal) X3) 1 c.val d.val)
    (f13 : a13.view.ty.Contents (Elt Ideal)) (f14 : a14.view.ty.Contents (Elt Ideal)) (f15 : a15.view.ty.Contents (Elt Ideal)) (f16 : a16.view.ty.Contents (Elt Ideal)) (y : S2x1x512.Idx) :
    (a16.view.read (Elt Ideal) ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1) y : EReal) = (if (y 0).val = 1 then v172 (ix2 (0 : Fin 1) (y 2 : Fin 512)) - v173 (ix1 (y 2 : Fin 512)) else a16.view.read (Elt Ideal) f16 y) + ∑ t ∈ Finset.range (7 - (i 1).val), -(inOf X2 X3 X4 X5 X6 X7 X8).bc (y 0).val (512 * (i 1).val) (512 * (i 1).val + 512 * t + 512) (y 2).val := by
  unfold Body.midRun
  dsimp only
  sl_unfold_run_names
  simp only [trips_main, trips_rest, pb_k0_t2, List.nil_append]
  rw [View.writes_append]
  refine (loop16 Variants.none c none i a2 q2 a3 q3 a4 q4 a5 q5 a6 q6 a7 q7 a8 q8 a9 q9 a10 q10 a11 q11 a12 q12 a13 q13 a14 q14 a15 q15 a16 q16 a1 v1 v21 v24 v172 v173 (Scalar.addi a1 1#32) X2 X3 X4 X5 X6 X7 X8 h21 h24 f13 f14 f15 (a16.view.writes (Elt Ideal) f16 [⟨Rect.unit ![1, 0, 0] ![1, 1, 512] inb_S2x1x512_S1x1x512_1_0_0, k0_pay76 v172 v173⟩]) (7 - (i 1).val) (le_of_eq (trips_main i).symm) y).trans ?_
  refine congrArg (· + _) ?_
  have hy1 := (y 1).isLt; change _ < 1 at hy1
  have hy2 := (y 2).isLt; change _ < 512 at hy2
  by_cases h0 : (y 0).val = 1
  · rw [if_pos h0]
    refine (View.read_writes_cons_unit_of_mem _ _ _ _ _ y (ix3 0 ⟨(y 1).val, hy1⟩ ⟨(y 2).val, hy2⟩) rfl
      (by intro a; fin_cases a <;> simp [h0])).trans ?_
    pointwise [k0_pay76]
  · rw [if_neg h0]
    have hy := (y 0).isLt; change _ < 2 at hy
    exact View.read_writes_cons_unit_of_not_mem _ _ _ _ _ y rfl 0 (Or.inl (by show (y 0).val < 1; omega))

end Cert.FoxIdeal.Math
end
-- ==== Proof.FoxIdeal.OutVal.lean ====
/-
What the last part of the body writes to the results.
-/
module

public import proofs.«01_k».proof.Proof.FoxIdeal.Math
public import proofs.«01_k».proof.Proof.FoxIdeal.OutB
public import proofs.«01_k».proof.Proof.FoxIdeal.OutC
public import Idealize.ShloMosaic.Lib.WritesUnit

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

theorem outB10 (c : Dev nD) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a10.view.ty.Contents (Elt Ideal)) (y : S512x128.Idx) :
    (a10.view.read (Elt Ideal) (a10.view.writes (Elt Ideal) g ((Body.outB (F := Ideal) c i h2 a2 q2 a3 q3 a4 q4 a5 q5 a6 q6 a7 q7 a8 q8 a9 q9 a10 q10 a11 q11 a12 q12 a13 q13 a14 q14 a15 q15 a16 q16 f13 f14 f15 f16).1)) y : EReal) = rd (a14.view.read (Elt Ideal) f14) ((y 1).val / 64) ((y 1).val % 64) (y 0).val := by
  unfold Body.outB
  dsimp only
  sl_unfold_run_names
  refine (View.read_writes_cons_unit_of_mem _ _ _ _ _ y y rfl
    (by intro a; fin_cases a <;> simp)).trans ?_
  have hy1 := (y 1).isLt; change _ < 128 at hy1
  rcases Nat.lt_or_ge (y 1).val 64 with hc | hc
  · pointwise [k0_pay1, k0_pay2, k0_pay79, k0_pay80, k0_pay81, hc]
    simp only [readAt_f32']
    simp [Nat.div_eq_of_lt hc, Nat.mod_eq_of_lt hc]
  · pointwise [k0_pay1, k0_pay2, k0_pay79, k0_pay80, k0_pay81]
    have e1 : (y 1).val / 64 = 1 := by omega
    have e2 : (y 1).val % 64 = (y 1).val - 64 := by omega
    simp only [dif_neg (Nat.not_lt.mpr hc), readAt_f32', e1, e2]
    simp

theorem outB11 (c : Dev nD) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a11.view.ty.Contents (Elt Ideal)) (y : S512x128.Idx) :
    (a11.view.read (Elt Ideal) (a11.view.writes (Elt Ideal) g ((Body.outB (F := Ideal) c i h2 a2 q2 a3 q3 a4 q4 a5 q5 a6 q6 a7 q7 a8 q8 a9 q9 a10 q10 a11 q11 a12 q12 a13 q13 a14 q14 a15 q15 a16 q16 f13 f14 f15 f16).2.1)) y : EReal) = rd (a15.view.read (Elt Ideal) f15) ((y 1).val / 64) ((y 1).val % 64) (y 0).val := by
  unfold Body.outB
  dsimp only
  sl_unfold_run_names
  refine (View.read_writes_cons_unit_of_mem _ _ _ _ _ y y rfl
    (by intro a; fin_cases a <;> simp)).trans ?_
  have hy1 := (y 1).isLt; change _ < 128 at hy1
  rcases Nat.lt_or_ge (y 1).val 64 with hc | hc
  · pointwise [k0_pay1, k0_pay2, k0_pay79, k0_pay80, k0_pay81, hc]
    simp only [readAt_f32']
    simp [Nat.div_eq_of_lt hc, Nat.mod_eq_of_lt hc]
  · pointwise [k0_pay1, k0_pay2, k0_pay79, k0_pay80, k0_pay81]
    have e1 : (y 1).val / 64 = 1 := by omega
    have e2 : (y 1).val % 64 = (y 1).val - 64 := by omega
    simp only [dif_neg (Nat.not_lt.mpr hc), readAt_f32', e1, e2]
    simp

theorem outB12 (c : Dev nD) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a12.view.ty.Contents (Elt Ideal)) (y : S2x1x512.Idx) :
    (a12.view.read (Elt Ideal) (a12.view.writes (Elt Ideal) g ((Body.outB (F := Ideal) c i h2 a2 q2 a3 q3 a4 q4 a5 q5 a6 q6 a7 q7 a8 q8 a9 q9 a10 q10 a11 q11 a12 q12 a13 q13 a14 q14 a15 q15 a16 q16 f13 f14 f15 f16).2.2.1)) y : EReal) = a16.view.read (Elt Ideal) f16 y := by
  unfold Body.outB
  dsimp only
  sl_unfold_run_names
  refine (View.read_writes_cons_unit_of_mem _ _ _ _ _ y y rfl
    (by intro a; fin_cases a <;> simp)).trans ?_
  refine (readAt_f32' _ _ _ _).trans ?_
  rw [rd_eq (a16.view.read (Elt Ideal) f16) (y 0).val (y 1).val (y 2).val y rfl rfl rfl]
  simp

theorem outC9 (c : Dev nD) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a9.view.ty.Contents (Elt Ideal)) (y : S4096x128.Idx) :
    (a9.view.read (Elt Ideal) (a9.view.writes (Elt Ideal) g ((Body.outC (F := Ideal) c i h2 a2 q2 a3 q3 a4 q4 a5 q5 a6 q6 a7 q7 a8 q8 a9 q9 a10 q10 a11 q11 a12 q12 a13 q13 a14 q14 a15 q15 a16 q16 f13 f14 f15 f16).1)) y : EReal) = rd (a13.view.read (Elt Ideal) f13) ((y 1).val / 64) ((y 1).val % 64) (y 0).val := by
  unfold Body.outC
  dsimp only
  sl_unfold_run_names
  refine (View.read_writes_cons_unit_of_mem _ _ _ _ _ y y rfl
    (by intro a; fin_cases a <;> simp)).trans ?_
  have hy1 := (y 1).isLt; change _ < 128 at hy1
  rcases Nat.lt_or_ge (y 1).val 64 with hc | hc
  · pointwise [k0_pay1, k0_pay2, k0_pay79, k0_pay80, k0_pay81, hc]
    simp only [readAt_f32']
    simp [Nat.div_eq_of_lt hc, Nat.mod_eq_of_lt hc]
  · pointwise [k0_pay1, k0_pay2, k0_pay79, k0_pay80, k0_pay81]
    have e1 : (y 1).val / 64 = 1 := by omega
    have e2 : (y 1).val % 64 = (y 1).val - 64 := by omega
    simp only [dif_neg (Nat.not_lt.mpr hc), readAt_f32', e1, e2]
    simp

theorem outC10 (c : Dev nD) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a10.view.ty.Contents (Elt Ideal)) (y : S512x128.Idx) :
    (a10.view.read (Elt Ideal) (a10.view.writes (Elt Ideal) g ((Body.outC (F := Ideal) c i h2 a2 q2 a3 q3 a4 q4 a5 q5 a6 q6 a7 q7 a8 q8 a9 q9 a10 q10 a11 q11 a12 q12 a13 q13 a14 q14 a15 q15 a16 q16 f13 f14 f15 f16).2.1)) y : EReal) = rd (a14.view.read (Elt Ideal) f14) ((y 1).val / 64) ((y 1).val % 64) (y 0).val := by
  unfold Body.outC
  dsimp only
  sl_unfold_run_names
  refine (View.read_writes_cons_unit_of_mem _ _ _ _ _ y y rfl
    (by intro a; fin_cases a <;> simp)).trans ?_
  have hy1 := (y 1).isLt; change _ < 128 at hy1
  rcases Nat.lt_or_ge (y 1).val 64 with hc | hc
  · pointwise [k0_pay1, k0_pay2, k0_pay79, k0_pay80, k0_pay81, hc]
    simp only [readAt_f32']
    simp [Nat.div_eq_of_lt hc, Nat.mod_eq_of_lt hc]
  · pointwise [k0_pay1, k0_pay2, k0_pay79, k0_pay80, k0_pay81]
    have e1 : (y 1).val / 64 = 1 := by omega
    have e2 : (y 1).val % 64 = (y 1).val - 64 := by omega
    simp only [dif_neg (Nat.not_lt.mpr hc), readAt_f32', e1, e2]
    simp

theorem outC11 (c : Dev nD) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a11.view.ty.Contents (Elt Ideal)) (y : S512x128.Idx) :
    (a11.view.read (Elt Ideal) (a11.view.writes (Elt Ideal) g ((Body.outC (F := Ideal) c i h2 a2 q2 a3 q3 a4 q4 a5 q5 a6 q6 a7 q7 a8 q8 a9 q9 a10 q10 a11 q11 a12 q12 a13 q13 a14 q14 a15 q15 a16 q16 f13 f14 f15 f16).2.2.1)) y : EReal) = rd (a15.view.read (Elt Ideal) f15) ((y 1).val / 64) ((y 1).val % 64) (y 0).val := by
  unfold Body.outC
  dsimp only
  sl_unfold_run_names
  refine (View.read_writes_cons_unit_of_mem _ _ _ _ _ y y rfl
    (by intro a; fin_cases a <;> simp)).trans ?_
  have hy1 := (y 1).isLt; change _ < 128 at hy1
  rcases Nat.lt_or_ge (y 1).val 64 with hc | hc
  · pointwise [k0_pay1, k0_pay2, k0_pay79, k0_pay80, k0_pay81, hc]
    simp only [readAt_f32']
    simp [Nat.div_eq_of_lt hc, Nat.mod_eq_of_lt hc]
  · pointwise [k0_pay1, k0_pay2, k0_pay79, k0_pay80, k0_pay81]
    have e1 : (y 1).val / 64 = 1 := by omega
    have e2 : (y 1).val % 64 = (y 1).val - 64 := by omega
    simp only [dif_neg (Nat.not_lt.mpr hc), readAt_f32', e1, e2]
    simp

theorem outC12 (c : Dev nD) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (f13 : a13.view.ty.Contents (Elt Ideal)) (f14 : a14.view.ty.Contents (Elt Ideal)) (f15 : a15.view.ty.Contents (Elt Ideal)) (f16 : a16.view.ty.Contents (Elt Ideal)) (g : a12.view.ty.Contents (Elt Ideal)) (y : S2x1x512.Idx) :
    (a12.view.read (Elt Ideal) (a12.view.writes (Elt Ideal) g ((Body.outC (F := Ideal) c i h2 a2 q2 a3 q3 a4 q4 a5 q5 a6 q6 a7 q7 a8 q8 a9 q9 a10 q10 a11 q11 a12 q12 a13 q13 a14 q14 a15 q15 a16 q16 f13 f14 f15 f16).2.2.2.1)) y : EReal) = a16.view.read (Elt Ideal) f16 y := by
  unfold Body.outC
  dsimp only
  sl_unfold_run_names
  refine (View.read_writes_cons_unit_of_mem _ _ _ _ _ y y rfl
    (by intro a; fin_cases a <;> simp)).trans ?_
  refine (readAt_f32' _ _ _ _).trans ?_
  rw [rd_eq (a16.view.read (Elt Ideal) f16) (y 0).val (y 1).val (y 2).val y rfl rfl rfl]
  simp

end Cert.FoxIdeal.Math
end
-- ==== Proof.FoxIdeal.BodyVal.lean ====
/-
The values one grid point computes: its sums over the blocks of rows from the diagonal down, and the body's run with them.
-/
module

public import proofs.«01_k».proof.Proof.FoxIdeal.HeadVal
public import proofs.«01_k».proof.Proof.FoxIdeal.MidSum
public import proofs.«01_k».proof.Proof.FoxIdeal.OutVal

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

local notation "𝕄" => MT nD τ sig Unit (Elt Ideal) ℕ (UR sig nD τ) ℕ

namespace In
variable (S : In)
/-- The gradient of the values over the blocks of rows from the diagonal down. -/
def tv (h j d c : ℕ) : EReal := ∑ u ∈ Finset.range (7 - j + 1), S.bv h (512 * j) (512 * j + 512 * u) d c
/-- The gradient of the keys. -/
def tk (h j d c : ℕ) : EReal := ∑ u ∈ Finset.range (7 - j + 1), S.bk h (512 * j) (512 * j + 512 * u) d c
/-- The gradient of the accumulated log-gates. -/
def tc (h j c : ℕ) : EReal := ∑ u ∈ Finset.range (7 - j + 1), -S.bc h (512 * j) (512 * j + 512 * u) c
/-- What the block of keys adds to the gradient of the queries. -/
def tq (h j d R : ℕ) : EReal := if j ≤ R / 512 then S.bq h (512 * j) (512 * (R / 512)) d (R % 512) else 0
/-- The results' blocks. -/
def outK (j : ℕ) : S512x128.Idx → EReal := fun y => S.tk ((y 1).val / 64) j ((y 1).val % 64) (y 0).val
def outV (j : ℕ) : S512x128.Idx → EReal := fun y => S.tv ((y 1).val / 64) j ((y 1).val % 64) (y 0).val
def outG (j : ℕ) : S2x1x512.Idx → EReal := fun y => S.tc (y 0).val j (y 2).val
/-- The running gradient of the queries after a point. -/
def updQ (j : ℕ) (x : S2x64x4096.Idx → EReal) : S2x64x4096.Idx → EReal :=
  fun y => (if j = 0 then 0 else x y) + S.tq (y 0).val j (y 1).val (y 2).val
end In

/-- The running gradient of the queries, laid out as the result. -/
def outQ (x : S2x64x4096.Idx → EReal) : S4096x128.Idx → EReal := fun y => rd x ((y 1).val / 64) ((y 1).val % 64) (y 0).val

theorem sum_split (f : ℕ → EReal) (n : ℕ) : f 0 + ∑ t ∈ Finset.range n, f (t + 1) = ∑ u ∈ Finset.range (n + 1), f u := by
  rw [Finset.sum_range_succ', add_comm]

theorem rd_of {a b d : ℕ} [NeZero a] [NeZero b] [NeZero d] (x : (⟨3, ![a, b, d]⟩ : Shape).Idx → EReal) (T : ℕ → ℕ → ℕ → EReal)
    (h : ∀ y, x y = T (y 0).val (y 1).val (y 2).val) (p q r : ℕ) (hp : p < a) (hq : q < b) (hr : r < d) : rd x p q r = T p q r := by
  rw [← rd_eq x p q r (ix3 ⟨p, hp⟩ ⟨q, hq⟩ ⟨r, hr⟩) rfl rfl rfl, h]; rfl

theorem firstCond_iff (i : grid0.Coords) : Body.firstCond i = 1#1 ↔ (i 1).val = 0 := by
  have h : ∀ j : Fin 8, (Scalar.cmpi .ne (Scalar.extui (Scalar.cmpi .eq (BitVec.ofNat 32 j.val) 0#32)) 0#32 : BitVec 1) = 1#1 ↔ j.val = 0 := by decide +kernel
  exact h (i 1)

theorem point13 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) (y : S2x64x4096.Idx) :
    (a13.view.read (Elt Ideal) (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 y : EReal) = (In.mk x2 x3 x4 x5 x6 x7 x8).updQ (i 1).val x13 y := by
  have hin : inOf X2 X3 X4 X5 X6 X7 X8 = (In.mk x2 x3 x4 x5 x6 x7 x8) := by unfold inOf; rw [hX2, hX3, hX4, hX5, hX6, hX7, hX8]
  refine (mid13 c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 (by rw [hX3]; exact h21) (by rw [hX3]; exact h24) f13 f14 f15 f16 y).trans ?_
  rw [hin]
  rw [h13 y]
  have hy2 := (y 2).isLt; change _ < 4096 at hy2
  have hj := (i 1).isLt; change _ < 8 at hj
  unfold In.updQ In.tq
  rw [add_assoc]
  refine congrArg₂ (· + ·) rfl ?_
  by_cases ha : (y 2).val / 512 = (i 1).val
  · rw [if_pos ha, if_neg (by omega), if_pos (by omega), add_zero, ha]
  · rw [if_neg ha, zero_add]
    by_cases hb : (i 1).val + 1 ≤ (y 2).val / 512
    · rw [if_pos (by omega), if_pos (by omega)]
    · rw [if_neg (by omega), if_neg (by omega)]

theorem point14 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) (y : S2x64x512.Idx) :
    (a14.view.read (Elt Ideal) (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 y : EReal) = (In.mk x2 x3 x4 x5 x6 x7 x8).tk (y 0).val (i 1).val (y 1).val (y 2).val := by
  have hin : inOf X2 X3 X4 X5 X6 X7 X8 = (In.mk x2 x3 x4 x5 x6 x7 x8) := by unfold inOf; rw [hX2, hX3, hX4, hX5, hX6, hX7, hX8]
  refine (mid14 c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 (by rw [hX3]; exact h21) (by rw [hX3]; exact h24) f13 f14 f15 f16 y).trans ?_
  rw [hin]
  rw [h14 y]
  exact sum_split (fun u => (In.mk x2 x3 x4 x5 x6 x7 x8).bk (y 0).val (512 * (i 1).val) ((512 * (i 1).val) + 512 * u) (y 1).val (y 2).val) (7 - (i 1).val)

theorem point15 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) (y : S2x64x512.Idx) :
    (a15.view.read (Elt Ideal) (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 y : EReal) = (In.mk x2 x3 x4 x5 x6 x7 x8).tv (y 0).val (i 1).val (y 1).val (y 2).val := by
  have hin : inOf X2 X3 X4 X5 X6 X7 X8 = (In.mk x2 x3 x4 x5 x6 x7 x8) := by unfold inOf; rw [hX2, hX3, hX4, hX5, hX6, hX7, hX8]
  refine (mid15 c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 (by rw [hX3]; exact h21) (by rw [hX3]; exact h24) f13 f14 f15 f16 y).trans ?_
  rw [hin]
  rw [h15 y]
  exact sum_split (fun u => (In.mk x2 x3 x4 x5 x6 x7 x8).bv (y 0).val (512 * (i 1).val) ((512 * (i 1).val) + 512 * u) (y 1).val (y 2).val) (7 - (i 1).val)

theorem point16 (c : Dev nD) (i : grid0.Coords) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) (y : S2x1x512.Idx) :
    (a16.view.read (Elt Ideal) (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 y : EReal) = (In.mk x2 x3 x4 x5 x6 x7 x8).tc (y 0).val (i 1).val (y 2).val := by
  have hin : inOf X2 X3 X4 X5 X6 X7 X8 = (In.mk x2 x3 x4 x5 x6 x7 x8) := by unfold inOf; rw [hX2, hX3, hX4, hX5, hX6, hX7, hX8]
  refine (mid16 c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 (by rw [hX3]; exact h21) (by rw [hX3]; exact h24) f13 f14 f15 f16 y).trans ?_
  rw [hin]
  have hy1 := (y 1).isLt; change _ < 1 at hy1
  have hy2 := (y 2).isLt; change _ < 512 at hy2
  have hy0 := (y 0).isLt; change _ < 2 at hy0
  refine Eq.trans ?_ (sum_split (fun u => -(In.mk x2 x3 x4 x5 x6 x7 x8).bc (y 0).val (512 * (i 1).val) ((512 * (i 1).val) + 512 * u) (y 2).val) (7 - (i 1).val))
  refine congrArg₂ (· + ·) ?_ rfl
  obtain h0 | h0 : (y 0).val = 0 ∨ (y 0).val = 1 := by omega
  · rw [if_neg (by omega), h16 y h0, h0]; rfl
  · rw [if_pos h0]
    refine (congrArg₂ (· - ·) (h172 ⟨(y 2).val, hy2⟩) (h173 ⟨(y 2).val, hy2⟩)).trans ?_
    rw [h0]; exact zero_sub _

set_option maxHeartbeats 1600000 in
theorem restB (c : Dev nD) (E : Set ℕ) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) :
    (iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (∃ d, owns (c : Thread nD τ) a10 fullShare d) ∗ (∃ d, owns (c : Thread nD τ) a11 fullShare d) ∗ (∃ d, owns (c : Thread nD τ) a12 fullShare d) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)) : sProp 𝕄)
      ⊢ wp frame (wpE (defs₀ (F := Ideal)) Variants.none c none) E (Body.midProg i a2 q2 a3 q3 a4 q4 a5 q5 a6 q6 a7 q7 a8 q8 a9 q9 a10 q10 a11 q11 a12 q12 a13 q13 a14 q14 a15 q15 a16 q16 a1 v1 v21 v24 v172 v173 >>= fun _ => Body.outProg i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a10 fullShare ((In.mk x2 x3 x4 x5 x6 x7 x8).outK (i 1).val) ∗ owns (c : Thread nD τ) a11 fullShare ((In.mk x2 x3 x4 x5 x6 x7 x8).outV (i 1).val) ∗ owns (c : Thread nD τ) a12 fullShare ((In.mk x2 x3 x4 x5 x6 x7 x8).outG (i 1).val) ∗ owns (c : Thread nD τ) a13 fullShare ((In.mk x2 x3 x4 x5 x6 x7 x8).updQ (i 1).val x13) ∗ (∃ d, owns (c : Thread nD τ) a14 fullShare d) ∗ (∃ d, owns (c : Thread nD τ) a15 fullShare d) ∗ (∃ d, owns (c : Thread nD τ) a16 fullShare d)) : sProp 𝕄)) := by
  rw [wp_bind]
  iintro ⟨H2, H3, H4, H5, H6, H7, H8, H10, H11, H12, H13, H14, H15, H16⟩
  iapply ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.2 E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  iintro ⟨H2, H3, H4, H5, H6, H7, H8, H13, H14, H15, H16⟩
  iapply ((Body.outB (F := Ideal) c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1).2.2.2 E _)
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨⟨%g10, H10⟩, ⟨%g11, H11⟩, ⟨%g12, H12⟩, H13, H14, H15, H16⟩
  unfold owns
  isplitl [H2]
  · iexists _; isplitr
    swap; · iexact H2
    ipureintro; exact hX2
  isplitl [H3]
  · iexists _; isplitr
    swap; · iexact H3
    ipureintro; exact hX3
  isplitl [H4]
  · iexists _; isplitr
    swap; · iexact H4
    ipureintro; exact hX4
  isplitl [H5]
  · iexists _; isplitr
    swap; · iexact H5
    ipureintro; exact hX5
  isplitl [H6]
  · iexists _; isplitr
    swap; · iexact H6
    ipureintro; exact hX6
  isplitl [H7]
  · iexists _; isplitr
    swap; · iexact H7
    ipureintro; exact hX7
  isplitl [H8]
  · iexists _; isplitr
    swap; · iexact H8
    ipureintro; exact hX8
  isplitl [H10]
  · iexists _; isplitr
    swap; · iexact H10
    ipureintro; funext y
    have hy1 := (y 1).isLt; change _ < 128 at hy1
    refine (outB10 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g10 y).trans (rd_of _ (fun p q r => (In.mk x2 x3 x4 x5 x6 x7 x8).tk p (i 1).val q r) (fun y => point14 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y) _ _ _ (by omega) (by omega) (y 0).isLt)
  isplitl [H11]
  · iexists _; isplitr
    swap; · iexact H11
    ipureintro; funext y
    have hy1 := (y 1).isLt; change _ < 128 at hy1
    refine (outB11 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g11 y).trans (rd_of _ (fun p q r => (In.mk x2 x3 x4 x5 x6 x7 x8).tv p (i 1).val q r) (fun y => point15 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y) _ _ _ (by omega) (by omega) (y 0).isLt)
  isplitl [H12]
  · iexists _; isplitr
    swap; · iexact H12
    ipureintro; funext y
    exact (outB12 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g12 y).trans (point16 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y)
  isplitl [H13]
  · iexists _; isplitr
    swap; · iexact H13
    ipureintro; funext y
    exact point13 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

set_option maxHeartbeats 1600000 in
/-- The body at a point that does not write the gradient of the queries back. -/
theorem bodyB (c : Dev nD) (E : Set ℕ) (i : grid0.Coords) (h2 : ¬k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) :
    (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a10 fullShare d) ∗ (∃ d, owns (c : Thread nD τ) a11 fullShare d) ∗ (∃ d, owns (c : Thread nD τ) a12 fullShare d) ∗ owns (c : Thread nD τ) a13 fullShare x13 ∗ (∃ d, owns (c : Thread nD τ) a14 fullShare d) ∗ (∃ d, owns (c : Thread nD τ) a15 fullShare d) ∗ (∃ d, owns (c : Thread nD τ) a16 fullShare d)) : sProp 𝕄)
      ⊢ wp frame (wpE (defs₀ (F := Ideal)) Variants.none c none) E (cc0_attn_b_bwd (F := Ideal) i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a10 fullShare ((In.mk x2 x3 x4 x5 x6 x7 x8).outK (i 1).val) ∗ owns (c : Thread nD τ) a11 fullShare ((In.mk x2 x3 x4 x5 x6 x7 x8).outV (i 1).val) ∗ owns (c : Thread nD τ) a12 fullShare ((In.mk x2 x3 x4 x5 x6 x7 x8).outG (i 1).val) ∗ owns (c : Thread nD τ) a13 fullShare ((In.mk x2 x3 x4 x5 x6 x7 x8).updQ (i 1).val x13) ∗ (∃ d, owns (c : Thread nD τ) a14 fullShare d) ∗ (∃ d, owns (c : Thread nD τ) a15 fullShare d) ∗ (∃ d, owns (c : Thread nD τ) a16 fullShare d)) : sProp 𝕄)) := by
  rw [Body.body_split, wp_bind]
  by_cases h1 : Body.firstCond i = 1#1
  · have hj : (i 1).val = 0 := (firstCond_iff i).1 h1
    iintro ⟨H2, H3, H4, H5, H6, H7, H8, H10, H11, H12, H13, H14, H15, H16⟩
    iapply ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    unfold owns
    iintro ⟨⟨%X2, %hX2, H2⟩, ⟨%X3, %hX3, H3⟩, ⟨%X4, %hX4, H4⟩, ⟨%X5, %hX5, H5⟩, ⟨%X6, %hX6, H6⟩, ⟨%X7, %hX7, H7⟩, ⟨%X8, %hX8, H8⟩, ⟨%f13, H13⟩, ⟨%f14, H14⟩, ⟨%f15, H15⟩, ⟨%f16, H16⟩⟩
    iapply (restB c E i h2 a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 _ _ _ _ _ _
      (fun d e => headA_v21 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun d e => headA_v24 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun e => headA_v172 c i h1 a2 q2 a3 q3 a4 q4 a5 q5 a6 q6 a7 q7 a8 q8 a9 q9 a10 q10 a11 q11 a12 q12 a13 q13 a14 q14 a15 q15 a16 q16 x2 x3 x4 x5 x6 x7 x8 x13 e) (fun e => headA_v173 c i h1 a2 q2 a3 q3 a4 q4 a5 q5 a6 q6 a7 q7 a8 q8 a9 q9 a10 q10 a11 q11 a12 q12 a13 q13 a14 q14 a15 q15 a16 q16 x2 x3 x4 x5 x6 x7 x8 x13 e)
      x13 _ _ _ _ (fun y => (headA13 c i h1 a2 q2 a3 q3 a4 q4 a5 q5 a6 q6 a7 q7 a8 q8 a9 q9 a10 q10 a11 q11 a12 q12 a13 q13 a14 q14 a15 q15 a16 q16 x2 x3 x4 x5 x6 x7 x8 x13 f13 y).trans (by rw [if_pos hj])) (fun y => headA14 c i h1 a2 q2 a3 q3 a4 q4 a5 q5 a6 q6 a7 q7 a8 q8 a9 q9 a10 q10 a11 q11 a12 q12 a13 q13 a14 q14 a15 q15 a16 q16 x2 x3 x4 x5 x6 x7 x8 x13 f14 y) (fun y => headA15 c i h1 a2 q2 a3 q3 a4 q4 a5 q5 a6 q6 a7 q7 a8 q8 a9 q9 a10 q10 a11 q11 a12 q12 a13 q13 a14 q14 a15 q15 a16 q16 x2 x3 x4 x5 x6 x7 x8 x13 f15 y) (fun y h => headA16_0 c i h1 a2 q2 a3 q3 a4 q4 a5 q5 a6 q6 a7 q7 a8 q8 a9 q9 a10 q10 a11 q11 a12 q12 a13 q13 a14 q14 a15 q15 a16 q16 x2 x3 x4 x5 x6 x7 x8 x13 f16 y h))
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    iexact H16
  · have hj : ¬(i 1).val = 0 := fun h => h1 ((firstCond_iff i).2 h)
    iintro ⟨H2, H3, H4, H5, H6, H7, H8, H10, H11, H12, H13, H14, H15, H16⟩
    iapply ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    unfold owns
    iintro ⟨⟨%X2, %hX2, H2⟩, ⟨%X3, %hX3, H3⟩, ⟨%X4, %hX4, H4⟩, ⟨%X5, %hX5, H5⟩, ⟨%X6, %hX6, H6⟩, ⟨%X7, %hX7, H7⟩, ⟨%X8, %hX8, H8⟩, H13, ⟨%f14, H14⟩, ⟨%f15, H15⟩, ⟨%f16, H16⟩⟩
    iapply (restB c E i h2 a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 _ _ _ _ _ _
      (fun d e => headB_v21 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun d e => headB_v24 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun e => headB_v172 c i h1 a2 q2 a3 q3 a4 q4 a5 q5 a6 q6 a7 q7 a8 q8 a9 q9 a10 q10 a11 q11 a12 q12 a13 q13 a14 q14 a15 q15 a16 q16 x2 x3 x4 x5 x6 x7 x8 x13 e) (fun e => headB_v173 c i h1 a2 q2 a3 q3 a4 q4 a5 q5 a6 q6 a7 q7 a8 q8 a9 q9 a10 q10 a11 q11 a12 q12 a13 q13 a14 q14 a15 q15 a16 q16 x2 x3 x4 x5 x6 x7 x8 x13 e)
      x13 _ _ _ _ (fun y => (headB13 c i h1 a2 q2 a3 q3 a4 q4 a5 q5 a6 q6 a7 q7 a8 q8 a9 q9 a10 q10 a11 q11 a12 q12 a13 q13 a14 q14 a15 q15 a16 q16 x2 x3 x4 x5 x6 x7 x8 x13 y).trans (by rw [if_neg hj])) (fun y => headB14 c i h1 a2 q2 a3 q3 a4 q4 a5 q5 a6 q6 a7 q7 a8 q8 a9 q9 a10 q10 a11 q11 a12 q12 a13 q13 a14 q14 a15 q15 a16 q16 x2 x3 x4 x5 x6 x7 x8 x13 f14 y) (fun y => headB15 c i h1 a2 q2 a3 q3 a4 q4 a5 q5 a6 q6 a7 q7 a8 q8 a9 q9 a10 q10 a11 q11 a12 q12 a13 q13 a14 q14 a15 q15 a16 q16 x2 x3 x4 x5 x6 x7 x8 x13 f15 y) (fun y h => headB16_0 c i h1 a2 q2 a3 q3 a4 q4 a5 q5 a6 q6 a7 q7 a8 q8 a9 q9 a10 q10 a11 q11 a12 q12 a13 q13 a14 q14 a15 q15 a16 q16 x2 x3 x4 x5 x6 x7 x8 x13 f16 y h))
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    iexact H16

set_option maxHeartbeats 1600000 in
theorem restC (c : Dev nD) (E : Set ℕ) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole) (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (X2 : a2.view.ty.Contents (Elt Ideal)) (X3 : a3.view.ty.Contents (Elt Ideal)) (X4 : a4.view.ty.Contents (Elt Ideal)) (X5 : a5.view.ty.Contents (Elt Ideal)) (X6 : a6.view.ty.Contents (Elt Ideal)) (X7 : a7.view.ty.Contents (Elt Ideal)) (X8 : a8.view.ty.Contents (Elt Ideal)) (hX2 : a2.view.read (Elt Ideal) X2 = x2) (hX3 : a3.view.read (Elt Ideal) X3 = x3) (hX4 : a4.view.read (Elt Ideal) X4 = x4) (hX5 : a5.view.read (Elt Ideal) X5 = x5) (hX6 : a6.view.read (Elt Ideal) X6 = x6) (hX7 : a7.view.read (Elt Ideal) X7 = x7) (hX8 : a8.view.read (Elt Ideal) X8 = x8) (a1 : BitVec 32) (v1 : BitVec 32) (v21 : FVec Ideal S64x512 .bf16) (v24 : FVec Ideal S64x512 .bf16) (v172 : FVec Ideal S1x512 .f32) (v173 : FVec Ideal S512 .f32)
    (h21 : ∀ (d : Fin 64) (e : Fin 512), v21 (ix2 d e) = rd x3 0 e.val d.val) (h24 : ∀ (d : Fin 64) (e : Fin 512), v24 (ix2 d e) = rd x3 1 e.val d.val)
    (h172 : ∀ e : Fin 512, (v172 (ix2 0 e) : EReal) = 0) (h173 : ∀ e : Fin 512, v173 (ix1 e) = (In.mk x2 x3 x4 x5 x6 x7 x8).bc 1 (512 * (i 1).val) (512 * (i 1).val) e.val)
    (x13 : S2x64x4096.Idx → EReal) (f13 : a13.view.ty.Contents (Elt Ideal)) (f14 : a14.view.ty.Contents (Elt Ideal)) (f15 : a15.view.ty.Contents (Elt Ideal)) (f16 : a16.view.ty.Contents (Elt Ideal))
    (h13 : ∀ y : S2x64x4096.Idx, (a13.view.read (Elt Ideal) f13 y : EReal) = (if (i 1).val = 0 then 0 else x13 y) + if (y 2).val / 512 = (i 1).val then (In.mk x2 x3 x4 x5 x6 x7 x8).bq (y 0).val (512 * (i 1).val) (512 * (i 1).val) (y 1).val ((y 2).val % 512) else 0)
    (h14 : ∀ y : S2x64x512.Idx, (a14.view.read (Elt Ideal) f14 y : EReal) = (In.mk x2 x3 x4 x5 x6 x7 x8).bk (y 0).val (512 * (i 1).val) (512 * (i 1).val) (y 1).val (y 2).val)
    (h15 : ∀ y : S2x64x512.Idx, (a15.view.read (Elt Ideal) f15 y : EReal) = (In.mk x2 x3 x4 x5 x6 x7 x8).bv (y 0).val (512 * (i 1).val) (512 * (i 1).val) (y 1).val (y 2).val)
    (h16 : ∀ y : S2x1x512.Idx, (y 0).val = 0 → (a16.view.read (Elt Ideal) f16 y : EReal) = -(In.mk x2 x3 x4 x5 x6 x7 x8).bc 0 (512 * (i 1).val) (512 * (i 1).val) (y 2).val) :
    (iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)) : sProp 𝕄)
      ⊢ wp frame (wpE (defs₀ (F := Ideal)) Variants.none c none) E (Body.midProg i a2 q2 a3 q3 a4 q4 a5 q5 a6 q6 a7 q7 a8 q8 a9 q9 a10 q10 a11 q11 a12 q12 a13 q13 a14 q14 a15 q15 a16 q16 a1 v1 v21 v24 v172 v173 >>= fun _ => Body.outProg i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (outQ ((In.mk x2 x3 x4 x5 x6 x7 x8).updQ (i 1).val x13)) ∗ owns (c : Thread nD τ) a10 fullShare ((In.mk x2 x3 x4 x5 x6 x7 x8).outK (i 1).val) ∗ owns (c : Thread nD τ) a11 fullShare ((In.mk x2 x3 x4 x5 x6 x7 x8).outV (i 1).val) ∗ owns (c : Thread nD τ) a12 fullShare ((In.mk x2 x3 x4 x5 x6 x7 x8).outG (i 1).val) ∗ owns (c : Thread nD τ) a13 fullShare ((In.mk x2 x3 x4 x5 x6 x7 x8).updQ (i 1).val x13) ∗ (∃ d, owns (c : Thread nD τ) a14 fullShare d) ∗ (∃ d, owns (c : Thread nD τ) a15 fullShare d) ∗ (∃ d, owns (c : Thread nD τ) a16 fullShare d)) : sProp 𝕄)) := by
  rw [wp_bind]
  iintro ⟨H2, H3, H4, H5, H6, H7, H8, H9, H10, H11, H12, H13, H14, H15, H16⟩
  iapply ((Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.2 E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  iintro ⟨H2, H3, H4, H5, H6, H7, H8, H13, H14, H15, H16⟩
  iapply ((Body.outC (F := Ideal) c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1).2.2.2.2 E _)
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨⟨%g9, H9⟩, ⟨%g10, H10⟩, ⟨%g11, H11⟩, ⟨%g12, H12⟩, H13, H14, H15, H16⟩
  unfold owns
  isplitl [H2]
  · iexists _; isplitr
    swap; · iexact H2
    ipureintro; exact hX2
  isplitl [H3]
  · iexists _; isplitr
    swap; · iexact H3
    ipureintro; exact hX3
  isplitl [H4]
  · iexists _; isplitr
    swap; · iexact H4
    ipureintro; exact hX4
  isplitl [H5]
  · iexists _; isplitr
    swap; · iexact H5
    ipureintro; exact hX5
  isplitl [H6]
  · iexists _; isplitr
    swap; · iexact H6
    ipureintro; exact hX6
  isplitl [H7]
  · iexists _; isplitr
    swap; · iexact H7
    ipureintro; exact hX7
  isplitl [H8]
  · iexists _; isplitr
    swap; · iexact H8
    ipureintro; exact hX8
  isplitl [H9]
  · iexists _; isplitr
    swap; · iexact H9
    ipureintro; funext y
    refine (outC9 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g9 y).trans (congrArg (fun x => rd x ((y 1).val / 64) ((y 1).val % 64) (y 0).val) (funext fun y => point13 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y))
  isplitl [H10]
  · iexists _; isplitr
    swap; · iexact H10
    ipureintro; funext y
    have hy1 := (y 1).isLt; change _ < 128 at hy1
    refine (outC10 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g10 y).trans (rd_of _ (fun p q r => (In.mk x2 x3 x4 x5 x6 x7 x8).tk p (i 1).val q r) (fun y => point14 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y) _ _ _ (by omega) (by omega) (y 0).isLt)
  isplitl [H11]
  · iexists _; isplitr
    swap; · iexact H11
    ipureintro; funext y
    have hy1 := (y 1).isLt; change _ < 128 at hy1
    refine (outC11 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g11 y).trans (rd_of _ (fun p q r => (In.mk x2 x3 x4 x5 x6 x7 x8).tv p (i 1).val q r) (fun y => point15 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y) _ _ _ (by omega) (by omega) (y 0).isLt)
  isplitl [H12]
  · iexists _; isplitr
    swap; · iexact H12
    ipureintro; funext y
    exact (outC12 c i h2 a2 q2 a3 q3 a4 q4 a5 q5 a6 q6 a7 q7 a8 q8 a9 q9 a10 q10 a11 q11 a12 q12 a13 q13 a14 q14 a15 q15 a16 q16 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.1 (Body.midRun (F := Ideal) c i a2 q2 a3 q3 a4 q4 a5 q5 a6 q6 a7 q7 a8 q8 a9 q9 a10 q10 a11 q11 a12 q12 a13 q13 a14 q14 a15 q15 a16 q16 X2 X3 X4 X5 X6 X7 X8 a1 v1 v21 v24 v172 v173 f13 f14 f15 f16).2.2.2.1 g12 y).trans (point16 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y)
  isplitl [H13]
  · iexists _; isplitr
    swap; · iexact H13
    ipureintro; funext y
    exact point13 c i a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 a1 v1 v21 v24 v172 v173 h21 h24 h172 h173 x13 f13 f14 f15 f16 h13 h14 h15 h16 y
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

set_option maxHeartbeats 1600000 in
/-- The body at a point that writes the gradient of the queries back. -/
theorem bodyC (c : Dev nD) (E : Set ℕ) (i : grid0.Coords) (h2 : k0_cond2 i = 1#1) (a2 : Memref sig .tc .vmem S2x4096x64 .bf16) (q2 : a2.IsWhole) (a3 : Memref sig .tc .vmem S2x512x64 .bf16) (q3 : a3.IsWhole) (a4 : Memref sig .tc .vmem S2x512x64 .bf16) (q4 : a4.IsWhole) (a5 : Memref sig .tc .vmem S2x4096x64 .bf16) (q5 : a5.IsWhole) (a6 : Memref sig .tc .vmem S2x4096x64 .f32) (q6 : a6.IsWhole) (a7 : Memref sig .tc .vmem S2x4096x64 .f32) (q7 : a7.IsWhole) (a8 : Memref sig .tc .vmem S2x1x4096 .f32) (q8 : a8.IsWhole) (a9 : Memref sig .tc .vmem S4096x128 .f32) (q9 : a9.IsWhole) (a10 : Memref sig .tc .vmem S512x128 .f32) (q10 : a10.IsWhole) (a11 : Memref sig .tc .vmem S512x128 .f32) (q11 : a11.IsWhole) (a12 : Memref sig .tc .vmem S2x1x512 .f32) (q12 : a12.IsWhole) (a13 : Memref sig .tc .vmem S2x64x4096 .f32) (q13 : a13.IsWhole) (a14 : Memref sig .tc .vmem S2x64x512 .f32) (q14 : a14.IsWhole) (a15 : Memref sig .tc .vmem S2x64x512 .f32) (q15 : a15.IsWhole) (a16 : Memref sig .tc .vmem S2x1x512 .f32) (q16 : a16.IsWhole)
    (x2 : Vec Ideal S2x4096x64 .bf16) (x3 : Vec Ideal S2x512x64 .bf16) (x4 : Vec Ideal S2x512x64 .bf16) (x5 : Vec Ideal S2x4096x64 .bf16) (x6 : Vec Ideal S2x4096x64 .f32) (x7 : Vec Ideal S2x4096x64 .f32) (x8 : Vec Ideal S2x1x4096 .f32) (x13 : Vec Ideal S2x64x4096 .f32) :
    (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ owns (c : Thread nD τ) a13 fullShare x13 ∗ (∃ d, owns (c : Thread nD τ) a14 fullShare d) ∗ (∃ d, owns (c : Thread nD τ) a15 fullShare d) ∗ (∃ d, owns (c : Thread nD τ) a16 fullShare d)) : sProp 𝕄)
      ⊢ wp frame (wpE (defs₀ (F := Ideal)) Variants.none c none) E (cc0_attn_b_bwd (F := Ideal) i a2 q2 a3 q3 a4 q4 a5 q5 a6 q6 a7 q7 a8 q8 a9 q9 a10 q10 a11 q11 a12 q12 a13 q13 a14 q14 a15 q15 a16 q16) (fun _ => (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (outQ ((In.mk x2 x3 x4 x5 x6 x7 x8).updQ (i 1).val x13)) ∗ owns (c : Thread nD τ) a10 fullShare ((In.mk x2 x3 x4 x5 x6 x7 x8).outK (i 1).val) ∗ owns (c : Thread nD τ) a11 fullShare ((In.mk x2 x3 x4 x5 x6 x7 x8).outV (i 1).val) ∗ owns (c : Thread nD τ) a12 fullShare ((In.mk x2 x3 x4 x5 x6 x7 x8).outG (i 1).val) ∗ owns (c : Thread nD τ) a13 fullShare ((In.mk x2 x3 x4 x5 x6 x7 x8).updQ (i 1).val x13) ∗ (∃ d, owns (c : Thread nD τ) a14 fullShare d) ∗ (∃ d, owns (c : Thread nD τ) a15 fullShare d) ∗ (∃ d, owns (c : Thread nD τ) a16 fullShare d)) : sProp 𝕄)) := by
  rw [Body.body_split, wp_bind]
  by_cases h1 : Body.firstCond i = 1#1
  · have hj : (i 1).val = 0 := (firstCond_iff i).1 h1
    iintro ⟨H2, H3, H4, H5, H6, H7, H8, H9, H10, H11, H12, H13, H14, H15, H16⟩
    iapply ((Body.headA (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    unfold owns
    iintro ⟨⟨%X2, %hX2, H2⟩, ⟨%X3, %hX3, H3⟩, ⟨%X4, %hX4, H4⟩, ⟨%X5, %hX5, H5⟩, ⟨%X6, %hX6, H6⟩, ⟨%X7, %hX7, H7⟩, ⟨%X8, %hX8, H8⟩, ⟨%f13, H13⟩, ⟨%f14, H14⟩, ⟨%f15, H15⟩, ⟨%f16, H16⟩⟩
    iapply (restC c E i h2 a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 _ _ _ _ _ _
      (fun d e => headA_v21 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun d e => headA_v24 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun e => headA_v172 c i h1 a2 q2 a3 q3 a4 q4 a5 q5 a6 q6 a7 q7 a8 q8 a9 q9 a10 q10 a11 q11 a12 q12 a13 q13 a14 q14 a15 q15 a16 q16 x2 x3 x4 x5 x6 x7 x8 x13 e) (fun e => headA_v173 c i h1 a2 q2 a3 q3 a4 q4 a5 q5 a6 q6 a7 q7 a8 q8 a9 q9 a10 q10 a11 q11 a12 q12 a13 q13 a14 q14 a15 q15 a16 q16 x2 x3 x4 x5 x6 x7 x8 x13 e)
      x13 _ _ _ _ (fun y => (headA13 c i h1 a2 q2 a3 q3 a4 q4 a5 q5 a6 q6 a7 q7 a8 q8 a9 q9 a10 q10 a11 q11 a12 q12 a13 q13 a14 q14 a15 q15 a16 q16 x2 x3 x4 x5 x6 x7 x8 x13 f13 y).trans (by rw [if_pos hj])) (fun y => headA14 c i h1 a2 q2 a3 q3 a4 q4 a5 q5 a6 q6 a7 q7 a8 q8 a9 q9 a10 q10 a11 q11 a12 q12 a13 q13 a14 q14 a15 q15 a16 q16 x2 x3 x4 x5 x6 x7 x8 x13 f14 y) (fun y => headA15 c i h1 a2 q2 a3 q3 a4 q4 a5 q5 a6 q6 a7 q7 a8 q8 a9 q9 a10 q10 a11 q11 a12 q12 a13 q13 a14 q14 a15 q15 a16 q16 x2 x3 x4 x5 x6 x7 x8 x13 f15 y) (fun y h => headA16_0 c i h1 a2 q2 a3 q3 a4 q4 a5 q5 a6 q6 a7 q7 a8 q8 a9 q9 a10 q10 a11 q11 a12 q12 a13 q13 a14 q14 a15 q15 a16 q16 x2 x3 x4 x5 x6 x7 x8 x13 f16 y h))
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · have hj : ¬(i 1).val = 0 := fun h => h1 ((firstCond_iff i).2 h)
    iintro ⟨H2, H3, H4, H5, H6, H7, H8, H9, H10, H11, H12, H13, H14, H15, H16⟩
    iapply ((Body.headB (F := Ideal) c i h1 a2 q2 a3 q3 a4 q4 a5 q5 a6 q6 a7 q7 a8 q8 a9 q9 a10 q10 a11 q11 a12 q12 a13 q13 a14 q14 a15 q15 a16 q16 x2 x3 x4 x5 x6 x7 x8 x13).2.2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H13]; · iexact H13
    isplitl [H14]; · iexact H14
    isplitl [H15]; · iexact H15
    isplitl [H16]; · iexact H16
    unfold owns
    iintro ⟨⟨%X2, %hX2, H2⟩, ⟨%X3, %hX3, H3⟩, ⟨%X4, %hX4, H4⟩, ⟨%X5, %hX5, H5⟩, ⟨%X6, %hX6, H6⟩, ⟨%X7, %hX7, H7⟩, ⟨%X8, %hX8, H8⟩, H13, ⟨%f14, H14⟩, ⟨%f15, H15⟩, ⟨%f16, H16⟩⟩
    iapply (restC c E i h2 a2 q2 a3 q3 a4 q4 a5 q5 a6 q6 a7 q7 a8 q8 a9 q9 a10 q10 a11 q11 a12 q12 a13 q13 a14 q14 a15 q15 a16 q16 x2 x3 x4 x5 x6 x7 x8 X2 X3 X4 X5 X6 X7 X8 hX2 hX3 hX4 hX5 hX6 hX7 hX8 _ _ _ _ _ _
      (fun d e => headB_v21 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun d e => headB_v24 c i h1 a2 q2 a3 q3 a4 q4 a5 q5 a6 q6 a7 q7 a8 q8 a9 q9 a10 q10 a11 q11 a12 q12 a13 q13 a14 q14 a15 q15 a16 q16 x2 x3 x4 x5 x6 x7 x8 x13 d e) (fun e => headB_v172 c i h1 a2 q2 a3 q3 a4 q4 a5 q5 a6 q6 a7 q7 a8 q8 a9 q9 a10 q10 a11 q11 a12 q12 a13 q13 a14 q14 a15 q15 a16 q16 x2 x3 x4 x5 x6 x7 x8 x13 e) (fun e => headB_v173 c i h1 a2 q2 a3 q3 a4 q4 a5 q5 a6 q6 a7 q7 a8 q8 a9 q9 a10 q10 a11 q11 a12 q12 a13 q13 a14 q14 a15 q15 a16 q16 x2 x3 x4 x5 x6 x7 x8 x13 e)
      x13 _ _ _ _ (fun y => (headB13 c i h1 a2 q2 a3 q3 a4 q4 a5 q5 a6 q6 a7 q7 a8 q8 a9 q9 a10 q10 a11 q11 a12 q12 a13 q13 a14 q14 a15 q15 a16 q16 x2 x3 x4 x5 x6 x7 x8 x13 y).trans (by rw [if_neg hj])) (fun y => headB14 c i h1 a2 q2 a3 q3 a4 q4 a5 q5 a6 q6 a7 q7 a8 q8 a9 q9 a10 q10 a11 q11 a12 q12 a13 q13 a14 q14 a15 q15 a16 q16 x2 x3 x4 x5 x6 x7 x8 x13 f14 y) (fun y => headB15 c i h1 a2 q2 a3 q3 a4 q4 a5 q5 a6 q6 a7 q7 a8 q8 a9 q9 a10 q10 a11 q11 a12 q12 a13 q13 a14 q14 a15 q15 a16 q16 x2 x3 x4 x5 x6 x7 x8 x13 f15 y) (fun y h => headB16_0 c i h1 a2 q2 a3 q3 a4 q4 a5 q5 a6 q6 a7 q7 a8 q8 a9 q9 a10 q10 a11 q11 a12 q12 a13 q13 a14 q14 a15 q15 a16 q16 x2 x3 x4 x5 x6 x7 x8 x13 f16 y h))
    unfold owns
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.FoxIdeal.Math
end
-- ==== Proof.FoxIdeal.RunVal.lean ====
/-
  The backward pass of the forgetting attention: every run of the program, with what its grid leaves in the four results.
-/
module

public import proofs.«01_k».proof.Proof.FoxIdeal.Frame
public import proofs.«01_k».proof.Proof.FoxIdeal.BodyVal
public import Idealize.ShloMosaic.Lib.Claim

@[expose] public section

set_option maxRecDepth 16384

noncomputable section

namespace Cert.FoxIdeal.Math

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxIdeal Cert.FoxIdeal.Gen

open Cert.FoxIdeal.Loose (sc0 sc1 sc2 sc3 PhiA0_eq)

local notation "𝕄" => MT nD τ sig Unit (Elt Ideal) ℕ (UR sig nD τ) ℕ

variable (m : (ℓ : Loc nD τ sig) → Buf (Elt Ideal) ℓ) (ρ : Dev nD → PrngReg)

/-- The arrays one point reads. -/
def pin (c : Dev nD) (t : Fin cfg0.N) : In := ⟨iblk m c 0 t, iblk m c 1 t, iblk m c 2 t, iblk m c 3 t, iblk m c 4 t, iblk m c 5 t, iblk m c 6 t⟩

/-- The running gradient of the queries before point `n`. -/
def acc (c : Dev nD) : ℕ → S2x64x4096.Idx → EReal
  | 0 => fun _ => 0
  | n + 1 => if h : n < cfg0.N then (pin m c ⟨n, h⟩).updQ (cfg0.grid.coords ⟨n, h⟩ 1).val (acc c n) else fun _ => 0

/-- What lies between two grid points: the running gradient of the queries, the other accumulators at some contents, and the generator. -/
def Phi (c : Dev nD) (n : ℕ) : sProp 𝕄 :=
  iprop(iprop((∃ d, ⌜n % 8 ≠ 0 → d = acc m c n⌝ ∗ owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r))

/-- The proof data: the inputs' blocks stay as they are, the results are the sums, and between two grid points
    the running gradient of the queries is known. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outQ (acc m c (t.val + 1))
    | ⟨8, _⟩ => (pin m c t).outK (cfg0.grid.coords t 1).val
    | ⟨9, _⟩ => (pin m c t).outV (cfg0.grid.coords t 1).val
    | ⟨10, _⟩ => (pin m c t).outG (cfg0.grid.coords t 1).val
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outQ (acc m c (t.val + 1)) := by dsimp only [dats]
theorem after_8 (c : Dev nD) (t : Fin cfg0.N) : (dats m 0 c).after 8 t = (pin m c t).outK (cfg0.grid.coords t 1).val := by dsimp only [dats]
theorem after_9 (c : Dev nD) (t : Fin cfg0.N) : (dats m 0 c).after 9 t = (pin m c t).outV (cfg0.grid.coords t 1).val := by dsimp only [dats]
theorem after_10 (c : Dev nD) (t : Fin cfg0.N) : (dats m 0 c).after 10 t = (pin m c t).outG (cfg0.grid.coords t 1).val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a grid point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back at a point that writes the gradient of the queries back. -/
def bodyPostC (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- What it hands back at any other point. -/
def bodyPostB (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((dats m 0 c).before 7 t d))
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem pt_facts : ∀ t : Fin cfg0.N, (cfg0.grid.coords t 1).val = t.val % 8 ∧ (cfg0.grid.coords t 0).val = t.val / 8 ∧ ((k0_cond2 (cfg0.grid.coords t) = 1#1) ↔ t.val % 8 = 7)
    ∧ cfg0.idle 7 (cfg0.grid.coords t) = !(decide (t.val % 8 = 7)) :=
  (by decide +kernel : ∀ t : Fin grid0.N, (grid0.coords t 1).val = t.val % 8 ∧ (grid0.coords t 0).val = t.val / 8 ∧ ((k0_cond2 (grid0.coords t) = 1#1) ↔ t.val % 8 = 7)
    ∧ idle0 7 (grid0.coords t) = !(decide (t.val % 8 = 7)))

theorem acc_succ (c : Dev nD) (t : Fin cfg0.N) : acc m c (t.val + 1) = (pin m c t).updQ (cfg0.grid.coords t 1).val (acc m c t.val) := by
  rw [acc, dif_pos t.isLt]

/-- A point's update does not look at what came before when it is the first of its pair of heads. -/
theorem upd_acc (c : Dev nD) (t : Fin cfg0.N) (d : S2x64x4096.Idx → EReal) (h : t.val % 8 ≠ 0 → d = acc m c t.val) :
    (pin m c t).updQ (cfg0.grid.coords t 1).val d = acc m c (t.val + 1) := by
  rw [acc_succ]
  by_cases h0 : t.val % 8 = 0
  · unfold In.updQ; rw [(pt_facts t).1, h0]; rfl
  · rw [h h0]

set_option maxHeartbeats 1600000 in
theorem soundB (c : Dev nD) (t : Fin cfg0.N) (h2 : ¬t.val % 8 = 7) :
    bodyPre m c t ⊢ wp frame (wpE (defs₀ (F := Ideal)) Variants.none c none) Set.univ (bodyAt0 t) (fun _ => bodyPostB m c t) := by
  have h2' : ¬k0_cond2 (cfg0.grid.coords t) = 1#1 := fun h => h2 ((pt_facts t).2.2.1.1 h)
  unfold bodyPre bodyPostB bodyAt0
  simp only [before_0, before_1, before_2, before_3, before_4, before_5, before_6]
  rw [show (dats m 0 c).owesAt () t.succ = (dats m 0 c).owesAt () t.castSucc from rfl,
    after_0, after_1, after_2, after_3, after_4, after_5, after_6, after_8, after_9, after_10]
  rw [show (dats m 0 c).Φ t.castSucc = Phi m c t.val from rfl, show (dats m 0 c).Φ t.succ = Phi m c (t.val + 1) from rfl]
  unfold Phi
  iintro ⟨⟨HSS, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩⟩
  icases HSS with ⟨⟨%a, %ha, HS0⟩, HS1, HS2, HS3⟩
  iapply (wp_wand_r Idealize.ShloMosaic.frame (wpE (defs₀ (F := Ideal)) Variants.none c none) Set.univ)
  isplitl [H0 H1 H2 H3 H4 H5 H6 H8 H9 H10 HS0 HS1 HS2 HS3]
  · iapply (bodyB c Set.univ (grid0.coords t) h2' _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) a)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iexact HS3
  · iintro %_ ⟨H0, H1, H2, H3, H4, H5, H6, H8, H9, H10, HS0, HS1, HS2, HS3⟩
    isplitl [HS0 HS1 HS2 HS3 Hg]
    · isplitl [HS0 HS1 HS2 HS3]
      · isplitl [HS0]
        · iexists _
          isplitr
          swap; · iexact HS0
          ipureintro; exact fun _ => upd_acc m c t a ha
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 1600000 in
theorem soundC (c : Dev nD) (t : Fin cfg0.N) (h2 : t.val % 8 = 7) :
    bodyPre m c t ⊢ wp frame (wpE (defs₀ (F := Ideal)) Variants.none c none) Set.univ (bodyAt0 t) (fun _ => bodyPostC m c t) := by
  have h2' : k0_cond2 (cfg0.grid.coords t) = 1#1 := (pt_facts t).2.2.1.2 h2
  unfold bodyPre bodyPostC bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9, after_10]
  rw [show (dats m 0 c).Φ t.castSucc = Phi m c t.val from rfl, show (dats m 0 c).Φ t.succ = Phi m c (t.val + 1) from rfl]
  unfold Phi
  iintro ⟨⟨HSS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases HSS with ⟨⟨%a, %ha, HS0⟩, HS1, HS2, HS3⟩
  iapply (wp_wand_r Idealize.ShloMosaic.frame (wpE (defs₀ (F := Ideal)) Variants.none c none) Set.univ)
  isplitl [H0 H1 H2 H3 H4 H5 H6 H7 H8 H9 H10 HS0 HS1 HS2 HS3]
  · iapply (bodyC c Set.univ (grid0.coords t) h2' _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) a)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iexact HS3
  · iintro %_ ⟨H0, H1, H2, H3, H4, H5, H6, H7, H8, H9, H10, HS0, HS1, HS2, HS3⟩
    isplitl [HS0 HS1 HS2 HS3 Hg]
    · isplitl [HS0 HS1 HS2 HS3]
      · isplitl [HS0]
        · iexists _
          isplitr
          swap; · iexact HS0
          ipureintro; exact fun _ => upd_acc m c t a ha
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [← upd_acc m c t a ha]; iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  by_cases h : t.val % 8 = 7
  · have e7 : cfg0.idle 7 (cfg0.grid.coords t) = false := by rw [(pt_facts t).2.2.2]; simp [h]
    refine triple_restated (soundC m c t h) rfl .rfl fun _ => ?_
    unfold bodyPostC
    simp only [show idle0 7 (grid0.coords t) = false from e7]
    exact .rfl
  · have e7 : cfg0.idle 7 (cfg0.grid.coords t) = true := by rw [(pt_facts t).2.2.2]; simp [h]
    have f7 : (cfg0.win 7).flush t = false := by
      have := (flush0_7 t).not.2 h
      simpa using this
    refine triple_restated (soundB m c t h) rfl .rfl fun _ => ?_
    unfold bodyPostB
    simp only [f7, show idle0 7 (grid0.coords t) = true from e7]
    exact .rfl

theorem Phi_to (c : Dev nD) : (Pipeline.ΦA spec0 c : sProp 𝕄) ⊢ (dats m 0 c).Φ 0 := by
  rw [show (dats m 0 c).Φ 0 = Phi m c 0 from rfl, PhiA0_eq]
  unfold Phi
  iintro ⟨⟨⟨%a, HS0⟩, HS1, HS2, HS3⟩, Hg⟩
  isplitl [HS0 HS1 HS2 HS3]
  · isplitl [HS0]
    · iexists a
      isplitr
      swap; · iexact HS0
      ipureintro; exact fun h => absurd rfl h
    isplitl [HS1]; · iexact HS1
    isplitl [HS2]; · iexact HS2
    iexact HS3
  iexact Hg

theorem Phi_from (c : Dev nD) : (dats m 0 c).Φ (Fin.last cfg0.N) ⊢ (Pipeline.ΦA spec0 c : sProp 𝕄) := by
  rw [show (dats m 0 c).Φ (Fin.last cfg0.N) = Phi m c cfg0.N from rfl, PhiA0_eq]
  unfold Phi
  iintro ⟨⟨⟨%a, %ha, HS0⟩, HS1, HS2, HS3⟩, Hg⟩
  isplitl [HS0 HS1 HS2 HS3]
  · isplitl [HS0]; · iexists a; iexact HS0
    isplitl [HS1]; · iexact HS1
    isplitl [HS2]; · iexact HS2
    iexact HS3
  iexact Hg

set_option backward.isDefEq.respectTransparency.types false in
theorem run_main_quiescent : θ_run defs (onTc (τ := τ) (main (F := Ideal))) (s₀ m ρ)
    (fun r => (Pipeline.FramePost cfgs (dats m) (0 : Fin 1) (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := by exact Phi_to m) (hout := by exact Phi_from m)

/-- Every run ends with the four results at the arrays the grid wrote, the argument arrays as they were and every semaphore at zero. -/
theorem run_main : θ_run defs (onTc (τ := τ) (main (F := Ideal))) ⟨m, fun _ => 0, ρ⟩ (fun r => (∀ c : Dev nD,
      r.2.mem ((c.tc : Thread nD τ).loc main_v74_0) = (dats m 0 c).arrAt 7 cfg0.N
      ∧ r.2.mem ((c.tc : Thread nD τ).loc main_v74_1) = (dats m 0 c).arrAt 8 cfg0.N
      ∧ r.2.mem ((c.tc : Thread nD τ).loc main_v74_2) = (dats m 0 c).arrAt 9 cfg0.N
      ∧ r.2.mem ((c.tc : Thread nD τ).loc main_v74_3) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 7, (h.1 c).1 8, (h.1 c).1 9, (h.1 c).1 10, ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩) (run_main_quiescent m ρ)

end Cert.FoxIdeal.Math

end
-- ==== Proof.FoxIdeal.Soft.lean ====
/-
The arithmetic of the gradient over the real numbers: the masked scores of a query row, their softmax in its two
spellings (relative to the row's largest score, and relative to the logarithm of the row's sum), and the gradient
of the scores in its two spellings.
-/
module

public import Idealize.ShloMosaic.Lib.Pointwise
public import Idealize.ShloMosaic.Lib.IdealHost

@[expose] public section

noncomputable section

namespace Cert.FoxIdeal.Soft

open Idealize.ShloMosaic

/-- The arguments of the attention as real numbers: queries, keys, values and cotangents by head, position and lane,
and the accumulated log-gates by head and position. -/
structure Arg where
  Q : ℕ → ℕ → ℕ → ℝ
  K : ℕ → ℕ → ℕ → ℝ
  V : ℕ → ℕ → ℕ → ℝ
  O : ℕ → ℕ → ℕ → ℝ
  G : ℕ → ℕ → ℝ

namespace Arg
variable (A : Arg) (h r c : ℕ)

/-- The product of a query row and a key. -/
def z : ℝ := ∑ d : Fin 64, A.Q h r d * A.K h c d
/-- The exponential of the score without the row's gate. -/
def w : ℝ := if c ≤ r then Real.exp (A.z h r c - A.G h c) else 0
/-- Its sum over the keys. -/
def W : ℝ := ∑ c : Fin 4096, A.w h r c
/-- The weight of a key. -/
def P : ℝ := A.w h r c / A.W h r
/-- The gradient of a weight. -/
def DP : ℝ := ∑ d : Fin 64, A.O h r d * A.V h c d
/-- The weighted sum of the gradients of a row's weights. -/
def DD : ℝ := ∑ c : Fin 4096, A.P h r c * A.DP h r c
/-- The gradient of a score. -/
def DS : ℝ := A.P h r c * (A.DP h r c - A.DD h r)
/-- The masked score, the row's gate replaced by `a`. -/
def score (a : ℝ) : EReal := if c ≤ r then ((A.z h r c + (a - A.G h c) : ℝ) : EReal) else ⊥
end Arg

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_real {ι : Type} [Fintype ι] (f : ι → EReal) (ht : ∀ i, f i < ⊤) (i : ι) (hi : ⊥ < f i) :
    ∃ M : ℝ, Finset.univ.fold max ⊥ f = (M : EReal) := by
  have h1 : Finset.univ.fold max ⊥ f < (⊤ : EReal) := (Finset.fold_max_lt _).2 ⟨bot_lt_top, fun x _ => ht x⟩
  have h2 : ⊥ < Finset.univ.fold max ⊥ f := lt_of_lt_of_le hi ((Finset.le_fold_max _).2 (Or.inr ⟨i, Finset.mem_univ i, le_rfl⟩))
  exact ⟨(Finset.univ.fold max ⊥ f).toReal, (EReal.coe_toReal h1.ne h2.ne').symm⟩

/-- Division of real numbers. -/
theorem div_real (x y : ℝ) (hy : y ≠ 0) : Ideal.div (x : EReal) (y : EReal) = ((x / y : ℝ) : EReal) := by
  rw [Ideal.div_coe hy, ← EReal.coe_mul, one_div, div_eq_mul_inv]

/-- A choice by the comparison of two small words. -/
theorem sel_le {α : Type} (c r : ℕ) (hc : c < 4096) (hr : r < 4096) (a b : α) :
    Scalar.select (IntOp.cmpi .sle (BitVec.ofNat 32 c) (BitVec.ofNat 32 r)) a b = if c ≤ r then a else b := by
  have e (n : ℕ) (hn : n < 4096) : (BitVec.ofNat 32 n).toInt = (n : Int) := by
    have hm : (BitVec.ofNat 32 n).toNat = n := by simp; omega
    rw [BitVec.toInt_eq_toNat_of_lt (by omega), hm]
  by_cases h : c ≤ r
  · simp [Scalar.select, IntOp.cmpi, BitVec.sle, e c hc, e r hr, h]
  · simp [Scalar.select, IntOp.cmpi, BitVec.sle, e c hc, e r hr, h]

theorem neg_inf : Ideal.ofBits .f32 0xFF800000#32 = ⊥ := by simp [Ideal.ofBits, Ideal.ieee]

namespace Arg
variable (A : Arg) (h r c : ℕ)

theorem w_nonneg : 0 ≤ A.w h r c := by
  unfold w; split
  · exact (Real.exp_pos _).le
  · exact le_rfl

theorem W_pos (hr : r < 4096) : 0 < A.W h r := by
  unfold W
  refine Finset.sum_pos' (fun i _ => A.w_nonneg h r i) ⟨⟨r, hr⟩, Finset.mem_univ _, ?_⟩
  unfold w; rw [if_pos le_rfl]; exact Real.exp_pos _

theorem P_masked (hc : ¬c ≤ r) : A.P h r c = 0 := by unfold P w; rw [if_neg hc, zero_div]
theorem DS_masked (hc : ¬c ≤ r) : A.DS h r c = 0 := by unfold DS; rw [P_masked A h r c hc, zero_mul]

theorem P_sum (hr : r < 4096) : ∑ c : Fin 4096, A.P h r c = 1 := by
  unfold P; rw [← Finset.sum_div]; exact div_self (A.W_pos h r hr).ne'

theorem DS_sum (hr : r < 4096) : ∑ c : Fin 4096, A.DS h r c = 0 := by
  unfold DS
  simp only [mul_sub]
  rw [Finset.sum_sub_distrib, ← Finset.sum_mul, P_sum A h r hr, one_mul]
  exact sub_self _

theorem score_lt_top (a : ℝ) : A.score h r c a < ⊤ := by
  unfold score; split
  · exact EReal.coe_lt_top _
  · exact bot_lt_top

theorem row_max (a : ℝ) (hr : r < 4096) : ∃ M : ℝ, Finset.univ.fold max ⊥ (fun c : Fin 4096 => A.score h r c a) = (M : EReal) :=
  fold_max_real _ (fun i => A.score_lt_top h r i a) ⟨r, hr⟩ (by unfold score; rw [if_pos le_rfl]; exact EReal.bot_lt_coe _)

theorem exp_score (a M : ℝ) : Ideal.exp (A.score h r c a - (M : EReal)) = ((A.w h r c * Real.exp (a - M) : ℝ) : EReal) := by
  unfold score w; split
  · rw [← EReal.coe_sub, Ideal.exp_coe, ← Real.exp_add]; congr 2; ring
  · rw [EReal.bot_sub, Ideal.exp_bot, zero_mul, EReal.coe_zero]

theorem exp_sum (a M : ℝ) : ∑ c : Fin 4096, Ideal.exp (A.score h r c a - (M : EReal)) = ((A.W h r * Real.exp (a - M) : ℝ) : EReal) := by
  unfold W; rw [Finset.sum_mul, coe_sum]
  exact Finset.sum_congr rfl fun c _ => A.exp_score h r c a M

/-- The logarithm of the row's sum, by way of its largest score. -/
theorem log_sum (a M : ℝ) (hr : r < 4096) :
    (M : EReal) + Ideal.log (∑ c : Fin 4096, Ideal.exp (A.score h r c a - (M : EReal))) = ((Real.log (A.W h r) + a : ℝ) : EReal) := by
  have hW := A.W_pos h r hr
  rw [exp_sum, Ideal.log_coe, if_neg (not_le.2 (mul_pos hW (Real.exp_pos _))), Real.log_mul hW.ne' (Real.exp_pos _).ne', Real.log_exp, ← EReal.coe_add]
  congr 1; ring

/-- The softmax relative to the row's largest score. -/
theorem softmax (a M : ℝ) (hr : r < 4096) :
    Ideal.div (Ideal.exp (A.score h r c a - (M : EReal))) (∑ c : Fin 4096, Ideal.exp (A.score h r c a - (M : EReal))) = ((A.P h r c : ℝ) : EReal) := by
  have hW := (A.W_pos h r hr).ne'
  have hE := (Real.exp_pos (a - M)).ne'
  rw [exp_sum, exp_score, div_real _ _ (mul_ne_zero hW hE)]
  congr 1; unfold P; field_simp

/-- The softmax relative to the logarithm of the row's sum. -/
theorem softmax_log (a : ℝ) (hr : r < 4096) :
    Ideal.exp (A.score h r c a - ((Real.log (A.W h r) + a : ℝ) : EReal)) = ((A.P h r c : ℝ) : EReal) := by
  have hW := A.W_pos h r hr
  rw [exp_score]
  congr 1; unfold P
  rw [show a - (Real.log (A.W h r) + a) = -Real.log (A.W h r) by ring, Real.exp_neg, Real.exp_log hW, div_eq_mul_inv]

/-- The gradient of a score, the derivative of the quotient written out. -/
theorem score_grad (a M : ℝ) (hr : r < 4096) (dp : Fin 4096 → EReal) (hdp : ∀ i : Fin 4096, dp i = ((A.DP h r i : ℝ) : EReal)) (c : Fin 4096) :
    (Ideal.div (dp c) (∑ c : Fin 4096, Ideal.exp (A.score h r c a - (M : EReal)))
      + -(∑ i : Fin 4096, dp i * Ideal.div 1 ((∑ c : Fin 4096, Ideal.exp (A.score h r c a - (M : EReal))) * (∑ c : Fin 4096, Ideal.exp (A.score h r c a - (M : EReal)))) * Ideal.exp (A.score h r i a - (M : EReal))))
      * Ideal.exp (A.score h r c a - (M : EReal)) = ((A.DS h r c : ℝ) : EReal) := by
  have hW := (A.W_pos h r hr).ne'
  have hE := (Real.exp_pos (a - M)).ne'
  have hS := mul_ne_zero hW hE
  simp only [exp_sum]
  simp only [exp_score, hdp, ← EReal.coe_mul]
  rw [show (1 : EReal) = ((1 : ℝ) : EReal) from rfl]
  simp only [div_real _ _ hS, div_real _ _ (mul_ne_zero hS hS), ← EReal.coe_mul, ← coe_sum, ← EReal.coe_neg, ← EReal.coe_add]
  congr 1
  have hD : ∑ i : Fin 4096, A.DP h r i * (1 / (A.W h r * Real.exp (a - M) * (A.W h r * Real.exp (a - M)))) * (A.w h r i * Real.exp (a - M))
      = A.DD h r / (A.W h r * Real.exp (a - M)) := by
    unfold DD; rw [Finset.sum_div]
    refine Finset.sum_congr rfl fun i _ => ?_
    unfold P; field_simp
  rw [hD]; unfold DS P; field_simp; ring

end Arg

/-- A sum over 512-blocks of positions from block `j` on, of a function that is zero before it. -/
theorem sum_blocks {M : Type} [AddCommMonoid M] (f : ℕ → M) (n : ℕ) :
    ∑ u ∈ Finset.range n, ∑ r : Fin 512, f (512 * u + r.val) = ∑ s ∈ Finset.range (512 * n), f s := by
  induction n with
  | zero => simp
  | succ n ih =>
    rw [Finset.sum_range_succ, ih, Nat.mul_succ, Finset.sum_range_add, Finset.sum_range (fun x => f (512 * n + x))]

theorem sum_from {M : Type} [AddCommMonoid M] (f : ℕ → M) (j : ℕ) (hj : j < 8) (h0 : ∀ s, s < 512 * j → f s = 0) :
    ∑ u ∈ Finset.range (7 - j + 1), ∑ r : Fin 512, f (512 * j + 512 * u + r.val) = ∑ s : Fin 4096, f s.val := by
  have hs : ∑ s : Fin 4096, f s.val = ∑ s ∈ Finset.range (512 * j + 512 * (7 - j + 1)), f s := by
    rw [← Finset.sum_range f, show (4096 : ℕ) = 512 * j + 512 * (7 - j + 1) by omega]
  rw [hs, Finset.sum_range_add f,
    Finset.sum_eq_zero fun s hs => h0 s (Finset.mem_range.1 hs), zero_add, ← sum_blocks (fun s => f (512 * j + s))]
  refine Finset.sum_congr rfl fun u _ => Finset.sum_congr rfl fun r _ => ?_
  rw [Nat.add_assoc]

/-- A sum over the 512-blocks of keys up to a row's own block, of a function that is zero after it. -/
theorem sum_upto {M : Type} [AddCommMonoid M] (f : ℕ → M) (R : ℕ) (h0 : ∀ s, R < s → f s = 0) :
    ∑ j ∈ Finset.range 8, (if j ≤ R / 512 then ∑ c : Fin 512, f (512 * j + c.val) else 0) = ∑ s : Fin 4096, f s.val := by
  rw [← Finset.sum_range f, show (4096 : ℕ) = 512 * 8 by norm_num, ← sum_blocks f 8]
  refine Finset.sum_congr rfl fun j _ => ?_
  split
  · rfl
  · refine (Finset.sum_eq_zero fun c _ => h0 _ ?_).symm
    omega

end Cert.FoxIdeal.Soft
end
-- ==== Proof.FoxIdeal.RefVal.lean ====
/- The reference's terms: what each of its four results is as a function of the arguments, in steps, and each step at an
entry as a real number. -/
module

public import proofs.«01_k».proof.Proof.Gen.FoxRefIdeal.Run
public import proofs.«01_k».proof.Proof.FoxIdeal.Soft
public import Idealize.ShloMosaic.Lib.Pointwise
public import Idealize.ShloMosaic.Lib.IdealHost
public import Idealize.ShloMosaic.Lib.Claim

@[expose] public section

set_option maxRecDepth 16384

noncomputable section

open Idealize.ShloMosaic Idealize.ShloMosaic.TcCoe Idealize.SL.Sem

namespace Cert.FoxRefIdeal.Term

open Cert.FoxRefIdeal Cert.FoxRefIdeal.Gen

/-- The causal mask. -/
def causal : IVec S12x4096x4096 1 :=
  broadcastInDim S12x4096x4096 ![0, 1, 2] bcast_S1x4096x4096_S12x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The masked scores. -/
def scores (x0 : FVec Ideal S4096x12x64 .f32) (x1 : FVec Ideal S4096x12x64 .f32) (x3 : FVec Ideal S12x4096 .f32) : FVec Ideal S12x4096x4096 .f32 :=
  select causal (subf (addf (Host.dotGeneral dot_S4096x12x64_S4096x12x64_S12x4096x4096_2_2_0_0_1_1 none x0 x1) (broadcastInDim S12x4096x4096 ![0, 1, 2] bcast_S12x4096x1_S12x4096x4096_0_1_2 (broadcastInDim S12x4096x1 ![0, 1] bcast_S12x4096_S12x4096x1_0_1 x3))) (broadcastInDim S12x4096x4096 ![0, 1, 2] bcast_S12x1x4096_S12x4096x4096_0_1_2 (broadcastInDim S12x1x4096 ![0, 2] bcast_S12x4096_S12x1x4096_0_2 x3))) (broadcastInDim S12x4096x4096 ![] bcast_S_S12x4096x4096 (id (constant S_ .f32 0xFF800000#32)))

/-- The largest score of a row. -/
def rowMax (x0 : FVec Ideal S4096x12x64 .f32) (x1 : FVec Ideal S4096x12x64 .f32) (x3 : FVec Ideal S12x4096 .f32) : FVec Ideal S12x4096 .f32 :=
  maximumf (broadcastInDim S12x4096 ![] bcast_S_S12x4096 (constant S_ .f32 0xFF800000#32)) (Host.reduce FloatOps.maximumf (scores x0 x1 x3) (constant S_ .f32 0xFF800000#32) reducesTo_S12x4096x4096_S12x4096_d2 h_S_)

/-- The exponentials relative to it. -/
def expo (x0 : FVec Ideal S4096x12x64 .f32) (x1 : FVec Ideal S4096x12x64 .f32) (x3 : FVec Ideal S12x4096 .f32) : FVec Ideal S12x4096x4096 .f32 :=
  Host.exp (subf (scores x0 x1 x3) (broadcastInDim S12x4096x4096 ![0, 1, 2] bcast_S12x4096x1_S12x4096x4096_0_1_2 (broadcastInDim S12x4096x1 ![0, 1] bcast_S12x4096_S12x4096x1_0_1 (rowMax x0 x1 x3))))

/-- Their sums. -/
def expoSum (x0 : FVec Ideal S4096x12x64 .f32) (x1 : FVec Ideal S4096x12x64 .f32) (x3 : FVec Ideal S12x4096 .f32) : FVec Ideal S12x4096x1 .f32 :=
  broadcastInDim S12x4096x1 ![0, 1] bcast_S12x4096_S12x4096x1_0_1 (Host.reduceAdd (expo x0 x1 x3) (constant S_ .f32 0x00000000#32) reducesTo_S12x4096x4096_S12x4096_d2 h_S_)

/-- The weights. -/
def probs (x0 : FVec Ideal S4096x12x64 .f32) (x1 : FVec Ideal S4096x12x64 .f32) (x3 : FVec Ideal S12x4096 .f32) : FVec Ideal S12x4096x4096 .f32 :=
  Host.divf (expo x0 x1 x3) (broadcastInDim S12x4096x4096 ![0, 1, 2] bcast_S12x4096x1_S12x4096x4096_0_1_2 (expoSum x0 x1 x3))

/-- The cotangents by head and lane. -/
def ctT (x4 : FVec Ideal S4096x12x64 .f32) : FVec Ideal S12x64x4096 .f32 :=
  transpose S12x64x4096 [1, 2, 0] x4 transposes_S4096x12x64_S12x64x4096_1_2_0

/-- The gradient of the weights. -/
def dProbs (x2 : FVec Ideal S4096x12x64 .f32) (x4 : FVec Ideal S4096x12x64 .f32) : FVec Ideal S12x4096x4096 .f32 :=
  Host.dotGeneral dot_S12x64x4096_S4096x12x64_S12x4096x4096_1_2_2_0_0_1 none (ctT x4) x2

/-- The inverse square of the sums. -/
def invSq (x0 : FVec Ideal S4096x12x64 .f32) (x1 : FVec Ideal S4096x12x64 .f32) (x3 : FVec Ideal S12x4096 .f32) : FVec Ideal S12x4096x1 .f32 :=
  Host.divf (broadcastInDim S12x4096x1 ![] bcast_S_S12x4096x1 (constant S_ .f32 0x3F800000#32)) (mulf (expoSum x0 x1 x3) (expoSum x0 x1 x3))

/-- The part of the gradient that reaches a sum. -/
def dDot (x0 : FVec Ideal S4096x12x64 .f32) (x1 : FVec Ideal S4096x12x64 .f32) (x2 : FVec Ideal S4096x12x64 .f32) (x3 : FVec Ideal S12x4096 .f32) (x4 : FVec Ideal S4096x12x64 .f32) : FVec Ideal S12x4096x1 .f32 :=
  shapeCast _ (Host.reduceAdd (mulf (mulf (dProbs x2 x4) (broadcastInDim S12x4096x4096 ![0, 1, 2] bcast_S12x4096x1_S12x4096x4096_0_1_2 (invSq x0 x1 x3))) (expo x0 x1 x3)) (constant S_ .f32 0x00000000#32) reducesTo_S12x4096x4096_S12x4096_d2 h_S_) shapeCasts_S12x4096_S12x4096x1

/-- The gradient of the scores. -/
def dScores (x0 : FVec Ideal S4096x12x64 .f32) (x1 : FVec Ideal S4096x12x64 .f32) (x2 : FVec Ideal S4096x12x64 .f32) (x3 : FVec Ideal S12x4096 .f32) (x4 : FVec Ideal S4096x12x64 .f32) : FVec Ideal S12x4096x4096 .f32 :=
  select causal (mulf (addf (Host.divf (dProbs x2 x4) (broadcastInDim S12x4096x4096 ![0, 1, 2] bcast_S12x4096x1_S12x4096x4096_0_1_2 (expoSum x0 x1 x3))) (broadcastInDim S12x4096x4096 ![0, 1] bcast_S12x4096_S12x4096x4096_0_1 (Host.reduceAdd (Host.negf (dDot x0 x1 x2 x3 x4)) (constant S_ .f32 0x00000000#32) reducesTo_S12x4096x1_S12x4096_d2 h_S_))) (expo x0 x1 x3)) (broadcastInDim S12x4096x4096 ![] bcast_S_S12x4096x4096 (constant S_ .f32 0x00000000#32))

/-- The gradient of the queries. -/
def dq (x0 : FVec Ideal S4096x12x64 .f32) (x1 : FVec Ideal S4096x12x64 .f32) (x2 : FVec Ideal S4096x12x64 .f32) (x3 : FVec Ideal S12x4096 .f32) (x4 : FVec Ideal S4096x12x64 .f32) : FVec Ideal S4096x768 .f32 :=
  shapeCast _ (transpose S4096x12x64 [1, 0, 2] (Host.dotGeneral dot_S12x4096x4096_S4096x12x64_S12x4096x64_2_0_1_2_0_1 none (dScores x0 x1 x2 x3 x4) x1) transposes_S12x4096x64_S4096x12x64_1_0_2) shapeCasts_S4096x12x64_S4096x768

/-- The gradient of the keys. -/
def dk (x0 : FVec Ideal S4096x12x64 .f32) (x1 : FVec Ideal S4096x12x64 .f32) (x2 : FVec Ideal S4096x12x64 .f32) (x3 : FVec Ideal S12x4096 .f32) (x4 : FVec Ideal S4096x12x64 .f32) : FVec Ideal S4096x768 .f32 :=
  shapeCast _ (transpose S4096x12x64 [1, 0, 2] (Host.dotGeneral dot_S12x4096x4096_S4096x12x64_S12x4096x64_1_0_2_2_0_1 none (dScores x0 x1 x2 x3 x4) x0) transposes_S12x4096x64_S4096x12x64_1_0_2) shapeCasts_S4096x12x64_S4096x768

/-- The gradient of the values. -/
def dv (x0 : FVec Ideal S4096x12x64 .f32) (x1 : FVec Ideal S4096x12x64 .f32) (x3 : FVec Ideal S12x4096 .f32) (x4 : FVec Ideal S4096x12x64 .f32) : FVec Ideal S4096x768 .f32 :=
  shapeCast _ (transpose S4096x12x64 [2, 0, 1] (Host.dotGeneral dot_S12x64x4096_S12x4096x4096_S12x64x4096_2_1_1_2_0_0 none (ctT x4) (probs x0 x1 x3)) transposes_S12x64x4096_S4096x12x64_2_0_1) shapeCasts_S4096x12x64_S4096x768

/-- The gradient of the accumulated log-gates. -/
def dc (x0 : FVec Ideal S4096x12x64 .f32) (x1 : FVec Ideal S4096x12x64 .f32) (x2 : FVec Ideal S4096x12x64 .f32) (x3 : FVec Ideal S12x4096 .f32) (x4 : FVec Ideal S4096x12x64 .f32) : FVec Ideal S12x1x4096 .f32 :=
  shapeCast _ (addf (Host.reduceAdd (shapeCast _ (Host.reduceAdd (Host.negf (dScores x0 x1 x2 x3 x4)) (constant S_ .f32 0x00000000#32) reducesTo_S12x4096x4096_S12x4096_d1 h_S_) shapeCasts_S12x4096_S12x1x4096) (constant S_ .f32 0x00000000#32) reducesTo_S12x1x4096_S12x4096_d1 h_S_) (Host.reduceAdd (shapeCast _ (Host.reduceAdd (dScores x0 x1 x2 x3 x4) (constant S_ .f32 0x00000000#32) reducesTo_S12x4096x4096_S12x4096_d2 h_S_) shapeCasts_S12x4096_S12x4096x1) (constant S_ .f32 0x00000000#32) reducesTo_S12x4096x1_S12x4096_d2 h_S_)) shapeCasts_S12x4096_S12x1x4096

/-- The reference's results are these terms. -/
theorem res_eq (m : (ℓ : Loc nD τ sig) → Buf (Elt Ideal) ℓ) (c : Dev nD) :
    Value.res_main_v75 (F := Ideal) m c = dq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ∧ Value.res_main_v76 (F := Ideal) m c = dk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ∧ Value.res_main_v77 (F := Ideal) m c = dv (m ((c.tc : Thread nD τ).loc main_arg0)) (m ((c.tc : Thread nD τ).loc main_arg1)) (m ((c.tc : Thread nD τ).loc main_arg3)) (m ((c.tc : Thread nD τ).loc main_arg4)) ∧ Value.res_main_v78 (F := Ideal) m c = dc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ⟨rfl, rfl, rfl, rfl⟩

open Cert.FoxIdeal.Soft

/-- The arguments are the real numbers of `A`. -/
structure Are (A : Arg) (x0 x1 x2 : FVec Ideal S4096x12x64 .f32) (x3 : FVec Ideal S12x4096 .f32) (x4 : FVec Ideal S4096x12x64 .f32) : Prop where
  q : ∀ (s : Fin 4096) (h : Fin 12) (d : Fin 64), (x0 (ix3 s h d) : EReal) = ((A.Q h s d : ℝ) : EReal)
  k : ∀ (s : Fin 4096) (h : Fin 12) (d : Fin 64), (x1 (ix3 s h d) : EReal) = ((A.K h s d : ℝ) : EReal)
  v : ∀ (s : Fin 4096) (h : Fin 12) (d : Fin 64), (x2 (ix3 s h d) : EReal) = ((A.V h s d : ℝ) : EReal)
  g : ∀ (h : Fin 12) (s : Fin 4096), (x3 (ix2 h s) : EReal) = ((A.G h s : ℝ) : EReal)
  o : ∀ (s : Fin 4096) (h : Fin 12) (d : Fin 64), (x4 (ix3 s h d) : EReal) = ((A.O h s d : ℝ) : EReal)

section
variable {A : Arg} {x0 x1 x2 x4 : FVec Ideal S4096x12x64 .f32} {x3 : FVec Ideal S12x4096 .f32}
variable (H : Are A x0 x1 x2 x3 x4) (h : Fin 12) (r c : Fin 4096)

theorem reduceMax_at (x : FVec Ideal S12x4096x4096 .f32) (v : FVec Ideal S_ .f32) (j : S12x4096.Idx) :
    Host.reduce FloatOps.maximumf x v reducesTo_S12x4096x4096_S12x4096_d2 h_S_ j
      = Finset.univ.fold max (v (Shape.Idx.first h_S_)) (fun k : Fin 4096 => x (ix3 (j 0) (j 1) k)) := by
  pointwise

theorem maxWith_at (T : FVec Ideal S12x4096 .f32) (j : S12x4096.Idx) :
    (maximumf (broadcastInDim S12x4096 ![] bcast_S_S12x4096 (constant S_ .f32 0xFF800000#32)) T j : EReal) = T j := by
  pointwise
  rw [neg_inf]; exact max_eq_right bot_le

theorem fold_congr (a b : EReal) (f g : Fin 4096 → EReal) (hab : a = b) (hfg : ∀ k, f k = g k) :
    Finset.univ.fold max a f = Finset.univ.fold max b g := by
  obtain rfl : f = g := funext hfg
  rw [hab]

include H

theorem scores_at : (scores x0 x1 x3 (ix3 h r c) : EReal) = A.score h r c (A.G h r) := by
  pointwise [scores, causal]
  refine (sel_le c.val r.val c.isLt r.isLt _ _).trans ?_
  unfold Arg.score Arg.z
  refine if_congr Iff.rfl ?_ neg_inf
  simp only [H.q, H.k, H.g]
  simp only [← EReal.coe_mul, ← coe_sum, ← EReal.coe_add, ← EReal.coe_sub]
  exact congrArg _ (add_sub_assoc _ _ _)

theorem rowMax_at : ∃ M : ℝ, (rowMax x0 x1 x3 (ix2 h r) : EReal) = (M : EReal) := by
  obtain ⟨M, hM⟩ := A.row_max h r (A.G h r) r.isLt
  refine ⟨M, (maxWith_at _ (ix2 h r)).trans ((reduceMax_at (scores x0 x1 x3) _ (ix2 h r)).trans (Eq.trans (fold_congr _ _ _ _ neg_inf fun k => scores_at H h r k) hM))⟩

theorem expo_at {M : ℝ} (hM : (rowMax x0 x1 x3 (ix2 h r) : EReal) = (M : EReal)) :
    (expo x0 x1 x3 (ix3 h r c) : EReal) = Ideal.exp (A.score h r c (A.G h r) - (M : EReal)) := by
  pointwise [expo]
  exact congrArg Ideal.exp (congrArg₂ (· - ·) (scores_at H h r c) hM)

theorem expoSum_at {M : ℝ} (hM : (rowMax x0 x1 x3 (ix2 h r) : EReal) = (M : EReal)) :
    (expoSum x0 x1 x3 (ix3 h r 0) : EReal) = ∑ c : Fin 4096, Ideal.exp (A.score h r c (A.G h r) - (M : EReal)) := by
  pointwise [expoSum]
  exact Finset.sum_congr rfl fun c _ => expo_at H h r c hM

/-- The weights of the reference. -/
theorem probs_at : (probs x0 x1 x3 (ix3 h r c) : EReal) = ((A.P h r c : ℝ) : EReal) := by
  obtain ⟨M, hM⟩ := rowMax_at H h r
  rw [← A.softmax h r c (A.G h r) M r.isLt]
  pointwise [probs]
  exact congrArg₂ Ideal.div (expo_at H h r c hM) (expoSum_at H h r hM)

theorem dProbs_at : (dProbs x2 x4 (ix3 h r c) : EReal) = ((A.DP h r c : ℝ) : EReal) := by
  unfold Arg.DP
  pointwise [dProbs, ctT]
  rw [coe_sum]
  refine Finset.sum_congr rfl fun d _ => ?_
  rw [EReal.coe_mul]
  exact congrArg₂ (· * ·) (H.o r h d) (H.v c h d)

theorem dDot_at {M : ℝ} (hM : (rowMax x0 x1 x3 (ix2 h r) : EReal) = (M : EReal)) :
    (dDot x0 x1 x2 x3 x4 (ix3 h r 0) : EReal) = ∑ i : Fin 4096, dProbs x2 x4 (ix3 h r i) * Ideal.div 1 ((∑ c : Fin 4096, Ideal.exp (A.score h r c (A.G h r) - (M : EReal))) * (∑ c : Fin 4096, Ideal.exp (A.score h r c (A.G h r) - (M : EReal)))) * Ideal.exp (A.score h r i (A.G h r) - (M : EReal)) := by
  pointwise [dDot, invSq]
  refine Finset.sum_congr rfl fun i _ => congrArg₂ (· * ·) (congrArg (_ * ·) (congrArg (Ideal.div 1) (congrArg₂ (· * ·) (expoSum_at H h r hM) (expoSum_at H h r hM)))) (expo_at H h r i hM)

/-- The gradient of the scores of the reference. -/
theorem dScores_at : (dScores x0 x1 x2 x3 x4 (ix3 h r c) : EReal) = ((A.DS h r c : ℝ) : EReal) := by
  obtain ⟨M, hM⟩ := rowMax_at H h r
  pointwise [dScores, causal]
  refine (sel_le c.val r.val c.isLt r.isLt _ _).trans ?_
  split
  case isFalse hn => rw [A.DS_masked h r c hn, EReal.coe_zero]
  case isTrue hc =>
    rw [← A.score_grad h r (A.G h r) M r.isLt (fun i => dProbs x2 x4 (ix3 h r i)) (fun i => dProbs_at H h r i) c]
    refine congrArg₂ (· * ·) (congrArg₂ (· + ·) (congrArg (Ideal.div _) (expoSum_at H h r hM)) ?_) (expo_at H h r c hM)
    refine (Fintype.sum_unique _).trans ?_
    exact congrArg Neg.neg (dDot_at H h r hM)

end

section
variable {A : Arg} {x0 x1 x2 x4 : FVec Ideal S4096x12x64 .f32} {x3 : FVec Ideal S12x4096 .f32}
variable (H : Are A x0 x1 x2 x3 x4)
include H

theorem dv_at (j : S4096x768.Idx) : (dv x0 x1 x3 x4 j : EReal) = ∑ s : Fin 4096, ((A.O ((j 1).val / 64) s ((j 1).val % 64) : ℝ) : EReal) * ((A.P ((j 1).val / 64) s (j 0).val : ℝ) : EReal) := by
  have hj : (j 1).val < 768 := (j 1).isLt
  pointwise [dv, ctT]
  exact Finset.sum_congr rfl fun s _ => congrArg₂ (· * ·) (H.o s ⟨(j 1).val / 64, by omega⟩ ⟨(j 1).val % 64, by omega⟩) (probs_at H ⟨(j 1).val / 64, by omega⟩ s (j 0))

theorem dk_at (j : S4096x768.Idx) : (dk x0 x1 x2 x3 x4 j : EReal) = ∑ s : Fin 4096, ((A.Q ((j 1).val / 64) s ((j 1).val % 64) : ℝ) : EReal) * ((A.DS ((j 1).val / 64) s (j 0).val : ℝ) : EReal) := by
  have hj : (j 1).val < 768 := (j 1).isLt
  pointwise [dk]
  exact Finset.sum_congr rfl fun s _ => (mul_comm _ _).trans (congrArg₂ (· * ·) (H.q s ⟨(j 1).val / 64, by omega⟩ ⟨(j 1).val % 64, by omega⟩) (dScores_at H ⟨(j 1).val / 64, by omega⟩ s (j 0)))

theorem dq_at (j : S4096x768.Idx) : (dq x0 x1 x2 x3 x4 j : EReal) = ∑ s : Fin 4096, ((A.K ((j 1).val / 64) s ((j 1).val % 64) : ℝ) : EReal) * ((A.DS ((j 1).val / 64) (j 0).val s : ℝ) : EReal) := by
  have hj : (j 1).val < 768 := (j 1).isLt
  pointwise [dq]
  exact Finset.sum_congr rfl fun s _ => (mul_comm _ _).trans (congrArg₂ (· * ·) (H.k s ⟨(j 1).val / 64, by omega⟩ ⟨(j 1).val % 64, by omega⟩) (dScores_at H ⟨(j 1).val / 64, by omega⟩ (j 0) s))

theorem dc_at (j : S12x1x4096.Idx) : (dc x0 x1 x2 x3 x4 j : EReal) = ∑ s : Fin 4096, -((A.DS (j 0).val s (j 2).val : ℝ) : EReal) := by
  pointwise [dc]
  refine (congrArg₂ (· + ·) (Fintype.sum_unique _) (Fintype.sum_unique _)).trans ?_
  have e2 : (∑ s : Fin 4096, dScores x0 x1 x2 x3 x4 (ix3 (j 0) (j 2) s) : EReal) = 0 := by
    refine (Finset.sum_congr rfl fun s _ => dScores_at H (j 0) (j 2) s).trans ?_
    rw [← coe_sum, A.DS_sum _ _ (j 2).isLt, EReal.coe_zero]
  refine (congrArg₂ (· + ·) (Finset.sum_congr rfl fun s _ => congrArg Neg.neg (dScores_at H (j 0) s (j 2))) e2).trans (add_zero _)
end

end Cert.FoxRefIdeal.Term
end
-- ==== Proof.FoxIdeal.HostVal.lean ====
/- What the host prepares for the kernel call: the heads of the queries, keys, values and cotangents, the logarithms of
the rows' sums, the rows' weighted gradients and the accumulated log-gates; each at an entry as a real number. -/
module

public import proofs.«01_k».proof.Proof.FoxIdeal.RunVal
public import proofs.«01_k».proof.Proof.FoxIdeal.RefVal
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.FoxIdeal.Math

open Cert.FoxIdeal Cert.FoxIdeal.Gen Cert.FoxIdeal.Soft
open Cert.FoxRefIdeal.Term (Are)

/-- A row's gate at the first position of its block of 512. -/
def hgate (x3 : FVec Ideal S12x4096 .f32) : FVec Ideal S12x4096 .f32 :=
  shapeCast _ (broadcastInDim S12x8x512 ![0, 1, 2] bcast_S12x8x1_S12x8x512_0_1_2 (extractStridedSlice S12x8x1 ![0, 0, 0] (shapeCast S12x8x512 x3 shapeCasts_S12x4096_S12x8x512) slices_S12x8x512_S12x8x1_0_0_0)) shapeCasts_S12x8x512_S12x4096
/-- The masked scores, relative to it. -/
def hscores (x0 x1 : FVec Ideal S4096x12x64 .f32) (x3 : FVec Ideal S12x4096 .f32) : FVec Ideal S12x4096x4096 .f32 :=
  select (broadcastInDim S12x4096x4096 ![0, 1, 2] bcast_S1x4096x4096_S12x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (subf (addf (Host.dotGeneral dot_S4096x12x64_S4096x12x64_S12x4096x4096_2_2_0_0_1_1 none x0 x1) (broadcastInDim S12x4096x4096 ![0, 1, 2] bcast_S12x4096x1_S12x4096x4096_0_1_2 (broadcastInDim S12x4096x1 ![0, 1] bcast_S12x4096_S12x4096x1_0_1 (hgate x3)))) (broadcastInDim S12x4096x4096 ![0, 1, 2] bcast_S12x1x4096_S12x4096x4096_0_1_2 (broadcastInDim S12x1x4096 ![0, 2] bcast_S12x4096_S12x1x4096_0_2 x3))) (broadcastInDim S12x4096x4096 ![] bcast_S_S12x4096x4096 (id (constant S_ .f32 0xFF800000#32)))
/-- The largest score of a row. -/
def hmax (x0 x1 : FVec Ideal S4096x12x64 .f32) (x3 : FVec Ideal S12x4096 .f32) : FVec Ideal S12x4096 .f32 :=
  Host.reduce FloatOps.maximumf (hscores x0 x1 x3) (constant S_ .f32 0xFF800000#32) reducesTo_S12x4096x4096_S12x4096_d2 h_S_
/-- The exponentials relative to it. -/
def hexpo (x0 x1 : FVec Ideal S4096x12x64 .f32) (x3 : FVec Ideal S12x4096 .f32) : FVec Ideal S12x4096x4096 .f32 :=
  Host.exp (subf (hscores x0 x1 x3) (broadcastInDim S12x4096x4096 ![0, 1, 2] bcast_S12x4096x1_S12x4096x4096_0_1_2 (broadcastInDim S12x4096x1 ![0, 1] bcast_S12x4096_S12x4096x1_0_1 (hmax x0 x1 x3))))
/-- The logarithms of the sums of `E`'s rows, with `T` added, on every lane. -/
def lseOf (T : FVec Ideal S12x4096 .f32) (E : FVec Ideal S12x4096x4096 .f32) : FVec Ideal S12x4096x64 .f32 :=
  broadcastInDim S12x4096x64 ![0, 1, 2] bcast_S12x4096x1_S12x4096x64_0_1_2 (broadcastInDim S12x4096x1 ![0, 1] bcast_S12x4096_S12x4096x1_0_1 (shapeCast S12x4096 (addf (broadcastInDim S12x4096x1 ![0, 1] bcast_S12x4096_S12x4096x1_0_1 T) (Host.log (broadcastInDim S12x4096x1 ![0, 1] bcast_S12x4096_S12x4096x1_0_1 (Host.reduceAdd E (constant S_ .f32 0x00000000#32) reducesTo_S12x4096x4096_S12x4096_d2 h_S_)))) shapeCasts_S12x4096x1_S12x4096))
/-- The logarithms of the rows' sums, on every lane. -/
def hlse (x0 x1 : FVec Ideal S4096x12x64 .f32) (x3 : FVec Ideal S12x4096 .f32) : FVec Ideal S12x4096x64 .f32 :=
  lseOf (hmax x0 x1 x3) (hexpo x0 x1 x3)
/-- The weighted gradients of the rows, on every lane. -/
def hdd (x0 x1 x2 : FVec Ideal S4096x12x64 .f32) (x3 : FVec Ideal S12x4096 .f32) (x4 : FVec Ideal S4096x12x64 .f32) : FVec Ideal S12x4096x64 .f32 :=
  broadcastInDim S12x4096x64 ![0, 1, 2] bcast_S12x4096x1_S12x4096x64_0_1_2 (broadcastInDim S12x4096x1 ![0, 1] bcast_S12x4096_S12x4096x1_0_1 (transpose S12x4096 [1, 0] (Host.reduceAdd (mulf x4 (transpose S4096x12x64 [2, 0, 1] (Host.dotGeneral dot_S4096x12x64_S12x4096x4096_S12x64x4096_0_2_2_1_1_0 none x2 (Cert.FoxRefIdeal.Term.probs x0 x1 x3)) transposes_S12x64x4096_S4096x12x64_2_0_1)) (constant S_ .f32 0x00000000#32) reducesTo_S4096x12x64_S4096x12_d2 h_S_) transposes_S4096x12_S12x4096_1_0))
/-- The heads of the queries, the keys and the values. -/
def hqkv (x0 x1 x2 : FVec Ideal S4096x12x64 .f32) : FVec Ideal S36x4096x64 .bf16 :=
  truncf .bf16 (concatenate S36x4096x64 0 [⟨S12x4096x64, transpose S12x4096x64 [1, 0, 2] x0 transposes_S4096x12x64_S12x4096x64_1_0_2⟩, ⟨S12x4096x64, transpose S12x4096x64 [1, 0, 2] x1 transposes_S4096x12x64_S12x4096x64_1_0_2⟩, ⟨S12x4096x64, transpose S12x4096x64 [1, 0, 2] x2 transposes_S4096x12x64_S12x4096x64_1_0_2⟩] concatenates_S12x4096x64_S12x4096x64_S12x4096x64_S36x4096x64_d0) bitsLt_bf16_f32
/-- The heads of the cotangents. -/
def hct (x4 : FVec Ideal S4096x12x64 .f32) : FVec Ideal S12x4096x64 .bf16 :=
  truncf .bf16 (transpose S12x4096x64 [1, 0, 2] x4 transposes_S4096x12x64_S12x4096x64_1_0_2) bitsLt_bf16_f32

section
variable (m : (ℓ : Loc nD τ sig) → Buf (Elt Ideal) ℓ) (c : Dev nD)

theorem entry_v4 : (V m c main_v4 : FVec Ideal S36x4096x64 .bf16) = hqkv (m ((c : Thread nD τ).loc main_arg0)) (m ((c : Thread nD τ).loc main_arg1)) (m ((c : Thread nD τ).loc main_arg2)) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

theorem entry_v38 : (V m c main_v38 : FVec Ideal S12x4096x64 .bf16) = hct (m ((c : Thread nD τ).loc main_arg4)) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

theorem entry_v73 : (V m c main_v73 : FVec Ideal S12x1x4096 .f32) = shapeCast _ (m ((c : Thread nD τ).loc main_arg3)) shapeCasts_S12x4096_S12x1x4096 := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

theorem entry_v70 : (V m c main_v70 : FVec Ideal S12x4096x64 .f32) = hlse (m ((c : Thread nD τ).loc main_arg0)) (m ((c : Thread nD τ).loc main_arg1)) (m ((c : Thread nD τ).loc main_arg3)) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

theorem entry_v72 : (V m c main_v72 : FVec Ideal S12x4096x64 .f32) = hdd (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
end

section
variable {A : Arg} {x0 x1 x2 x4 : FVec Ideal S4096x12x64 .f32} {x3 : FVec Ideal S12x4096 .f32}
variable (H : Are A x0 x1 x2 x3 x4) (h : Fin 12) (r c : Fin 4096) (d : Fin 64)

theorem hreduceMax_at (x : FVec Ideal S12x4096x4096 .f32) (v : FVec Ideal S_ .f32) (j : S12x4096.Idx) :
    Host.reduce FloatOps.maximumf x v reducesTo_S12x4096x4096_S12x4096_d2 h_S_ j
      = Finset.univ.fold max (v (Shape.Idx.first h_S_)) (fun k : Fin 4096 => x (ix3 (j 0) (j 1) k)) := by
  pointwise

theorem lseOf_at (T : FVec Ideal S12x4096 .f32) (E : FVec Ideal S12x4096x4096 .f32) (h : Fin 12) (r : Fin 4096) (d : Fin 64) :
    (lseOf T E (ix3 h r d) : EReal) = T (ix2 h r) + Ideal.log (∑ k : Fin 4096, E (ix3 h r k)) := by
  pointwise [lseOf]

include H

theorem hgate_at : (hgate x3 (ix2 h r) : EReal) = ((A.G h (512 * (r.val / 512)) : ℝ) : EReal) := by
  have hr := r.isLt
  pointwise [hgate]
  refine (H.g h ⟨r.val / 512 * 512, by omega⟩).trans ?_
  exact congrArg (fun n => ((A.G h n : ℝ) : EReal)) (Nat.mul_comm _ _)

theorem hscores_at : (hscores x0 x1 x3 (ix3 h r c) : EReal) = A.score h r c (A.G h (512 * (r.val / 512))) := by
  pointwise [hscores]
  refine (sel_le c.val r.val c.isLt r.isLt _ _).trans ?_
  unfold Arg.score Arg.z
  refine if_congr Iff.rfl ?_ neg_inf
  rw [hgate_at H]
  simp only [H.q, H.k, H.g]
  simp only [← EReal.coe_mul, ← coe_sum, ← EReal.coe_add, ← EReal.coe_sub]
  exact congrArg _ (add_sub_assoc _ _ _)

theorem hmax_at : ∃ M : ℝ, (hmax x0 x1 x3 (ix2 h r) : EReal) = (M : EReal) := by
  obtain ⟨M, hM⟩ := A.row_max h r (A.G h (512 * (r.val / 512))) r.isLt
  exact ⟨M, (hreduceMax_at (hscores x0 x1 x3) _ (ix2 h r)).trans (Eq.trans (Cert.FoxRefIdeal.Term.fold_congr _ _ _ _ neg_inf fun k => hscores_at H h r k) hM)⟩

theorem hexpo_at {M : ℝ} (hM : (hmax x0 x1 x3 (ix2 h r) : EReal) = (M : EReal)) :
    (hexpo x0 x1 x3 (ix3 h r c) : EReal) = Ideal.exp (A.score h r c (A.G h (512 * (r.val / 512))) - (M : EReal)) := by
  pointwise [hexpo]
  exact congrArg Ideal.exp (congrArg₂ (· - ·) (hscores_at H h r c) hM)

/-- The logarithm of a row's sum. -/
theorem hlse_at : (hlse x0 x1 x3 (ix3 h r d) : EReal) = ((Real.log (A.W h r) + A.G h (512 * (r.val / 512)) : ℝ) : EReal) := by
  obtain ⟨M, hM⟩ := hmax_at H h r
  rw [← A.log_sum h r _ M r.isLt]
  refine (lseOf_at (hmax x0 x1 x3) (hexpo x0 x1 x3) h r d).trans ?_
  exact congrArg₂ (· + ·) hM (congrArg Ideal.log (Finset.sum_congr rfl fun k _ => hexpo_at H h r k hM))

/-- The weighted gradient of a row. -/
theorem hdd_at : (hdd x0 x1 x2 x3 x4 (ix3 h r d) : EReal) = ((A.DD h r : ℝ) : EReal) := by
  pointwise [hdd]
  refine (Finset.sum_congr rfl fun e _ => congrArg₂ (· * ·) (H.o r h e) (Finset.sum_congr rfl fun k _ => congrArg₂ (· * ·) (H.v k h e) (Cert.FoxRefIdeal.Term.probs_at H h r k))).trans ?_
  simp only [← EReal.coe_mul, ← coe_sum]
  refine congrArg _ ?_
  unfold Arg.DD Arg.DP
  simp only [Finset.mul_sum]
  rw [Finset.sum_comm]
  exact Finset.sum_congr rfl fun k _ => Finset.sum_congr rfl fun e _ => by ring

theorem hq_at (g : Fin 36) (hg : g.val = h.val) : (hqkv x0 x1 x2 (ix3 g r d) : EReal) = ((A.Q h r d : ℝ) : EReal) := by
  have hh := h.isLt
  rw [← H.q r h d]
  pointwise [hqkv]
  simp only [dif_pos (show g.val < 12 by omega)]
  exact congrArg (fun t => x0 (ix3 r t d)) (Fin.ext (show g.val = h.val by omega))
theorem hk_at (g : Fin 36) (hg : g.val = 12 + h.val) : (hqkv x0 x1 x2 (ix3 g r d) : EReal) = ((A.K h r d : ℝ) : EReal) := by
  have hh := h.isLt
  rw [← H.k r h d]
  pointwise [hqkv]
  simp only [dif_neg (show ¬g.val < 12 by omega), dif_pos (show g.val - 12 < 12 by omega)]
  exact congrArg (fun t => x1 (ix3 r t d)) (Fin.ext (show g.val - 12 = h.val by omega))
theorem hv_at (g : Fin 36) (hg : g.val = 24 + h.val) : (hqkv x0 x1 x2 (ix3 g r d) : EReal) = ((A.V h r d : ℝ) : EReal) := by
  have hh := h.isLt
  rw [← H.v r h d]
  pointwise [hqkv]
  simp only [dif_neg (show ¬g.val < 12 by omega), dif_neg (show ¬g.val - 12 < 12 by omega)]
  exact congrArg (fun t => x2 (ix3 r t d)) (Fin.ext (show g.val - 12 - 12 = h.val by omega))
theorem hct_at : (hct x4 (ix3 h r d) : EReal) = ((A.O h r d : ℝ) : EReal) := by
  rw [← H.o r h d]
  pointwise [hct]

theorem hlse_idx (i : S12x4096x64.Idx) : (hlse x0 x1 x3 i : EReal) = ((Real.log (A.W (i 0).val (i 1).val) + A.G (i 0).val (512 * ((i 1).val / 512)) : ℝ) : EReal) := by
  rw [eq_ix3 i]; exact hlse_at H (i 0) (i 1) (i 2)

theorem hdd_idx (i : S12x4096x64.Idx) : (hdd x0 x1 x2 x3 x4 i : EReal) = ((A.DD (i 0).val (i 1).val : ℝ) : EReal) := by
  rw [eq_ix3 i]; exact hdd_at H (i 0) (i 1) (i 2)

theorem hct_idx (i : S12x4096x64.Idx) : (hct x4 i : EReal) = ((A.O (i 0).val (i 1).val (i 2).val : ℝ) : EReal) := by
  rw [eq_ix3 i]; exact hct_at H (i 0) (i 1) (i 2)
end

section
variable (m : (ℓ : Loc nD τ sig) → Buf (Elt Ideal) ℓ) (c : Dev nD)
variable {A : Arg} (H : Are A (m ((c : Thread nD τ).loc main_arg0)) (m ((c : Thread nD τ).loc main_arg1)) (m ((c : Thread nD τ).loc main_arg2)) (m ((c : Thread nD τ).loc main_arg3)) (m ((c : Thread nD τ).loc main_arg4)))
include H

theorem entry_lse (i : S12x4096x64.Idx) : (V m c main_v70 : FVec Ideal S12x4096x64 .f32) i = ((Real.log (A.W (i 0).val (i 1).val) + A.G (i 0).val (512 * ((i 1).val / 512)) : ℝ) : EReal) :=
  (congrFun (entry_v70 m c) i).trans (hlse_idx H i)

theorem entry_dd (i : S12x4096x64.Idx) : (V m c main_v72 : FVec Ideal S12x4096x64 .f32) i = ((A.DD (i 0).val (i 1).val : ℝ) : EReal) :=
  (congrFun (entry_v72 m c) i).trans (hdd_idx H i)

theorem entry_ct (i : S12x4096x64.Idx) : (V m c main_v38 : FVec Ideal S12x4096x64 .bf16) i = ((A.O (i 0).val (i 1).val (i 2).val : ℝ) : EReal) :=
  (congrFun (entry_v38 m c) i).trans (hct_idx H i)
end
end Cert.FoxIdeal.Math
end
-- ==== Proof.FoxIdeal.RealVal.lean ====
/- One grid point over the real numbers: its terms are the reference's sums over the rows it meets. -/
module

public import proofs.«01_k».proof.Proof.FoxIdeal.HostVal

@[expose] public section

set_option maxRecDepth 16384

noncomputable section

open Idealize.ShloMosaic Idealize.ShloMosaic.TcCoe Idealize.SL.Sem
open Idealize.ShloMosaic.Pipeline (Dat)

namespace Cert.FoxIdeal.Math

open Cert.FoxIdeal Cert.FoxIdeal.Gen Cert.FoxIdeal.Soft
open Cert.FoxRefIdeal.Term (Are)

/-- One point's arrays hold the real numbers of `A`: the head pair `a`, and block `b` of the keys and the values. -/
structure Reads (A : Arg) (S : In) (a b : ℕ) : Prop where
  q : ∀ h < 2, ∀ s < 4096, ∀ d < 64, rd S.q h s d = ((A.Q (2 * a + h) s d : ℝ) : EReal)
  k : ∀ h < 2, ∀ s < 512, ∀ d < 64, rd S.k h s d = ((A.K (2 * a + h) (512 * b + s) d : ℝ) : EReal)
  v : ∀ h < 2, ∀ s < 512, ∀ d < 64, rd S.v h s d = ((A.V (2 * a + h) (512 * b + s) d : ℝ) : EReal)
  o : ∀ h < 2, ∀ s < 4096, ∀ d < 64, rd S.o h s d = ((A.O (2 * a + h) s d : ℝ) : EReal)
  l : ∀ h < 2, ∀ s < 4096, rd S.l h s 0 = ((Real.log (A.W (2 * a + h) s) + A.G (2 * a + h) (512 * (s / 512)) : ℝ) : EReal)
  D : ∀ h < 2, ∀ s < 4096, rd S.D h s 0 = ((A.DD (2 * a + h) s : ℝ) : EReal)
  g : ∀ h < 2, ∀ s < 4096, rd S.g h 0 s = ((A.G (2 * a + h) s : ℝ) : EReal)

section
variable {A : Arg} {S : In} {a b : ℕ} (R : Reads A S a b) (hb : b < 8) {h : ℕ} (hh : h < 2)
include R hb hh

theorem sc_real {u r c : ℕ} (hu : u < 8) (hr : r < 512) (hc : c < 512) :
    S.sc h (512 * b) (512 * u) r c = A.score (2 * a + h) (512 * u + r) (512 * b + c) (A.G (2 * a + h) (512 * u)) := by
  unfold In.sc Arg.score Arg.z
  refine if_congr Iff.rfl ?_ rfl
  rw [R.g h hh _ (by omega), R.g h hh _ (by omega),
    Finset.sum_congr rfl fun (d : Fin 64) _ => congrArg₂ (· * ·) (R.q h hh (512 * u + r) (by omega) d d.isLt) (R.k h hh c hc d d.isLt)]
  simp only [← EReal.coe_mul, ← coe_sum, ← EReal.coe_add, ← EReal.coe_sub]

theorem p_real {u r c : ℕ} (hu : u < 8) (hr : r < 512) (hc : c < 512) :
    S.p h (512 * b) (512 * u) r c = ((A.P (2 * a + h) (512 * u + r) (512 * b + c) : ℝ) : EReal) := by
  unfold In.p
  rw [sc_real R hb hh hu hr hc, R.l h hh _ (by omega), show 512 * ((512 * u + r) / 512) = 512 * u by omega]
  exact A.softmax_log _ _ _ _ (by omega)

theorem ds_real {u r c : ℕ} (hu : u < 8) (hr : r < 512) (hc : c < 512) :
    S.ds h (512 * b) (512 * u) r c = ((A.DS (2 * a + h) (512 * u + r) (512 * b + c) : ℝ) : EReal) := by
  unfold In.ds Arg.DS Arg.DP
  rw [p_real R hb hh hu hr hc, R.D h hh _ (by omega),
    Finset.sum_congr rfl fun (d : Fin 64) _ => congrArg₂ (· * ·) (R.o h hh (512 * u + r) (by omega) d d.isLt) (R.v h hh c hc d d.isLt)]
  simp only [← EReal.coe_mul, ← coe_sum, ← EReal.coe_add, ← EReal.coe_sub]

theorem tv_real {d c : ℕ} (hd : d < 64) (hc : c < 512) :
    S.tv h b d c = ∑ s : Fin 4096, ((A.O (2 * a + h) s d : ℝ) : EReal) * ((A.P (2 * a + h) s (512 * b + c) : ℝ) : EReal) := by
  rw [← sum_from (fun s => ((A.O (2 * a + h) s d : ℝ) : EReal) * ((A.P (2 * a + h) s (512 * b + c) : ℝ) : EReal)) b hb
    fun s hs => by rw [A.P_masked _ _ _ (by omega)]; simp]
  unfold In.tv In.bv
  refine Finset.sum_congr rfl fun u hu => Finset.sum_congr rfl fun r _ => ?_
  have hu := Finset.mem_range.1 hu
  have hr := r.isLt
  rw [← Nat.mul_add 512 b u, p_real R hb hh (by omega) hr hc, R.o h hh _ (by omega) d hd]

theorem tk_real {d c : ℕ} (hd : d < 64) (hc : c < 512) :
    S.tk h b d c = ∑ s : Fin 4096, ((A.Q (2 * a + h) s d : ℝ) : EReal) * ((A.DS (2 * a + h) s (512 * b + c) : ℝ) : EReal) := by
  rw [← sum_from (fun s => ((A.Q (2 * a + h) s d : ℝ) : EReal) * ((A.DS (2 * a + h) s (512 * b + c) : ℝ) : EReal)) b hb
    fun s hs => by rw [A.DS_masked _ _ _ (by omega)]; simp]
  unfold In.tk In.bk
  refine Finset.sum_congr rfl fun u hu => Finset.sum_congr rfl fun r _ => ?_
  have hu := Finset.mem_range.1 hu
  have hr := r.isLt
  rw [← Nat.mul_add 512 b u, ds_real R hb hh (by omega) hr hc, R.q h hh _ (by omega) d hd]

theorem tc_real {c : ℕ} (hc : c < 512) :
    S.tc h b c = ∑ s : Fin 4096, -((A.DS (2 * a + h) s (512 * b + c) : ℝ) : EReal) := by
  rw [← sum_from (fun s => -((A.DS (2 * a + h) s (512 * b + c) : ℝ) : EReal)) b hb
    fun s hs => by rw [A.DS_masked _ _ _ (by omega)]; simp]
  unfold In.tc In.bc
  refine Finset.sum_congr rfl fun u hu => ?_
  have hu := Finset.mem_range.1 hu
  rw [← Nat.mul_add 512 b u, Finset.sum_congr rfl fun (r : Fin 512) _ => ds_real (u := b + u) (r := r.val) R hb hh (by omega) r.isLt hc,
    Finset.sum_congr rfl fun (r : Fin 512) _ => (EReal.coe_neg _).symm]
  rw [← coe_sum, ← coe_sum, ← EReal.coe_neg, Finset.sum_neg_distrib]

theorem tq_real {d s : ℕ} (hd : d < 64) (hs : s < 4096) :
    S.tq h b d s = if b ≤ s / 512 then ∑ c : Fin 512, ((A.K (2 * a + h) (512 * b + c) d : ℝ) : EReal) * ((A.DS (2 * a + h) s (512 * b + c) : ℝ) : EReal) else 0 := by
  unfold In.tq In.bq
  refine if_congr Iff.rfl (Finset.sum_congr rfl fun c _ => ?_) rfl
  rw [ds_real R hb hh (by omega) (Nat.mod_lt _ (by omega)) c.isLt, R.k h hh c c.isLt d hd, Nat.div_add_mod]
end
end Cert.FoxIdeal.Math
end
-- ==== Proof.FoxIdeal.InVal.lean ====
/- The blocks a grid point reads, entry by entry. -/
module

public import proofs.«01_k».proof.Proof.FoxIdeal.RealVal

@[expose] public section

set_option maxRecDepth 16384

noncomputable section

open Idealize.ShloMosaic Idealize.ShloMosaic.TcCoe Idealize.SL.Sem
open Idealize.ShloMosaic.Pipeline (Dat)

namespace Cert.FoxIdeal.Math

open Cert.FoxIdeal Cert.FoxIdeal.Gen Cert.FoxIdeal.Soft
open Cert.FoxRefIdeal.Term (Are)

variable (m : (ℓ : Loc nD τ sig) → Buf (Elt Ideal) ℓ) (c : Dev nD)

theorem rows : ∀ t : Fin cfg0.N, win0_0.index t = ![t.val / 8, 0, 0] ∧ win0_1.index t = ![6 + t.val / 8, t.val % 8, 0] ∧ win0_2.index t = ![12 + t.val / 8, t.val % 8, 0]
    ∧ win0_3.index t = ![t.val / 8, 0, 0] ∧ win0_4.index t = ![t.val / 8, 0, 0] ∧ win0_5.index t = ![t.val / 8, 0, 0] ∧ win0_6.index t = ![t.val / 8, 0, 0]
    ∧ win0_7.index t = ![0, t.val / 8] ∧ win0_8.index t = ![t.val % 8, t.val / 8] ∧ win0_9.index t = ![t.val % 8, t.val / 8] ∧ win0_10.index t = ![t.val / 8, 0, t.val % 8] :=
  (by decide +kernel : ∀ t : Fin grid0.N, _)

theorem points (t : Fin cfg0.N) : t.val < 48 := t.isLt

section
variable (t : Fin cfg0.N)

theorem blk_q (W : FVec Ideal S36x4096x64 .bf16) (hW : (V m c main_v4 : FVec Ideal S36x4096x64 .bf16) = W) (y : S2x4096x64.Idx) : ∃ i : S36x4096x64.Idx,
    (iblk m c 0 t : FVec Ideal S2x4096x64 .bf16) y = W i ∧ (i 0 : ℕ) = 2 * (t.val / 8) + (y 0).val ∧ (i 1 : ℕ) = (y 1).val ∧ (i 2 : ℕ) = (y 2).val := by
  refine ⟨((cfg0.win 0).blk t).view.emb y, ?_, ?_, ?_, ?_⟩
  · unfold iblk
    replace hW : V m c (Pipeline.arrRef spec0 0) = W := hW
    rw [hW]
    rfl
  all_goals (blk_simp [rows t] <;> omega)

theorem blk_k (W : FVec Ideal S36x4096x64 .bf16) (hW : (V m c main_v4 : FVec Ideal S36x4096x64 .bf16) = W) (y : S2x512x64.Idx) : ∃ i : S36x4096x64.Idx,
    (iblk m c 1 t : FVec Ideal S2x512x64 .bf16) y = W i ∧ (i 0 : ℕ) = 12 + (2 * (t.val / 8) + (y 0).val) ∧ (i 1 : ℕ) = 512 * (t.val % 8) + (y 1).val ∧ (i 2 : ℕ) = (y 2).val := by
  refine ⟨((cfg0.win 1).blk t).view.emb y, ?_, ?_, ?_, ?_⟩
  · unfold iblk
    replace hW : V m c (Pipeline.arrRef spec0 1) = W := hW
    rw [hW]
    rfl
  all_goals (blk_simp [rows t] <;> omega)

theorem blk_v (W : FVec Ideal S36x4096x64 .bf16) (hW : (V m c main_v4 : FVec Ideal S36x4096x64 .bf16) = W) (y : S2x512x64.Idx) : ∃ i : S36x4096x64.Idx,
    (iblk m c 2 t : FVec Ideal S2x512x64 .bf16) y = W i ∧ (i 0 : ℕ) = 24 + (2 * (t.val / 8) + (y 0).val) ∧ (i 1 : ℕ) = 512 * (t.val % 8) + (y 1).val ∧ (i 2 : ℕ) = (y 2).val := by
  refine ⟨((cfg0.win 2).blk t).view.emb y, ?_, ?_, ?_, ?_⟩
  · unfold iblk
    replace hW : V m c (Pipeline.arrRef spec0 2) = W := hW
    rw [hW]
    rfl
  all_goals (blk_simp [rows t] <;> omega)

theorem blk_o (W : FVec Ideal S12x4096x64 .bf16) (hW : (V m c main_v38 : FVec Ideal S12x4096x64 .bf16) = W) (y : S2x4096x64.Idx) : ∃ i : S12x4096x64.Idx,
    (iblk m c 3 t : FVec Ideal S2x4096x64 .bf16) y = W i ∧ (i 0 : ℕ) = 2 * (t.val / 8) + (y 0).val ∧ (i 1 : ℕ) = (y 1).val ∧ (i 2 : ℕ) = (y 2).val := by
  refine ⟨((cfg0.win 3).blk t).view.emb y, ?_, ?_, ?_, ?_⟩
  · unfold iblk
    replace hW : V m c (Pipeline.arrRef spec0 3) = W := hW
    rw [hW]
    rfl
  all_goals (blk_simp [rows t] <;> omega)

theorem blk_l (W : FVec Ideal S12x4096x64 .f32) (hW : (V m c main_v70 : FVec Ideal S12x4096x64 .f32) = W) (y : S2x4096x64.Idx) : ∃ i : S12x4096x64.Idx,
    (iblk m c 4 t : FVec Ideal S2x4096x64 .f32) y = W i ∧ (i 0 : ℕ) = 2 * (t.val / 8) + (y 0).val ∧ (i 1 : ℕ) = (y 1).val ∧ (i 2 : ℕ) = (y 2).val := by
  refine ⟨((cfg0.win 4).blk t).view.emb y, ?_, ?_, ?_, ?_⟩
  · unfold iblk
    replace hW : V m c (Pipeline.arrRef spec0 4) = W := hW
    rw [hW]
    rfl
  all_goals (blk_simp [rows t] <;> omega)

theorem blk_D (W : FVec Ideal S12x4096x64 .f32) (hW : (V m c main_v72 : FVec Ideal S12x4096x64 .f32) = W) (y : S2x4096x64.Idx) : ∃ i : S12x4096x64.Idx,
    (iblk m c 5 t : FVec Ideal S2x4096x64 .f32) y = W i ∧ (i 0 : ℕ) = 2 * (t.val / 8) + (y 0).val ∧ (i 1 : ℕ) = (y 1).val ∧ (i 2 : ℕ) = (y 2).val := by
  refine ⟨((cfg0.win 5).blk t).view.emb y, ?_, ?_, ?_, ?_⟩
  · unfold iblk
    replace hW : V m c (Pipeline.arrRef spec0 5) = W := hW
    rw [hW]
    rfl
  all_goals (blk_simp [rows t] <;> omega)

theorem blk_g (W : FVec Ideal S12x1x4096 .f32) (hW : (V m c main_v73 : FVec Ideal S12x1x4096 .f32) = W) (y : S2x1x4096.Idx) : ∃ i : S12x1x4096.Idx,
    (iblk m c 6 t : FVec Ideal S2x1x4096 .f32) y = W i ∧ (i 0 : ℕ) = 2 * (t.val / 8) + (y 0).val ∧ (i 1 : ℕ) = (y 1).val ∧ (i 2 : ℕ) = (y 2).val := by
  refine ⟨((cfg0.win 6).blk t).view.emb y, ?_, ?_, ?_, ?_⟩
  · unfold iblk
    replace hW : V m c (Pipeline.arrRef spec0 6) = W := hW
    rw [hW]
    rfl
  all_goals (blk_simp [rows t] <;> omega)

end

section
variable {A : Arg} (H : Are A (m ((c : Thread nD τ).loc main_arg0)) (m ((c : Thread nD τ).loc main_arg1)) (m ((c : Thread nD τ).loc main_arg2)) (m ((c : Thread nD τ).loc main_arg3)) (m ((c : Thread nD τ).loc main_arg4))) (t : Fin cfg0.N)
include H

theorem in_q (y : S2x4096x64.Idx) : (iblk m c 0 t : FVec Ideal S2x4096x64 .bf16) y = ((A.Q (2 * (t.val / 8) + (y 0).val) (y 1).val (y 2).val : ℝ) : EReal) := by
  have ht := points t
  have y0 := (y 0).isLt
  change _ < 2 at y0
  obtain ⟨i, e, i0, i1, i2⟩ := blk_q m c t _ (entry_v4 m c) y
  rw [e, eq_ix3 i]
  refine (hq_at H ⟨2 * (t.val / 8) + (y 0).val, by omega⟩ (i 1) (i 2) (i 0) i0).trans ?_
  rw [i1, i2]

theorem in_k (y : S2x512x64.Idx) : (iblk m c 1 t : FVec Ideal S2x512x64 .bf16) y = ((A.K (2 * (t.val / 8) + (y 0).val) (512 * (t.val % 8) + (y 1).val) (y 2).val : ℝ) : EReal) := by
  have ht := points t
  have y0 := (y 0).isLt
  change _ < 2 at y0
  obtain ⟨i, e, i0, i1, i2⟩ := blk_k m c t _ (entry_v4 m c) y
  rw [e, eq_ix3 i]
  refine (hk_at H ⟨2 * (t.val / 8) + (y 0).val, by omega⟩ (i 1) (i 2) (i 0) i0).trans ?_
  rw [i1, i2]

theorem in_v (y : S2x512x64.Idx) : (iblk m c 2 t : FVec Ideal S2x512x64 .bf16) y = ((A.V (2 * (t.val / 8) + (y 0).val) (512 * (t.val % 8) + (y 1).val) (y 2).val : ℝ) : EReal) := by
  have ht := points t
  have y0 := (y 0).isLt
  change _ < 2 at y0
  obtain ⟨i, e, i0, i1, i2⟩ := blk_v m c t _ (entry_v4 m c) y
  rw [e, eq_ix3 i]
  refine (hv_at H ⟨2 * (t.val / 8) + (y 0).val, by omega⟩ (i 1) (i 2) (i 0) i0).trans ?_
  rw [i1, i2]

theorem in_o (y : S2x4096x64.Idx) : (iblk m c 3 t : FVec Ideal S2x4096x64 .bf16) y = ((A.O (2 * (t.val / 8) + (y 0).val) (y 1).val (y 2).val : ℝ) : EReal) := by
  obtain ⟨i, e, i0, i1, i2⟩ := blk_o m c t _ (entry_v38 m c) y
  refine e.trans ((hct_idx H i).trans ?_)
  rw [i0, i1, i2]

theorem in_l (y : S2x4096x64.Idx) : (iblk m c 4 t : FVec Ideal S2x4096x64 .f32) y = ((Real.log (A.W (2 * (t.val / 8) + (y 0).val) (y 1).val) + A.G (2 * (t.val / 8) + (y 0).val) (512 * ((y 1).val / 512)) : ℝ) : EReal) := by
  obtain ⟨W, hW⟩ : ∃ W : FVec Ideal S12x4096x64 .f32, W = hlse (m ((c : Thread nD τ).loc main_arg0)) (m ((c : Thread nD τ).loc main_arg1)) (m ((c : Thread nD τ).loc main_arg3)) := ⟨_, rfl⟩
  obtain ⟨i, e, i0, i1, i2⟩ := blk_l m c t W ((entry_v70 m c).trans hW.symm) y
  refine e.trans ((congrFun hW i).trans ((hlse_idx H i).trans ?_))
  rw [i0, i1]

theorem in_D (y : S2x4096x64.Idx) : (iblk m c 5 t : FVec Ideal S2x4096x64 .f32) y = ((A.DD (2 * (t.val / 8) + (y 0).val) (y 1).val : ℝ) : EReal) := by
  obtain ⟨W, hW⟩ : ∃ W : FVec Ideal S12x4096x64 .f32, W = hdd (m ((c : Thread nD τ).loc main_arg0)) (m ((c : Thread nD τ).loc main_arg1)) (m ((c : Thread nD τ).loc main_arg2)) (m ((c : Thread nD τ).loc main_arg3)) (m ((c : Thread nD τ).loc main_arg4)) := ⟨_, rfl⟩
  obtain ⟨i, e, i0, i1, i2⟩ := blk_D m c t W ((entry_v72 m c).trans hW.symm) y
  refine e.trans ((congrFun hW i).trans ((hdd_idx H i).trans ?_))
  rw [i0, i1]

omit H in
theorem hg_idx (x : FVec Ideal S12x4096 .f32) (i : S12x1x4096.Idx) : (shapeCast S12x1x4096 x shapeCasts_S12x4096_S12x1x4096 i : EReal) = x (ix2 (i 0) (i 2)) := by
  rw [eq_ix3 i]
  pointwise

theorem in_g (y : S2x1x4096.Idx) : (iblk m c 6 t : FVec Ideal S2x1x4096 .f32) y = ((A.G (2 * (t.val / 8) + (y 0).val) (y 2).val : ℝ) : EReal) := by
  obtain ⟨i, e, i0, i1, i2⟩ := blk_g m c t _ (entry_v73 m c) y
  refine e.trans ((hg_idx _ i).trans ((H.g (i 0) (i 2)).trans ?_))
  rw [i0, i2]

end

end Cert.FoxIdeal.Math
end
-- ==== Proof.FoxIdeal.FinalVal.lean ====
/- What the attention gradient kernel leaves in its four result arrays: the reference's terms of the arguments. -/
module

public import proofs.«01_k».proof.Proof.FoxIdeal.InVal

@[expose] public section

set_option maxRecDepth 16384

noncomputable section

open Idealize.ShloMosaic Idealize.ShloMosaic.TcCoe Idealize.SL.Sem
open Idealize.ShloMosaic.Pipeline (Dat)

namespace Cert.FoxIdeal.Math

open Cert.FoxIdeal Cert.FoxIdeal.Gen Cert.FoxIdeal.Soft
open Cert.FoxRefIdeal.Term (Are dq_at dk_at dv_at dc_at)

variable (m : (ℓ : Loc nD τ sig) → Buf (Elt Ideal) ℓ) (c : Dev nD)

section
variable {A : Arg} (H : Are A (m ((c : Thread nD τ).loc main_arg0)) (m ((c : Thread nD τ).loc main_arg1)) (m ((c : Thread nD τ).loc main_arg2)) (m ((c : Thread nD τ).loc main_arg3)) (m ((c : Thread nD τ).loc main_arg4))) (t : Fin cfg0.N)
include H

theorem reads_q (h : ℕ) (hh : h < 2) (s : ℕ) (hs : s < 4096) (d : ℕ) (hd : d < 64) : rd (iblk m c 0 t : S2x4096x64.Idx → EReal) h s d = ((A.Q (2 * (t.val / 8) + h) s d : ℝ) : EReal) :=
  rd_of (iblk m c 0 t : S2x4096x64.Idx → EReal) (fun p q r => ((A.Q (2 * (t.val / 8) + p) q r : ℝ) : EReal)) (in_q m c H t) h s d hh hs hd
theorem reads_k (h : ℕ) (hh : h < 2) (s : ℕ) (hs : s < 512) (d : ℕ) (hd : d < 64) : rd (iblk m c 1 t : S2x512x64.Idx → EReal) h s d = ((A.K (2 * (t.val / 8) + h) (512 * (t.val % 8) + s) d : ℝ) : EReal) :=
  rd_of (iblk m c 1 t : S2x512x64.Idx → EReal) (fun p q r => ((A.K (2 * (t.val / 8) + p) (512 * (t.val % 8) + q) r : ℝ) : EReal)) (in_k m c H t) h s d hh hs hd
theorem reads_v (h : ℕ) (hh : h < 2) (s : ℕ) (hs : s < 512) (d : ℕ) (hd : d < 64) : rd (iblk m c 2 t : S2x512x64.Idx → EReal) h s d = ((A.V (2 * (t.val / 8) + h) (512 * (t.val % 8) + s) d : ℝ) : EReal) :=
  rd_of (iblk m c 2 t : S2x512x64.Idx → EReal) (fun p q r => ((A.V (2 * (t.val / 8) + p) (512 * (t.val % 8) + q) r : ℝ) : EReal)) (in_v m c H t) h s d hh hs hd
theorem reads_o (h : ℕ) (hh : h < 2) (s : ℕ) (hs : s < 4096) (d : ℕ) (hd : d < 64) : rd (iblk m c 3 t : S2x4096x64.Idx → EReal) h s d = ((A.O (2 * (t.val / 8) + h) s d : ℝ) : EReal) :=
  rd_of (iblk m c 3 t : S2x4096x64.Idx → EReal) (fun p q r => ((A.O (2 * (t.val / 8) + p) q r : ℝ) : EReal)) (in_o m c H t) h s d hh hs hd
theorem reads_l (h : ℕ) (hh : h < 2) (s : ℕ) (hs : s < 4096) : rd (iblk m c 4 t : S2x4096x64.Idx → EReal) h s 0 = ((Real.log (A.W (2 * (t.val / 8) + h) s) + A.G (2 * (t.val / 8) + h) (512 * (s / 512)) : ℝ) : EReal) :=
  rd_of (iblk m c 4 t : S2x4096x64.Idx → EReal) (fun p q r => ((Real.log (A.W (2 * (t.val / 8) + p) q) + A.G (2 * (t.val / 8) + p) (512 * (q / 512)) : ℝ) : EReal)) (in_l m c H t) h s 0 hh hs (by omega)
theorem reads_D (h : ℕ) (hh : h < 2) (s : ℕ) (hs : s < 4096) : rd (iblk m c 5 t : S2x4096x64.Idx → EReal) h s 0 = ((A.DD (2 * (t.val / 8) + h) s : ℝ) : EReal) :=
  rd_of (iblk m c 5 t : S2x4096x64.Idx → EReal) (fun p q r => ((A.DD (2 * (t.val / 8) + p) q : ℝ) : EReal)) (in_D m c H t) h s 0 hh hs (by omega)
theorem reads_g (h : ℕ) (hh : h < 2) (s : ℕ) (hs : s < 4096) : rd (iblk m c 6 t : S2x1x4096.Idx → EReal) h 0 s = ((A.G (2 * (t.val / 8) + h) s : ℝ) : EReal) :=
  rd_of (iblk m c 6 t : S2x1x4096.Idx → EReal) (fun p q r => ((A.G (2 * (t.val / 8) + p) r : ℝ) : EReal)) (in_g m c H t) h 0 s hh (by omega) hs

/-- The arrays of point `t`. -/
theorem reads : Reads A (pin m c t) (t.val / 8) (t.val % 8) := by
  have hq := reads_q m c H t
  have hk := reads_k m c H t
  have hv := reads_v m c H t
  have ho := reads_o m c H t
  have hl := reads_l m c H t
  have hD := reads_D m c H t
  have hg := reads_g m c H t
  unfold pin
  generalize iblk m c 0 t = q at *
  generalize iblk m c 1 t = k at *
  generalize iblk m c 2 t = v at *
  generalize iblk m c 3 t = o at *
  generalize iblk m c 4 t = l at *
  generalize iblk m c 5 t = D at *
  generalize iblk m c 6 t = g at *
  exact ⟨hq, hk, hv, ho, hl, hD, hg⟩

omit H in
theorem acc_step (n : ℕ) (hn : n < 48) (y : S2x64x4096.Idx) : acc m c (n + 1) y = (if n % 8 = 0 then 0 else acc m c n y) + (pin m c ⟨n, hn⟩).tq (y 0).val (n % 8) (y 1).val (y 2).val := by
  have e := congrFun (acc_succ m c ⟨n, hn⟩) y
  rw [(pt_facts ⟨n, hn⟩).1] at e
  exact e

theorem tq_at (n : ℕ) (hn : n < 48) (y : S2x64x4096.Idx) : (pin m c ⟨n, hn⟩).tq (y 0).val (n % 8) (y 1).val (y 2).val
    = if n % 8 ≤ (y 2).val / 512 then ∑ k : Fin 512, ((A.K (2 * (n / 8) + (y 0).val) (512 * (n % 8) + k) (y 1).val : ℝ) : EReal) * ((A.DS (2 * (n / 8) + (y 0).val) (y 2).val (512 * (n % 8) + k) : ℝ) : EReal) else 0 :=
  tq_real (reads m c H ⟨n, hn⟩) (Nat.mod_lt _ (by omega)) (y 0).isLt (y 1).isLt (y 2).isLt

/-- The gradient of the queries after `n + 1` blocks of keys of head pair `a`. -/
theorem acc_real (a : ℕ) (ha : a < 6) (y : S2x64x4096.Idx) : ∀ n, n < 8 → acc m c (8 * a + n + 1) y
    = ∑ j ∈ Finset.range (n + 1), if j ≤ (y 2).val / 512 then ∑ k : Fin 512, ((A.K (2 * a + (y 0).val) (512 * j + k) (y 1).val : ℝ) : EReal) * ((A.DS (2 * a + (y 0).val) (y 2).val (512 * j + k) : ℝ) : EReal) else 0
  | 0, _ => by
    rw [acc_step m c (8 * a + 0) (by omega), tq_at m c H (8 * a + 0) (by omega), if_pos (by omega), zero_add, Finset.sum_range_one]
    simp only [show (8 * a + 0) % 8 = 0 by omega, show (8 * a + 0) / 8 = a by omega]
  | n + 1, hn => by
    have ih := acc_real a ha y n (by omega)
    rw [acc_step m c (8 * a + (n + 1)) (by omega), tq_at m c H (8 * a + (n + 1)) (by omega), if_neg (by omega), show 8 * a + (n + 1) = 8 * a + n + 1 by omega, ih,
      Finset.sum_range_succ _ (n + 1)]
    simp only [show (8 * a + n + 1) % 8 = n + 1 by omega, show (8 * a + n + 1) / 8 = a by omega]

omit H in
theorem flush_7 : ∀ t : Fin cfg0.N, (cfg0.win 7).flush t = true → t.val % 8 = 7 :=
  (by decide +kernel : ∀ t : Fin grid0.N, win0_7.flush t = true → t.val % 8 = 7)

theorem dq_pt (h7 : t.val % 8 = 7) (y : S4096x128.Idx) (i : S4096x768.Idx) (i0 : (i 0 : ℕ) = (y 0).val) (i1 : (i 1 : ℕ) = 128 * (t.val / 8) + (y 1).val) :
    outQ (acc m c (t.val + 1)) y = ((Cert.FoxRefIdeal.Term.dq (m ((c : Thread nD τ).loc main_arg0)) (m ((c : Thread nD τ).loc main_arg1)) (m ((c : Thread nD τ).loc main_arg2)) (m ((c : Thread nD τ).loc main_arg3)) (m ((c : Thread nD τ).loc main_arg4))) i : EReal) := by
  have ht := points t
  have y0 : (y 0).val < 4096 := (y 0).isLt
  have y1 : (y 1).val < 128 := (y 1).isLt
  rw [dq_at H i]
  unfold outQ
  rw [rd_of (acc m c (t.val + 1)) (fun p q r => ∑ s : Fin 4096, ((A.K (2 * (t.val / 8) + p) s q : ℝ) : EReal) * ((A.DS (2 * (t.val / 8) + p) r s : ℝ) : EReal)) (fun x => ?_) _ _ _ (by omega) (by omega) (by omega)]
  · rw [i0, i1, show (128 * (t.val / 8) + (y 1).val) / 64 = 2 * (t.val / 8) + (y 1).val / 64 by omega, show (128 * (t.val / 8) + (y 1).val) % 64 = (y 1).val % 64 by omega]
  · have x2 : (x 2).val < 4096 := (x 2).isLt
    have e := acc_real m c H (t.val / 8) (by omega) x 7 (by omega)
    rw [show 8 * (t.val / 8) + 7 + 1 = t.val + 1 by omega] at e
    refine e.trans ?_
    refine sum_upto (fun s => ((A.K (2 * (t.val / 8) + (x 0).val) s (x 1).val : ℝ) : EReal) * ((A.DS (2 * (t.val / 8) + (x 0).val) (x 2).val s : ℝ) : EReal)) (x 2).val fun s hs => ?_
    dsimp only
    rw [A.DS_masked _ _ _ (by omega)]
    simp

theorem dk_pt (y : S512x128.Idx) (i : S4096x768.Idx) (i0 : (i 0 : ℕ) = 512 * (t.val % 8) + (y 0).val) (i1 : (i 1 : ℕ) = 128 * (t.val / 8) + (y 1).val) :
    (pin m c t).outK (cfg0.grid.coords t 1).val y = ((Cert.FoxRefIdeal.Term.dk (m ((c : Thread nD τ).loc main_arg0)) (m ((c : Thread nD τ).loc main_arg1)) (m ((c : Thread nD τ).loc main_arg2)) (m ((c : Thread nD τ).loc main_arg3)) (m ((c : Thread nD τ).loc main_arg4))) i : EReal) := by
  have ht := points t
  have y0 : (y 0).val < 512 := (y 0).isLt
  have y1 : (y 1).val < 128 := (y 1).isLt
  rw [dk_at H i, (pt_facts t).1]
  unfold In.outK
  rw [tk_real (reads m c H t) (Nat.mod_lt _ (by omega)) (by omega) (by omega) y0]
  rw [i0, i1, show (128 * (t.val / 8) + (y 1).val) / 64 = 2 * (t.val / 8) + (y 1).val / 64 by omega, show (128 * (t.val / 8) + (y 1).val) % 64 = (y 1).val % 64 by omega]

theorem dv_pt (y : S512x128.Idx) (i : S4096x768.Idx) (i0 : (i 0 : ℕ) = 512 * (t.val % 8) + (y 0).val) (i1 : (i 1 : ℕ) = 128 * (t.val / 8) + (y 1).val) :
    (pin m c t).outV (cfg0.grid.coords t 1).val y = ((Cert.FoxRefIdeal.Term.dv (m ((c : Thread nD τ).loc main_arg0)) (m ((c : Thread nD τ).loc main_arg1)) (m ((c : Thread nD τ).loc main_arg3)) (m ((c : Thread nD τ).loc main_arg4))) i : EReal) := by
  have ht := points t
  have y0 : (y 0).val < 512 := (y 0).isLt
  have y1 : (y 1).val < 128 := (y 1).isLt
  rw [dv_at H i, (pt_facts t).1]
  unfold In.outV
  rw [tv_real (reads m c H t) (Nat.mod_lt _ (by omega)) (by omega) (by omega) y0]
  rw [i0, i1, show (128 * (t.val / 8) + (y 1).val) / 64 = 2 * (t.val / 8) + (y 1).val / 64 by omega, show (128 * (t.val / 8) + (y 1).val) % 64 = (y 1).val % 64 by omega]

theorem dc_pt (y : S2x1x512.Idx) (i : S12x1x4096.Idx) (i0 : (i 0 : ℕ) = 2 * (t.val / 8) + (y 0).val) (i2 : (i 2 : ℕ) = 512 * (t.val % 8) + (y 2).val) :
    (pin m c t).outG (cfg0.grid.coords t 1).val y = ((Cert.FoxRefIdeal.Term.dc (m ((c : Thread nD τ).loc main_arg0)) (m ((c : Thread nD τ).loc main_arg1)) (m ((c : Thread nD τ).loc main_arg2)) (m ((c : Thread nD τ).loc main_arg3)) (m ((c : Thread nD τ).loc main_arg4))) i : EReal) := by
  have ht := points t
  have y0 : (y 0).val < 2 := (y 0).isLt
  have y2 : (y 2).val < 512 := (y 2).isLt
  rw [dc_at H i, (pt_facts t).1]
  unfold In.outG
  rw [tc_real (reads m c H t) (Nat.mod_lt _ (by omega)) y0 y2, i0, i2]

/-- The gradient of the queries. -/
theorem dq_val : (dats m 0 c).arrAt 7 cfg0.N = Cert.FoxRefIdeal.Term.dq (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨G, hG⟩ : ∃ G : FVec Ideal S4096x768 .f32, G = Cert.FoxRefIdeal.Term.dq (m ((c : Thread nD τ).loc main_arg0)) (m ((c : Thread nD τ).loc main_arg1)) (m ((c : Thread nD τ).loc main_arg2)) (m ((c : Thread nD τ).loc main_arg3)) (m ((c : Thread nD τ).loc main_arg4)) := ⟨_, rfl⟩
  refine Eq.trans ?_ hG
  refine (dats m 0 c).arrAt_eq_of_covers 7 G (by decide +kernel) fun t hf y => ?_
  have ht := points t
  rw [after_7]
  frame_out
  refine (dq_pt m c H t (flush_7 t hf) y _ ?_ ?_).trans (congrFun hG _).symm
  all_goals (blk_simp [rows t] <;> omega)

/-- The gradient of the keys. -/
theorem dk_val : (dats m 0 c).arrAt 8 cfg0.N = Cert.FoxRefIdeal.Term.dk (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨G, hG⟩ : ∃ G : FVec Ideal S4096x768 .f32, G = Cert.FoxRefIdeal.Term.dk (m ((c : Thread nD τ).loc main_arg0)) (m ((c : Thread nD τ).loc main_arg1)) (m ((c : Thread nD τ).loc main_arg2)) (m ((c : Thread nD τ).loc main_arg3)) (m ((c : Thread nD τ).loc main_arg4)) := ⟨_, rfl⟩
  refine Eq.trans ?_ hG
  refine (dats m 0 c).arrAt_eq_of_covers 8 G (by decide +kernel) fun t hf y => ?_
  have ht := points t
  rw [after_8]
  frame_out
  refine (dk_pt m c H t y _ ?_ ?_).trans (congrFun hG _).symm
  all_goals (blk_simp [rows t] <;> omega)

/-- The gradient of the values. -/
theorem dv_val : (dats m 0 c).arrAt 9 cfg0.N = Cert.FoxRefIdeal.Term.dv (m ((c : Thread nD τ).loc main_arg0)) (m ((c : Thread nD τ).loc main_arg1)) (m ((c : Thread nD τ).loc main_arg3)) (m ((c : Thread nD τ).loc main_arg4)) := by
  obtain ⟨G, hG⟩ : ∃ G : FVec Ideal S4096x768 .f32, G = Cert.FoxRefIdeal.Term.dv (m ((c : Thread nD τ).loc main_arg0)) (m ((c : Thread nD τ).loc main_arg1)) (m ((c : Thread nD τ).loc main_arg3)) (m ((c : Thread nD τ).loc main_arg4)) := ⟨_, rfl⟩
  refine Eq.trans ?_ hG
  refine (dats m 0 c).arrAt_eq_of_covers 9 G (by decide +kernel) fun t hf y => ?_
  have ht := points t
  rw [after_9]
  frame_out
  refine (dv_pt m c H t y _ ?_ ?_).trans (congrFun hG _).symm
  all_goals (blk_simp [rows t] <;> omega)

/-- The gradient of the accumulated log-gates. -/
theorem dc_val : (dats m 0 c).arrAt 10 cfg0.N = Cert.FoxRefIdeal.Term.dc (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨G, hG⟩ : ∃ G : FVec Ideal S12x1x4096 .f32, G = Cert.FoxRefIdeal.Term.dc (m ((c : Thread nD τ).loc main_arg0)) (m ((c : Thread nD τ).loc main_arg1)) (m ((c : Thread nD τ).loc main_arg2)) (m ((c : Thread nD τ).loc main_arg3)) (m ((c : Thread nD τ).loc main_arg4)) := ⟨_, rfl⟩
  refine Eq.trans ?_ hG
  refine (dats m 0 c).arrAt_eq_of_covers 10 G (by decide +kernel) fun t hf y => ?_
  have ht := points t
  rw [after_10]
  frame_out
  refine (dc_pt m c H t y _ ?_ ?_).trans (congrFun hG _).symm
  all_goals (blk_simp [rows t] <;> omega)

end

end Cert.FoxIdeal.Math
end
-- ==== Proof.FoxIdeal.PreVal.lean ====
/- The precondition read back: an array whose absolute values are all below infinity is an array of real numbers; and
what the kernel's results and the reference's are then. -/
module

public import proofs.«01_k».proof.Proof.FoxIdeal.FinalVal
public import proofs.«01_k».proof.Pre_finite
public import Idealize.ShloMosaic.Lib.ReduceAll

@[expose] public section

set_option maxRecDepth 16384

noncomputable section

open Idealize.ShloMosaic Idealize.ShloMosaic.TcCoe Idealize.SL.Sem

namespace Cert.FoxIdeal.Math

open Cert.FoxIdeal.Soft
open Cert.FoxRefIdeal.Term (Are)

/-- An extended real with absolute value below infinity is its real part. -/
theorem real_of_abs (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have hl : max x (-x) < ⊤ := by
    by_contra hn
    simp [Ideal.cmp, hn] at h
  refine (EReal.coe_toReal ?_ ?_).symm
  · rintro rfl; simp at hl
  · rintro rfl; simp at hl

section
open Cert.Pre_finite Cert.Pre_finite.Facts
variable [Cert.Pre_finite.Facts]

theorem real3 (x : FVec Ideal Cert.Pre_finite.S4096x12x64 .f32)
    (h : Host.reduce IntOp.andi (cmpf .olt (Host.absf x) (broadcastInDim Cert.Pre_finite.S4096x12x64 ![] bcast_S_S4096x12x64 (constant Cert.Pre_finite.S_ .f32 0x7F800000#32))) (constantI Cert.Pre_finite.S_ 1 1#1) reducesTo_S4096x12x64_S_d0_1_2 h_S_ (Shape.Idx.first h_S_) = 1#1)
    (i : Cert.Pre_finite.S4096x12x64.Idx) : (x i : EReal) = ((EReal.toReal (x i) : ℝ) : EReal) := by
  haveI : Subsingleton Cert.Pre_finite.S_.Idx := ⟨fun a b => funext fun k => k.elim0⟩
  exact real_of_abs (x i) (Host.reduce_andi_all _ _ _ _ _ h i)

theorem real2 (x : FVec Ideal Cert.Pre_finite.S12x4096 .f32)
    (h : Host.reduce IntOp.andi (cmpf .olt (Host.absf x) (broadcastInDim Cert.Pre_finite.S12x4096 ![] bcast_S_S12x4096 (constant Cert.Pre_finite.S_ .f32 0x7F800000#32))) (constantI Cert.Pre_finite.S_ 1 1#1) reducesTo_S12x4096_S_d0_1 h_S_ (Shape.Idx.first h_S_) = 1#1)
    (i : Cert.Pre_finite.S12x4096.Idx) : (x i : EReal) = ((EReal.toReal (x i) : ℝ) : EReal) := by
  haveI : Subsingleton Cert.Pre_finite.S_.Idx := ⟨fun a b => funext fun k => k.elim0⟩
  exact real_of_abs (x i) (Host.reduce_andi_all _ _ _ _ _ h i)

theorem and_parts {s : Shape} (a b : IVec s 1) (j : s.Idx) (h : andi a b j = 1#1) : a j = 1#1 ∧ b j = 1#1 :=
  IntOp.andi_eq_one.1 h

/-- The array's entry, as a real number, at natural numbers. -/
def cell3 (x : FVec Ideal Cert.Pre_finite.S4096x12x64 .f32) (h s d : ℕ) : ℝ :=
  if k : s < 4096 ∧ h < 12 ∧ d < 64 then EReal.toReal (x (ix3 ⟨s, k.1⟩ ⟨h, k.2.1⟩ ⟨d, k.2.2⟩)) else 0
def cell2 (x : FVec Ideal Cert.Pre_finite.S12x4096 .f32) (h s : ℕ) : ℝ :=
  if k : h < 12 ∧ s < 4096 then EReal.toReal (x (ix2 ⟨h, k.1⟩ ⟨s, k.2⟩)) else 0

theorem cell3_at (x : FVec Ideal Cert.Pre_finite.S4096x12x64 .f32) (H : ∀ i, (x i : EReal) = ((EReal.toReal (x i) : ℝ) : EReal)) (s : Fin 4096) (h : Fin 12) (d : Fin 64) :
    (x (ix3 s h d) : EReal) = ((cell3 x h s d : ℝ) : EReal) := by
  unfold cell3
  rw [dif_pos ⟨s.isLt, h.isLt, d.isLt⟩]
  exact H _
theorem cell2_at (x : FVec Ideal Cert.Pre_finite.S12x4096 .f32) (H : ∀ i, (x i : EReal) = ((EReal.toReal (x i) : ℝ) : EReal)) (h : Fin 12) (s : Fin 4096) :
    (x (ix2 h s) : EReal) = ((cell2 x h s : ℝ) : EReal) := by
  unfold cell2
  rw [dif_pos ⟨h.isLt, s.isLt⟩]
  exact H _

/-- Where the precondition holds the arguments are real numbers. -/
theorem are_of_finite (x0 x1 x2 : FVec Ideal Cert.Pre_finite.S4096x12x64 .f32) (x3 : FVec Ideal Cert.Pre_finite.S12x4096 .f32) (x4 : FVec Ideal Cert.Pre_finite.S4096x12x64 .f32)
    (h : Cert.Pre_finite.fn (F := Ideal) x0 x1 x2 x3 x4 = fun _ => 1#1) :
    Are ⟨cell3 x0, cell3 x1, cell3 x2, cell3 x4, cell2 x3⟩ x0 x1 x2 x3 x4 := by
  have h := congrFun h (Shape.Idx.first h_S_)
  dsimp only [Cert.Pre_finite.fn, Cert.Pre_finite.fn_part1] at h
  obtain ⟨h, h4⟩ := and_parts _ _ _ h
  obtain ⟨h, h3⟩ := and_parts _ _ _ h
  obtain ⟨h, h2⟩ := and_parts _ _ _ h
  obtain ⟨h0, h1⟩ := and_parts _ _ _ h
  exact ⟨fun s h d => cell3_at x0 (real3 x0 h0) s h d, fun s h d => cell3_at x1 (real3 x1 h1) s h d, fun s h d => cell3_at x2 (real3 x2 h2) s h d,
    fun h s => cell2_at x3 (real2 x3 h3) h s, fun s h d => cell3_at x4 (real3 x4 h4) s h d⟩
end

end Cert.FoxIdeal.Math
end
-- ==== Proof.FoxIdeal.Pair.lean ====
/- The two runs, the kernel's and the reference's, with the same four results. -/
module

public import proofs.«01_k».proof.Proof.FoxIdeal.PreVal
public import proofs.«01_k».proof.Proof.Gen.FoxRefIdeal.Run
public import proofs.«01_k».proof.Proof.Gen.Pre_finite

@[expose] public section

set_option maxRecDepth 16384

noncomputable section

open Idealize.ShloMosaic Idealize.ShloMosaic.TcCoe Idealize.SL.Sem

namespace Cert.FoxIdeal.Math

variable (m : (ℓ : Loc Cert.FoxIdeal.nD Cert.FoxIdeal.τ Cert.FoxIdeal.sig) → Buf (Elt Ideal) ℓ) (m' : (ℓ : Loc Cert.FoxRefIdeal.nD Cert.FoxRefIdeal.τ Cert.FoxRefIdeal.sig) → Buf (Elt Ideal) ℓ)

/-- The kernel's run, its results the reference's terms of its arguments. -/
theorem run_kernel (g : Dev Cert.FoxIdeal.nD → PrngReg) (hf : ∀ c : Dev Cert.FoxIdeal.nD, Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) = fun _ => 1#1) :
    θ_run (Cert.FoxIdeal.defs (F := Ideal)) (onTc (τ := Cert.FoxIdeal.τ) (Cert.FoxIdeal.main (F := Ideal))) ⟨m, fun _ => 0, g⟩ (fun r => ∀ c : Dev Cert.FoxIdeal.nD,
      r.2.mem ((c.tc : Thread Cert.FoxIdeal.nD Cert.FoxIdeal.τ).loc Cert.FoxIdeal.main_v74_0) = Cert.FoxRefIdeal.Term.dq (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))
      ∧ r.2.mem ((c.tc : Thread Cert.FoxIdeal.nD Cert.FoxIdeal.τ).loc Cert.FoxIdeal.main_v74_1) = Cert.FoxRefIdeal.Term.dk (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))
      ∧ r.2.mem ((c.tc : Thread Cert.FoxIdeal.nD Cert.FoxIdeal.τ).loc Cert.FoxIdeal.main_v74_2) = Cert.FoxRefIdeal.Term.dv (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))
      ∧ r.2.mem ((c.tc : Thread Cert.FoxIdeal.nD Cert.FoxIdeal.τ).loc Cert.FoxIdeal.main_v74_3) = Cert.FoxRefIdeal.Term.dc (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))
      ∧ r.2.mem ((c.tc : Thread Cert.FoxIdeal.nD Cert.FoxIdeal.τ).loc Cert.FoxIdeal.main_arg0) = (m ((c.tc : Thread Cert.FoxIdeal.nD Cert.FoxIdeal.τ).loc Cert.FoxIdeal.main_arg0))
      ∧ r.2.mem ((c.tc : Thread Cert.FoxIdeal.nD Cert.FoxIdeal.τ).loc Cert.FoxIdeal.main_arg1) = (m ((c.tc : Thread Cert.FoxIdeal.nD Cert.FoxIdeal.τ).loc Cert.FoxIdeal.main_arg1))
      ∧ r.2.mem ((c.tc : Thread Cert.FoxIdeal.nD Cert.FoxIdeal.τ).loc Cert.FoxIdeal.main_arg2) = (m ((c.tc : Thread Cert.FoxIdeal.nD Cert.FoxIdeal.τ).loc Cert.FoxIdeal.main_arg2))
      ∧ r.2.mem ((c.tc : Thread Cert.FoxIdeal.nD Cert.FoxIdeal.τ).loc Cert.FoxIdeal.main_arg3) = (m ((c.tc : Thread Cert.FoxIdeal.nD Cert.FoxIdeal.τ).loc Cert.FoxIdeal.main_arg3))
      ∧ r.2.mem ((c.tc : Thread Cert.FoxIdeal.nD Cert.FoxIdeal.τ).loc Cert.FoxIdeal.main_arg4) = (m ((c.tc : Thread Cert.FoxIdeal.nD Cert.FoxIdeal.τ).loc Cert.FoxIdeal.main_arg4))) :=
  (θ_run Cert.FoxIdeal.defs _ _).mono (fun r h c =>
    have H := are_of_finite _ _ _ _ _ (hf c)
    ⟨(h.1 c).1.trans (dq_val m c H), (h.1 c).2.1.trans (dk_val m c H), (h.1 c).2.2.1.trans (dv_val m c H), (h.1 c).2.2.2.1.trans (dc_val m c H), (h.1 c).2.2.2.2⟩) (run_main m g)

/-- The reference's run. -/
theorem run_ref (g' : Dev Cert.FoxRefIdeal.nD → PrngReg) :
    θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
      r.2.mem ((c.tc : Thread Cert.FoxRefIdeal.nD Cert.FoxRefIdeal.τ).loc Cert.FoxRefIdeal.main_v75) = Cert.FoxRefIdeal.Term.dq (m' ((c.tc : Thread Cert.FoxRefIdeal.nD Cert.FoxRefIdeal.τ).loc Cert.FoxRefIdeal.main_arg0)) (m' ((c.tc : Thread Cert.FoxRefIdeal.nD Cert.FoxRefIdeal.τ).loc Cert.FoxRefIdeal.main_arg1)) (m' ((c.tc : Thread Cert.FoxRefIdeal.nD Cert.FoxRefIdeal.τ).loc Cert.FoxRefIdeal.main_arg2)) (m' ((c.tc : Thread Cert.FoxRefIdeal.nD Cert.FoxRefIdeal.τ).loc Cert.FoxRefIdeal.main_arg3)) (m' ((c.tc : Thread Cert.FoxRefIdeal.nD Cert.FoxRefIdeal.τ).loc Cert.FoxRefIdeal.main_arg4))
      ∧ r.2.mem ((c.tc : Thread Cert.FoxRefIdeal.nD Cert.FoxRefIdeal.τ).loc Cert.FoxRefIdeal.main_v76) = Cert.FoxRefIdeal.Term.dk (m' ((c.tc : Thread Cert.FoxRefIdeal.nD Cert.FoxRefIdeal.τ).loc Cert.FoxRefIdeal.main_arg0)) (m' ((c.tc : Thread Cert.FoxRefIdeal.nD Cert.FoxRefIdeal.τ).loc Cert.FoxRefIdeal.main_arg1)) (m' ((c.tc : Thread Cert.FoxRefIdeal.nD Cert.FoxRefIdeal.τ).loc Cert.FoxRefIdeal.main_arg2)) (m' ((c.tc : Thread Cert.FoxRefIdeal.nD Cert.FoxRefIdeal.τ).loc Cert.FoxRefIdeal.main_arg3)) (m' ((c.tc : Thread Cert.FoxRefIdeal.nD Cert.FoxRefIdeal.τ).loc Cert.FoxRefIdeal.main_arg4))
      ∧ r.2.mem ((c.tc : Thread Cert.FoxRefIdeal.nD Cert.FoxRefIdeal.τ).loc Cert.FoxRefIdeal.main_v77) = Cert.FoxRefIdeal.Term.dv (m' ((c.tc : Thread Cert.FoxRefIdeal.nD Cert.FoxRefIdeal.τ).loc Cert.FoxRefIdeal.main_arg0)) (m' ((c.tc : Thread Cert.FoxRefIdeal.nD Cert.FoxRefIdeal.τ).loc Cert.FoxRefIdeal.main_arg1)) (m' ((c.tc : Thread Cert.FoxRefIdeal.nD Cert.FoxRefIdeal.τ).loc Cert.FoxRefIdeal.main_arg3)) (m' ((c.tc : Thread Cert.FoxRefIdeal.nD Cert.FoxRefIdeal.τ).loc Cert.FoxRefIdeal.main_arg4))
      ∧ r.2.mem ((c.tc : Thread Cert.FoxRefIdeal.nD Cert.FoxRefIdeal.τ).loc Cert.FoxRefIdeal.main_v78) = Cert.FoxRefIdeal.Term.dc (m' ((c.tc : Thread Cert.FoxRefIdeal.nD Cert.FoxRefIdeal.τ).loc Cert.FoxRefIdeal.main_arg0)) (m' ((c.tc : Thread Cert.FoxRefIdeal.nD Cert.FoxRefIdeal.τ).loc Cert.FoxRefIdeal.main_arg1)) (m' ((c.tc : Thread Cert.FoxRefIdeal.nD Cert.FoxRefIdeal.τ).loc Cert.FoxRefIdeal.main_arg2)) (m' ((c.tc : Thread Cert.FoxRefIdeal.nD Cert.FoxRefIdeal.τ).loc Cert.FoxRefIdeal.main_arg3)) (m' ((c.tc : Thread Cert.FoxRefIdeal.nD Cert.FoxRefIdeal.τ).loc Cert.FoxRefIdeal.main_arg4))
      ∧ r.2.mem ((c.tc : Thread Cert.FoxRefIdeal.nD Cert.FoxRefIdeal.τ).loc Cert.FoxRefIdeal.main_arg0) = (m' ((c.tc : Thread Cert.FoxRefIdeal.nD Cert.FoxRefIdeal.τ).loc Cert.FoxRefIdeal.main_arg0))
      ∧ r.2.mem ((c.tc : Thread Cert.FoxRefIdeal.nD Cert.FoxRefIdeal.τ).loc Cert.FoxRefIdeal.main_arg1) = (m' ((c.tc : Thread Cert.FoxRefIdeal.nD Cert.FoxRefIdeal.τ).loc Cert.FoxRefIdeal.main_arg1))
      ∧ r.2.mem ((c.tc : Thread Cert.FoxRefIdeal.nD Cert.FoxRefIdeal.τ).loc Cert.FoxRefIdeal.main_arg2) = (m' ((c.tc : Thread Cert.FoxRefIdeal.nD Cert.FoxRefIdeal.τ).loc Cert.FoxRefIdeal.main_arg2))
      ∧ r.2.mem ((c.tc : Thread Cert.FoxRefIdeal.nD Cert.FoxRefIdeal.τ).loc Cert.FoxRefIdeal.main_arg3) = (m' ((c.tc : Thread Cert.FoxRefIdeal.nD Cert.FoxRefIdeal.τ).loc Cert.FoxRefIdeal.main_arg3))
      ∧ r.2.mem ((c.tc : Thread Cert.FoxRefIdeal.nD Cert.FoxRefIdeal.τ).loc Cert.FoxRefIdeal.main_arg4) = (m' ((c.tc : Thread Cert.FoxRefIdeal.nD Cert.FoxRefIdeal.τ).loc Cert.FoxRefIdeal.main_arg4))) :=
  (θ_run Cert.FoxRefIdeal.defs _ _).mono (fun r h c =>
    ⟨(h c).1.trans (Cert.FoxRefIdeal.Term.res_eq m' c).1, (h c).2.1.trans (Cert.FoxRefIdeal.Term.res_eq m' c).2.1, (h c).2.2.1.trans (Cert.FoxRefIdeal.Term.res_eq m' c).2.2.1,
      (h c).2.2.2.1.trans (Cert.FoxRefIdeal.Term.res_eq m' c).2.2.2, (h c).2.2.2.2⟩) (Cert.FoxRefIdeal.Value.run (F := Ideal) m' g')

end Cert.FoxIdeal.Math
end
-- ==== Proof.Prod.Forward.lean ====
/- What the forward products leave in their results: the reference's products of the arguments. -/
module

public import proofs.«01_k».proof.Proof.Gen.ZgIdeal.Value
public import proofs.«01_k».proof.Proof.Gen.ZgRefIdeal.Run
public import proofs.«01_k».proof.Proof.Gen.QkvIdeal.Value
public import proofs.«01_k».proof.Proof.Gen.QkvRefIdeal.Run
public import proofs.«01_k».proof.Proof.Gen.BranchBIdeal.Value
public import proofs.«01_k».proof.Proof.Gen.BranchBRefIdeal.Run
public import proofs.«01_k».proof.Proof.Gen.BranchCIdeal.Value
public import proofs.«01_k».proof.Proof.Gen.BranchCRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem

section
open Cert.ZgRefIdeal Cert.ZgRefIdeal.Gen
/-- The reference's term of the projection to the latents and gates. -/
def Cert.ZgRefIdeal.prod (x : FVec Ideal S4096x2048 .f32) (w : FVec Ideal S2048x8192 .f32) : FVec Ideal S4096x8192 .bf16 :=
  truncf .bf16 (Host.dotGeneral dot_S4096x2048_S2048x8192_S4096x8192_1_0_0_1_n_n none x w) bitsLt_bf16_f32

end

section
open Cert.ZgIdeal Cert.ZgIdeal.Gen
namespace Cert.ZgIdeal.Prod

variable (m : (ℓ : Loc nD τ sig) → Buf (Elt Ideal) ℓ)

/-- The blocks of a point. -/
theorem tiles : ∀ t : Fin cfg0.N, win0_0.index t = ![t.val / 8, 0] ∧ win0_1.index t = ![0, t.val % 8] ∧ win0_2.index t = ![t.val / 8, t.val % 8] :=
  (by decide +kernel : ∀ t : Fin grid0.N, _)

theorem left_at (c : Dev nD) (t : Fin cfg0.N) (y : S1024x2048.Idx) : ∃ i : S4096x2048.Idx,
    (iblk m c 0 t : FVec Ideal S1024x2048 .bf16) y = (m ((c : Thread nD τ).loc main_arg0) : FVec Ideal S4096x2048 .f32) i ∧ (i 0 : ℕ) = t.val / 8 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg0) : FVec Ideal S4096x2048 .f32) i := by
      entry_read
      pointwise
    exact Eq.trans (by rw [hi]; rfl) e
  all_goals (rw [hi]; blk_simp [tiles t] <;> omega)

theorem right_at (c : Dev nD) (t : Fin cfg0.N) (y : S2048x1024.Idx) : ∃ i : S2048x8192.Idx,
    (iblk m c 1 t : FVec Ideal S2048x1024 .bf16) y = (m ((c : Thread nD τ).loc main_arg1) : FVec Ideal S2048x8192 .f32) i ∧ (i 0 : ℕ) = y 0 ∧ (i 1 : ℕ) = t.val % 8 * 1024 + y 1 := by
  obtain ⟨i, hi⟩ : ∃ i : S2048x8192.Idx, i = ((cfg0.win 1).blk t).view.emb y := ⟨_, rfl⟩
  refine ⟨i, ?_, ?_, ?_⟩
  · have e : (V m c main_v1 : FVec Ideal S2048x8192 .bf16) i = (m ((c : Thread nD τ).loc main_arg1) : FVec Ideal S2048x8192 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x1024.Idx) (j : S4096x8192.Idx)
    (h0 : (j 0 : ℕ) = t.val / 8 * 1024 + x 0) (h1 : (j 1 : ℕ) = t.val % 8 * 1024 + x 1) :
    k0_pay1 (F := Ideal) (iblk m c 0 t) (iblk m c 1 t) x = Cert.ZgRefIdeal.prod (m ((c : Thread nD τ).loc main_arg0)) (m ((c : Thread nD τ).loc main_arg1)) j := by
  have hl := left_at m c t
  have hr := right_at m c t
  generalize (iblk m c 0 t : FVec Ideal S1024x2048 .bf16) = a at hl ⊢
  generalize (iblk m c 1 t : FVec Ideal S2048x1024 .bf16) = b at hr ⊢
  pointwise [k0_pay1, Cert.ZgRefIdeal.prod]
  refine Finset.sum_congr rfl fun k _ => ?_
  obtain ⟨p, ep, p0, p1⟩ := hl (ix2 (x 0) k)
  obtain ⟨q, eq, q0, q1⟩ := hr (ix2 k (x 1))
  change (p 0 : ℕ) = t.val / 8 * 1024 + (x 0).val at p0
  change (p 1 : ℕ) = k.val at p1
  change (q 0 : ℕ) = k.val at q0
  change (q 1 : ℕ) = t.val % 8 * 1024 + (x 1).val at q1
  rw [ep, eq]
  congr 2
  all_goals (blk_ext <;> omega)

/-- The kernel's result is the reference's product. -/
theorem result (c : Dev nD) : (dats m 0 c).arrAt 2 (cfgs 0).N = Cert.ZgRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.ZgIdeal.Prod
end

section
open Cert.QkvRefIdeal Cert.QkvRefIdeal.Gen
/-- The reference's term of the projection to queries, keys and values. -/
def Cert.QkvRefIdeal.prod (x : FVec Ideal S4096x2048 .f32) (w : FVec Ideal S2048x4096 .f32) : FVec Ideal S4096x4096 .bf16 :=
  truncf .bf16 (Host.dotGeneral dot_S4096x2048_S2048x4096_S4096x4096_1_0_0_1_n_n none x w) bitsLt_bf16_f32

end

section
open Cert.QkvIdeal Cert.QkvIdeal.Gen
namespace Cert.QkvIdeal.Prod

variable (m : (ℓ : Loc nD τ sig) → Buf (Elt Ideal) ℓ)

/-- The blocks of a point. -/
theorem tiles : ∀ t : Fin cfg0.N, win0_0.index t = ![t.val / 4, 0] ∧ win0_1.index t = ![0, t.val % 4] ∧ win0_2.index t = ![t.val / 4, t.val % 4] :=
  (by decide +kernel : ∀ t : Fin grid0.N, _)

theorem left_at (c : Dev nD) (t : Fin cfg0.N) (y : S1024x2048.Idx) : ∃ i : S4096x2048.Idx,
    (iblk m c 0 t : FVec Ideal S1024x2048 .bf16) y = (m ((c : Thread nD τ).loc main_arg0) : FVec Ideal S4096x2048 .f32) i ∧ (i 0 : ℕ) = t.val / 4 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg0) : FVec Ideal S4096x2048 .f32) i := by
      entry_read
      pointwise
    exact Eq.trans (by rw [hi]; rfl) e
  all_goals (rw [hi]; blk_simp [tiles t] <;> omega)

theorem right_at (c : Dev nD) (t : Fin cfg0.N) (y : S2048x1024.Idx) : ∃ i : S2048x4096.Idx,
    (iblk m c 1 t : FVec Ideal S2048x1024 .bf16) y = (m ((c : Thread nD τ).loc main_arg1) : FVec Ideal S2048x4096 .f32) i ∧ (i 0 : ℕ) = y 0 ∧ (i 1 : ℕ) = t.val % 4 * 1024 + y 1 := by
  obtain ⟨i, hi⟩ : ∃ i : S2048x4096.Idx, i = ((cfg0.win 1).blk t).view.emb y := ⟨_, rfl⟩
  refine ⟨i, ?_, ?_, ?_⟩
  · have e : (V m c main_v1 : FVec Ideal S2048x4096 .bf16) i = (m ((c : Thread nD τ).loc main_arg1) : FVec Ideal S2048x4096 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x1024.Idx) (j : S4096x4096.Idx)
    (h0 : (j 0 : ℕ) = t.val / 4 * 1024 + x 0) (h1 : (j 1 : ℕ) = t.val % 4 * 1024 + x 1) :
    k0_pay1 (F := Ideal) (iblk m c 0 t) (iblk m c 1 t) x = Cert.QkvRefIdeal.prod (m ((c : Thread nD τ).loc main_arg0)) (m ((c : Thread nD τ).loc main_arg1)) j := by
  have hl := left_at m c t
  have hr := right_at m c t
  generalize (iblk m c 0 t : FVec Ideal S1024x2048 .bf16) = a at hl ⊢
  generalize (iblk m c 1 t : FVec Ideal S2048x1024 .bf16) = b at hr ⊢
  pointwise [k0_pay1, Cert.QkvRefIdeal.prod]
  refine Finset.sum_congr rfl fun k _ => ?_
  obtain ⟨p, ep, p0, p1⟩ := hl (ix2 (x 0) k)
  obtain ⟨q, eq, q0, q1⟩ := hr (ix2 k (x 1))
  change (p 0 : ℕ) = t.val / 4 * 1024 + (x 0).val at p0
  change (p 1 : ℕ) = k.val at p1
  change (q 0 : ℕ) = k.val at q0
  change (q 1 : ℕ) = t.val % 4 * 1024 + (x 1).val at q1
  rw [ep, eq]
  congr 2
  all_goals (blk_ext <;> omega)

/-- The kernel's result is the reference's product. -/
theorem result (c : Dev nD) : (dats m 0 c).arrAt 2 (cfgs 0).N = Cert.QkvRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.QkvIdeal.Prod
end

section
open Cert.BranchBRefIdeal Cert.BranchBRefIdeal.Gen
/-- The reference's term of the projection of a self-attention branch. -/
def Cert.BranchBRefIdeal.prod (x : FVec Ideal S4096x768 .f32) (w : FVec Ideal S768x2048 .f32) : FVec Ideal S4096x2048 .bf16 :=
  truncf .bf16 (Host.dotGeneral dot_S4096x768_S768x2048_S4096x2048_1_0_0_1_n_n none x w) bitsLt_bf16_f32

end

section
open Cert.BranchBIdeal Cert.BranchBIdeal.Gen
namespace Cert.BranchBIdeal.Prod

variable (m : (ℓ : Loc nD τ sig) → Buf (Elt Ideal) ℓ)

/-- The blocks of a point. -/
theorem tiles : ∀ t : Fin cfg0.N, win0_0.index t = ![t.val / 1, 0] ∧ win0_1.index t = ![0, t.val % 1] ∧ win0_2.index t = ![t.val / 1, t.val % 1] :=
  (by decide +kernel : ∀ t : Fin grid0.N, _)

theorem left_at (c : Dev nD) (t : Fin cfg0.N) (y : S1024x768.Idx) : ∃ i : S4096x768.Idx,
    (iblk m c 0 t : FVec Ideal S1024x768 .bf16) y = (m ((c : Thread nD τ).loc main_arg0) : FVec Ideal S4096x768 .f32) i ∧ (i 0 : ℕ) = t.val / 1 * 1024 + y 0 ∧ (i 1 : ℕ) = y 1 := by
  obtain ⟨i, hi⟩ : ∃ i : S4096x768.Idx, i = ((cfg0.win 0).blk t).view.emb y := ⟨_, rfl⟩
  refine ⟨i, ?_, ?_, ?_⟩
  · have e : (V m c main_v0 : FVec Ideal S4096x768 .bf16) i = (m ((c : Thread nD τ).loc main_arg0) : FVec Ideal S4096x768 .f32) i := by
      entry_read
      pointwise
    exact Eq.trans (by rw [hi]; rfl) e
  all_goals (rw [hi]; blk_simp [tiles t] <;> omega)

theorem right_at (c : Dev nD) (t : Fin cfg0.N) (y : S768x2048.Idx) : ∃ i : S768x2048.Idx,
    (iblk m c 1 t : FVec Ideal S768x2048 .bf16) y = (m ((c : Thread nD τ).loc main_arg1) : FVec Ideal S768x2048 .f32) i ∧ (i 0 : ℕ) = y 0 ∧ (i 1 : ℕ) = t.val % 1 * 2048 + y 1 := by
  obtain ⟨i, hi⟩ : ∃ i : S768x2048.Idx, i = ((cfg0.win 1).blk t).view.emb y := ⟨_, rfl⟩
  refine ⟨i, ?_, ?_, ?_⟩
  · have e : (V m c main_v1 : FVec Ideal S768x2048 .bf16) i = (m ((c : Thread nD τ).loc main_arg1) : FVec Ideal S768x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x2048.Idx) (j : S4096x2048.Idx)
    (h0 : (j 0 : ℕ) = t.val / 1 * 1024 + x 0) (h1 : (j 1 : ℕ) = t.val % 1 * 2048 + x 1) :
    k0_pay1 (F := Ideal) (iblk m c 0 t) (iblk m c 1 t) x = Cert.BranchBRefIdeal.prod (m ((c : Thread nD τ).loc main_arg0)) (m ((c : Thread nD τ).loc main_arg1)) j := by
  have hl := left_at m c t
  have hr := right_at m c t
  generalize (iblk m c 0 t : FVec Ideal S1024x768 .bf16) = a at hl ⊢
  generalize (iblk m c 1 t : FVec Ideal S768x2048 .bf16) = b at hr ⊢
  pointwise [k0_pay1, Cert.BranchBRefIdeal.prod]
  refine Finset.sum_congr rfl fun k _ => ?_
  obtain ⟨p, ep, p0, p1⟩ := hl (ix2 (x 0) k)
  obtain ⟨q, eq, q0, q1⟩ := hr (ix2 k (x 1))
  change (p 0 : ℕ) = t.val / 1 * 1024 + (x 0).val at p0
  change (p 1 : ℕ) = k.val at p1
  change (q 0 : ℕ) = k.val at q0
  change (q 1 : ℕ) = t.val % 1 * 2048 + (x 1).val at q1
  rw [ep, eq]
  congr 2
  all_goals (blk_ext <;> omega)

/-- The kernel's result is the reference's product. -/
theorem result (c : Dev nD) : (dats m 0 c).arrAt 2 (cfgs 0).N = Cert.BranchBRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.BranchBIdeal.Prod
end

section
open Cert.BranchCRefIdeal Cert.BranchCRefIdeal.Gen
/-- The reference's term of the projection of the memory branch. -/
def Cert.BranchCRefIdeal.prod (x : FVec Ideal S4096x512 .f32) (w : FVec Ideal S512x2048 .f32) : FVec Ideal S4096x2048 .bf16 :=
  truncf .bf16 (Host.dotGeneral dot_S4096x512_S512x2048_S4096x2048_1_0_0_1_n_n none x w) bitsLt_bf16_f32

end

section
open Cert.BranchCIdeal Cert.BranchCIdeal.Gen
namespace Cert.BranchCIdeal.Prod

variable (m : (ℓ : Loc nD τ sig) → Buf (Elt Ideal) ℓ)

/-- The blocks of a point. -/
theorem tiles : ∀ t : Fin cfg0.N, win0_0.index t = ![t.val / 1, 0] ∧ win0_1.index t = ![0, t.val % 1] ∧ win0_2.index t = ![t.val / 1, t.val % 1] :=
  (by decide +kernel : ∀ t : Fin grid0.N, _)

theorem left_at (c : Dev nD) (t : Fin cfg0.N) (y : S1024x512.Idx) : ∃ i : S4096x512.Idx,
    (iblk m c 0 t : FVec Ideal S1024x512 .bf16) y = (m ((c : Thread nD τ).loc main_arg0) : FVec Ideal S4096x512 .f32) i ∧ (i 0 : ℕ) = t.val / 1 * 1024 + y 0 ∧ (i 1 : ℕ) = y 1 := by
  obtain ⟨i, hi⟩ : ∃ i : S4096x512.Idx, i = ((cfg0.win 0).blk t).view.emb y := ⟨_, rfl⟩
  refine ⟨i, ?_, ?_, ?_⟩
  · have e : (V m c main_v0 : FVec Ideal S4096x512 .bf16) i = (m ((c : Thread nD τ).loc main_arg0) : FVec Ideal S4096x512 .f32) i := by
      entry_read
      pointwise
    exact Eq.trans (by rw [hi]; rfl) e
  all_goals (rw [hi]; blk_simp [tiles t] <;> omega)

theorem right_at (c : Dev nD) (t : Fin cfg0.N) (y : S512x2048.Idx) : ∃ i : S512x2048.Idx,
    (iblk m c 1 t : FVec Ideal S512x2048 .bf16) y = (m ((c : Thread nD τ).loc main_arg1) : FVec Ideal S512x2048 .f32) i ∧ (i 0 : ℕ) = y 0 ∧ (i 1 : ℕ) = t.val % 1 * 2048 + y 1 := by
  obtain ⟨i, hi⟩ : ∃ i : S512x2048.Idx, i = ((cfg0.win 1).blk t).view.emb y := ⟨_, rfl⟩
  refine ⟨i, ?_, ?_, ?_⟩
  · have e : (V m c main_v1 : FVec Ideal S512x2048 .bf16) i = (m ((c : Thread nD τ).loc main_arg1) : FVec Ideal S512x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x2048.Idx) (j : S4096x2048.Idx)
    (h0 : (j 0 : ℕ) = t.val / 1 * 1024 + x 0) (h1 : (j 1 : ℕ) = t.val % 1 * 2048 + x 1) :
    k0_pay1 (F := Ideal) (iblk m c 0 t) (iblk m c 1 t) x = Cert.BranchCRefIdeal.prod (m ((c : Thread nD τ).loc main_arg0)) (m ((c : Thread nD τ).loc main_arg1)) j := by
  have hl := left_at m c t
  have hr := right_at m c t
  generalize (iblk m c 0 t : FVec Ideal S1024x512 .bf16) = a at hl ⊢
  generalize (iblk m c 1 t : FVec Ideal S512x2048 .bf16) = b at hr ⊢
  pointwise [k0_pay1, Cert.BranchCRefIdeal.prod]
  refine Finset.sum_congr rfl fun k _ => ?_
  obtain ⟨p, ep, p0, p1⟩ := hl (ix2 (x 0) k)
  obtain ⟨q, eq, q0, q1⟩ := hr (ix2 k (x 1))
  change (p 0 : ℕ) = t.val / 1 * 1024 + (x 0).val at p0
  change (p 1 : ℕ) = k.val at p1
  change (q 0 : ℕ) = k.val at q0
  change (q 1 : ℕ) = t.val % 1 * 2048 + (x 1).val at q1
  rw [ep, eq]
  congr 2
  all_goals (blk_ext <;> omega)

/-- The kernel's result is the reference's product. -/
theorem result (c : Dev nD) : (dats m 0 c).arrAt 2 (cfgs 0).N = Cert.BranchCRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.BranchCIdeal.Prod
end

end
-- ==== Proof.Prod.Weight.lean ====
/- What the products for weight gradients leave in their results: the reference's products of the arguments. -/
module

public import proofs.«01_k».proof.Proof.Gen.GateWIdeal.Value
public import proofs.«01_k».proof.Proof.Gen.GateWRefIdeal.Run
public import proofs.«01_k».proof.Proof.Gen.QkvWIdeal.Value
public import proofs.«01_k».proof.Proof.Gen.QkvWRefIdeal.Run
public import proofs.«01_k».proof.Proof.Gen.OutWIdeal.Value
public import proofs.«01_k».proof.Proof.Gen.OutWRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem

section
open Cert.GateWRefIdeal Cert.GateWRefIdeal.Gen
/-- The reference's term of the gates' weight gradient. -/
def Cert.GateWRefIdeal.prod (x : FVec Ideal S4096x2048 .f32) (w : FVec Ideal S4096x6144 .f32) : FVec Ideal S2048x6144 .bf16 :=
  truncf .bf16 (transpose S2048x6144 [1, 0] (Host.dotGeneral dot_S4096x6144_S4096x2048_S6144x2048_0_0_1_1_n_n none w x) transposes_S6144x2048_S2048x6144_1_0) bitsLt_bf16_f32

end

section
open Cert.GateWIdeal Cert.GateWIdeal.Gen
namespace Cert.GateWIdeal.Prod

variable (m : (ℓ : Loc nD τ sig) → Buf (Elt Ideal) ℓ)

/-- The blocks of a point. -/
theorem tiles : ∀ t : Fin cfg0.N, win0_0.index t = ![0, t.val / 6] ∧ win0_1.index t = ![0, t.val % 6] ∧ win0_2.index t = ![t.val / 6, t.val % 6] :=
  (by decide +kernel : ∀ t : Fin grid0.N, _)

theorem left_at (c : Dev nD) (t : Fin cfg0.N) (y : S4096x512.Idx) : ∃ i : S4096x2048.Idx,
    (iblk m c 0 t : FVec Ideal S4096x512 .bf16) y = (m ((c : Thread nD τ).loc main_arg0) : FVec Ideal S4096x2048 .f32) i ∧ (i 0 : ℕ) = y 0 ∧ (i 1 : ℕ) = t.val / 6 * 512 + y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg0) : FVec Ideal S4096x2048 .f32) i := by
      entry_read
      pointwise
    exact Eq.trans (by rw [hi]; rfl) e
  all_goals (rw [hi]; blk_simp [tiles t] <;> omega)

theorem right_at (c : Dev nD) (t : Fin cfg0.N) (y : S4096x1024.Idx) : ∃ i : S4096x6144.Idx,
    (iblk m c 1 t : FVec Ideal S4096x1024 .bf16) y = (m ((c : Thread nD τ).loc main_arg1) : FVec Ideal S4096x6144 .f32) i ∧ (i 0 : ℕ) = y 0 ∧ (i 1 : ℕ) = t.val % 6 * 1024 + y 1 := by
  obtain ⟨i, hi⟩ : ∃ i : S4096x6144.Idx, i = ((cfg0.win 1).blk t).view.emb y := ⟨_, rfl⟩
  refine ⟨i, ?_, ?_, ?_⟩
  · have e : (V m c main_v1 : FVec Ideal S4096x6144 .bf16) i = (m ((c : Thread nD τ).loc main_arg1) : FVec Ideal S4096x6144 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S512x1024.Idx) (j : S2048x6144.Idx)
    (h0 : (j 0 : ℕ) = t.val / 6 * 512 + x 0) (h1 : (j 1 : ℕ) = t.val % 6 * 1024 + x 1) :
    k0_pay1 (F := Ideal) (iblk m c 0 t) (iblk m c 1 t) x = Cert.GateWRefIdeal.prod (m ((c : Thread nD τ).loc main_arg0)) (m ((c : Thread nD τ).loc main_arg1)) j := by
  have hl := left_at m c t
  have hr := right_at m c t
  generalize (iblk m c 0 t : FVec Ideal S4096x512 .bf16) = a at hl ⊢
  generalize (iblk m c 1 t : FVec Ideal S4096x1024 .bf16) = b at hr ⊢
  pointwise [k0_pay1, Cert.GateWRefIdeal.prod]
  refine Finset.sum_congr rfl fun k _ => ?_
  obtain ⟨p, ep, p0, p1⟩ := hl (ix2 k (x 0))
  obtain ⟨q, eq, q0, q1⟩ := hr (ix2 k (x 1))
  change (p 0 : ℕ) = k.val at p0
  change (p 1 : ℕ) = t.val / 6 * 512 + (x 0).val at p1
  change (q 0 : ℕ) = k.val at q0
  change (q 1 : ℕ) = t.val % 6 * 1024 + (x 1).val at q1
  rw [ep, eq, mul_comm]
  congr 2
  all_goals (blk_ext <;> omega)

/-- The kernel's result is the reference's product. -/
theorem result (c : Dev nD) : (dats m 0 c).arrAt 2 (cfgs 0).N = Cert.GateWRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.GateWIdeal.Prod
end

section
open Cert.QkvWRefIdeal Cert.QkvWRefIdeal.Gen
/-- The reference's term of the queries', keys' and values' weight gradient. -/
def Cert.QkvWRefIdeal.prod (x : FVec Ideal S4096x2048 .f32) (w : FVec Ideal S4096x4096 .f32) : FVec Ideal S2048x4096 .bf16 :=
  truncf .bf16 (transpose S2048x4096 [1, 0] (Host.dotGeneral dot_S4096x4096_S4096x2048_S4096x2048_0_0_1_1_n_n none w x) transposes_S4096x2048_S2048x4096_1_0) bitsLt_bf16_f32

end

section
open Cert.QkvWIdeal Cert.QkvWIdeal.Gen
namespace Cert.QkvWIdeal.Prod

variable (m : (ℓ : Loc nD τ sig) → Buf (Elt Ideal) ℓ)

/-- The blocks of a point. -/
theorem tiles : ∀ t : Fin cfg0.N, win0_0.index t = ![0, t.val / 4] ∧ win0_1.index t = ![0, t.val % 4] ∧ win0_2.index t = ![t.val / 4, t.val % 4] :=
  (by decide +kernel : ∀ t : Fin grid0.N, _)

theorem left_at (c : Dev nD) (t : Fin cfg0.N) (y : S4096x512.Idx) : ∃ i : S4096x2048.Idx,
    (iblk m c 0 t : FVec Ideal S4096x512 .bf16) y = (m ((c : Thread nD τ).loc main_arg0) : FVec Ideal S4096x2048 .f32) i ∧ (i 0 : ℕ) = y 0 ∧ (i 1 : ℕ) = t.val / 4 * 512 + y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg0) : FVec Ideal S4096x2048 .f32) i := by
      entry_read
      pointwise
    exact Eq.trans (by rw [hi]; rfl) e
  all_goals (rw [hi]; blk_simp [tiles t] <;> omega)

theorem right_at (c : Dev nD) (t : Fin cfg0.N) (y : S4096x1024.Idx) : ∃ i : S4096x4096.Idx,
    (iblk m c 1 t : FVec Ideal S4096x1024 .bf16) y = (m ((c : Thread nD τ).loc main_arg1) : FVec Ideal S4096x4096 .f32) i ∧ (i 0 : ℕ) = y 0 ∧ (i 1 : ℕ) = t.val % 4 * 1024 + y 1 := by
  obtain ⟨i, hi⟩ : ∃ i : S4096x4096.Idx, i = ((cfg0.win 1).blk t).view.emb y := ⟨_, rfl⟩
  refine ⟨i, ?_, ?_, ?_⟩
  · have e : (V m c main_v1 : FVec Ideal S4096x4096 .bf16) i = (m ((c : Thread nD τ).loc main_arg1) : FVec Ideal S4096x4096 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S512x1024.Idx) (j : S2048x4096.Idx)
    (h0 : (j 0 : ℕ) = t.val / 4 * 512 + x 0) (h1 : (j 1 : ℕ) = t.val % 4 * 1024 + x 1) :
    k0_pay1 (F := Ideal) (iblk m c 0 t) (iblk m c 1 t) x = Cert.QkvWRefIdeal.prod (m ((c : Thread nD τ).loc main_arg0)) (m ((c : Thread nD τ).loc main_arg1)) j := by
  have hl := left_at m c t
  have hr := right_at m c t
  generalize (iblk m c 0 t : FVec Ideal S4096x512 .bf16) = a at hl ⊢
  generalize (iblk m c 1 t : FVec Ideal S4096x1024 .bf16) = b at hr ⊢
  pointwise [k0_pay1, Cert.QkvWRefIdeal.prod]
  refine Finset.sum_congr rfl fun k _ => ?_
  obtain ⟨p, ep, p0, p1⟩ := hl (ix2 k (x 0))
  obtain ⟨q, eq, q0, q1⟩ := hr (ix2 k (x 1))
  change (p 0 : ℕ) = k.val at p0
  change (p 1 : ℕ) = t.val / 4 * 512 + (x 0).val at p1
  change (q 0 : ℕ) = k.val at q0
  change (q 1 : ℕ) = t.val % 4 * 1024 + (x 1).val at q1
  rw [ep, eq, mul_comm]
  congr 2
  all_goals (blk_ext <;> omega)

/-- The kernel's result is the reference's product. -/
theorem result (c : Dev nD) : (dats m 0 c).arrAt 2 (cfgs 0).N = Cert.QkvWRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.QkvWIdeal.Prod
end

section
open Cert.OutWRefIdeal Cert.OutWRefIdeal.Gen
/-- The reference's term of the output projection's weight gradient. -/
def Cert.OutWRefIdeal.prod (x : FVec Ideal S4096x2048 .f32) (w : FVec Ideal S4096x2048 .f32) : FVec Ideal S2048x2048 .bf16 :=
  truncf .bf16 (transpose S2048x2048 [1, 0] (Host.dotGeneral dot_S4096x2048_S4096x2048_S2048x2048_0_0_1_1_n_n none w x) transposes_S2048x2048_S2048x2048_1_0) bitsLt_bf16_f32

end

section
open Cert.OutWIdeal Cert.OutWIdeal.Gen
namespace Cert.OutWIdeal.Prod

variable (m : (ℓ : Loc nD τ sig) → Buf (Elt Ideal) ℓ)

/-- The blocks of a point. -/
theorem tiles : ∀ t : Fin cfg0.N, win0_0.index t = ![0, t.val / 2] ∧ win0_1.index t = ![0, t.val % 2] ∧ win0_2.index t = ![t.val / 2, t.val % 2] :=
  (by decide +kernel : ∀ t : Fin grid0.N, _)

theorem left_at (c : Dev nD) (t : Fin cfg0.N) (y : S4096x512.Idx) : ∃ i : S4096x2048.Idx,
    (iblk m c 0 t : FVec Ideal S4096x512 .bf16) y = (m ((c : Thread nD τ).loc main_arg0) : FVec Ideal S4096x2048 .f32) i ∧ (i 0 : ℕ) = y 0 ∧ (i 1 : ℕ) = t.val / 2 * 512 + y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg0) : FVec Ideal S4096x2048 .f32) i := by
      entry_read
      pointwise
    exact Eq.trans (by rw [hi]; rfl) e
  all_goals (rw [hi]; blk_simp [tiles t] <;> omega)

theorem right_at (c : Dev nD) (t : Fin cfg0.N) (y : S4096x1024.Idx) : ∃ i : S4096x2048.Idx,
    (iblk m c 1 t : FVec Ideal S4096x1024 .bf16) y = (m ((c : Thread nD τ).loc main_arg1) : FVec Ideal S4096x2048 .f32) i ∧ (i 0 : ℕ) = y 0 ∧ (i 1 : ℕ) = t.val % 2 * 1024 + y 1 := by
  obtain ⟨i, hi⟩ : ∃ i : S4096x2048.Idx, i = ((cfg0.win 1).blk t).view.emb y := ⟨_, rfl⟩
  refine ⟨i, ?_, ?_, ?_⟩
  · have e : (V m c main_v1 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S512x1024.Idx) (j : S2048x2048.Idx)
    (h0 : (j 0 : ℕ) = t.val / 2 * 512 + x 0) (h1 : (j 1 : ℕ) = t.val % 2 * 1024 + x 1) :
    k0_pay1 (F := Ideal) (iblk m c 0 t) (iblk m c 1 t) x = Cert.OutWRefIdeal.prod (m ((c : Thread nD τ).loc main_arg0)) (m ((c : Thread nD τ).loc main_arg1)) j := by
  have hl := left_at m c t
  have hr := right_at m c t
  generalize (iblk m c 0 t : FVec Ideal S4096x512 .bf16) = a at hl ⊢
  generalize (iblk m c 1 t : FVec Ideal S4096x1024 .bf16) = b at hr ⊢
  pointwise [k0_pay1, Cert.OutWRefIdeal.prod]
  refine Finset.sum_congr rfl fun k _ => ?_
  obtain ⟨p, ep, p0, p1⟩ := hl (ix2 k (x 0))
  obtain ⟨q, eq, q0, q1⟩ := hr (ix2 k (x 1))
  change (p 0 : ℕ) = k.val at p0
  change (p 1 : ℕ) = t.val / 2 * 512 + (x 0).val at p1
  change (q 0 : ℕ) = k.val at q0
  change (q 1 : ℕ) = t.val % 2 * 1024 + (x 1).val at q1
  rw [ep, eq, mul_comm]
  congr 2
  all_goals (blk_ext <;> omega)

/-- The kernel's result is the reference's product. -/
theorem result (c : Dev nD) : (dats m 0 c).arrAt 2 (cfgs 0).N = Cert.OutWRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.OutWIdeal.Prod
end

end
-- ==== Proof.Prod.Branch.lean ====
/- What the products for the branches' weight gradients leave in their results: the reference's products of the arguments. -/
module

public import proofs.«01_k».proof.Proof.Gen.BranchBWIdeal.Value
public import proofs.«01_k».proof.Proof.Gen.BranchBWRefIdeal.Run
public import proofs.«01_k».proof.Proof.Gen.BranchCWIdeal.Value
public import proofs.«01_k».proof.Proof.Gen.BranchCWRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem

section
open Cert.BranchBWRefIdeal Cert.BranchBWRefIdeal.Gen
/-- The reference's term of the weight gradient of a self-attention branch's projection. -/
def Cert.BranchBWRefIdeal.prod (x : FVec Ideal S4096x768 .f32) (w : FVec Ideal S4096x2048 .f32) : FVec Ideal S6144x256 .bf16 :=
  shapeCast _ (transpose S8x768x256 [1, 0, 2] (shapeCast _ (truncf .bf16 (transpose S768x2048 [1, 0] (Host.dotGeneral dot_S4096x2048_S4096x768_S2048x768_0_0_1_1_n_n none w x) transposes_S2048x768_S768x2048_1_0) bitsLt_bf16_f32) shapeCasts_S768x2048_S768x8x256) transposes_S768x8x256_S8x768x256_1_0_2) shapeCasts_S8x768x256_S6144x256

end

section
open Cert.BranchBWIdeal Cert.BranchBWIdeal.Gen
namespace Cert.BranchBWIdeal.Prod

variable (m : (ℓ : Loc nD τ sig) → Buf (Elt Ideal) ℓ)

/-- The blocks of a point. -/
theorem tiles : ∀ t : Fin cfg0.N, win0_0.index t = ![0, 0] ∧ win0_1.index t = ![0, t.val] ∧ win0_2.index t = ![t.val, 0] :=
  (by decide +kernel : ∀ t : Fin grid0.N, _)

theorem left_at (c : Dev nD) (t : Fin cfg0.N) (y : S4096x768.Idx) : ∃ i : S4096x768.Idx,
    (iblk m c 0 t : FVec Ideal S4096x768 .bf16) y = (m ((c : Thread nD τ).loc main_arg0) : FVec Ideal S4096x768 .f32) i ∧ (i 0 : ℕ) = y 0 ∧ (i 1 : ℕ) = 0 * 768 + y 1 := by
  obtain ⟨i, hi⟩ : ∃ i : S4096x768.Idx, i = ((cfg0.win 0).blk t).view.emb y := ⟨_, rfl⟩
  refine ⟨i, ?_, ?_, ?_⟩
  · have e : (V m c main_v0 : FVec Ideal S4096x768 .bf16) i = (m ((c : Thread nD τ).loc main_arg0) : FVec Ideal S4096x768 .f32) i := by
      entry_read
      pointwise
    exact Eq.trans (by rw [hi]; rfl) e
  all_goals (rw [hi]; blk_simp [tiles t] <;> omega)

theorem right_at (c : Dev nD) (t : Fin cfg0.N) (y : S4096x256.Idx) : ∃ i : S4096x2048.Idx,
    (iblk m c 1 t : FVec Ideal S4096x256 .bf16) y = (m ((c : Thread nD τ).loc main_arg1) : FVec Ideal S4096x2048 .f32) i ∧ (i 0 : ℕ) = y 0 ∧ (i 1 : ℕ) = t.val * 256 + y 1 := by
  obtain ⟨i, hi⟩ : ∃ i : S4096x2048.Idx, i = ((cfg0.win 1).blk t).view.emb y := ⟨_, rfl⟩
  refine ⟨i, ?_, ?_, ?_⟩
  · have e : (V m c main_v1 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S768x256.Idx) (j : S6144x256.Idx)
    (h0 : (j 0 : ℕ) = t.val * 768 + x 0) (h1 : (j 1 : ℕ) = 0 * 256 + x 1) :
    k0_pay1 (F := Ideal) (iblk m c 0 t) (iblk m c 1 t) x = Cert.BranchBWRefIdeal.prod (m ((c : Thread nD τ).loc main_arg0)) (m ((c : Thread nD τ).loc main_arg1)) j := by
  have hl := left_at m c t
  have hr := right_at m c t
  generalize (iblk m c 0 t : FVec Ideal S4096x768 .bf16) = a at hl ⊢
  generalize (iblk m c 1 t : FVec Ideal S4096x256 .bf16) = b at hr ⊢
  pointwise [k0_pay1, Cert.BranchBWRefIdeal.prod]
  refine Finset.sum_congr rfl fun k _ => ?_
  obtain ⟨p, ep, p0, p1⟩ := hl (ix2 k (x 0))
  obtain ⟨q, eq, q0, q1⟩ := hr (ix2 k (x 1))
  change (p 0 : ℕ) = k.val at p0
  change (p 1 : ℕ) = 0 * 768 + (x 0).val at p1
  change (q 0 : ℕ) = k.val at q0
  change (q 1 : ℕ) = t.val * 256 + (x 1).val at q1
  rw [ep, eq, mul_comm]
  congr 2
  all_goals (blk_ext <;> omega)

/-- The kernel's result is the reference's product. -/
theorem result (c : Dev nD) : (dats m 0 c).arrAt 2 (cfgs 0).N = Cert.BranchBWRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.BranchBWIdeal.Prod
end

section
open Cert.BranchCWRefIdeal Cert.BranchCWRefIdeal.Gen
/-- The reference's term of the weight gradient of the memory branch's projection. -/
def Cert.BranchCWRefIdeal.prod (x : FVec Ideal S4096x512 .f32) (w : FVec Ideal S4096x2048 .f32) : FVec Ideal S4096x256 .bf16 :=
  shapeCast _ (transpose S8x512x256 [1, 0, 2] (shapeCast _ (truncf .bf16 (transpose S512x2048 [1, 0] (Host.dotGeneral dot_S4096x2048_S4096x512_S2048x512_0_0_1_1_n_n none w x) transposes_S2048x512_S512x2048_1_0) bitsLt_bf16_f32) shapeCasts_S512x2048_S512x8x256) transposes_S512x8x256_S8x512x256_1_0_2) shapeCasts_S8x512x256_S4096x256

end

section
open Cert.BranchCWIdeal Cert.BranchCWIdeal.Gen
namespace Cert.BranchCWIdeal.Prod

variable (m : (ℓ : Loc nD τ sig) → Buf (Elt Ideal) ℓ)

/-- The blocks of a point. -/
theorem tiles : ∀ t : Fin cfg0.N, win0_0.index t = ![0, 0] ∧ win0_1.index t = ![0, t.val] ∧ win0_2.index t = ![t.val, 0] :=
  (by decide +kernel : ∀ t : Fin grid0.N, _)

theorem left_at (c : Dev nD) (t : Fin cfg0.N) (y : S4096x512.Idx) : ∃ i : S4096x512.Idx,
    (iblk m c 0 t : FVec Ideal S4096x512 .bf16) y = (m ((c : Thread nD τ).loc main_arg0) : FVec Ideal S4096x512 .f32) i ∧ (i 0 : ℕ) = y 0 ∧ (i 1 : ℕ) = 0 * 512 + y 1 := by
  obtain ⟨i, hi⟩ : ∃ i : S4096x512.Idx, i = ((cfg0.win 0).blk t).view.emb y := ⟨_, rfl⟩
  refine ⟨i, ?_, ?_, ?_⟩
  · have e : (V m c main_v0 : FVec Ideal S4096x512 .bf16) i = (m ((c : Thread nD τ).loc main_arg0) : FVec Ideal S4096x512 .f32) i := by
      entry_read
      pointwise
    exact Eq.trans (by rw [hi]; rfl) e
  all_goals (rw [hi]; blk_simp [tiles t] <;> omega)

theorem right_at (c : Dev nD) (t : Fin cfg0.N) (y : S4096x256.Idx) : ∃ i : S4096x2048.Idx,
    (iblk m c 1 t : FVec Ideal S4096x256 .bf16) y = (m ((c : Thread nD τ).loc main_arg1) : FVec Ideal S4096x2048 .f32) i ∧ (i 0 : ℕ) = y 0 ∧ (i 1 : ℕ) = t.val * 256 + y 1 := by
  obtain ⟨i, hi⟩ : ∃ i : S4096x2048.Idx, i = ((cfg0.win 1).blk t).view.emb y := ⟨_, rfl⟩
  refine ⟨i, ?_, ?_, ?_⟩
  · have e : (V m c main_v1 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S512x256.Idx) (j : S4096x256.Idx)
    (h0 : (j 0 : ℕ) = t.val * 512 + x 0) (h1 : (j 1 : ℕ) = 0 * 256 + x 1) :
    k0_pay1 (F := Ideal) (iblk m c 0 t) (iblk m c 1 t) x = Cert.BranchCWRefIdeal.prod (m ((c : Thread nD τ).loc main_arg0)) (m ((c : Thread nD τ).loc main_arg1)) j := by
  have hl := left_at m c t
  have hr := right_at m c t
  generalize (iblk m c 0 t : FVec Ideal S4096x512 .bf16) = a at hl ⊢
  generalize (iblk m c 1 t : FVec Ideal S4096x256 .bf16) = b at hr ⊢
  pointwise [k0_pay1, Cert.BranchCWRefIdeal.prod]
  refine Finset.sum_congr rfl fun k _ => ?_
  obtain ⟨p, ep, p0, p1⟩ := hl (ix2 k (x 0))
  obtain ⟨q, eq, q0, q1⟩ := hr (ix2 k (x 1))
  change (p 0 : ℕ) = k.val at p0
  change (p 1 : ℕ) = 0 * 512 + (x 0).val at p1
  change (q 0 : ℕ) = k.val at q0
  change (q 1 : ℕ) = t.val * 256 + (x 1).val at q1
  rw [ep, eq, mul_comm]
  congr 2
  all_goals (blk_ext <;> omega)

/-- The kernel's result is the reference's product. -/
theorem result (c : Dev nD) : (dats m 0 c).arrAt 2 (cfgs 0).N = Cert.BranchCWRefIdeal.prod (m ((c : Thread nD τ).loc main_arg0)) (m ((c : Thread nD τ).loc main_arg1)) := by
  refine (dats m 0 c).arrAt_eq_of_covers 2 _ (by decide +kernel) fun t _ y => ?_
  rw [after0_2]
  frame_out
  refine prod_at m c t y _ ?_ ?_
  all_goals (blk_simp [tiles t] <;> omega)

end Cert.BranchCWIdeal.Prod
end

end
-- ==== Proof.Prod.Act.lean ====
/- What the products for activation gradients leave in their results: the reference's products of the arguments. -/
module

public import proofs.«01_k».proof.Proof.Gen.OutActIdeal.Value
public import proofs.«01_k».proof.Proof.Gen.OutActRefIdeal.Run
public import proofs.«01_k».proof.Proof.Gen.BranchBActIdeal.Value
public import proofs.«01_k».proof.Proof.Gen.BranchBActRefIdeal.Run
public import proofs.«01_k».proof.Proof.Gen.BranchCActIdeal.Value
public import proofs.«01_k».proof.Proof.Gen.BranchCActRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem

section
open Cert.OutActRefIdeal Cert.OutActRefIdeal.Gen
/-- The reference's term of the output projection's activation gradient. -/
def Cert.OutActRefIdeal.prod (x : FVec Ideal S4096x2048 .f32) (w : FVec Ideal S2048x2048 .f32) : FVec Ideal S4096x2048 .f32 :=
  Host.dotGeneral dot_S4096x2048_S2048x2048_S4096x2048_1_1_0_0_n_n none x w

end

section
open Cert.OutActIdeal Cert.OutActIdeal.Gen
namespace Cert.OutActIdeal.Prod

variable (m : (ℓ : Loc nD τ sig) → Buf (Elt Ideal) ℓ)

/-- The blocks of a point. -/
theorem tiles : ∀ t : Fin cfg0.N, win0_0.index t = ![t.val / 2, 0] ∧ win0_1.index t = ![t.val % 2, 0] ∧ win0_2.index t = ![t.val / 2, t.val % 2] :=
  (by decide +kernel : ∀ t : Fin grid0.N, _)

theorem left_at (c : Dev nD) (t : Fin cfg0.N) (y : S1024x2048.Idx) : ∃ i : S4096x2048.Idx,
    (iblk m c 0 t : FVec Ideal S1024x2048 .bf16) y = (m ((c : Thread nD τ).loc main_arg1) : FVec Ideal S4096x2048 .f32) i ∧ (i 0 : ℕ) = t.val / 2 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

theorem right_at (c : Dev nD) (t : Fin cfg0.N) (y : S1024x2048.Idx) : ∃ i : S2048x2048.Idx,
    (iblk m c 1 t : FVec Ideal S1024x2048 .bf16) y = (m ((c : Thread nD τ).loc main_arg0) : FVec Ideal S2048x2048 .f32) i ∧ (i 0 : ℕ) = t.val % 2 * 1024 + y 0 ∧ (i 1 : ℕ) = y 1 := by
  obtain ⟨i, hi⟩ : ∃ i : S2048x2048.Idx, i = ((cfg0.win 1).blk t).view.emb y := ⟨_, rfl⟩
  refine ⟨i, ?_, ?_, ?_⟩
  · have e : (V m c main_v1 : FVec Ideal S2048x2048 .bf16) i = (m ((c : Thread nD τ).loc main_arg0) : FVec Ideal S2048x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x1024.Idx) (j : S4096x2048.Idx)
    (h0 : (j 0 : ℕ) = t.val / 2 * 1024 + x 0) (h1 : (j 1 : ℕ) = t.val % 2 * 1024 + x 1) :
    k0_pay1 (F := Ideal) (iblk m c 0 t) (iblk m c 1 t) x = Cert.OutActRefIdeal.prod (m ((c : Thread nD τ).loc main_arg1)) (m ((c : Thread nD τ).loc main_arg0)) j := by
  have hl := left_at m c t
  have hr := right_at m c t
  generalize (iblk m c 0 t : FVec Ideal S1024x2048 .bf16) = a at hl ⊢
  generalize (iblk m c 1 t : FVec Ideal S1024x2048 .bf16) = b at hr ⊢
  pointwise [k0_pay1, Cert.OutActRefIdeal.prod]
  refine Finset.sum_congr rfl fun k _ => ?_
  obtain ⟨p, ep, p0, p1⟩ := hl (ix2 (x 0) k)
  obtain ⟨q, eq, q0, q1⟩ := hr (ix2 (x 1) k)
  change (p 0 : ℕ) = t.val / 2 * 1024 + (x 0).val at p0
  change (p 1 : ℕ) = k.val at p1
  change (q 0 : ℕ) = t.val % 2 * 1024 + (x 1).val at q0
  change (q 1 : ℕ) = k.val at q1
  rw [ep, eq]
  congr 2
  all_goals (blk_ext <;> omega)

/-- The kernel's result is the reference's product. -/
theorem result (c : Dev nD) : (dats m 0 c).arrAt 2 (cfgs 0).N = Cert.OutActRefIdeal.prod (m ((c : Thread nD τ).loc main_arg1)) (m ((c : Thread nD τ).loc main_arg0)) := by
  refine (dats m 0 c).arrAt_eq_of_covers 2 _ (by decide +kernel) fun t _ y => ?_
  rw [after0_2]
  frame_out
  refine prod_at m c t y _ ?_ ?_
  all_goals (blk_simp [tiles t] <;> omega)

end Cert.OutActIdeal.Prod
end

section
open Cert.BranchBActRefIdeal Cert.BranchBActRefIdeal.Gen
/-- The reference's term of the activation gradient of a self-attention branch's projection. -/
def Cert.BranchBActRefIdeal.prod (x : FVec Ideal S4096x2048 .f32) (w : FVec Ideal S768x2048 .f32) : FVec Ideal S4096x768 .f32 :=
  Host.dotGeneral dot_S4096x2048_S768x2048_S4096x768_1_1_0_0_n_n none x w

end

section
open Cert.BranchBActIdeal Cert.BranchBActIdeal.Gen
namespace Cert.BranchBActIdeal.Prod

variable (m : (ℓ : Loc nD τ sig) → Buf (Elt Ideal) ℓ)

/-- The blocks of a point. -/
theorem tiles : ∀ t : Fin cfg0.N, win0_0.index t = ![t.val / 1, 0] ∧ win0_1.index t = ![t.val % 1, 0] ∧ win0_2.index t = ![t.val / 1, t.val % 1] :=
  (by decide +kernel : ∀ t : Fin grid0.N, _)

theorem left_at (c : Dev nD) (t : Fin cfg0.N) (y : S1024x2048.Idx) : ∃ i : S4096x2048.Idx,
    (iblk m c 0 t : FVec Ideal S1024x2048 .bf16) y = (m ((c : Thread nD τ).loc main_arg1) : FVec Ideal S4096x2048 .f32) i ∧ (i 0 : ℕ) = t.val / 1 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

theorem right_at (c : Dev nD) (t : Fin cfg0.N) (y : S768x2048.Idx) : ∃ i : S768x2048.Idx,
    (iblk m c 1 t : FVec Ideal S768x2048 .bf16) y = (m ((c : Thread nD τ).loc main_arg0) : FVec Ideal S768x2048 .f32) i ∧ (i 0 : ℕ) = t.val % 1 * 768 + y 0 ∧ (i 1 : ℕ) = y 1 := by
  obtain ⟨i, hi⟩ : ∃ i : S768x2048.Idx, i = ((cfg0.win 1).blk t).view.emb y := ⟨_, rfl⟩
  refine ⟨i, ?_, ?_, ?_⟩
  · have e : (V m c main_v1 : FVec Ideal S768x2048 .bf16) i = (m ((c : Thread nD τ).loc main_arg0) : FVec Ideal S768x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x768.Idx) (j : S4096x768.Idx)
    (h0 : (j 0 : ℕ) = t.val / 1 * 1024 + x 0) (h1 : (j 1 : ℕ) = t.val % 1 * 768 + x 1) :
    k0_pay1 (F := Ideal) (iblk m c 0 t) (iblk m c 1 t) x = Cert.BranchBActRefIdeal.prod (m ((c : Thread nD τ).loc main_arg1)) (m ((c : Thread nD τ).loc main_arg0)) j := by
  have hl := left_at m c t
  have hr := right_at m c t
  generalize (iblk m c 0 t : FVec Ideal S1024x2048 .bf16) = a at hl ⊢
  generalize (iblk m c 1 t : FVec Ideal S768x2048 .bf16) = b at hr ⊢
  pointwise [k0_pay1, Cert.BranchBActRefIdeal.prod]
  refine Finset.sum_congr rfl fun k _ => ?_
  obtain ⟨p, ep, p0, p1⟩ := hl (ix2 (x 0) k)
  obtain ⟨q, eq, q0, q1⟩ := hr (ix2 (x 1) k)
  change (p 0 : ℕ) = t.val / 1 * 1024 + (x 0).val at p0
  change (p 1 : ℕ) = k.val at p1
  change (q 0 : ℕ) = t.val % 1 * 768 + (x 1).val at q0
  change (q 1 : ℕ) = k.val at q1
  rw [ep, eq]
  congr 2
  all_goals (blk_ext <;> omega)

/-- The kernel's result is the reference's product. -/
theorem result (c : Dev nD) : (dats m 0 c).arrAt 2 (cfgs 0).N = Cert.BranchBActRefIdeal.prod (m ((c : Thread nD τ).loc main_arg1)) (m ((c : Thread nD τ).loc main_arg0)) := by
  refine (dats m 0 c).arrAt_eq_of_covers 2 _ (by decide +kernel) fun t _ y => ?_
  rw [after0_2]
  frame_out
  refine prod_at m c t y _ ?_ ?_
  all_goals (blk_simp [tiles t] <;> omega)

end Cert.BranchBActIdeal.Prod
end

section
open Cert.BranchCActRefIdeal Cert.BranchCActRefIdeal.Gen
/-- The reference's term of the activation gradient of the memory branch's projection. -/
def Cert.BranchCActRefIdeal.prod (x : FVec Ideal S4096x2048 .f32) (w : FVec Ideal S512x2048 .f32) : FVec Ideal S4096x512 .f32 :=
  Host.dotGeneral dot_S4096x2048_S512x2048_S4096x512_1_1_0_0_n_n none x w

end

section
open Cert.BranchCActIdeal Cert.BranchCActIdeal.Gen
namespace Cert.BranchCActIdeal.Prod

variable (m : (ℓ : Loc nD τ sig) → Buf (Elt Ideal) ℓ)

/-- The blocks of a point. -/
theorem tiles : ∀ t : Fin cfg0.N, win0_0.index t = ![t.val / 1, 0] ∧ win0_1.index t = ![t.val % 1, 0] ∧ win0_2.index t = ![t.val / 1, t.val % 1] :=
  (by decide +kernel : ∀ t : Fin grid0.N, _)

theorem left_at (c : Dev nD) (t : Fin cfg0.N) (y : S1024x2048.Idx) : ∃ i : S4096x2048.Idx,
    (iblk m c 0 t : FVec Ideal S1024x2048 .bf16) y = (m ((c : Thread nD τ).loc main_arg1) : FVec Ideal S4096x2048 .f32) i ∧ (i 0 : ℕ) = t.val / 1 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v0 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

theorem right_at (c : Dev nD) (t : Fin cfg0.N) (y : S512x2048.Idx) : ∃ i : S512x2048.Idx,
    (iblk m c 1 t : FVec Ideal S512x2048 .bf16) y = (m ((c : Thread nD τ).loc main_arg0) : FVec Ideal S512x2048 .f32) i ∧ (i 0 : ℕ) = t.val % 1 * 512 + y 0 ∧ (i 1 : ℕ) = y 1 := by
  obtain ⟨i, hi⟩ : ∃ i : S512x2048.Idx, i = ((cfg0.win 1).blk t).view.emb y := ⟨_, rfl⟩
  refine ⟨i, ?_, ?_, ?_⟩
  · have e : (V m c main_v1 : FVec Ideal S512x2048 .bf16) i = (m ((c : Thread nD τ).loc main_arg0) : FVec Ideal S512x2048 .f32) i := by
      entry_read
      pointwise
    exact Eq.trans (by rw [hi]; rfl) e
  all_goals (rw [hi]; blk_simp [tiles t] <;> omega)

/-- The block product at an entry is the reference's product there. -/
theorem prod_at (c : Dev nD) (t : Fin cfg0.N) (x : S1024x512.Idx) (j : S4096x512.Idx)
    (h0 : (j 0 : ℕ) = t.val / 1 * 1024 + x 0) (h1 : (j 1 : ℕ) = t.val % 1 * 512 + x 1) :
    k0_pay1 (F := Ideal) (iblk m c 0 t) (iblk m c 1 t) x = Cert.BranchCActRefIdeal.prod (m ((c : Thread nD τ).loc main_arg1)) (m ((c : Thread nD τ).loc main_arg0)) j := by
  have hl := left_at m c t
  have hr := right_at m c t
  generalize (iblk m c 0 t : FVec Ideal S1024x2048 .bf16) = a at hl ⊢
  generalize (iblk m c 1 t : FVec Ideal S512x2048 .bf16) = b at hr ⊢
  pointwise [k0_pay1, Cert.BranchCActRefIdeal.prod]
  refine Finset.sum_congr rfl fun k _ => ?_
  obtain ⟨p, ep, p0, p1⟩ := hl (ix2 (x 0) k)
  obtain ⟨q, eq, q0, q1⟩ := hr (ix2 (x 1) k)
  change (p 0 : ℕ) = t.val / 1 * 1024 + (x 0).val at p0
  change (p 1 : ℕ) = k.val at p1
  change (q 0 : ℕ) = t.val % 1 * 512 + (x 1).val at q0
  change (q 1 : ℕ) = k.val at q1
  rw [ep, eq]
  congr 2
  all_goals (blk_ext <;> omega)

/-- The kernel's result is the reference's product. -/
theorem result (c : Dev nD) : (dats m 0 c).arrAt 2 (cfgs 0).N = Cert.BranchCActRefIdeal.prod (m ((c : Thread nD τ).loc main_arg1)) (m ((c : Thread nD τ).loc main_arg0)) := by
  refine (dats m 0 c).arrAt_eq_of_covers 2 _ (by decide +kernel) fun t _ y => ?_
  rw [after0_2]
  frame_out
  refine prod_at m c t y _ ?_ ?_
  all_goals (blk_simp [tiles t] <;> omega)

end Cert.BranchCActIdeal.Prod
end

end
-- ==== Proof.Prod.Sum.lean ====
/- What the gradients with respect to the activations leave in their results where a kernel sums over its grid: the reference's
   sums of products. -/
module

public import proofs.«01_k».proof.Proof.Gen.ZgActIdeal.Value
public import proofs.«01_k».proof.Proof.Gen.ZgActRefIdeal.Run
public import proofs.«01_k».proof.Proof.Gen.QkvActIdeal.Value
public import proofs.«01_k».proof.Proof.Gen.QkvActRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem

section
open Cert.ZgActRefIdeal Cert.ZgActRefIdeal.Gen
/-- The reference's term of the gradient at the latents' and gates' input. -/
def Cert.ZgActRefIdeal.prod (w : FVec Ideal S2048x8192 .f32) (dz : FVec Ideal S4096x2048 .f32) (dg : FVec Ideal S4096x6144 .f32)
    (dh : FVec Ideal S4096x2048 .f32) : FVec Ideal S4096x2048 .f32 :=
  addf (addf dh (Host.dotGeneral dot_S4096x2048_S2048x2048_S4096x2048_1_1_0_0_n_n none dz
      (extractStridedSlice S2048x2048 ![0, 0] w slices_S2048x8192_S2048x2048_0_0)))
    (Host.dotGeneral dot_S4096x6144_S2048x6144_S4096x2048_1_1_0_0_n_n none dg
      (extractStridedSlice S2048x6144 ![0, 2048] w slices_S2048x8192_S2048x6144_0_2048))

end

section
open Cert.ZgActIdeal Cert.ZgActIdeal.Gen
namespace Cert.ZgActIdeal.Prod

variable (m : (ℓ : Loc nD τ sig) → Buf (Elt Ideal) ℓ)

/-- The blocks of a point. -/
theorem tiles : ∀ t : Fin cfg0.N, win0_0.index t = ![t.val / 8, 0] ∧ win0_1.index t = ![t.val / 8, t.val % 4 - 1]
    ∧ win0_2.index t = ![t.val / 4 % 2, t.val % 4] ∧ win0_3.index t = ![t.val / 8, t.val / 4 % 2]
    ∧ win0_4.index t = ![t.val / 8, t.val / 4 % 2] :=
  (by decide +kernel : ∀ t : Fin grid0.N, _)

theorem dz_at (c : Dev nD) (t : Fin cfg0.N) (y : S1024x2048.Idx) : ∃ i : S4096x2048.Idx,
    (iblk m c 0 t : FVec Ideal S1024x2048 .bf16) y = (m ((c : Thread nD τ).loc main_arg1) : FVec Ideal S4096x2048 .f32) i ∧ (i 0 : ℕ) = t.val / 8 * 1024 + y 0 ∧ (i 1 : ℕ) = y 1 := by
  obtain ⟨i, hi⟩ : ∃ i : S4096x2048.Idx, i = ((cfg0.win 0).blk t).view.emb y := ⟨_, rfl⟩
  refine ⟨i, ?_, ?_, ?_⟩
  · have e : (V m c main_v1 : FVec Ideal S4096x2048 .bf16) i = (m ((c : Thread nD τ).loc main_arg1) : FVec Ideal S4096x2048 .f32) i := by
      entry_read
      pointwise
    exact Eq.trans (by rw [hi]; rfl) e
  all_goals (rw [hi]; blk_simp [tiles t] <;> omega)

theorem dg_at (c : Dev nD) (t : Fin cfg0.N) (y : S1024x2048.Idx) : ∃ i : S4096x6144.Idx,
    (iblk m c 1 t : FVec Ideal S1024x2048 .bf16) y = (m ((c : Thread nD τ).loc main_arg2) : FVec Ideal S4096x6144 .f32) i ∧ (i 0 : ℕ) = t.val / 8 * 1024 + y 0 ∧ (i 1 : ℕ) = (t.val % 4 - 1) * 2048 + y 1 := by
  obtain ⟨i, hi⟩ : ∃ i : S4096x6144.Idx, i = ((cfg0.win 1).blk t).view.emb y := ⟨_, rfl⟩
  refine ⟨i, ?_, ?_, ?_⟩
  · have e : (V m c main_v2 : FVec Ideal S4096x6144 .bf16) i = (m ((c : Thread nD τ).loc main_arg2) : FVec Ideal S4096x6144 .f32) i := by
      entry_read
      pointwise
    exact Eq.trans (by rw [hi]; rfl) e
  all_goals (rw [hi]; blk_simp [tiles t] <;> omega)

theorem w_at (c : Dev nD) (t : Fin cfg0.N) (y : S1024x2048.Idx) : ∃ i : S2048x8192.Idx,
    (iblk m c 2 t : FVec Ideal S1024x2048 .bf16) y = (m ((c : Thread nD τ).loc main_arg0) : FVec Ideal S2048x8192 .f32) i ∧ (i 0 : ℕ) = t.val / 4 % 2 * 1024 + y 0 ∧ (i 1 : ℕ) = t.val % 4 * 2048 + y 1 := by
  obtain ⟨i, hi⟩ : ∃ i : S2048x8192.Idx, i = ((cfg0.win 2).blk t).view.emb y := ⟨_, rfl⟩
  refine ⟨i, ?_, ?_, ?_⟩
  · have e : (V m c main_v0 : FVec Ideal S2048x8192 .bf16) i = (m ((c : Thread nD τ).loc main_arg0) : FVec Ideal S2048x8192 .f32) i := by
      entry_read
      pointwise
    exact Eq.trans (by rw [hi]; rfl) e
  all_goals (rw [hi]; blk_simp [tiles t] <;> omega)

theorem dh_at (c : Dev nD) (t : Fin cfg0.N) (y : S1024x1024.Idx) : ∃ i : S4096x2048.Idx,
    (iblk m c 3 t : FVec Ideal S1024x1024 .f32) y = (m ((c : Thread nD τ).loc main_arg3) : FVec Ideal S4096x2048 .f32) i ∧ (i 0 : ℕ) = t.val / 8 * 1024 + y 0 ∧ (i 1 : ℕ) = t.val / 4 % 2 * 1024 + y 1 := by
  obtain ⟨i, hi⟩ : ∃ i : S4096x2048.Idx, i = ((cfg0.win 3).blk t).view.emb y := ⟨_, rfl⟩
  refine ⟨i, ?_, ?_, ?_⟩
  · have e : (V m c main_arg3 : FVec Ideal S4096x2048 .f32) i = (m ((c : Thread nD τ).loc main_arg3) : FVec Ideal S4096x2048 .f32) i := by
      entry_read
      pointwise
    exact Eq.trans (by rw [hi]; rfl) e
  all_goals (rw [hi]; blk_simp [tiles t] <;> omega)

/-- The part of the sum the latents' columns give. -/
def sumZ (w : FVec Ideal S2048x8192 .f32) (dz : FVec Ideal S4096x2048 .f32) (j : S4096x2048.Idx) : EReal :=
  ∑ k : Fin 2048, dz (ix2 (j 0) k) * w (ix2 (j 1) ⟨k.val, by omega⟩)

/-- The part of the sum one block of the gates' columns gives. -/
def sumG (w : FVec Ideal S2048x8192 .f32) (dg : FVec Ideal S4096x6144 .f32) (j : S4096x2048.Idx) (s : Fin 3) : EReal :=
  ∑ k : Fin 2048, dg (ix2 (j 0) ⟨s.val * 2048 + k.val, by omega⟩) * w (ix2 (j 1) ⟨2048 + (s.val * 2048 + k.val), by omega⟩)

/-- The first point's product. -/
theorem first_at (c : Dev nD) (t : Fin cfg0.N) (ht : t.val % 4 = 0) (x : S1024x1024.Idx) (j : S4096x2048.Idx)
    (h0 : (j 0 : ℕ) = t.val / 8 * 1024 + x 0) (h1 : (j 1 : ℕ) = t.val / 4 % 2 * 1024 + x 1) :
    k0_pay2 (F := Ideal) (iblk m c 0 t) (iblk m c 2 t) x = sumZ (m ((c : Thread nD τ).loc main_arg0)) (m ((c : Thread nD τ).loc main_arg1)) j := by
  have hl := dz_at m c t
  have hr := w_at m c t
  generalize (iblk m c 0 t : FVec Ideal S1024x2048 .bf16) = a at hl ⊢
  generalize (iblk m c 2 t : FVec Ideal S1024x2048 .bf16) = b at hr ⊢
  pointwise [k0_pay2, k0_pay1, sumZ]
  refine Finset.sum_congr rfl fun k _ => ?_
  obtain ⟨p, ep, p0, p1⟩ := hl (ix2 (x 0) k)
  obtain ⟨q, eq, q0, q1⟩ := hr (ix2 (x 1) k)
  change (p 0 : ℕ) = t.val / 8 * 1024 + (x 0).val at p0
  change (p 1 : ℕ) = k.val at p1
  change (q 0 : ℕ) = t.val / 4 % 2 * 1024 + (x 1).val at q0
  change (q 1 : ℕ) = t.val % 4 * 2048 + k.val at q1
  rw [ep, eq]
  congr 2
  all_goals (blk_ext <;> omega)

/-- A later point adds its product. -/
theorem next_at (c : Dev nD) (t : Fin cfg0.N) (s : Fin 3) (ht : t.val % 4 = s.val + 1) (v : FVec Ideal S1024x1024 .f32)
    (x : S1024x1024.Idx) (j : S4096x2048.Idx)
    (h0 : (j 0 : ℕ) = t.val / 8 * 1024 + x 0) (h1 : (j 1 : ℕ) = t.val / 4 % 2 * 1024 + x 1) :
    k0_pay6 (F := Ideal) (iblk m c 1 t) (iblk m c 2 t) v x = v x + sumG (m ((c : Thread nD τ).loc main_arg0)) (m ((c : Thread nD τ).loc main_arg2)) j s := by
  have hl := dg_at m c t
  have hr := w_at m c t
  generalize (iblk m c 1 t : FVec Ideal S1024x2048 .bf16) = a at hl ⊢
  generalize (iblk m c 2 t : FVec Ideal S1024x2048 .bf16) = b at hr ⊢
  pointwise [k0_pay6, k0_pay4, sumG]
  refine congrArg (v x + ·) (Finset.sum_congr rfl fun k _ => ?_)
  obtain ⟨p, ep, p0, p1⟩ := hl (ix2 (x 0) k)
  obtain ⟨q, eq, q0, q1⟩ := hr (ix2 (x 1) k)
  change (p 0 : ℕ) = t.val / 8 * 1024 + (x 0).val at p0
  change (p 1 : ℕ) = (t.val % 4 - 1) * 2048 + k.val at p1
  change (q 0 : ℕ) = t.val / 4 % 2 * 1024 + (x 1).val at q0
  change (q 1 : ℕ) = t.val % 4 * 2048 + k.val at q1
  rw [ep, eq]
  congr 2
  all_goals (blk_ext <;> omega)

theorem acc_A (c : Dev nD) (n : ℕ) (hn : n < cfg0.N) (ht : n % 4 = 0) :
    (outsAt0 m c n hn).2 = k0_pay2 (F := Ideal) (iblk m c 0 ⟨n, hn⟩) (iblk m c 2 ⟨n, hn⟩) := by
  have e := outsAt0_A m c ⟨n, hn⟩ ht ht (show ¬1 ≤ n % 4 by omega) (show ¬1 ≤ n % 4 by omega) (show ¬n % 4 = 3 by omega)
  rw [show outsAt0 m c n hn = _ from e]
  frame_out

theorem acc_B (c : Dev nD) (n : ℕ) (hn : n + 1 < cfg0.N) (h0 : ¬(n + 1) % 4 = 0) (h3 : ¬(n + 1) % 4 = 3) :
    (outsAt0 m c (n + 1) hn).2 = k0_pay6 (F := Ideal) (iblk m c 1 ⟨n + 1, hn⟩) (iblk m c 2 ⟨n + 1, hn⟩) (outsAt0 m c n (by omega)).2 := by
  have e := outsAt0_B m c ⟨n + 1, hn⟩ h0 (show 1 ≤ (n + 1) % 4 by omega) h3 h0 (show 1 ≤ (n + 1) % 4 by omega)
  rw [show outsAt0 m c (n + 1) hn = _ from e]
  frame_out
  exact congrArg (k0_pay6 (F := Ideal) _ _ ·) (Memref.IsWhole.read_unread (Memref.isWhole_whole _) _)

theorem out_C (c : Dev nD) (n : ℕ) (hn : n + 1 < cfg0.N) (h3 : (n + 1) % 4 = 3) :
    (outsAt0 m c (n + 1) hn).1 = k0_pay7 (F := Ideal) (k0_pay6 (F := Ideal) (iblk m c 1 ⟨n + 1, hn⟩) (iblk m c 2 ⟨n + 1, hn⟩) (outsAt0 m c n (by omega)).2)
      (iblk m c 3 ⟨n + 1, hn⟩) := by
  have e := outsAt0_C m c ⟨n + 1, hn⟩ (show ¬(n + 1) % 4 = 0 by omega) (show 1 ≤ (n + 1) % 4 by omega) h3
    (show ¬(n + 1) % 4 = 0 by omega) (show 1 ≤ (n + 1) % 4 by omega)
  rw [show outsAt0 m c (n + 1) hn = _ from e]
  frame_out
  exact congrArg (fun v => k0_pay7 (F := Ideal) (k0_pay6 (F := Ideal) _ _ v) _) (Memref.IsWhole.read_unread (Memref.isWhole_whole _) _)

/-- The reference's gradient at an entry, its second sum in three blocks. -/
theorem ref_at (w : FVec Ideal S2048x8192 .f32) (dz : FVec Ideal S4096x2048 .f32) (dg : FVec Ideal S4096x6144 .f32)
    (dh : FVec Ideal S4096x2048 .f32) (j : S4096x2048.Idx) :
    Cert.ZgActRefIdeal.prod w dz dg dh j = dh j + sumZ w dz j + (sumG w dg j 0 + sumG w dg j 1 + sumG w dg j 2) := by
  have e : Cert.ZgActRefIdeal.prod w dz dg dh j = dh j + sumZ w dz j
      + ∑ k : Fin 6144, dg (ix2 (j 0) k) * w (ix2 (j 1) ⟨2048 + k.val, by omega⟩) := by
    pointwise [Cert.ZgActRefIdeal.prod, sumZ]
  rw [e, ← Fin.sum_mul_add_fin 3 2048 (fun k : Fin 6144 => dg (ix2 (j 0) k) * w (ix2 (j 1) ⟨2048 + k.val, by omega⟩)), Fin.sum_univ_three]
  rfl

/-- The kernel's result is the reference's gradient. -/
theorem result (c : Dev nD) : (dats m 0 c).arrAt 4 (cfgs 0).N = Cert.ZgActRefIdeal.prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val % 4 = 3 := (flush0_4 t).mp hf
  rw [after0_4]
  obtain ⟨j, hj⟩ : ∃ j : S4096x2048.Idx, j = ((cfg0.win 4).blk t).view.emb y := ⟨_, rfl⟩
  have j0 : (j 0 : ℕ) = t.val / 8 * 1024 + y 0 := by rw [hj]; blk_simp [tiles t] <;> omega
  have j1 : (j 1 : ℕ) = t.val / 4 % 2 * 1024 + y 1 := by rw [hj]; blk_simp [tiles t] <;> omega
  suffices h : (outsAt0 m c t.val t.isLt).1 y = Cert.ZgActRefIdeal.prod (m ((c : Thread nD τ).loc main_arg0)) (m ((c : Thread nD τ).loc main_arg1)) (m ((c : Thread nD τ).loc main_arg2)) (m ((c : Thread nD τ).loc main_arg3)) j from
    h.trans (by rw [hj])
  clear hj hf
  have ed' : (iblk m c 3 t : FVec Ideal S1024x1024 .f32) y = (m ((c : Thread nD τ).loc main_arg3) : FVec Ideal S4096x2048 .f32) j := by
    obtain ⟨d, ed, d0, d1⟩ := dh_at m c t y
    rw [ed]
    congr 1
    blk_ext <;> omega
  obtain ⟨n, hn⟩ := t
  change n < cfg0.N at hn
  obtain ⟨n, rfl⟩ : ∃ k, n = k + 1 + 1 + 1 := ⟨n - 3, by change n % 4 = 3 at ht; omega⟩
  change (n + 1 + 1 + 1) % 4 = 3 at ht
  change (j 0 : ℕ) = (n + 1 + 1 + 1) / 8 * 1024 + (y 0).val at j0
  change (j 1 : ℕ) = (n + 1 + 1 + 1) / 4 % 2 * 1024 + (y 1).val at j1
  have q8 : ∀ k, k ≤ 3 → (n + k) / 8 = (n + 1 + 1 + 1) / 8 ∧ (n + k) / 4 % 2 = (n + 1 + 1 + 1) / 4 % 2 := fun k hk => by omega
  change (outsAt0 m c (n + 1 + 1 + 1) hn).1 y = _
  rw [ref_at, out_C m c (n + 1 + 1) hn ht]
  generalize (iblk m c 3 ⟨n + 1 + 1 + 1, hn⟩ : FVec Ideal S1024x1024 .f32) = b at ed' ⊢
  change k0_pay6 (F := Ideal) _ _ _ y + b y = _
  rw [next_at m c ⟨n + 1 + 1 + 1, hn⟩ 2 (by change (n + 1 + 1 + 1) % 4 = 3; omega) _ y j j0 j1, acc_B m c (n + 1) _ (by omega) (by omega),
    next_at m c ⟨n + 1 + 1, by omega⟩ 1 (by change (n + 1 + 1) % 4 = 2; omega) _ y j
      (by have := q8 2 (by omega); change (j 0 : ℕ) = (n + 2) / 8 * 1024 + (y 0).val; omega)
      (by have := q8 2 (by omega); change (j 1 : ℕ) = (n + 2) / 4 % 2 * 1024 + (y 1).val; omega), acc_B m c n _ (by omega) (by omega),
    next_at m c ⟨n + 1, by omega⟩ 0 (by change (n + 1) % 4 = 1; omega) _ y j
      (by have := q8 1 (by omega); change (j 0 : ℕ) = (n + 1) / 8 * 1024 + (y 0).val; omega)
      (by have := q8 1 (by omega); change (j 1 : ℕ) = (n + 1) / 4 % 2 * 1024 + (y 1).val; omega), acc_A m c n _ (by omega),
    first_at m c ⟨n, by omega⟩ (by change n % 4 = 0; omega) y j
      (by have := q8 0 (by omega); change (j 0 : ℕ) = (n + 0) / 8 * 1024 + (y 0).val; omega)
      (by have := q8 0 (by omega); change (j 1 : ℕ) = (n + 0) / 4 % 2 * 1024 + (y 1).val; omega), ed']
  abel

end Cert.ZgActIdeal.Prod
end

section
open Cert.QkvActRefIdeal Cert.QkvActRefIdeal.Gen
/-- The reference's term of the gradient at the queries', keys' and values' input. -/
def Cert.QkvActRefIdeal.prod (w : FVec Ideal S2048x4096 .f32) (wf : FVec Ideal S2048x128 .f32) (dq : FVec Ideal S4096x4096 .f32)
    (df : FVec Ideal S4096x128 .f32) : FVec Ideal S4096x2048 .f32 :=
  addf (Host.dotGeneral dot_S4096x4096_S2048x4096_S4096x2048_1_1_0_0_n_n none dq w)
    (Host.dotGeneral dot_S4096x128_S2048x128_S4096x2048_1_1_0_0_n_n none df wf)

end

section
open Cert.QkvActIdeal Cert.QkvActIdeal.Gen
namespace Cert.QkvActIdeal.Prod

variable (m : (ℓ : Loc nD τ sig) → Buf (Elt Ideal) ℓ)

/-- The blocks of a point. -/
theorem tiles : ∀ t : Fin cfg0.N, win0_0.index t = ![t.val / 4, t.val % 2] ∧ win0_1.index t = ![t.val / 4, 0]
    ∧ win0_2.index t = ![t.val / 2 % 2, t.val % 2] ∧ win0_3.index t = ![t.val / 2 % 2, 0]
    ∧ win0_4.index t = ![t.val / 4, t.val / 2 % 2] :=
  (by decide +kernel : ∀ t : Fin grid0.N, _)

theorem dq_at (c : Dev nD) (t : Fin cfg0.N) (y : S1024x2048.Idx) : ∃ i : S4096x4096.Idx,
    (iblk m c 0 t : FVec Ideal S1024x2048 .bf16) y = (m ((c : Thread nD τ).loc main_arg2) : FVec Ideal S4096x4096 .f32) i ∧ (i 0 : ℕ) = t.val / 4 * 1024 + y 0 ∧ (i 1 : ℕ) = t.val % 2 * 2048 + y 1 := by
  obtain ⟨i, hi⟩ : ∃ i : S4096x4096.Idx, i = ((cfg0.win 0).blk t).view.emb y := ⟨_, rfl⟩
  refine ⟨i, ?_, ?_, ?_⟩
  · have e : (V m c main_v0 : FVec Ideal S4096x4096 .bf16) i = (m ((c : Thread nD τ).loc main_arg2) : FVec Ideal S4096x4096 .f32) i := by
      entry_read
      pointwise
    exact Eq.trans (by rw [hi]; rfl) e
  all_goals (rw [hi]; blk_simp [tiles t] <;> omega)

theorem df_at (c : Dev nD) (t : Fin cfg0.N) (y : S1024x128.Idx) : ∃ i : S4096x128.Idx,
    (iblk m c 1 t : FVec Ideal S1024x128 .bf16) y = (m ((c : Thread nD τ).loc main_arg3) : FVec Ideal S4096x128 .f32) i ∧ (i 0 : ℕ) = t.val / 4 * 1024 + y 0 ∧ (i 1 : ℕ) = y 1 := by
  obtain ⟨i, hi⟩ : ∃ i : S4096x128.Idx, i = ((cfg0.win 1).blk t).view.emb y := ⟨_, rfl⟩
  refine ⟨i, ?_, ?_, ?_⟩
  · have e : (V m c main_v2 : FVec Ideal S4096x128 .bf16) i = (m ((c : Thread nD τ).loc main_arg3) : FVec Ideal S4096x128 .f32) i := by
      entry_read
      pointwise
    exact Eq.trans (by rw [hi]; rfl) e
  all_goals (rw [hi]; blk_simp [tiles t] <;> omega)

theorem w_at (c : Dev nD) (t : Fin cfg0.N) (y : S1024x2048.Idx) : ∃ i : S2048x4096.Idx,
    (iblk m c 2 t : FVec Ideal S1024x2048 .bf16) y = (m ((c : Thread nD τ).loc main_arg0) : FVec Ideal S2048x4096 .f32) i ∧ (i 0 : ℕ) = t.val / 2 % 2 * 1024 + y 0 ∧ (i 1 : ℕ) = t.val % 2 * 2048 + y 1 := by
  obtain ⟨i, hi⟩ : ∃ i : S2048x4096.Idx, i = ((cfg0.win 2).blk t).view.emb y := ⟨_, rfl⟩
  refine ⟨i, ?_, ?_, ?_⟩
  · have e : (V m c main_v1 : FVec Ideal S2048x4096 .bf16) i = (m ((c : Thread nD τ).loc main_arg0) : FVec Ideal S2048x4096 .f32) i := by
      entry_read
      pointwise
    exact Eq.trans (by rw [hi]; rfl) e
  all_goals (rw [hi]; blk_simp [tiles t] <;> omega)

theorem wf_at (c : Dev nD) (t : Fin cfg0.N) (y : S1024x128.Idx) : ∃ i : S2048x128.Idx,
    (iblk m c 3 t : FVec Ideal S1024x128 .bf16) y = (m ((c : Thread nD τ).loc main_arg1) : FVec Ideal S2048x128 .f32) i ∧ (i 0 : ℕ) = t.val / 2 % 2 * 1024 + y 0 ∧ (i 1 : ℕ) = y 1 := by
  obtain ⟨i, hi⟩ : ∃ i : S2048x128.Idx, i = ((cfg0.win 3).blk t).view.emb y := ⟨_, rfl⟩
  refine ⟨i, ?_, ?_, ?_⟩
  · have e : (V m c main_v3 : FVec Ideal S2048x128 .bf16) i = (m ((c : Thread nD τ).loc main_arg1) : FVec Ideal S2048x128 .f32) i := by
      entry_read
      pointwise
    exact Eq.trans (by rw [hi]; rfl) e
  all_goals (rw [hi]; blk_simp [tiles t] <;> omega)

/-- The part of the sum one block of the shared columns gives. -/
def sumQ (w : FVec Ideal S2048x4096 .f32) (dq : FVec Ideal S4096x4096 .f32) (j : S4096x2048.Idx) (s : Fin 2) : EReal :=
  ∑ k : Fin 2048, dq (ix2 (j 0) ⟨s.val * 2048 + k.val, by omega⟩) * w (ix2 (j 1) ⟨s.val * 2048 + k.val, by omega⟩)

/-- The part of the sum the forget gates' columns give. -/
def sumF (wf : FVec Ideal S2048x128 .f32) (df : FVec Ideal S4096x128 .f32) (j : S4096x2048.Idx) : EReal :=
  ∑ k : Fin 128, df (ix2 (j 0) k) * wf (ix2 (j 1) k)

/-- A point's product over its block of the shared columns. -/
theorem part_at (c : Dev nD) (t : Fin cfg0.N) (s : Fin 2) (ht : t.val % 2 = s.val) (x : S1024x1024.Idx) (j : S4096x2048.Idx)
    (h0 : (j 0 : ℕ) = t.val / 4 * 1024 + x 0) (h1 : (j 1 : ℕ) = t.val / 2 % 2 * 1024 + x 1) :
    k0_pay1 (F := Ideal) (iblk m c 0 t) (iblk m c 2 t) x = sumQ (m ((c : Thread nD τ).loc main_arg0)) (m ((c : Thread nD τ).loc main_arg2)) j s := by
  have hl := dq_at m c t
  have hr := w_at m c t
  generalize (iblk m c 0 t : FVec Ideal S1024x2048 .bf16) = a at hl ⊢
  generalize (iblk m c 2 t : FVec Ideal S1024x2048 .bf16) = b at hr ⊢
  pointwise [k0_pay1, sumQ]
  refine Finset.sum_congr rfl fun k _ => ?_
  obtain ⟨p, ep, p0, p1⟩ := hl (ix2 (x 0) k)
  obtain ⟨q, eq, q0, q1⟩ := hr (ix2 (x 1) k)
  change (p 0 : ℕ) = t.val / 4 * 1024 + (x 0).val at p0
  change (p 1 : ℕ) = t.val % 2 * 2048 + k.val at p1
  change (q 0 : ℕ) = t.val / 2 % 2 * 1024 + (x 1).val at q0
  change (q 1 : ℕ) = t.val % 2 * 2048 + k.val at q1
  rw [ep, eq]
  congr 2
  all_goals (blk_ext <;> omega)

/-- The last point adds the forget gates' product. -/
theorem last_at (c : Dev nD) (t : Fin cfg0.N) (v : FVec Ideal S1024x1024 .f32) (x : S1024x1024.Idx) (j : S4096x2048.Idx)
    (h0 : (j 0 : ℕ) = t.val / 4 * 1024 + x 0) (h1 : (j 1 : ℕ) = t.val / 2 % 2 * 1024 + x 1) :
    k0_pay4 (F := Ideal) (iblk m c 1 t) (iblk m c 3 t) v x = v x + sumF (m ((c : Thread nD τ).loc main_arg1)) (m ((c : Thread nD τ).loc main_arg3)) j := by
  have hl := df_at m c t
  have hr := wf_at m c t
  generalize (iblk m c 1 t : FVec Ideal S1024x128 .bf16) = a at hl ⊢
  generalize (iblk m c 3 t : FVec Ideal S1024x128 .bf16) = b at hr ⊢
  pointwise [k0_pay4, sumF]
  refine congrArg (v x + ·) (Finset.sum_congr rfl fun k _ => ?_)
  obtain ⟨p, ep, p0, p1⟩ := hl (ix2 (x 0) k)
  obtain ⟨q, eq, q0, q1⟩ := hr (ix2 (x 1) k)
  change (p 0 : ℕ) = t.val / 4 * 1024 + (x 0).val at p0
  change (p 1 : ℕ) = k.val at p1
  change (q 0 : ℕ) = t.val / 2 % 2 * 1024 + (x 1).val at q0
  change (q 1 : ℕ) = k.val at q1
  rw [ep, eq]
  congr 2
  all_goals (blk_ext <;> omega)

theorem acc_A (c : Dev nD) (n : ℕ) (hn : n < cfg0.N) (ht : n % 2 = 0) :
    (outsAt0 m c n hn).2 = k0_pay2 (F := Ideal) (iblk m c 0 ⟨n, hn⟩) (iblk m c 2 ⟨n, hn⟩) := by
  have e := outsAt0_A m c ⟨n, hn⟩ ht (by change ¬n % 2 = 1; omega) (by change ¬n % 2 = 1; omega) (by change ¬n % 2 = 1; omega)
  rw [show outsAt0 m c n hn = _ from e]
  frame_out

theorem out_B (c : Dev nD) (n : ℕ) (hn : n + 1 < cfg0.N) (h : (n + 1) % 2 = 1) :
    (outsAt0 m c (n + 1) hn).1 = k0_pay4 (F := Ideal) (iblk m c 1 ⟨n + 1, hn⟩) (iblk m c 3 ⟨n + 1, hn⟩)
      (k0_pay3 (F := Ideal) (iblk m c 0 ⟨n + 1, hn⟩) (iblk m c 2 ⟨n + 1, hn⟩) (outsAt0 m c n (by omega)).2) := by
  have e := outsAt0_B m c ⟨n + 1, hn⟩ (by change ¬(n + 1) % 2 = 0; omega) h h h
  rw [show outsAt0 m c (n + 1) hn = _ from e]
  frame_out
  exact congrArg (fun v => k0_pay4 (F := Ideal) _ _ (k0_pay3 (F := Ideal) _ _ v)) (Memref.IsWhole.read_unread (Memref.isWhole_whole _) _)

/-- The reference's gradient at an entry, its first sum in two blocks. -/
theorem ref_at (w : FVec Ideal S2048x4096 .f32) (wf : FVec Ideal S2048x128 .f32) (dq : FVec Ideal S4096x4096 .f32)
    (df : FVec Ideal S4096x128 .f32) (j : S4096x2048.Idx) :
    Cert.QkvActRefIdeal.prod w wf dq df j = sumQ w dq j 0 + sumQ w dq j 1 + sumF wf df j := by
  have e : Cert.QkvActRefIdeal.prod w wf dq df j = ∑ k : Fin 4096, dq (ix2 (j 0) k) * w (ix2 (j 1) k) + sumF wf df j := by
    pointwise [Cert.QkvActRefIdeal.prod, sumF]
  rw [e, ← Fin.sum_mul_add_fin 2 2048 (fun k : Fin 4096 => dq (ix2 (j 0) k) * w (ix2 (j 1) k)), Fin.sum_univ_two]
  rfl

/-- The kernel's result is the reference's gradient. -/
theorem result (c : Dev nD) : (dats m 0 c).arrAt 4 (cfgs 0).N = Cert.QkvActRefIdeal.prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val % 2 = 1 := (flush0_4 t).mp hf
  rw [after0_4]
  obtain ⟨j, hj⟩ : ∃ j : S4096x2048.Idx, j = ((cfg0.win 4).blk t).view.emb y := ⟨_, rfl⟩
  have j0 : (j 0 : ℕ) = t.val / 4 * 1024 + y 0 := by rw [hj]; blk_simp [tiles t] <;> omega
  have j1 : (j 1 : ℕ) = t.val / 2 % 2 * 1024 + y 1 := by rw [hj]; blk_simp [tiles t] <;> omega
  suffices h : (outsAt0 m c t.val t.isLt).1 y = Cert.QkvActRefIdeal.prod (m ((c : Thread nD τ).loc main_arg0)) (m ((c : Thread nD τ).loc main_arg1)) (m ((c : Thread nD τ).loc main_arg2)) (m ((c : Thread nD τ).loc main_arg3)) j from
    h.trans (by rw [hj])
  clear hj hf
  obtain ⟨n, hn⟩ := t
  change n < cfg0.N at hn
  obtain ⟨n, rfl⟩ : ∃ k, n = k + 1 := ⟨n - 1, by change n % 2 = 1 at ht; omega⟩
  change (n + 1) % 2 = 1 at ht
  change (j 0 : ℕ) = (n + 1) / 4 * 1024 + (y 0).val at j0
  change (j 1 : ℕ) = (n + 1) / 2 % 2 * 1024 + (y 1).val at j1
  change (outsAt0 m c (n + 1) hn).1 y = _
  rw [ref_at, out_B m c n hn ht, last_at m c ⟨n + 1, hn⟩ _ y j j0 j1, acc_A m c n _ (by omega)]
  have e3 : ∀ a b v, k0_pay3 (F := Ideal) a b v y = v y + k0_pay1 (F := Ideal) a b y := fun a b v => by pointwise [k0_pay3, k0_pay1]
  have e2 : ∀ a b, k0_pay2 (F := Ideal) a b y = k0_pay1 (F := Ideal) a b y := fun a b => by pointwise [k0_pay2, k0_pay1]
  rw [e3, e2, part_at m c ⟨n + 1, hn⟩ 1 ht y j j0 j1, part_at m c ⟨n, by omega⟩ 0 (by change n % 2 = 0; omega) y j
      (by change (j 0 : ℕ) = n / 4 * 1024 + (y 0).val; omega)
      (by change (j 1 : ℕ) = n / 2 % 2 * 1024 + (y 1).val; omega)]

end Cert.QkvActIdeal.Prod
end

end
end
-- ==== Proof.Merge.Final.lean ====
/- What the merge gate gradient kernel leaves in its four result arrays: the reference's terms of the arguments. -/
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.MergeRefIdeal.Term

open Cert.MergeRefIdeal Cert.MergeRefIdeal.Gen

/-- The gradient of the three gates' logits. -/
def dlogits (x0 : FVec Ideal S4096x6144 .f32) (x1 : FVec Ideal S4096x2048 .f32) (x2 : FVec Ideal S4096x2048 .f32) (x3 : FVec Ideal S4096x2048 .f32) (x4 : FVec Ideal S4096x2048 .f32) :
    FVec Ideal S4096x6144 .bf16 :=
  truncf .bf16 (shapeCast _ (mulf (addf (addf (pad S4096x3x2048 ![0, 2, 0] ![0, 0, 0] ![0, 0, 0] (broadcastInDim S4096x1x2048 ![0, 2] bcast_S4096x2048_S4096x1x2048_0_2 (mulf (shapeCast _ x4 shapeCasts_S4096x2048_S4096x2048) x3)) (constant S_ .f32 0x00000000#32) pads_S4096x1x2048_S4096x3x2048_000_200_000 h_S_) (pad S4096x3x2048 ![0, 1, 0] ![0, 1, 0] ![0, 0, 0] (broadcastInDim S4096x1x2048 ![0, 2] bcast_S4096x2048_S4096x1x2048_0_2 (mulf (shapeCast _ x4 shapeCasts_S4096x2048_S4096x2048) x2)) (constant S_ .f32 0x00000000#32) pads_S4096x1x2048_S4096x3x2048_000_110_000 h_S_)) (pad S4096x3x2048 ![0, 0, 0] ![0, 2, 0] ![0, 0, 0] (broadcastInDim S4096x1x2048 ![0, 2] bcast_S4096x2048_S4096x1x2048_0_2 (mulf (shapeCast _ x4 shapeCasts_S4096x2048_S4096x2048) x1)) (constant S_ .f32 0x00000000#32) pads_S4096x1x2048_S4096x3x2048_000_020_000 h_S_)) (mulf (Host.divf (broadcastInDim S4096x3x2048 ![] bcast_S_S4096x3x2048 (constant S_ .f32 0x3F800000#32)) (addf (broadcastInDim S4096x3x2048 ![] bcast_S_S4096x3x2048 (constant S_ .f32 0x3F800000#32)) (Host.exp (Host.negf (shapeCast _ x0 shapeCasts_S4096x6144_S4096x3x2048))))) (subf (broadcastInDim S4096x3x2048 ![] bcast_S_S4096x3x2048 (constant S_ .f32 0x3F800000#32)) (Host.divf (broadcastInDim S4096x3x2048 ![] bcast_S_S4096x3x2048 (constant S_ .f32 0x3F800000#32)) (addf (broadcastInDim S4096x3x2048 ![] bcast_S_S4096x3x2048 (constant S_ .f32 0x3F800000#32)) (Host.exp (Host.negf (shapeCast _ x0 shapeCasts_S4096x6144_S4096x3x2048)))))))) shapeCasts_S4096x3x2048_S4096x6144) bitsLt_bf16_f32

/-- The gradient of branch 0. -/
def du0 (x0 : FVec Ideal S4096x6144 .f32) (x4 : FVec Ideal S4096x2048 .f32) :
    FVec Ideal S4096x2048 .bf16 :=
  truncf .bf16 (mulf (shapeCast _ (extractStridedSlice S4096x1x2048 ![0, 0, 0] (Host.divf (broadcastInDim S4096x3x2048 ![] bcast_S_S4096x3x2048 (constant S_ .f32 0x3F800000#32)) (addf (broadcastInDim S4096x3x2048 ![] bcast_S_S4096x3x2048 (constant S_ .f32 0x3F800000#32)) (Host.exp (Host.negf (shapeCast _ x0 shapeCasts_S4096x6144_S4096x3x2048))))) slices_S4096x3x2048_S4096x1x2048_0_0_0) shapeCasts_S4096x1x2048_S4096x2048) (shapeCast _ x4 shapeCasts_S4096x2048_S4096x2048)) bitsLt_bf16_f32

/-- The gradient of branch 1. -/
def du1 (x0 : FVec Ideal S4096x6144 .f32) (x4 : FVec Ideal S4096x2048 .f32) :
    FVec Ideal S4096x2048 .bf16 :=
  truncf .bf16 (mulf (shapeCast _ (extractStridedSlice S4096x1x2048 ![0, 1, 0] (Host.divf (broadcastInDim S4096x3x2048 ![] bcast_S_S4096x3x2048 (constant S_ .f32 0x3F800000#32)) (addf (broadcastInDim S4096x3x2048 ![] bcast_S_S4096x3x2048 (constant S_ .f32 0x3F800000#32)) (Host.exp (Host.negf (shapeCast _ x0 shapeCasts_S4096x6144_S4096x3x2048))))) slices_S4096x3x2048_S4096x1x2048_0_1_0) shapeCasts_S4096x1x2048_S4096x2048) (shapeCast _ x4 shapeCasts_S4096x2048_S4096x2048)) bitsLt_bf16_f32

/-- The gradient of branch 2. -/
def du2 (x0 : FVec Ideal S4096x6144 .f32) (x4 : FVec Ideal S4096x2048 .f32) :
    FVec Ideal S4096x2048 .bf16 :=
  truncf .bf16 (mulf (shapeCast _ (extractStridedSlice S4096x1x2048 ![0, 2, 0] (Host.divf (broadcastInDim S4096x3x2048 ![] bcast_S_S4096x3x2048 (constant S_ .f32 0x3F800000#32)) (addf (broadcastInDim S4096x3x2048 ![] bcast_S_S4096x3x2048 (constant S_ .f32 0x3F800000#32)) (Host.exp (Host.negf (shapeCast _ x0 shapeCasts_S4096x6144_S4096x3x2048))))) slices_S4096x3x2048_S4096x1x2048_0_2_0) shapeCasts_S4096x1x2048_S4096x2048) (shapeCast _ x4 shapeCasts_S4096x2048_S4096x2048)) bitsLt_bf16_f32

end Cert.MergeRefIdeal.Term

namespace Cert.MergeIdeal.Final

open Cert.MergeIdeal Cert.MergeIdeal.Gen
open Cert.MergeRefIdeal.Term

variable (m : (ℓ : Loc nD τ sig) → Buf (Elt Ideal) ℓ)

/-- Every window's block of point `t` is the row block `t`. -/
theorem rows : ∀ t : Fin cfg0.N,
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] ∧
    win0_9.index t = ![t.val, 0] ∧ win0_10.index t = ![t.val, 0] :=
  (by decide +kernel : ∀ t : Fin grid0.N, _)

/-- The logistic function of the logit at `j`. -/
def gateOf (x : FVec Ideal S4096x6144 .f32) (j : S4096x6144.Idx) : EReal :=
  Ideal.div 1 (1 + Ideal.exp (-(x j)))

/-- Gate 0 as the host prepares it, at an entry of a block: the logistic function of its logit. -/
theorem gate0_at (c : Dev nD) (t : Fin cfg0.N) (x : S256x2048.Idx) (j : S4096x6144.Idx)
    (h0 : (j 0 : ℕ) = t.val * 256 + x 0) (h1 : (j 1 : ℕ) = 0 + x 1) :
    (iblk m c 4 t : FVec Ideal S256x2048 .bf16) x = gateOf (m ((c : Thread nD τ).loc main_arg0)) j := by
  obtain ⟨i, hi⟩ : ∃ i : S4096x2048.Idx, i = ((cfg0.win 4).blk t).view.emb x := ⟨_, rfl⟩
  have i0 : (i 0 : ℕ) = t.val * 256 + x 0 := by rw [hi]; blk_simp [rows t]
  have i1 : (i 1 : ℕ) = x 1 := by rw [hi]; blk_simp [rows t]
  have e : (V m c main_v10 : FVec Ideal S4096x2048 .bf16) i = gateOf (m ((c : Thread nD τ).loc main_arg0)) (ix2 (i 0) ⟨0 + i 1, by have := (i 1).isLt; change _ < 2048 at this; omega⟩) := by
    entry_read
    pointwise
    rfl
  refine Eq.trans ?_ (e.trans (congrArg (gateOf _) ?_))
  · rw [hi]; rfl
  · blk_ext

/-- The first branch's gradient at an entry of a block. -/
theorem branch0_at (c : Dev nD) (t : Fin cfg0.N) (x : S256x2048.Idx) (j : S4096x2048.Idx)
    (h0 : (j 0 : ℕ) = t.val * 256 + x 0) (h1 : (j 1 : ℕ) = x 1) :
    k0_pay5 (F := Ideal) (iblk m c 0 t) (iblk m c 4 t) x = du0 (m ((c : Thread nD τ).loc main_arg0)) (m ((c : Thread nD τ).loc main_arg4)) j := by
  have hj := (j 1).isLt
  change _ < 2048 at hj
  refine Eq.trans (b := gateOf (m ((c : Thread nD τ).loc main_arg0)) (ix2 (j 0) ⟨0 + j 1, by omega⟩) * ((m ((c : Thread nD τ).loc main_arg4)) : FVec Ideal S4096x2048 .f32) j) ?_ ?_
  · pointwise [k0_pay5, k0_pay4]
    refine congrArg₂ (· * ·) (gate0_at m c t x _ h0 ?_) ?_
    · simpa [ix2] using h1
    · blk_point [iblk, V, rows t]
  · pointwise [du0]
    rfl

/-- The first branch's gradient. -/
theorem branch0 (c : Dev nD) : (dats m 0 c).arrAt 8 (cfgs 0).N = du0 (m ((c : Thread nD τ).loc main_arg0)) (m ((c : Thread nD τ).loc main_arg4)) := by
  refine (dats m 0 c).arrAt_eq_of_covers 8 _ (by decide +kernel) fun t _ y => ?_
  rw [after0_8]
  frame_out
  refine branch0_at m c t y _ ?_ ?_
  all_goals (blk_simp [rows t] <;> omega)

/-- Gate 1 as the host prepares it, at an entry of a block: the logistic function of its logit. -/
theorem gate1_at (c : Dev nD) (t : Fin cfg0.N) (x : S256x2048.Idx) (j : S4096x6144.Idx)
    (h0 : (j 0 : ℕ) = t.val * 256 + x 0) (h1 : (j 1 : ℕ) = 2048 + x 1) :
    (iblk m c 5 t : FVec Ideal S256x2048 .bf16) x = gateOf (m ((c : Thread nD τ).loc main_arg0)) j := by
  obtain ⟨i, hi⟩ : ∃ i : S4096x2048.Idx, i = ((cfg0.win 5).blk t).view.emb x := ⟨_, rfl⟩
  have i0 : (i 0 : ℕ) = t.val * 256 + x 0 := by rw [hi]; blk_simp [rows t]
  have i1 : (i 1 : ℕ) = x 1 := by rw [hi]; blk_simp [rows t]
  have e : (V m c main_v11 : FVec Ideal S4096x2048 .bf16) i = gateOf (m ((c : Thread nD τ).loc main_arg0)) (ix2 (i 0) ⟨2048 + i 1, by have := (i 1).isLt; change _ < 2048 at this; omega⟩) := by
    entry_read
    pointwise
    rfl
  refine Eq.trans ?_ (e.trans (congrArg (gateOf _) ?_))
  · rw [hi]; rfl
  · blk_ext

/-- The second branch's gradient at an entry of a block. -/
theorem branch1_at (c : Dev nD) (t : Fin cfg0.N) (x : S256x2048.Idx) (j : S4096x2048.Idx)
    (h0 : (j 0 : ℕ) = t.val * 256 + x 0) (h1 : (j 1 : ℕ) = x 1) :
    k0_pay8 (F := Ideal) (iblk m c 0 t) (iblk m c 5 t) x = du1 (m ((c : Thread nD τ).loc main_arg0)) (m ((c : Thread nD τ).loc main_arg4)) j := by
  have hj := (j 1).isLt
  change _ < 2048 at hj
  refine Eq.trans (b := gateOf (m ((c : Thread nD τ).loc main_arg0)) (ix2 (j 0) ⟨2048 + j 1, by omega⟩) * ((m ((c : Thread nD τ).loc main_arg4)) : FVec Ideal S4096x2048 .f32) j) ?_ ?_
  · pointwise [k0_pay8, k0_pay7]
    refine congrArg₂ (· * ·) (gate1_at m c t x _ h0 ?_) ?_
    · simpa [ix2] using h1
    · blk_point [iblk, V, rows t]
  · pointwise [du1]
    rfl

/-- The second branch's gradient. -/
theorem branch1 (c : Dev nD) : (dats m 0 c).arrAt 9 (cfgs 0).N = du1 (m ((c : Thread nD τ).loc main_arg0)) (m ((c : Thread nD τ).loc main_arg4)) := by
  refine (dats m 0 c).arrAt_eq_of_covers 9 _ (by decide +kernel) fun t _ y => ?_
  rw [after0_9]
  frame_out
  refine branch1_at m c t y _ ?_ ?_
  all_goals (blk_simp [rows t] <;> omega)

/-- Gate 2 as the host prepares it, at an entry of a block: the logistic function of its logit. -/
theorem gate2_at (c : Dev nD) (t : Fin cfg0.N) (x : S256x2048.Idx) (j : S4096x6144.Idx)
    (h0 : (j 0 : ℕ) = t.val * 256 + x 0) (h1 : (j 1 : ℕ) = 4096 + x 1) :
    (iblk m c 6 t : FVec Ideal S256x2048 .bf16) x = gateOf (m ((c : Thread nD τ).loc main_arg0)) j := by
  obtain ⟨i, hi⟩ : ∃ i : S4096x2048.Idx, i = ((cfg0.win 6).blk t).view.emb x := ⟨_, rfl⟩
  have i0 : (i 0 : ℕ) = t.val * 256 + x 0 := by rw [hi]; blk_simp [rows t]
  have i1 : (i 1 : ℕ) = x 1 := by rw [hi]; blk_simp [rows t]
  have e : (V m c main_v12 : FVec Ideal S4096x2048 .bf16) i = gateOf (m ((c : Thread nD τ).loc main_arg0)) (ix2 (i 0) ⟨4096 + i 1, by have := (i 1).isLt; change _ < 2048 at this; omega⟩) := by
    entry_read
    pointwise
    rfl
  refine Eq.trans ?_ (e.trans (congrArg (gateOf _) ?_))
  · rw [hi]; rfl
  · blk_ext

/-- The third branch's gradient at an entry of a block. -/
theorem branch2_at (c : Dev nD) (t : Fin cfg0.N) (x : S256x2048.Idx) (j : S4096x2048.Idx)
    (h0 : (j 0 : ℕ) = t.val * 256 + x 0) (h1 : (j 1 : ℕ) = x 1) :
    k0_pay2 (F := Ideal) (iblk m c 0 t) (iblk m c 6 t) x = du2 (m ((c : Thread nD τ).loc main_arg0)) (m ((c : Thread nD τ).loc main_arg4)) j := by
  have hj := (j 1).isLt
  change _ < 2048 at hj
  refine Eq.trans (b := gateOf (m ((c : Thread nD τ).loc main_arg0)) (ix2 (j 0) ⟨4096 + j 1, by omega⟩) * ((m ((c : Thread nD τ).loc main_arg4)) : FVec Ideal S4096x2048 .f32) j) ?_ ?_
  · pointwise [k0_pay2, k0_pay1]
    refine congrArg₂ (· * ·) (gate2_at m c t x _ h0 ?_) ?_
    · simpa [ix2] using h1
    · blk_point [iblk, V, rows t]
  · pointwise [du2]
    rfl

/-- The third branch's gradient. -/
theorem branch2 (c : Dev nD) : (dats m 0 c).arrAt 10 (cfgs 0).N = du2 (m ((c : Thread nD τ).loc main_arg0)) (m ((c : Thread nD τ).loc main_arg4)) := by
  refine (dats m 0 c).arrAt_eq_of_covers 10 _ (by decide +kernel) fun t _ y => ?_
  rw [after0_10]
  frame_out
  refine branch2_at m c t y _ ?_ ?_
  all_goals (blk_simp [rows t] <;> omega)

/-- The reference's logit gradient in the first third of a row: the padded sum has one term. -/
theorem dlogits0_at (x0 : FVec Ideal S4096x6144 .f32) (x1 x2 x3 x4 : FVec Ideal S4096x2048 .f32)
    (j : S4096x6144.Idx) (i : S4096x2048.Idx) (h0 : (i 0 : ℕ) = j 0) (h1 : (j 1 : ℕ) = 0 + i 1) :
    dlogits x0 x1 x2 x3 x4 j = (x4 i * x1 i) * (gateOf x0 j * (1 - gateOf x0 j)) := by
  have hx := (i 1).isLt
  change _ < 2048 at hx
  have n2 : ¬ ((2 ≤ (j 1 : ℕ) / 2048 ∧ (j 1 : ℕ) / 2048 - 2 < 1) ∧ (j 1 : ℕ) % 2048 < 2048) := by omega
  have n1 : ¬ ((1 ≤ (j 1 : ℕ) / 2048 ∧ (j 1 : ℕ) / 2048 - 1 < 1) ∧ (j 1 : ℕ) % 2048 < 2048) := by omega
  have n0 : ((j 1 : ℕ) / 2048 < 1 ∧ (j 1 : ℕ) % 2048 < 2048) := by omega
  have e : (ix2 (j 0) ⟨(j 1 : ℕ) % 2048, by omega⟩ : S4096x2048.Idx) = i := by blk_ext
  pointwise [dlogits]
  simp only [dif_pos n0, dif_neg n1, dif_neg n2, zero_add, add_zero, e]
  rfl

/-- The logits' gradient at an entry of the first third of a block. -/
theorem logits0_at (c : Dev nD) (t : Fin cfg0.N) (x : S256x2048.Idx) (j : S4096x6144.Idx)
    (h0 : (j 0 : ℕ) = t.val * 256 + x 0) (h1 : (j 1 : ℕ) = 0 + x 1) :
    k0_pay6 (F := Ideal) (iblk m c 0 t) (iblk m c 4 t) (iblk m c 1 t) x = dlogits (m ((c : Thread nD τ).loc main_arg0)) (m ((c : Thread nD τ).loc main_arg1)) (m ((c : Thread nD τ).loc main_arg2)) (m ((c : Thread nD τ).loc main_arg3)) (m ((c : Thread nD τ).loc main_arg4)) j := by
  have hj := (j 0).isLt
  change _ < 4096 at hj
  have hx := (x 1).isLt
  change _ < 2048 at hx
  refine Eq.trans ?_ (dlogits0_at _ _ _ _ _ j (ix2 ⟨j 0, hj⟩ ⟨x 1, hx⟩) rfl h1).symm
  pointwise [k0_pay6, k0_pay4]
  rw [gate0_at m c t x j h0 h1, mul_assoc]
  refine congrArg₂ (· * ·) (congrArg₂ (· * ·) ?_ ?_) rfl
  all_goals blk_point [iblk, V, rows t]

/-- The reference's logit gradient in the second third of a row: the padded sum has one term. -/
theorem dlogits1_at (x0 : FVec Ideal S4096x6144 .f32) (x1 x2 x3 x4 : FVec Ideal S4096x2048 .f32)
    (j : S4096x6144.Idx) (i : S4096x2048.Idx) (h0 : (i 0 : ℕ) = j 0) (h1 : (j 1 : ℕ) = 2048 + i 1) :
    dlogits x0 x1 x2 x3 x4 j = (x4 i * x2 i) * (gateOf x0 j * (1 - gateOf x0 j)) := by
  have hx := (i 1).isLt
  change _ < 2048 at hx
  have n2 : ¬ ((2 ≤ (j 1 : ℕ) / 2048 ∧ (j 1 : ℕ) / 2048 - 2 < 1) ∧ (j 1 : ℕ) % 2048 < 2048) := by omega
  have n1 : ((1 ≤ (j 1 : ℕ) / 2048 ∧ (j 1 : ℕ) / 2048 - 1 < 1) ∧ (j 1 : ℕ) % 2048 < 2048) := by omega
  have n0 : ¬ ((j 1 : ℕ) / 2048 < 1 ∧ (j 1 : ℕ) % 2048 < 2048) := by omega
  have e : (ix2 (j 0) ⟨(j 1 : ℕ) % 2048, by omega⟩ : S4096x2048.Idx) = i := by blk_ext
  pointwise [dlogits]
  simp only [dif_neg n0, dif_pos n1, dif_neg n2, zero_add, add_zero, e]
  rfl

/-- The logits' gradient at an entry of the second third of a block. -/
theorem logits1_at (c : Dev nD) (t : Fin cfg0.N) (x : S256x2048.Idx) (j : S4096x6144.Idx)
    (h0 : (j 0 : ℕ) = t.val * 256 + x 0) (h1 : (j 1 : ℕ) = 2048 + x 1) :
    k0_pay9 (F := Ideal) (iblk m c 0 t) (iblk m c 5 t) (iblk m c 2 t) x = dlogits (m ((c : Thread nD τ).loc main_arg0)) (m ((c : Thread nD τ).loc main_arg1)) (m ((c : Thread nD τ).loc main_arg2)) (m ((c : Thread nD τ).loc main_arg3)) (m ((c : Thread nD τ).loc main_arg4)) j := by
  have hj := (j 0).isLt
  change _ < 4096 at hj
  have hx := (x 1).isLt
  change _ < 2048 at hx
  refine Eq.trans ?_ (dlogits1_at _ _ _ _ _ j (ix2 ⟨j 0, hj⟩ ⟨x 1, hx⟩) rfl h1).symm
  pointwise [k0_pay9, k0_pay7]
  rw [gate1_at m c t x j h0 h1, mul_assoc]
  refine congrArg₂ (· * ·) (congrArg₂ (· * ·) ?_ ?_) rfl
  all_goals blk_point [iblk, V, rows t]

/-- The reference's logit gradient in the third third of a row: the padded sum has one term. -/
theorem dlogits2_at (x0 : FVec Ideal S4096x6144 .f32) (x1 x2 x3 x4 : FVec Ideal S4096x2048 .f32)
    (j : S4096x6144.Idx) (i : S4096x2048.Idx) (h0 : (i 0 : ℕ) = j 0) (h1 : (j 1 : ℕ) = 4096 + i 1) :
    dlogits x0 x1 x2 x3 x4 j = (x4 i * x3 i) * (gateOf x0 j * (1 - gateOf x0 j)) := by
  have hx := (i 1).isLt
  change _ < 2048 at hx
  have n2 : ((2 ≤ (j 1 : ℕ) / 2048 ∧ (j 1 : ℕ) / 2048 - 2 < 1) ∧ (j 1 : ℕ) % 2048 < 2048) := by omega
  have n1 : ¬ ((1 ≤ (j 1 : ℕ) / 2048 ∧ (j 1 : ℕ) / 2048 - 1 < 1) ∧ (j 1 : ℕ) % 2048 < 2048) := by omega
  have n0 : ¬ ((j 1 : ℕ) / 2048 < 1 ∧ (j 1 : ℕ) % 2048 < 2048) := by omega
  have e : (ix2 (j 0) ⟨(j 1 : ℕ) % 2048, by omega⟩ : S4096x2048.Idx) = i := by blk_ext
  pointwise [dlogits]
  simp only [dif_neg n0, dif_neg n1, dif_pos n2, zero_add, add_zero, e]
  rfl

/-- The logits' gradient at an entry of the third third of a block. -/
theorem logits2_at (c : Dev nD) (t : Fin cfg0.N) (x : S256x2048.Idx) (j : S4096x6144.Idx)
    (h0 : (j 0 : ℕ) = t.val * 256 + x 0) (h1 : (j 1 : ℕ) = 4096 + x 1) :
    k0_pay3 (F := Ideal) (iblk m c 0 t) (iblk m c 6 t) (iblk m c 3 t) x = dlogits (m ((c : Thread nD τ).loc main_arg0)) (m ((c : Thread nD τ).loc main_arg1)) (m ((c : Thread nD τ).loc main_arg2)) (m ((c : Thread nD τ).loc main_arg3)) (m ((c : Thread nD τ).loc main_arg4)) j := by
  have hj := (j 0).isLt
  change _ < 4096 at hj
  have hx := (x 1).isLt
  change _ < 2048 at hx
  refine Eq.trans ?_ (dlogits2_at _ _ _ _ _ j (ix2 ⟨j 0, hj⟩ ⟨x 1, hx⟩) rfl h1).symm
  pointwise [k0_pay3, k0_pay1]
  rw [gate2_at m c t x j h0 h1, mul_assoc]
  refine congrArg₂ (· * ·) (congrArg₂ (· * ·) ?_ ?_) rfl
  all_goals blk_point [iblk, V, rows t]

/-- The logits' gradient at an entry of a block. -/
theorem logits_at (c : Dev nD) (t : Fin cfg0.N) (y : S256x6144.Idx) (j : S4096x6144.Idx)
    (j0 : (j 0 : ℕ) = t.val * 256 + y 0) (j1 : (j 1 : ℕ) = y 1) :
    out0_7 (iblk m c 0 t) (iblk m c 1 t) (iblk m c 2 t) (iblk m c 3 t) (iblk m c 4 t) (iblk m c 5 t) (iblk m c 6 t) y =
      dlogits (m ((c : Thread nD τ).loc main_arg0)) (m ((c : Thread nD τ).loc main_arg1)) (m ((c : Thread nD τ).loc main_arg2)) (m ((c : Thread nD τ).loc main_arg3)) (m ((c : Thread nD τ).loc main_arg4)) j := by
  generalize hd : dlogits (m ((c : Thread nD τ).loc main_arg0)) (m ((c : Thread nD τ).loc main_arg1)) (m ((c : Thread nD τ).loc main_arg2)) (m ((c : Thread nD τ).loc main_arg3)) (m ((c : Thread nD τ).loc main_arg4)) j = d
  canon_tiles x h
  · refine Eq.trans ?_ ((logits2_at m c t x j (by omega) (by omega)).trans hd)
    pointwise [k0_pay3, k0_pay1]
  · refine Eq.trans ?_ ((logits1_at m c t x j (by omega) (by omega)).trans hd)
    pointwise [k0_pay9, k0_pay7]
  · refine Eq.trans ?_ ((logits0_at m c t x j (by omega) (by omega)).trans hd)
    pointwise [k0_pay6, k0_pay4]

/-- The result array holds any function its blocks hold. -/
theorem logits_of (c : Dev nD) (d : FVec Ideal S4096x6144 .bf16)
    (hd : ∀ (t : Fin cfg0.N) (y : S256x6144.Idx) (j : S4096x6144.Idx), (j 0 : ℕ) = t.val * 256 + y 0 → (j 1 : ℕ) = y 1 →
      out0_7 (iblk m c 0 t) (iblk m c 1 t) (iblk m c 2 t) (iblk m c 3 t) (iblk m c 4 t) (iblk m c 5 t) (iblk m c 6 t) y = d j) :
    (dats m 0 c).arrAt 7 (cfgs 0).N = d := by
  refine (dats m 0 c).arrAt_eq_of_covers 7 d (by decide +kernel) fun t _ y => ?_
  refine (congrFun (after0_7 m c t) y).trans (hd t y _ ?_ ?_)
  all_goals blk_simp [rows t]

/-- The logits' gradient. -/
theorem logits (c : Dev nD) : (dats m 0 c).arrAt 7 (cfgs 0).N =
    dlogits (m ((c : Thread nD τ).loc main_arg0)) (m ((c : Thread nD τ).loc main_arg1)) (m ((c : Thread nD τ).loc main_arg2)) (m ((c : Thread nD τ).loc main_arg3)) (m ((c : Thread nD τ).loc main_arg4)) :=
  logits_of m c _ (logits_at m c)

end Cert.MergeIdeal.Final
-- ==== Proof.lean ====
/- The claims about the kernels: each runs, and where it is compared its results are the reference's. -/
module

public import proofs.«01_k».proof.Proof.Gen.Fox.Frame
public import proofs.«01_k».proof.Proof.Fox.Frame
public import proofs.«01_k».proof.Proof.FoxIdeal.Frame
public import proofs.«01_k».proof.Proof.FoxIdeal.Pair
public import proofs.«01_k».proof.Proof.Gen.Zg.Frame
public import proofs.«01_k».proof.Proof.Gen.Qkv.Frame
public import proofs.«01_k».proof.Proof.Gen.GateW.Frame
public import proofs.«01_k».proof.Proof.Gen.QkvW.Frame
public import proofs.«01_k».proof.Proof.Gen.OutW.Frame
public import proofs.«01_k».proof.Proof.Gen.OutAct.Frame
public import proofs.«01_k».proof.Proof.Gen.ZgAct.Frame
public import proofs.«01_k».proof.Proof.Gen.QkvAct.Frame
public import proofs.«01_k».proof.Proof.Gen.BranchB.Frame
public import proofs.«01_k».proof.Proof.Gen.BranchC.Frame
public import proofs.«01_k».proof.Proof.Gen.BranchBAct.Frame
public import proofs.«01_k».proof.Proof.Gen.BranchCAct.Frame
public import proofs.«01_k».proof.Proof.Gen.BranchBW.Frame
public import proofs.«01_k».proof.Proof.Gen.BranchCW.Frame
public import proofs.«01_k».proof.Proof.Prod.Forward
public import proofs.«01_k».proof.Proof.Prod.Weight
public import proofs.«01_k».proof.Proof.Prod.Branch
public import proofs.«01_k».proof.Proof.Prod.Act
public import proofs.«01_k».proof.Proof.Prod.Sum
public import proofs.«01_k».proof.Defs
public import proofs.«01_k».proof.Proof.Gen.Merge.Frame
public import proofs.«01_k».proof.Proof.Merge.Final
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Merge

/-- The reference of the merge gate's gradient terminates, keeps its arguments and leaves every semaphore at zero. -/
theorem frame_MergeRefIdeal : quiescent_MergeRefIdeal (hMergeRefIdeal := Cert.MergeRefIdeal.Gen.facts) :=
  fun m ρ _ => (θ_run Cert.MergeRefIdeal.defs _ _).mono
    (fun r h => ⟨fun c => (h c).2.2.2.2, sem_eq_zero_of_no_sems (by decide) r.2⟩)
    (Cert.MergeRefIdeal.Value.run (F := Ideal) m ρ)

/-- The merge gate's gradient kernel and its reference have equal results. -/
theorem algebraic_Merge : algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    · exact (Cert.MergeIdeal.Final.logits m c).symm
    · exact (Cert.MergeIdeal.Final.branch0 m c).symm
    · exact (Cert.MergeIdeal.Final.branch1 m c).symm
    · exact (Cert.MergeIdeal.Final.branch2 m c).symm

/-- The reference of the attention gradient terminates, keeps its arguments and leaves every semaphore at zero. -/
theorem frame_FoxRefIdeal : quiescent_FoxRefIdeal (hFoxRefIdeal := Cert.FoxRefIdeal.Gen.facts) :=
  fun m ρ _ => (θ_run Cert.FoxRefIdeal.defs _ _).mono
    (fun r h => ⟨fun c => (h c).2.2.2.2, sem_eq_zero_of_no_sems (by decide) r.2⟩)
    (Cert.FoxRefIdeal.Value.run (F := Ideal) m ρ)

/-- The attention gradient kernel and its reference have equal results where the arguments are finite. -/
theorem algebraic_Fox : algebraic_FoxIdeal_FoxRefIdeal_pre_finite (hFoxIdeal := Cert.FoxIdeal.Gen.facts)
    (hFoxRefIdeal := Cert.FoxRefIdeal.Gen.facts) (hPre_finite := Cert.Pre_finite.Gen.facts) := by
  intro m g m' g' hf hm
  refine ⟨_, _, _, _, Cert.FoxIdeal.Math.run_kernel m g hf, (θ_run Cert.FoxRefIdeal.defs _ _).mono (fun r h c => ?_) (Cert.FoxIdeal.Math.run_ref m' g')⟩
  have e := h c
  rw [(hm c).1, (hm c).2.1, (hm c).2.2.1, (hm c).2.2.2.1, (hm c).2.2.2.2] at e ⊢
  exact e

/-- The reference of the projection to the latents and gates terminates, keeps its arguments and leaves every semaphore at zero. -/
theorem frame_ZgRefIdeal : quiescent_ZgRefIdeal (hZgRefIdeal := Cert.ZgRefIdeal.Gen.facts) :=
  fun m ρ _ => (θ_run Cert.ZgRefIdeal.defs _ _).mono
    (fun r h => ⟨fun c => (h c).2, sem_eq_zero_of_no_sems (by decide) r.2⟩)
    (Cert.ZgRefIdeal.Value.run (F := Ideal) m ρ)

/-- The kernel of the projection to the latents and gates and its reference have equal results. -/
theorem algebraic_Zg : algebraic_ZgIdeal_ZgRefIdeal (hZgIdeal := Cert.ZgIdeal.Gen.facts)
    (hZgRefIdeal := Cert.ZgRefIdeal.Gen.facts) := by
  intro m g m' g' _ hm
  refine ⟨_, (θ_run Cert.ZgIdeal.defs _ _).mono (fun r h c => ⟨(h c).1.trans (Cert.ZgIdeal.Prod.result m c), (h c).2⟩)
    (Cert.ZgIdeal.Value.run_blocks (F := Ideal) m g), (θ_run Cert.ZgRefIdeal.defs _ _).mono (fun r h c => ?_)
    (Cert.ZgRefIdeal.Value.run (F := Ideal) m' g')⟩
  have e := h c
  rw [(hm c).1, (hm c).2] at e ⊢
  exact e

/-- The reference of the projection to queries, keys and values terminates, keeps its arguments and leaves every semaphore at zero. -/
theorem frame_QkvRefIdeal : quiescent_QkvRefIdeal (hQkvRefIdeal := Cert.QkvRefIdeal.Gen.facts) :=
  fun m ρ _ => (θ_run Cert.QkvRefIdeal.defs _ _).mono
    (fun r h => ⟨fun c => (h c).2, sem_eq_zero_of_no_sems (by decide) r.2⟩)
    (Cert.QkvRefIdeal.Value.run (F := Ideal) m ρ)

/-- The kernel of the projection to queries, keys and values and its reference have equal results. -/
theorem algebraic_Qkv : algebraic_QkvIdeal_QkvRefIdeal (hQkvIdeal := Cert.QkvIdeal.Gen.facts)
    (hQkvRefIdeal := Cert.QkvRefIdeal.Gen.facts) := by
  intro m g m' g' _ hm
  refine ⟨_, (θ_run Cert.QkvIdeal.defs _ _).mono (fun r h c => ⟨(h c).1.trans (Cert.QkvIdeal.Prod.result m c), (h c).2⟩)
    (Cert.QkvIdeal.Value.run_blocks (F := Ideal) m g), (θ_run Cert.QkvRefIdeal.defs _ _).mono (fun r h c => ?_)
    (Cert.QkvRefIdeal.Value.run (F := Ideal) m' g')⟩
  have e := h c
  rw [(hm c).1, (hm c).2] at e ⊢
  exact e

/-- The reference of the gates' weight gradient terminates, keeps its arguments and leaves every semaphore at zero. -/
theorem frame_GateWRefIdeal : quiescent_GateWRefIdeal (hGateWRefIdeal := Cert.GateWRefIdeal.Gen.facts) :=
  fun m ρ _ => (θ_run Cert.GateWRefIdeal.defs _ _).mono
    (fun r h => ⟨fun c => (h c).2, sem_eq_zero_of_no_sems (by decide) r.2⟩)
    (Cert.GateWRefIdeal.Value.run (F := Ideal) m ρ)

/-- The kernel of the gates' weight gradient and its reference have equal results. -/
theorem algebraic_GateW : algebraic_GateWIdeal_GateWRefIdeal (hGateWIdeal := Cert.GateWIdeal.Gen.facts)
    (hGateWRefIdeal := Cert.GateWRefIdeal.Gen.facts) := by
  intro m g m' g' _ hm
  refine ⟨_, (θ_run Cert.GateWIdeal.defs _ _).mono (fun r h c => ⟨(h c).1.trans (Cert.GateWIdeal.Prod.result m c), (h c).2⟩)
    (Cert.GateWIdeal.Value.run_blocks (F := Ideal) m g), (θ_run Cert.GateWRefIdeal.defs _ _).mono (fun r h c => ?_)
    (Cert.GateWRefIdeal.Value.run (F := Ideal) m' g')⟩
  have e := h c
  rw [(hm c).1, (hm c).2] at e ⊢
  exact e

/-- The reference of the queries', keys' and values' weight gradient terminates, keeps its arguments and leaves every semaphore at zero. -/
theorem frame_QkvWRefIdeal : quiescent_QkvWRefIdeal (hQkvWRefIdeal := Cert.QkvWRefIdeal.Gen.facts) :=
  fun m ρ _ => (θ_run Cert.QkvWRefIdeal.defs _ _).mono
    (fun r h => ⟨fun c => (h c).2, sem_eq_zero_of_no_sems (by decide) r.2⟩)
    (Cert.QkvWRefIdeal.Value.run (F := Ideal) m ρ)

/-- The kernel of the queries', keys' and values' weight gradient and its reference have equal results. -/
theorem algebraic_QkvW : algebraic_QkvWIdeal_QkvWRefIdeal (hQkvWIdeal := Cert.QkvWIdeal.Gen.facts)
    (hQkvWRefIdeal := Cert.QkvWRefIdeal.Gen.facts) := by
  intro m g m' g' _ hm
  refine ⟨_, (θ_run Cert.QkvWIdeal.defs _ _).mono (fun r h c => ⟨(h c).1.trans (Cert.QkvWIdeal.Prod.result m c), (h c).2⟩)
    (Cert.QkvWIdeal.Value.run_blocks (F := Ideal) m g), (θ_run Cert.QkvWRefIdeal.defs _ _).mono (fun r h c => ?_)
    (Cert.QkvWRefIdeal.Value.run (F := Ideal) m' g')⟩
  have e := h c
  rw [(hm c).1, (hm c).2] at e ⊢
  exact e

/-- The reference of the output projection's weight gradient terminates, keeps its arguments and leaves every semaphore at zero. -/
theorem frame_OutWRefIdeal : quiescent_OutWRefIdeal (hOutWRefIdeal := Cert.OutWRefIdeal.Gen.facts) :=
  fun m ρ _ => (θ_run Cert.OutWRefIdeal.defs _ _).mono
    (fun r h => ⟨fun c => (h c).2, sem_eq_zero_of_no_sems (by decide) r.2⟩)
    (Cert.OutWRefIdeal.Value.run (F := Ideal) m ρ)

/-- The kernel of the output projection's weight gradient and its reference have equal results. -/
theorem algebraic_OutW : algebraic_OutWIdeal_OutWRefIdeal (hOutWIdeal := Cert.OutWIdeal.Gen.facts)
    (hOutWRefIdeal := Cert.OutWRefIdeal.Gen.facts) := by
  intro m g m' g' _ hm
  refine ⟨_, (θ_run Cert.OutWIdeal.defs _ _).mono (fun r h c => ⟨(h c).1.trans (Cert.OutWIdeal.Prod.result m c), (h c).2⟩)
    (Cert.OutWIdeal.Value.run_blocks (F := Ideal) m g), (θ_run Cert.OutWRefIdeal.defs _ _).mono (fun r h c => ?_)
    (Cert.OutWRefIdeal.Value.run (F := Ideal) m' g')⟩
  have e := h c
  rw [(hm c).1, (hm c).2] at e ⊢
  exact e

/-- The reference of the output projection's activation gradient terminates, keeps its arguments and leaves every semaphore at zero. -/
theorem frame_OutActRefIdeal : quiescent_OutActRefIdeal (hOutActRefIdeal := Cert.OutActRefIdeal.Gen.facts) :=
  fun m ρ _ => (θ_run Cert.OutActRefIdeal.defs _ _).mono
    (fun r h => ⟨fun c => (h c).2, sem_eq_zero_of_no_sems (by decide) r.2⟩)
    (Cert.OutActRefIdeal.Value.run (F := Ideal) m ρ)

/-- The kernel of the output projection's activation gradient and its reference have equal results. -/
theorem algebraic_OutAct : algebraic_OutActIdeal_OutActRefIdeal (hOutActIdeal := Cert.OutActIdeal.Gen.facts)
    (hOutActRefIdeal := Cert.OutActRefIdeal.Gen.facts) := by
  intro m g m' g' _ hm
  refine ⟨_, (θ_run Cert.OutActIdeal.defs _ _).mono (fun r h c => ⟨(h c).1.trans (Cert.OutActIdeal.Prod.result m c), (h c).2⟩)
    (Cert.OutActIdeal.Value.run_blocks (F := Ideal) m g), (θ_run Cert.OutActRefIdeal.defs _ _).mono (fun r h c => ?_)
    (Cert.OutActRefIdeal.Value.run (F := Ideal) m' g')⟩
  have e := h c
  rw [(hm c).1, (hm c).2] at e ⊢
  exact e

/-- The reference of the input's gradient through the latents and gates terminates, keeps its arguments and leaves every semaphore at zero. -/
theorem frame_ZgActRefIdeal : quiescent_ZgActRefIdeal (hZgActRefIdeal := Cert.ZgActRefIdeal.Gen.facts) :=
  fun m ρ _ => (θ_run Cert.ZgActRefIdeal.defs _ _).mono
    (fun r h => ⟨fun c => (h c).2, sem_eq_zero_of_no_sems (by decide) r.2⟩)
    (Cert.ZgActRefIdeal.Value.run (F := Ideal) m ρ)

/-- The kernel of the input's gradient through the latents and gates and its reference have equal results. -/
theorem algebraic_ZgAct : algebraic_ZgActIdeal_ZgActRefIdeal (hZgActIdeal := Cert.ZgActIdeal.Gen.facts)
    (hZgActRefIdeal := Cert.ZgActRefIdeal.Gen.facts) := by
  intro m g m' g' _ hm
  refine ⟨_, (θ_run Cert.ZgActIdeal.defs _ _).mono (fun r h c => ⟨(h c).1.trans (Cert.ZgActIdeal.Prod.result m c), (h c).2⟩)
    (Cert.ZgActIdeal.Value.run_blocks (F := Ideal) m g), (θ_run Cert.ZgActRefIdeal.defs _ _).mono (fun r h c => ?_)
    (Cert.ZgActRefIdeal.Value.run (F := Ideal) m' g')⟩
  have e := h c
  rw [(hm c).1, (hm c).2.1, (hm c).2.2.1, (hm c).2.2.2] at e ⊢
  exact e

/-- The reference of the input's gradient through the queries, keys and values terminates, keeps its arguments and leaves every semaphore at zero. -/
theorem frame_QkvActRefIdeal : quiescent_QkvActRefIdeal (hQkvActRefIdeal := Cert.QkvActRefIdeal.Gen.facts) :=
  fun m ρ _ => (θ_run Cert.QkvActRefIdeal.defs _ _).mono
    (fun r h => ⟨fun c => (h c).2, sem_eq_zero_of_no_sems (by decide) r.2⟩)
    (Cert.QkvActRefIdeal.Value.run (F := Ideal) m ρ)

/-- The kernel of the input's gradient through the queries, keys and values and its reference have equal results. -/
theorem algebraic_QkvAct : algebraic_QkvActIdeal_QkvActRefIdeal (hQkvActIdeal := Cert.QkvActIdeal.Gen.facts)
    (hQkvActRefIdeal := Cert.QkvActRefIdeal.Gen.facts) := by
  intro m g m' g' _ hm
  refine ⟨_, (θ_run Cert.QkvActIdeal.defs _ _).mono (fun r h c => ⟨(h c).1.trans (Cert.QkvActIdeal.Prod.result m c), (h c).2⟩)
    (Cert.QkvActIdeal.Value.run_blocks (F := Ideal) m g), (θ_run Cert.QkvActRefIdeal.defs _ _).mono (fun r h c => ?_)
    (Cert.QkvActRefIdeal.Value.run (F := Ideal) m' g')⟩
  have e := h c
  rw [(hm c).1, (hm c).2.1, (hm c).2.2.1, (hm c).2.2.2] at e ⊢
  exact e

/-- The reference of the projection of a self-attention branch terminates, keeps its arguments and leaves every semaphore at zero. -/
theorem frame_BranchBRefIdeal : quiescent_BranchBRefIdeal (hBranchBRefIdeal := Cert.BranchBRefIdeal.Gen.facts) :=
  fun m ρ _ => (θ_run Cert.BranchBRefIdeal.defs _ _).mono
    (fun r h => ⟨fun c => (h c).2, sem_eq_zero_of_no_sems (by decide) r.2⟩)
    (Cert.BranchBRefIdeal.Value.run (F := Ideal) m ρ)

/-- The kernel of the projection of a self-attention branch and its reference have equal results. -/
theorem algebraic_BranchB : algebraic_BranchBIdeal_BranchBRefIdeal (hBranchBIdeal := Cert.BranchBIdeal.Gen.facts)
    (hBranchBRefIdeal := Cert.BranchBRefIdeal.Gen.facts) := by
  intro m g m' g' _ hm
  refine ⟨_, (θ_run Cert.BranchBIdeal.defs _ _).mono (fun r h c => ⟨(h c).1.trans (Cert.BranchBIdeal.Prod.result m c), (h c).2⟩)
    (Cert.BranchBIdeal.Value.run_blocks (F := Ideal) m g), (θ_run Cert.BranchBRefIdeal.defs _ _).mono (fun r h c => ?_)
    (Cert.BranchBRefIdeal.Value.run (F := Ideal) m' g')⟩
  have e := h c
  rw [(hm c).1, (hm c).2] at e ⊢
  exact e

/-- The reference of the projection of the memory branch terminates, keeps its arguments and leaves every semaphore at zero. -/
theorem frame_BranchCRefIdeal : quiescent_BranchCRefIdeal (hBranchCRefIdeal := Cert.BranchCRefIdeal.Gen.facts) :=
  fun m ρ _ => (θ_run Cert.BranchCRefIdeal.defs _ _).mono
    (fun r h => ⟨fun c => (h c).2, sem_eq_zero_of_no_sems (by decide) r.2⟩)
    (Cert.BranchCRefIdeal.Value.run (F := Ideal) m ρ)

/-- The kernel of the projection of the memory branch and its reference have equal results. -/
theorem algebraic_BranchC : algebraic_BranchCIdeal_BranchCRefIdeal (hBranchCIdeal := Cert.BranchCIdeal.Gen.facts)
    (hBranchCRefIdeal := Cert.BranchCRefIdeal.Gen.facts) := by
  intro m g m' g' _ hm
  refine ⟨_, (θ_run Cert.BranchCIdeal.defs _ _).mono (fun r h c => ⟨(h c).1.trans (Cert.BranchCIdeal.Prod.result m c), (h c).2⟩)
    (Cert.BranchCIdeal.Value.run_blocks (F := Ideal) m g), (θ_run Cert.BranchCRefIdeal.defs _ _).mono (fun r h c => ?_)
    (Cert.BranchCRefIdeal.Value.run (F := Ideal) m' g')⟩
  have e := h c
  rw [(hm c).1, (hm c).2] at e ⊢
  exact e

/-- The reference of the activation gradient of a self-attention branch's projection terminates, keeps its arguments and leaves every semaphore at zero. -/
theorem frame_BranchBActRefIdeal : quiescent_BranchBActRefIdeal (hBranchBActRefIdeal := Cert.BranchBActRefIdeal.Gen.facts) :=
  fun m ρ _ => (θ_run Cert.BranchBActRefIdeal.defs _ _).mono
    (fun r h => ⟨fun c => (h c).2, sem_eq_zero_of_no_sems (by decide) r.2⟩)
    (Cert.BranchBActRefIdeal.Value.run (F := Ideal) m ρ)

/-- The kernel of the activation gradient of a self-attention branch's projection and its reference have equal results. -/
theorem algebraic_BranchBAct : algebraic_BranchBActIdeal_BranchBActRefIdeal (hBranchBActIdeal := Cert.BranchBActIdeal.Gen.facts)
    (hBranchBActRefIdeal := Cert.BranchBActRefIdeal.Gen.facts) := by
  intro m g m' g' _ hm
  refine ⟨_, (θ_run Cert.BranchBActIdeal.defs _ _).mono (fun r h c => ⟨(h c).1.trans (Cert.BranchBActIdeal.Prod.result m c), (h c).2⟩)
    (Cert.BranchBActIdeal.Value.run_blocks (F := Ideal) m g), (θ_run Cert.BranchBActRefIdeal.defs _ _).mono (fun r h c => ?_)
    (Cert.BranchBActRefIdeal.Value.run (F := Ideal) m' g')⟩
  have e := h c
  rw [(hm c).1, (hm c).2] at e ⊢
  exact e

/-- The reference of the activation gradient of the memory branch's projection terminates, keeps its arguments and leaves every semaphore at zero. -/
theorem frame_BranchCActRefIdeal : quiescent_BranchCActRefIdeal (hBranchCActRefIdeal := Cert.BranchCActRefIdeal.Gen.facts) :=
  fun m ρ _ => (θ_run Cert.BranchCActRefIdeal.defs _ _).mono
    (fun r h => ⟨fun c => (h c).2, sem_eq_zero_of_no_sems (by decide) r.2⟩)
    (Cert.BranchCActRefIdeal.Value.run (F := Ideal) m ρ)

/-- The kernel of the activation gradient of the memory branch's projection and its reference have equal results. -/
theorem algebraic_BranchCAct : algebraic_BranchCActIdeal_BranchCActRefIdeal (hBranchCActIdeal := Cert.BranchCActIdeal.Gen.facts)
    (hBranchCActRefIdeal := Cert.BranchCActRefIdeal.Gen.facts) := by
  intro m g m' g' _ hm
  refine ⟨_, (θ_run Cert.BranchCActIdeal.defs _ _).mono (fun r h c => ⟨(h c).1.trans (Cert.BranchCActIdeal.Prod.result m c), (h c).2⟩)
    (Cert.BranchCActIdeal.Value.run_blocks (F := Ideal) m g), (θ_run Cert.BranchCActRefIdeal.defs _ _).mono (fun r h c => ?_)
    (Cert.BranchCActRefIdeal.Value.run (F := Ideal) m' g')⟩
  have e := h c
  rw [(hm c).1, (hm c).2] at e ⊢
  exact e

/-- The reference of the weight gradient of a self-attention branch's projection terminates, keeps its arguments and leaves every semaphore at zero. -/
theorem frame_BranchBWRefIdeal : quiescent_BranchBWRefIdeal (hBranchBWRefIdeal := Cert.BranchBWRefIdeal.Gen.facts) :=
  fun m ρ _ => (θ_run Cert.BranchBWRefIdeal.defs _ _).mono
    (fun r h => ⟨fun c => (h c).2, sem_eq_zero_of_no_sems (by decide) r.2⟩)
    (Cert.BranchBWRefIdeal.Value.run (F := Ideal) m ρ)

/-- The kernel of the weight gradient of a self-attention branch's projection and its reference have equal results. -/
theorem algebraic_BranchBW : algebraic_BranchBWIdeal_BranchBWRefIdeal (hBranchBWIdeal := Cert.BranchBWIdeal.Gen.facts)
    (hBranchBWRefIdeal := Cert.BranchBWRefIdeal.Gen.facts) := by
  intro m g m' g' _ hm
  refine ⟨_, (θ_run Cert.BranchBWIdeal.defs _ _).mono (fun r h c => ⟨(h c).1.trans (Cert.BranchBWIdeal.Prod.result m c), (h c).2⟩)
    (Cert.BranchBWIdeal.Value.run_blocks (F := Ideal) m g), (θ_run Cert.BranchBWRefIdeal.defs _ _).mono (fun r h c => ?_)
    (Cert.BranchBWRefIdeal.Value.run (F := Ideal) m' g')⟩
  have e := h c
  rw [(hm c).1, (hm c).2] at e ⊢
  exact e

/-- The reference of the weight gradient of the memory branch's projection terminates, keeps its arguments and leaves every semaphore at zero. -/
theorem frame_BranchCWRefIdeal : quiescent_BranchCWRefIdeal (hBranchCWRefIdeal := Cert.BranchCWRefIdeal.Gen.facts) :=
  fun m ρ _ => (θ_run Cert.BranchCWRefIdeal.defs _ _).mono
    (fun r h => ⟨fun c => (h c).2, sem_eq_zero_of_no_sems (by decide) r.2⟩)
    (Cert.BranchCWRefIdeal.Value.run (F := Ideal) m ρ)

/-- The kernel of the weight gradient of the memory branch's projection and its reference have equal results. -/
theorem algebraic_BranchCW : algebraic_BranchCWIdeal_BranchCWRefIdeal (hBranchCWIdeal := Cert.BranchCWIdeal.Gen.facts)
    (hBranchCWRefIdeal := Cert.BranchCWRefIdeal.Gen.facts) := by
  intro m g m' g' _ hm
  refine ⟨_, (θ_run Cert.BranchCWIdeal.defs _ _).mono (fun r h c => ⟨(h c).1.trans (Cert.BranchCWIdeal.Prod.result m c), (h c).2⟩)
    (Cert.BranchCWIdeal.Value.run_blocks (F := Ideal) m g), (θ_run Cert.BranchCWRefIdeal.defs _ _).mono (fun r h c => ?_)
    (Cert.BranchCWRefIdeal.Value.run (F := Ideal) m' g')⟩
  have e := h c
  rw [(hm c).1, (hm c).2] at e ⊢
  exact e

theorem claim : Cert.Claim :=
  ⟨Cert.Merge.Gen.facts, Cert.MergeIdeal.Gen.facts, Cert.MergeRefIdeal.Gen.facts, Cert.Fox.Gen.facts, Cert.FoxIdeal.Gen.facts, Cert.FoxRefIdeal.Gen.facts, Cert.Zg.Gen.facts, Cert.ZgIdeal.Gen.facts, Cert.ZgRefIdeal.Gen.facts, Cert.Qkv.Gen.facts, Cert.QkvIdeal.Gen.facts, Cert.QkvRefIdeal.Gen.facts, Cert.GateW.Gen.facts, Cert.GateWIdeal.Gen.facts, Cert.GateWRefIdeal.Gen.facts, Cert.QkvW.Gen.facts, Cert.QkvWIdeal.Gen.facts, Cert.QkvWRefIdeal.Gen.facts, Cert.OutW.Gen.facts, Cert.OutWIdeal.Gen.facts, Cert.OutWRefIdeal.Gen.facts, Cert.OutAct.Gen.facts, Cert.OutActIdeal.Gen.facts, Cert.OutActRefIdeal.Gen.facts, Cert.ZgAct.Gen.facts, Cert.ZgActIdeal.Gen.facts, Cert.ZgActRefIdeal.Gen.facts, Cert.QkvAct.Gen.facts, Cert.QkvActIdeal.Gen.facts, Cert.QkvActRefIdeal.Gen.facts, Cert.BranchB.Gen.facts, Cert.BranchBIdeal.Gen.facts, Cert.BranchBRefIdeal.Gen.facts, Cert.BranchC.Gen.facts, Cert.BranchCIdeal.Gen.facts, Cert.BranchCRefIdeal.Gen.facts, Cert.BranchBAct.Gen.facts, Cert.BranchBActIdeal.Gen.facts, Cert.BranchBActRefIdeal.Gen.facts, Cert.BranchCAct.Gen.facts, Cert.BranchCActIdeal.Gen.facts, Cert.BranchCActRefIdeal.Gen.facts, Cert.BranchBW.Gen.facts, Cert.BranchBWIdeal.Gen.facts, Cert.BranchBWRefIdeal.Gen.facts, Cert.BranchCW.Gen.facts, Cert.BranchCWIdeal.Gen.facts, Cert.BranchCWRefIdeal.Gen.facts, Cert.Pre_finite.Gen.facts,
    fun m ρ _ => Cert.Merge.Gen.frame m ρ, fun m ρ _ => Cert.MergeIdeal.Gen.frame m ρ, frame_MergeRefIdeal,
    fun m ρ _ => Cert.Fox.Loose.frame m ρ, fun m ρ _ => Cert.FoxIdeal.Loose.frame m ρ, fun m ρ _ => Cert.FoxIdeal.Loose.frame m ρ,
    frame_FoxRefIdeal, fun m ρ _ => frame_FoxRefIdeal m ρ trivial,
    fun m ρ _ => Cert.Zg.Gen.frame m ρ, fun m ρ _ => Cert.ZgIdeal.Gen.frame m ρ, frame_ZgRefIdeal,
    fun m ρ _ => Cert.Qkv.Gen.frame m ρ, fun m ρ _ => Cert.QkvIdeal.Gen.frame m ρ, frame_QkvRefIdeal,
    fun m ρ _ => Cert.GateW.Gen.frame m ρ, fun m ρ _ => Cert.GateWIdeal.Gen.frame m ρ, frame_GateWRefIdeal,
    fun m ρ _ => Cert.QkvW.Gen.frame m ρ, fun m ρ _ => Cert.QkvWIdeal.Gen.frame m ρ, frame_QkvWRefIdeal,
    fun m ρ _ => Cert.OutW.Gen.frame m ρ, fun m ρ _ => Cert.OutWIdeal.Gen.frame m ρ, frame_OutWRefIdeal,
    fun m ρ _ => Cert.OutAct.Gen.frame m ρ, fun m ρ _ => Cert.OutActIdeal.Gen.frame m ρ, frame_OutActRefIdeal,
    fun m ρ _ => Cert.ZgAct.Gen.frame m ρ, fun m ρ _ => Cert.ZgActIdeal.Gen.frame m ρ, frame_ZgActRefIdeal,
    fun m ρ _ => Cert.QkvAct.Gen.frame m ρ, fun m ρ _ => Cert.QkvActIdeal.Gen.frame m ρ, frame_QkvActRefIdeal,
    fun m ρ _ => Cert.BranchB.Gen.frame m ρ, fun m ρ _ => Cert.BranchBIdeal.Gen.frame m ρ, frame_BranchBRefIdeal,
    fun m ρ _ => Cert.BranchC.Gen.frame m ρ, fun m ρ _ => Cert.BranchCIdeal.Gen.frame m ρ, frame_BranchCRefIdeal,
    fun m ρ _ => Cert.BranchBAct.Gen.frame m ρ, fun m ρ _ => Cert.BranchBActIdeal.Gen.frame m ρ, frame_BranchBActRefIdeal,
    fun m ρ _ => Cert.BranchCAct.Gen.frame m ρ, fun m ρ _ => Cert.BranchCActIdeal.Gen.frame m ρ, frame_BranchCActRefIdeal,
    fun m ρ _ => Cert.BranchBW.Gen.frame m ρ, fun m ρ _ => Cert.BranchBWIdeal.Gen.frame m ρ, frame_BranchBWRefIdeal,
    fun m ρ _ => Cert.BranchCW.Gen.frame m ρ, fun m ρ _ => Cert.BranchCWIdeal.Gen.frame m ρ, frame_BranchCWRefIdeal,
    trivial, algebraic_Merge,
    IdealRules.named_const.statement Cert.FoxIdeal.κ "mask" .f32 0xF149F2CA#32 ⊥ rfl, algebraic_Fox, trivial, algebraic_Zg, trivial, algebraic_Qkv, trivial, algebraic_GateW, trivial, algebraic_QkvW, trivial, algebraic_OutW, trivial, algebraic_OutAct, trivial, algebraic_ZgAct, trivial, algebraic_QkvAct, trivial, algebraic_BranchB, trivial, algebraic_BranchC, trivial, algebraic_BranchBAct, trivial, algebraic_BranchCAct, trivial, algebraic_BranchBW, trivial, algebraic_BranchCW⟩

end Cert.Proof

end
